-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_dact [hPre_finite_dact : Cert.Pre_finite_dact.Facts] (m : (ℓ : Loc Cert.DactIdeal.nD Cert.DactIdeal.τ Cert.DactIdeal.sig) → Buf (Elt Ideal) ℓ) : Prop :=
  ∀ c : Dev Cert.DactIdeal.nD,
    (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))) = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_finite_dact [hPre_finite_dact : Cert.Pre_finite_dact.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2))) = (fun _ => 1#1)

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormRefIdeal (m : (ℓ : Loc Cert.DnormRefIdeal.nD Cert.DnormRefIdeal.τ Cert.DnormRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Dwdown (m : (ℓ : Loc Cert.Dwdown.nD Cert.Dwdown.τ Cert.Dwdown.sig) → Buf (Elt Bits) ℓ) : Prop :=
  True

def Pre_DwdownIdeal (m : (ℓ : Loc Cert.DwdownIdeal.nD Cert.DwdownIdeal.τ Cert.DwdownIdeal.sig) → Buf (Elt Ideal) ℓ) : Prop :=
  True

def Pre_DwdownRefIdeal (m : (ℓ : Loc Cert.DwdownRefIdeal.nD Cert.DwdownRefIdeal.τ Cert.DwdownRefIdeal.sig) → Buf (Elt Ideal) ℓ) : Prop :=
  True

def Pre_Dngate (m : (ℓ : Loc Cert.Dngate.nD Cert.Dngate.τ Cert.Dngate.sig) → Buf (Elt Bits) ℓ) : Prop :=
  True

def Pre_DngateIdeal (m : (ℓ : Loc Cert.DngateIdeal.nD Cert.DngateIdeal.τ Cert.DngateIdeal.sig) → Buf (Elt Ideal) ℓ) : Prop :=
  True

def Pre_DngateRefIdeal (m : (ℓ : Loc Cert.DngateRefIdeal.nD Cert.DngateRefIdeal.τ Cert.DngateRefIdeal.sig) → Buf (Elt Ideal) ℓ) : Prop :=
  True

def Pre_Dnup (m : (ℓ : Loc Cert.Dnup.nD Cert.Dnup.τ Cert.Dnup.sig) → Buf (Elt Bits) ℓ) : Prop :=
  True

def Pre_DnupIdeal (m : (ℓ : Loc Cert.DnupIdeal.nD Cert.DnupIdeal.τ Cert.DnupIdeal.sig) → Buf (Elt Ideal) ℓ) : Prop :=
  True

def Pre_DnupRefIdeal (m : (ℓ : Loc Cert.DnupRefIdeal.nD Cert.DnupRefIdeal.τ Cert.DnupRefIdeal.sig) → Buf (Elt Ideal) ℓ) : Prop :=
  True

def Pre_Dwgate (m : (ℓ : Loc Cert.Dwgate.nD Cert.Dwgate.τ Cert.Dwgate.sig) → Buf (Elt Bits) ℓ) : Prop :=
  True

def Pre_DwgateIdeal (m : (ℓ : Loc Cert.DwgateIdeal.nD Cert.DwgateIdeal.τ Cert.DwgateIdeal.sig) → Buf (Elt Ideal) ℓ) : Prop :=
  True

def Pre_DwgateRefIdeal (m : (ℓ : Loc Cert.DwgateRefIdeal.nD Cert.DwgateRefIdeal.τ Cert.DwgateRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MixDn (m : (ℓ : Loc Cert.MixDn.nD Cert.MixDn.τ Cert.MixDn.sig) → Buf (Elt Bits) ℓ) : Prop :=
  True

def Pre_MixDnIdeal (m : (ℓ : Loc Cert.MixDnIdeal.nD Cert.MixDnIdeal.τ Cert.MixDnIdeal.sig) → Buf (Elt Ideal) ℓ) : Prop :=
  True

def Pre_MixDnRefIdeal (m : (ℓ : Loc Cert.MixDnRefIdeal.nD Cert.MixDnRefIdeal.τ Cert.MixDnRefIdeal.sig) → Buf (Elt Ideal) ℓ) : Prop :=
  True

def Pre_MixDwin (m : (ℓ : Loc Cert.MixDwin.nD Cert.MixDwin.τ Cert.MixDwin.sig) → Buf (Elt Bits) ℓ) : Prop :=
  True

def Pre_MixDwinIdeal (m : (ℓ : Loc Cert.MixDwinIdeal.nD Cert.MixDwinIdeal.τ Cert.MixDwinIdeal.sig) → Buf (Elt Ideal) ℓ) : Prop :=
  True

def Pre_MixDwinRefIdeal (m : (ℓ : Loc Cert.MixDwinRefIdeal.nD Cert.MixDwinRefIdeal.τ Cert.MixDwinRefIdeal.sig) → Buf (Elt Ideal) ℓ) : Prop :=
  True

def Pre_MixDcat (m : (ℓ : Loc Cert.MixDcat.nD Cert.MixDcat.τ Cert.MixDcat.sig) → Buf (Elt Bits) ℓ) : Prop :=
  True

def Pre_MixDcatIdeal (m : (ℓ : Loc Cert.MixDcatIdeal.nD Cert.MixDcatIdeal.τ Cert.MixDcatIdeal.sig) → Buf (Elt Ideal) ℓ) : Prop :=
  True

def Pre_MixDcatRefIdeal (m : (ℓ : Loc Cert.MixDcatRefIdeal.nD Cert.MixDcatRefIdeal.τ Cert.MixDcatRefIdeal.sig) → Buf (Elt Ideal) ℓ) : Prop :=
  True

def Pre_MixDwout (m : (ℓ : Loc Cert.MixDwout.nD Cert.MixDwout.τ Cert.MixDwout.sig) → Buf (Elt Bits) ℓ) : Prop :=
  True

def Pre_MixDwoutIdeal (m : (ℓ : Loc Cert.MixDwoutIdeal.nD Cert.MixDwoutIdeal.τ Cert.MixDwoutIdeal.sig) → Buf (Elt Ideal) ℓ) : Prop :=
  True

def Pre_MixDwoutRefIdeal (m : (ℓ : Loc Cert.MixDwoutRefIdeal.nD Cert.MixDwoutRefIdeal.τ Cert.MixDwoutRefIdeal.sig) → Buf (Elt Ideal) ℓ) : Prop :=
  True

def Pre_PleDn (m : (ℓ : Loc Cert.PleDn.nD Cert.PleDn.τ Cert.PleDn.sig) → Buf (Elt Bits) ℓ) : Prop :=
  True

def Pre_PleDnIdeal (m : (ℓ : Loc Cert.PleDnIdeal.nD Cert.PleDnIdeal.τ Cert.PleDnIdeal.sig) → Buf (Elt Ideal) ℓ) : Prop :=
  True

def Pre_PleDnRefIdeal (m : (ℓ : Loc Cert.PleDnRefIdeal.nD Cert.PleDnRefIdeal.τ Cert.PleDnRefIdeal.sig) → Buf (Elt Ideal) ℓ) : Prop :=
  True

def Pre_PleDwgate (m : (ℓ : Loc Cert.PleDwgate.nD Cert.PleDwgate.τ Cert.PleDwgate.sig) → Buf (Elt Bits) ℓ) : Prop :=
  True

def Pre_PleDwgateIdeal (m : (ℓ : Loc Cert.PleDwgateIdeal.nD Cert.PleDwgateIdeal.τ Cert.PleDwgateIdeal.sig) → Buf (Elt Ideal) ℓ) : Prop :=
  True

def Pre_PleDwgateRefIdeal (m : (ℓ : Loc Cert.PleDwgateRefIdeal.nD Cert.PleDwgateRefIdeal.τ Cert.PleDwgateRefIdeal.sig) → Buf (Elt Ideal) ℓ) : Prop :=
  True

def Pre_PleDwproj (m : (ℓ : Loc Cert.PleDwproj.nD Cert.PleDwproj.τ Cert.PleDwproj.sig) → Buf (Elt Bits) ℓ) : Prop :=
  True

def Pre_PleDwprojIdeal (m : (ℓ : Loc Cert.PleDwprojIdeal.nD Cert.PleDwprojIdeal.τ Cert.PleDwprojIdeal.sig) → Buf (Elt Ideal) ℓ) : Prop :=
  True

def Pre_PleDwprojRefIdeal (m : (ℓ : Loc Cert.PleDwprojRefIdeal.nD Cert.PleDwprojRefIdeal.τ Cert.PleDwprojRefIdeal.sig) → Buf (Elt Ideal) ℓ) : Prop :=
  True

def Pre_PleDout (m : (ℓ : Loc Cert.PleDout.nD Cert.PleDout.τ Cert.PleDout.sig) → Buf (Elt Bits) ℓ) : Prop :=
  True

def Pre_PleDoutIdeal (m : (ℓ : Loc Cert.PleDoutIdeal.nD Cert.PleDoutIdeal.τ Cert.PleDoutIdeal.sig) → Buf (Elt Ideal) ℓ) : Prop :=
  True

def Pre_PleDoutRefIdeal (m : (ℓ : Loc Cert.PleDoutRefIdeal.nD Cert.PleDoutRefIdeal.τ Cert.PleDoutRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_PleOut (m : (ℓ : Loc Cert.PleOut.nD Cert.PleOut.τ Cert.PleOut.sig) → Buf (Elt Bits) ℓ) : Prop :=
  True

def Pre_PleOutIdeal (m : (ℓ : Loc Cert.PleOutIdeal.nD Cert.PleOutIdeal.τ Cert.PleOutIdeal.sig) → Buf (Elt Ideal) ℓ) : Prop :=
  True

def Pre_PleOutRefIdeal (m : (ℓ : Loc Cert.PleOutRefIdeal.nD Cert.PleOutRefIdeal.τ Cert.PleOutRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_SsmGlu (m : (ℓ : Loc Cert.SsmGlu.nD Cert.SsmGlu.τ Cert.SsmGlu.sig) → Buf (Elt Bits) ℓ) : Prop :=
  True

def Pre_SsmGluIdeal (m : (ℓ : Loc Cert.SsmGluIdeal.nD Cert.SsmGluIdeal.τ Cert.SsmGluIdeal.sig) → Buf (Elt Ideal) ℓ) : Prop :=
  True

def Pre_SsmGluRefIdeal (m : (ℓ : Loc Cert.SsmGluRefIdeal.nD Cert.SsmGluRefIdeal.τ Cert.SsmGluRefIdeal.sig) → Buf (Elt Ideal) ℓ) : Prop :=
  True

def Pre_SsmDglu (m : (ℓ : Loc Cert.SsmDglu.nD Cert.SsmDglu.τ Cert.SsmDglu.sig) → Buf (Elt Bits) ℓ) : Prop :=
  True

def Pre_SsmDgluIdeal (m : (ℓ : Loc Cert.SsmDgluIdeal.nD Cert.SsmDgluIdeal.τ Cert.SsmDgluIdeal.sig) → Buf (Elt Ideal) ℓ) : Prop :=
  True

def Pre_SsmDgluRefIdeal (m : (ℓ : Loc Cert.SsmDgluRefIdeal.nD Cert.SsmDgluRefIdeal.τ Cert.SsmDgluRefIdeal.sig) → Buf (Elt Ideal) ℓ) : Prop :=
  True

def Pre_SsmDyg (m : (ℓ : Loc Cert.SsmDyg.nD Cert.SsmDyg.τ Cert.SsmDyg.sig) → Buf (Elt Bits) ℓ) : Prop :=
  True

def Pre_SsmDygIdeal (m : (ℓ : Loc Cert.SsmDygIdeal.nD Cert.SsmDygIdeal.τ Cert.SsmDygIdeal.sig) → Buf (Elt Ideal) ℓ) : Prop :=
  True

def Pre_SsmDygRefIdeal (m : (ℓ : Loc Cert.SsmDygRefIdeal.nD Cert.SsmDygRefIdeal.τ Cert.SsmDygRefIdeal.sig) → Buf (Elt Ideal) ℓ) : Prop :=
  True

def Pre_SsmDygAdd (m : (ℓ : Loc Cert.SsmDygAdd.nD Cert.SsmDygAdd.τ Cert.SsmDygAdd.sig) → Buf (Elt Bits) ℓ) : Prop :=
  True

def Pre_SsmDygAddIdeal (m : (ℓ : Loc Cert.SsmDygAddIdeal.nD Cert.SsmDygAddIdeal.τ Cert.SsmDygAddIdeal.sig) → Buf (Elt Ideal) ℓ) : Prop :=
  True

def Pre_SsmDygAddRefIdeal (m : (ℓ : Loc Cert.SsmDygAddRefIdeal.nD Cert.SsmDygAddRefIdeal.τ Cert.SsmDygAddRefIdeal.sig) → Buf (Elt Ideal) ℓ) : Prop :=
  True

def Pre_SsmDwout (m : (ℓ : Loc Cert.SsmDwout.nD Cert.SsmDwout.τ Cert.SsmDwout.sig) → Buf (Elt Bits) ℓ) : Prop :=
  True

def Pre_SsmDwoutIdeal (m : (ℓ : Loc Cert.SsmDwoutIdeal.nD Cert.SsmDwoutIdeal.τ Cert.SsmDwoutIdeal.sig) → Buf (Elt Ideal) ℓ) : Prop :=
  True

def Pre_SsmDwoutRefIdeal (m : (ℓ : Loc Cert.SsmDwoutRefIdeal.nD Cert.SsmDwoutRefIdeal.τ Cert.SsmDwoutRefIdeal.sig) → Buf (Elt Ideal) ℓ) : Prop :=
  True

def Pre_SsmDwin (m : (ℓ : Loc Cert.SsmDwin.nD Cert.SsmDwin.τ Cert.SsmDwin.sig) → Buf (Elt Bits) ℓ) : Prop :=
  True

def Pre_SsmDwinIdeal (m : (ℓ : Loc Cert.SsmDwinIdeal.nD Cert.SsmDwinIdeal.τ Cert.SsmDwinIdeal.sig) → Buf (Elt Ideal) ℓ) : Prop :=
  True

def Pre_SsmDwinRefIdeal (m : (ℓ : Loc Cert.SsmDwinRefIdeal.nD Cert.SsmDwinRefIdeal.τ Cert.SsmDwinRefIdeal.sig) → Buf (Elt Ideal) ℓ) : Prop :=
  True

def Pre_SsmDn (m : (ℓ : Loc Cert.SsmDn.nD Cert.SsmDn.τ Cert.SsmDn.sig) → Buf (Elt Bits) ℓ) : Prop :=
  True

def Pre_SsmDnIdeal (m : (ℓ : Loc Cert.SsmDnIdeal.nD Cert.SsmDnIdeal.τ Cert.SsmDnIdeal.sig) → Buf (Elt Ideal) ℓ) : Prop :=
  True

def Pre_SsmDnRefIdeal (m : (ℓ : Loc Cert.SsmDnRefIdeal.nD Cert.SsmDnRefIdeal.τ Cert.SsmDnRefIdeal.sig) → Buf (Elt Ideal) ℓ) : Prop :=
  True

def Pre_SsmDhRe (m : (ℓ : Loc Cert.SsmDhRe.nD Cert.SsmDhRe.τ Cert.SsmDhRe.sig) → Buf (Elt Bits) ℓ) : Prop :=
  True

def Pre_SsmDhReIdeal (m : (ℓ : Loc Cert.SsmDhReIdeal.nD Cert.SsmDhReIdeal.τ Cert.SsmDhReIdeal.sig) → Buf (Elt Ideal) ℓ) : Prop :=
  True

def Pre_SsmDhReRefIdeal (m : (ℓ : Loc Cert.SsmDhReRefIdeal.nD Cert.SsmDhReRefIdeal.τ Cert.SsmDhReRefIdeal.sig) → Buf (Elt Ideal) ℓ) : Prop :=
  True

def Pre_SsmDhIm (m : (ℓ : Loc Cert.SsmDhIm.nD Cert.SsmDhIm.τ Cert.SsmDhIm.sig) → Buf (Elt Bits) ℓ) : Prop :=
  True

def Pre_SsmDhImIdeal (m : (ℓ : Loc Cert.SsmDhImIdeal.nD Cert.SsmDhImIdeal.τ Cert.SsmDhImIdeal.sig) → Buf (Elt Ideal) ℓ) : Prop :=
  True

def Pre_SsmDhImRefIdeal (m : (ℓ : Loc Cert.SsmDhImRefIdeal.nD Cert.SsmDhImRefIdeal.τ Cert.SsmDhImRefIdeal.sig) → Buf (Elt Ideal) ℓ) : Prop :=
  True

def Pre_SsmDu (m : (ℓ : Loc Cert.SsmDu.nD Cert.SsmDu.τ Cert.SsmDu.sig) → Buf (Elt Bits) ℓ) : Prop :=
  True

def Pre_SsmDuIdeal (m : (ℓ : Loc Cert.SsmDuIdeal.nD Cert.SsmDuIdeal.τ Cert.SsmDuIdeal.sig) → Buf (Elt Ideal) ℓ) : Prop :=
  True

def Pre_SsmDuRefIdeal (m : (ℓ : Loc Cert.SsmDuRefIdeal.nD Cert.SsmDuRefIdeal.τ Cert.SsmDuRefIdeal.sig) → Buf (Elt Ideal) ℓ) : Prop :=
  True

def Pre_SsmBu (m : (ℓ : Loc Cert.SsmBu.nD Cert.SsmBu.τ Cert.SsmBu.sig) → Buf (Elt Bits) ℓ) : Prop :=
  True

def Pre_SsmBuIdeal (m : (ℓ : Loc Cert.SsmBuIdeal.nD Cert.SsmBuIdeal.τ Cert.SsmBuIdeal.sig) → Buf (Elt Ideal) ℓ) : Prop :=
  True

def Pre_SsmBuRefIdeal (m : (ℓ : Loc Cert.SsmBuRefIdeal.nD Cert.SsmBuRefIdeal.τ Cert.SsmBuRefIdeal.sig) → Buf (Elt Ideal) ℓ) : Prop :=
  True

def Pre_SsmY (m : (ℓ : Loc Cert.SsmY.nD Cert.SsmY.τ Cert.SsmY.sig) → Buf (Elt Bits) ℓ) : Prop :=
  True

def Pre_SsmYIdeal (m : (ℓ : Loc Cert.SsmYIdeal.nD Cert.SsmYIdeal.τ Cert.SsmYIdeal.sig) → Buf (Elt Ideal) ℓ) : Prop :=
  True

def Pre_SsmYRefIdeal (m : (ℓ : Loc Cert.SsmYRefIdeal.nD Cert.SsmYRefIdeal.τ Cert.SsmYRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactIdeal_pre_finite_dact [hDactIdeal : Cert.DactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_dact m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_DactRefIdeal_pre_finite_dact [hDactRefIdeal : Cert.DactRefIdeal.Facts] [hPre_finite_dact : Cert.Pre_finite_dact.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_finite_dact m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1))
      ∧ r.2.sem = fun _ => 0)

def quiescent_Dwdown [hDwdown : Cert.Dwdown.Facts] : Prop :=
  ∀ (m : (ℓ : Loc Cert.Dwdown.nD Cert.Dwdown.τ Cert.Dwdown.sig) → Buf (Elt Bits) ℓ) (g : Dev Cert.Dwdown.nD → PrngReg), Pre_Dwdown m →
    θ_run (Cert.Dwdown.defs (F := Bits)) (onTc (τ := Cert.Dwdown.τ) (Cert.Dwdown.main (F := Bits))) ⟨m, fun _ => 0, g⟩ (fun r => (∀ c : Dev Cert.Dwdown.nD,
      r.2.mem ((c.tc : Thread Cert.Dwdown.nD Cert.Dwdown.τ).loc Cert.Dwdown.main_arg0) = m ((c.tc : Thread Cert.Dwdown.nD Cert.Dwdown.τ).loc Cert.Dwdown.main_arg0)
      ∧ r.2.mem ((c.tc : Thread Cert.Dwdown.nD Cert.Dwdown.τ).loc Cert.Dwdown.main_arg1) = m ((c.tc : Thread Cert.Dwdown.nD Cert.Dwdown.τ).loc Cert.Dwdown.main_arg1))
      ∧ r.2.sem = fun _ => 0)

def quiescent_DwdownIdeal [hDwdownIdeal : Cert.DwdownIdeal.Facts] : Prop :=
  ∀ (m : (ℓ : Loc Cert.DwdownIdeal.nD Cert.DwdownIdeal.τ Cert.DwdownIdeal.sig) → Buf (Elt Ideal) ℓ) (g : Dev Cert.DwdownIdeal.nD → PrngReg), Pre_DwdownIdeal m →
    θ_run (Cert.DwdownIdeal.defs (F := Ideal)) (onTc (τ := Cert.DwdownIdeal.τ) (Cert.DwdownIdeal.main (F := Ideal))) ⟨m, fun _ => 0, g⟩ (fun r => (∀ c : Dev Cert.DwdownIdeal.nD,
      r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
      ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ r.2.sem = fun _ => 0)

def quiescent_DwdownRefIdeal [hDwdownRefIdeal : Cert.DwdownRefIdeal.Facts] : Prop :=
  ∀ (m : (ℓ : Loc Cert.DwdownRefIdeal.nD Cert.DwdownRefIdeal.τ Cert.DwdownRefIdeal.sig) → Buf (Elt Ideal) ℓ) (g : Dev Cert.DwdownRefIdeal.nD → PrngReg), Pre_DwdownRefIdeal m →
    θ_run (Cert.DwdownRefIdeal.defs (F := Ideal)) (onTc (τ := Cert.DwdownRefIdeal.τ) (Cert.DwdownRefIdeal.main (F := Ideal))) ⟨m, fun _ => 0, g⟩ (fun r => (∀ c : Dev Cert.DwdownRefIdeal.nD,
      r.2.mem ((c.tc : Thread Cert.DwdownRefIdeal.nD Cert.DwdownRefIdeal.τ).loc Cert.DwdownRefIdeal.main_arg0) = m ((c.tc : Thread Cert.DwdownRefIdeal.nD Cert.DwdownRefIdeal.τ).loc Cert.DwdownRefIdeal.main_arg0)
      ∧ r.2.mem ((c.tc : Thread Cert.DwdownRefIdeal.nD Cert.DwdownRefIdeal.τ).loc Cert.DwdownRefIdeal.main_arg1) = m ((c.tc : Thread Cert.DwdownRefIdeal.nD Cert.DwdownRefIdeal.τ).loc Cert.DwdownRefIdeal.main_arg1))
      ∧ r.2.sem = fun _ => 0)

def quiescent_Dngate [hDngate : Cert.Dngate.Facts] : Prop :=
  ∀ (m : (ℓ : Loc Cert.Dngate.nD Cert.Dngate.τ Cert.Dngate.sig) → Buf (Elt Bits) ℓ) (g : Dev Cert.Dngate.nD → PrngReg), Pre_Dngate m →
    θ_run (Cert.Dngate.defs (F := Bits)) (onTc (τ := Cert.Dngate.τ) (Cert.Dngate.main (F := Bits))) ⟨m, fun _ => 0, g⟩ (fun r => (∀ c : Dev Cert.Dngate.nD,
      r.2.mem ((c.tc : Thread Cert.Dngate.nD Cert.Dngate.τ).loc Cert.Dngate.main_arg0) = m ((c.tc : Thread Cert.Dngate.nD Cert.Dngate.τ).loc Cert.Dngate.main_arg0)
      ∧ r.2.mem ((c.tc : Thread Cert.Dngate.nD Cert.Dngate.τ).loc Cert.Dngate.main_arg1) = m ((c.tc : Thread Cert.Dngate.nD Cert.Dngate.τ).loc Cert.Dngate.main_arg1))
      ∧ r.2.sem = fun _ => 0)

def quiescent_DngateIdeal [hDngateIdeal : Cert.DngateIdeal.Facts] : Prop :=
  ∀ (m : (ℓ : Loc Cert.DngateIdeal.nD Cert.DngateIdeal.τ Cert.DngateIdeal.sig) → Buf (Elt Ideal) ℓ) (g : Dev Cert.DngateIdeal.nD → PrngReg), Pre_DngateIdeal m →
    θ_run (Cert.DngateIdeal.defs (F := Ideal)) (onTc (τ := Cert.DngateIdeal.τ) (Cert.DngateIdeal.main (F := Ideal))) ⟨m, fun _ => 0, g⟩ (fun r => (∀ c : Dev Cert.DngateIdeal.nD,
      r.2.mem ((c.tc : Thread Cert.DngateIdeal.nD Cert.DngateIdeal.τ).loc Cert.DngateIdeal.main_arg0) = m ((c.tc : Thread Cert.DngateIdeal.nD Cert.DngateIdeal.τ).loc Cert.DngateIdeal.main_arg0)
      ∧ r.2.mem ((c.tc : Thread Cert.DngateIdeal.nD Cert.DngateIdeal.τ).loc Cert.DngateIdeal.main_arg1) = m ((c.tc : Thread Cert.DngateIdeal.nD Cert.DngateIdeal.τ).loc Cert.DngateIdeal.main_arg1))
      ∧ r.2.sem = fun _ => 0)

def quiescent_DngateRefIdeal [hDngateRefIdeal : Cert.DngateRefIdeal.Facts] : Prop :=
  ∀ (m : (ℓ : Loc Cert.DngateRefIdeal.nD Cert.DngateRefIdeal.τ Cert.DngateRefIdeal.sig) → Buf (Elt Ideal) ℓ) (g : Dev Cert.DngateRefIdeal.nD → PrngReg), Pre_DngateRefIdeal m →
    θ_run (Cert.DngateRefIdeal.defs (F := Ideal)) (onTc (τ := Cert.DngateRefIdeal.τ) (Cert.DngateRefIdeal.main (F := Ideal))) ⟨m, fun _ => 0, g⟩ (fun r => (∀ c : Dev Cert.DngateRefIdeal.nD,
      r.2.mem ((c.tc : Thread Cert.DngateRefIdeal.nD Cert.DngateRefIdeal.τ).loc Cert.DngateRefIdeal.main_arg0) = m ((c.tc : Thread Cert.DngateRefIdeal.nD Cert.DngateRefIdeal.τ).loc Cert.DngateRefIdeal.main_arg0)
      ∧ r.2.mem ((c.tc : Thread Cert.DngateRefIdeal.nD Cert.DngateRefIdeal.τ).loc Cert.DngateRefIdeal.main_arg1) = m ((c.tc : Thread Cert.DngateRefIdeal.nD Cert.DngateRefIdeal.τ).loc Cert.DngateRefIdeal.main_arg1))
      ∧ r.2.sem = fun _ => 0)

def quiescent_Dnup [hDnup : Cert.Dnup.Facts] : Prop :=
  ∀ (m : (ℓ : Loc Cert.Dnup.nD Cert.Dnup.τ Cert.Dnup.sig) → Buf (Elt Bits) ℓ) (g : Dev Cert.Dnup.nD → PrngReg), Pre_Dnup m →
    θ_run (Cert.Dnup.defs (F := Bits)) (onTc (τ := Cert.Dnup.τ) (Cert.Dnup.main (F := Bits))) ⟨m, fun _ => 0, g⟩ (fun r => (∀ c : Dev Cert.Dnup.nD,
      r.2.mem ((c.tc : Thread Cert.Dnup.nD Cert.Dnup.τ).loc Cert.Dnup.main_arg0) = m ((c.tc : Thread Cert.Dnup.nD Cert.Dnup.τ).loc Cert.Dnup.main_arg0)
      ∧ r.2.mem ((c.tc : Thread Cert.Dnup.nD Cert.Dnup.τ).loc Cert.Dnup.main_arg1) = m ((c.tc : Thread Cert.Dnup.nD Cert.Dnup.τ).loc Cert.Dnup.main_arg1)
      ∧ r.2.mem ((c.tc : Thread Cert.Dnup.nD Cert.Dnup.τ).loc Cert.Dnup.main_arg2) = m ((c.tc : Thread Cert.Dnup.nD Cert.Dnup.τ).loc Cert.Dnup.main_arg2))
      ∧ r.2.sem = fun _ => 0)

def quiescent_DnupIdeal [hDnupIdeal : Cert.DnupIdeal.Facts] : Prop :=
  ∀ (m : (ℓ : Loc Cert.DnupIdeal.nD Cert.DnupIdeal.τ Cert.DnupIdeal.sig) → Buf (Elt Ideal) ℓ) (g : Dev Cert.DnupIdeal.nD → PrngReg), Pre_DnupIdeal m →
    θ_run (Cert.DnupIdeal.defs (F := Ideal)) (onTc (τ := Cert.DnupIdeal.τ) (Cert.DnupIdeal.main (F := Ideal))) ⟨m, fun _ => 0, g⟩ (fun r => (∀ c : Dev Cert.DnupIdeal.nD,
      r.2.mem ((c.tc : Thread Cert.DnupIdeal.nD Cert.DnupIdeal.τ).loc Cert.DnupIdeal.main_arg0) = m ((c.tc : Thread Cert.DnupIdeal.nD Cert.DnupIdeal.τ).loc Cert.DnupIdeal.main_arg0)
      ∧ r.2.mem ((c.tc : Thread Cert.DnupIdeal.nD Cert.DnupIdeal.τ).loc Cert.DnupIdeal.main_arg1) = m ((c.tc : Thread Cert.DnupIdeal.nD Cert.DnupIdeal.τ).loc Cert.DnupIdeal.main_arg1)
      ∧ r.2.mem ((c.tc : Thread Cert.DnupIdeal.nD Cert.DnupIdeal.τ).loc Cert.DnupIdeal.main_arg2) = m ((c.tc : Thread Cert.DnupIdeal.nD Cert.DnupIdeal.τ).loc Cert.DnupIdeal.main_arg2))
      ∧ r.2.sem = fun _ => 0)

def quiescent_DnupRefIdeal [hDnupRefIdeal : Cert.DnupRefIdeal.Facts] : Prop :=
  ∀ (m : (ℓ : Loc Cert.DnupRefIdeal.nD Cert.DnupRefIdeal.τ Cert.DnupRefIdeal.sig) → Buf (Elt Ideal) ℓ) (g : Dev Cert.DnupRefIdeal.nD → PrngReg), Pre_DnupRefIdeal m →
    θ_run (Cert.DnupRefIdeal.defs (F := Ideal)) (onTc (τ := Cert.DnupRefIdeal.τ) (Cert.DnupRefIdeal.main (F := Ideal))) ⟨m, fun _ => 0, g⟩ (fun r => (∀ c : Dev Cert.DnupRefIdeal.nD,
      r.2.mem ((c.tc : Thread Cert.DnupRefIdeal.nD Cert.DnupRefIdeal.τ).loc Cert.DnupRefIdeal.main_arg0) = m ((c.tc : Thread Cert.DnupRefIdeal.nD Cert.DnupRefIdeal.τ).loc Cert.DnupRefIdeal.main_arg0)
      ∧ r.2.mem ((c.tc : Thread Cert.DnupRefIdeal.nD Cert.DnupRefIdeal.τ).loc Cert.DnupRefIdeal.main_arg1) = m ((c.tc : Thread Cert.DnupRefIdeal.nD Cert.DnupRefIdeal.τ).loc Cert.DnupRefIdeal.main_arg1)
      ∧ r.2.mem ((c.tc : Thread Cert.DnupRefIdeal.nD Cert.DnupRefIdeal.τ).loc Cert.DnupRefIdeal.main_arg2) = m ((c.tc : Thread Cert.DnupRefIdeal.nD Cert.DnupRefIdeal.τ).loc Cert.DnupRefIdeal.main_arg2))
      ∧ r.2.sem = fun _ => 0)

def quiescent_Dwgate [hDwgate : Cert.Dwgate.Facts] : Prop :=
  ∀ (m : (ℓ : Loc Cert.Dwgate.nD Cert.Dwgate.τ Cert.Dwgate.sig) → Buf (Elt Bits) ℓ) (g : Dev Cert.Dwgate.nD → PrngReg), Pre_Dwgate m →
    θ_run (Cert.Dwgate.defs (F := Bits)) (onTc (τ := Cert.Dwgate.τ) (Cert.Dwgate.main (F := Bits))) ⟨m, fun _ => 0, g⟩ (fun r => (∀ c : Dev Cert.Dwgate.nD,
      r.2.mem ((c.tc : Thread Cert.Dwgate.nD Cert.Dwgate.τ).loc Cert.Dwgate.main_arg0) = m ((c.tc : Thread Cert.Dwgate.nD Cert.Dwgate.τ).loc Cert.Dwgate.main_arg0)
      ∧ r.2.mem ((c.tc : Thread Cert.Dwgate.nD Cert.Dwgate.τ).loc Cert.Dwgate.main_arg1) = m ((c.tc : Thread Cert.Dwgate.nD Cert.Dwgate.τ).loc Cert.Dwgate.main_arg1))
      ∧ r.2.sem = fun _ => 0)

def quiescent_DwgateIdeal [hDwgateIdeal : Cert.DwgateIdeal.Facts] : Prop :=
  ∀ (m : (ℓ : Loc Cert.DwgateIdeal.nD Cert.DwgateIdeal.τ Cert.DwgateIdeal.sig) → Buf (Elt Ideal) ℓ) (g : Dev Cert.DwgateIdeal.nD → PrngReg), Pre_DwgateIdeal m →
    θ_run (Cert.DwgateIdeal.defs (F := Ideal)) (onTc (τ := Cert.DwgateIdeal.τ) (Cert.DwgateIdeal.main (F := Ideal))) ⟨m, fun _ => 0, g⟩ (fun r => (∀ c : Dev Cert.DwgateIdeal.nD,
      r.2.mem ((c.tc : Thread Cert.DwgateIdeal.nD Cert.DwgateIdeal.τ).loc Cert.DwgateIdeal.main_arg0) = m ((c.tc : Thread Cert.DwgateIdeal.nD Cert.DwgateIdeal.τ).loc Cert.DwgateIdeal.main_arg0)
      ∧ r.2.mem ((c.tc : Thread Cert.DwgateIdeal.nD Cert.DwgateIdeal.τ).loc Cert.DwgateIdeal.main_arg1) = m ((c.tc : Thread Cert.DwgateIdeal.nD Cert.DwgateIdeal.τ).loc Cert.DwgateIdeal.main_arg1))
      ∧ r.2.sem = fun _ => 0)

def quiescent_DwgateRefIdeal [hDwgateRefIdeal : Cert.DwgateRefIdeal.Facts] : Prop :=
  ∀ (m : (ℓ : Loc Cert.DwgateRefIdeal.nD Cert.DwgateRefIdeal.τ Cert.DwgateRefIdeal.sig) → Buf (Elt Ideal) ℓ) (g : Dev Cert.DwgateRefIdeal.nD → PrngReg), Pre_DwgateRefIdeal m →
    θ_run (Cert.DwgateRefIdeal.defs (F := Ideal)) (onTc (τ := Cert.DwgateRefIdeal.τ) (Cert.DwgateRefIdeal.main (F := Ideal))) ⟨m, fun _ => 0, g⟩ (fun r => (∀ c : Dev Cert.DwgateRefIdeal.nD,
      r.2.mem ((c.tc : Thread Cert.DwgateRefIdeal.nD Cert.DwgateRefIdeal.τ).loc Cert.DwgateRefIdeal.main_arg0) = m ((c.tc : Thread Cert.DwgateRefIdeal.nD Cert.DwgateRefIdeal.τ).loc Cert.DwgateRefIdeal.main_arg0)
      ∧ r.2.mem ((c.tc : Thread Cert.DwgateRefIdeal.nD Cert.DwgateRefIdeal.τ).loc Cert.DwgateRefIdeal.main_arg1) = m ((c.tc : Thread Cert.DwgateRefIdeal.nD Cert.DwgateRefIdeal.τ).loc Cert.DwgateRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_MixDn [hMixDn : Cert.MixDn.Facts] : Prop :=
  ∀ (m : (ℓ : Loc Cert.MixDn.nD Cert.MixDn.τ Cert.MixDn.sig) → Buf (Elt Bits) ℓ) (g : Dev Cert.MixDn.nD → PrngReg), Pre_MixDn m →
    θ_run (Cert.MixDn.defs (F := Bits)) (onTc (τ := Cert.MixDn.τ) (Cert.MixDn.main (F := Bits))) ⟨m, fun _ => 0, g⟩ (fun r => (∀ c : Dev Cert.MixDn.nD,
      r.2.mem ((c.tc : Thread Cert.MixDn.nD Cert.MixDn.τ).loc Cert.MixDn.main_arg0) = m ((c.tc : Thread Cert.MixDn.nD Cert.MixDn.τ).loc Cert.MixDn.main_arg0)
      ∧ r.2.mem ((c.tc : Thread Cert.MixDn.nD Cert.MixDn.τ).loc Cert.MixDn.main_arg1) = m ((c.tc : Thread Cert.MixDn.nD Cert.MixDn.τ).loc Cert.MixDn.main_arg1))
      ∧ r.2.sem = fun _ => 0)

def quiescent_MixDnIdeal [hMixDnIdeal : Cert.MixDnIdeal.Facts] : Prop :=
  ∀ (m : (ℓ : Loc Cert.MixDnIdeal.nD Cert.MixDnIdeal.τ Cert.MixDnIdeal.sig) → Buf (Elt Ideal) ℓ) (g : Dev Cert.MixDnIdeal.nD → PrngReg), Pre_MixDnIdeal m →
    θ_run (Cert.MixDnIdeal.defs (F := Ideal)) (onTc (τ := Cert.MixDnIdeal.τ) (Cert.MixDnIdeal.main (F := Ideal))) ⟨m, fun _ => 0, g⟩ (fun r => (∀ c : Dev Cert.MixDnIdeal.nD,
      r.2.mem ((c.tc : Thread Cert.MixDnIdeal.nD Cert.MixDnIdeal.τ).loc Cert.MixDnIdeal.main_arg0) = m ((c.tc : Thread Cert.MixDnIdeal.nD Cert.MixDnIdeal.τ).loc Cert.MixDnIdeal.main_arg0)
      ∧ r.2.mem ((c.tc : Thread Cert.MixDnIdeal.nD Cert.MixDnIdeal.τ).loc Cert.MixDnIdeal.main_arg1) = m ((c.tc : Thread Cert.MixDnIdeal.nD Cert.MixDnIdeal.τ).loc Cert.MixDnIdeal.main_arg1))
      ∧ r.2.sem = fun _ => 0)

def quiescent_MixDnRefIdeal [hMixDnRefIdeal : Cert.MixDnRefIdeal.Facts] : Prop :=
  ∀ (m : (ℓ : Loc Cert.MixDnRefIdeal.nD Cert.MixDnRefIdeal.τ Cert.MixDnRefIdeal.sig) → Buf (Elt Ideal) ℓ) (g : Dev Cert.MixDnRefIdeal.nD → PrngReg), Pre_MixDnRefIdeal m →
    θ_run (Cert.MixDnRefIdeal.defs (F := Ideal)) (onTc (τ := Cert.MixDnRefIdeal.τ) (Cert.MixDnRefIdeal.main (F := Ideal))) ⟨m, fun _ => 0, g⟩ (fun r => (∀ c : Dev Cert.MixDnRefIdeal.nD,
      r.2.mem ((c.tc : Thread Cert.MixDnRefIdeal.nD Cert.MixDnRefIdeal.τ).loc Cert.MixDnRefIdeal.main_arg0) = m ((c.tc : Thread Cert.MixDnRefIdeal.nD Cert.MixDnRefIdeal.τ).loc Cert.MixDnRefIdeal.main_arg0)
      ∧ r.2.mem ((c.tc : Thread Cert.MixDnRefIdeal.nD Cert.MixDnRefIdeal.τ).loc Cert.MixDnRefIdeal.main_arg1) = m ((c.tc : Thread Cert.MixDnRefIdeal.nD Cert.MixDnRefIdeal.τ).loc Cert.MixDnRefIdeal.main_arg1))
      ∧ r.2.sem = fun _ => 0)

def quiescent_MixDwin [hMixDwin : Cert.MixDwin.Facts] : Prop :=
  ∀ (m : (ℓ : Loc Cert.MixDwin.nD Cert.MixDwin.τ Cert.MixDwin.sig) → Buf (Elt Bits) ℓ) (g : Dev Cert.MixDwin.nD → PrngReg), Pre_MixDwin m →
    θ_run (Cert.MixDwin.defs (F := Bits)) (onTc (τ := Cert.MixDwin.τ) (Cert.MixDwin.main (F := Bits))) ⟨m, fun _ => 0, g⟩ (fun r => (∀ c : Dev Cert.MixDwin.nD,
      r.2.mem ((c.tc : Thread Cert.MixDwin.nD Cert.MixDwin.τ).loc Cert.MixDwin.main_arg0) = m ((c.tc : Thread Cert.MixDwin.nD Cert.MixDwin.τ).loc Cert.MixDwin.main_arg0)
      ∧ r.2.mem ((c.tc : Thread Cert.MixDwin.nD Cert.MixDwin.τ).loc Cert.MixDwin.main_arg1) = m ((c.tc : Thread Cert.MixDwin.nD Cert.MixDwin.τ).loc Cert.MixDwin.main_arg1))
      ∧ r.2.sem = fun _ => 0)

def quiescent_MixDwinIdeal [hMixDwinIdeal : Cert.MixDwinIdeal.Facts] : Prop :=
  ∀ (m : (ℓ : Loc Cert.MixDwinIdeal.nD Cert.MixDwinIdeal.τ Cert.MixDwinIdeal.sig) → Buf (Elt Ideal) ℓ) (g : Dev Cert.MixDwinIdeal.nD → PrngReg), Pre_MixDwinIdeal m →
    θ_run (Cert.MixDwinIdeal.defs (F := Ideal)) (onTc (τ := Cert.MixDwinIdeal.τ) (Cert.MixDwinIdeal.main (F := Ideal))) ⟨m, fun _ => 0, g⟩ (fun r => (∀ c : Dev Cert.MixDwinIdeal.nD,
      r.2.mem ((c.tc : Thread Cert.MixDwinIdeal.nD Cert.MixDwinIdeal.τ).loc Cert.MixDwinIdeal.main_arg0) = m ((c.tc : Thread Cert.MixDwinIdeal.nD Cert.MixDwinIdeal.τ).loc Cert.MixDwinIdeal.main_arg0)
      ∧ r.2.mem ((c.tc : Thread Cert.MixDwinIdeal.nD Cert.MixDwinIdeal.τ).loc Cert.MixDwinIdeal.main_arg1) = m ((c.tc : Thread Cert.MixDwinIdeal.nD Cert.MixDwinIdeal.τ).loc Cert.MixDwinIdeal.main_arg1))
      ∧ r.2.sem = fun _ => 0)

def quiescent_MixDwinRefIdeal [hMixDwinRefIdeal : Cert.MixDwinRefIdeal.Facts] : Prop :=
  ∀ (m : (ℓ : Loc Cert.MixDwinRefIdeal.nD Cert.MixDwinRefIdeal.τ Cert.MixDwinRefIdeal.sig) → Buf (Elt Ideal) ℓ) (g : Dev Cert.MixDwinRefIdeal.nD → PrngReg), Pre_MixDwinRefIdeal m →
    θ_run (Cert.MixDwinRefIdeal.defs (F := Ideal)) (onTc (τ := Cert.MixDwinRefIdeal.τ) (Cert.MixDwinRefIdeal.main (F := Ideal))) ⟨m, fun _ => 0, g⟩ (fun r => (∀ c : Dev Cert.MixDwinRefIdeal.nD,
      r.2.mem ((c.tc : Thread Cert.MixDwinRefIdeal.nD Cert.MixDwinRefIdeal.τ).loc Cert.MixDwinRefIdeal.main_arg0) = m ((c.tc : Thread Cert.MixDwinRefIdeal.nD Cert.MixDwinRefIdeal.τ).loc Cert.MixDwinRefIdeal.main_arg0)
      ∧ r.2.mem ((c.tc : Thread Cert.MixDwinRefIdeal.nD Cert.MixDwinRefIdeal.τ).loc Cert.MixDwinRefIdeal.main_arg1) = m ((c.tc : Thread Cert.MixDwinRefIdeal.nD Cert.MixDwinRefIdeal.τ).loc Cert.MixDwinRefIdeal.main_arg1))
      ∧ r.2.sem = fun _ => 0)

def quiescent_MixDcat [hMixDcat : Cert.MixDcat.Facts] : Prop :=
  ∀ (m : (ℓ : Loc Cert.MixDcat.nD Cert.MixDcat.τ Cert.MixDcat.sig) → Buf (Elt Bits) ℓ) (g : Dev Cert.MixDcat.nD → PrngReg), Pre_MixDcat m →
    θ_run (Cert.MixDcat.defs (F := Bits)) (onTc (τ := Cert.MixDcat.τ) (Cert.MixDcat.main (F := Bits))) ⟨m, fun _ => 0, g⟩ (fun r => (∀ c : Dev Cert.MixDcat.nD,
      r.2.mem ((c.tc : Thread Cert.MixDcat.nD Cert.MixDcat.τ).loc Cert.MixDcat.main_arg0) = m ((c.tc : Thread Cert.MixDcat.nD Cert.MixDcat.τ).loc Cert.MixDcat.main_arg0)
      ∧ r.2.mem ((c.tc : Thread Cert.MixDcat.nD Cert.MixDcat.τ).loc Cert.MixDcat.main_arg1) = m ((c.tc : Thread Cert.MixDcat.nD Cert.MixDcat.τ).loc Cert.MixDcat.main_arg1))
      ∧ r.2.sem = fun _ => 0)

def quiescent_MixDcatIdeal [hMixDcatIdeal : Cert.MixDcatIdeal.Facts] : Prop :=
  ∀ (m : (ℓ : Loc Cert.MixDcatIdeal.nD Cert.MixDcatIdeal.τ Cert.MixDcatIdeal.sig) → Buf (Elt Ideal) ℓ) (g : Dev Cert.MixDcatIdeal.nD → PrngReg), Pre_MixDcatIdeal m →
    θ_run (Cert.MixDcatIdeal.defs (F := Ideal)) (onTc (τ := Cert.MixDcatIdeal.τ) (Cert.MixDcatIdeal.main (F := Ideal))) ⟨m, fun _ => 0, g⟩ (fun r => (∀ c : Dev Cert.MixDcatIdeal.nD,
      r.2.mem ((c.tc : Thread Cert.MixDcatIdeal.nD Cert.MixDcatIdeal.τ).loc Cert.MixDcatIdeal.main_arg0) = m ((c.tc : Thread Cert.MixDcatIdeal.nD Cert.MixDcatIdeal.τ).loc Cert.MixDcatIdeal.main_arg0)
      ∧ r.2.mem ((c.tc : Thread Cert.MixDcatIdeal.nD Cert.MixDcatIdeal.τ).loc Cert.MixDcatIdeal.main_arg1) = m ((c.tc : Thread Cert.MixDcatIdeal.nD Cert.MixDcatIdeal.τ).loc Cert.MixDcatIdeal.main_arg1))
      ∧ r.2.sem = fun _ => 0)

def quiescent_MixDcatRefIdeal [hMixDcatRefIdeal : Cert.MixDcatRefIdeal.Facts] : Prop :=
  ∀ (m : (ℓ : Loc Cert.MixDcatRefIdeal.nD Cert.MixDcatRefIdeal.τ Cert.MixDcatRefIdeal.sig) → Buf (Elt Ideal) ℓ) (g : Dev Cert.MixDcatRefIdeal.nD → PrngReg), Pre_MixDcatRefIdeal m →
    θ_run (Cert.MixDcatRefIdeal.defs (F := Ideal)) (onTc (τ := Cert.MixDcatRefIdeal.τ) (Cert.MixDcatRefIdeal.main (F := Ideal))) ⟨m, fun _ => 0, g⟩ (fun r => (∀ c : Dev Cert.MixDcatRefIdeal.nD,
      r.2.mem ((c.tc : Thread Cert.MixDcatRefIdeal.nD Cert.MixDcatRefIdeal.τ).loc Cert.MixDcatRefIdeal.main_arg0) = m ((c.tc : Thread Cert.MixDcatRefIdeal.nD Cert.MixDcatRefIdeal.τ).loc Cert.MixDcatRefIdeal.main_arg0)
      ∧ r.2.mem ((c.tc : Thread Cert.MixDcatRefIdeal.nD Cert.MixDcatRefIdeal.τ).loc Cert.MixDcatRefIdeal.main_arg1) = m ((c.tc : Thread Cert.MixDcatRefIdeal.nD Cert.MixDcatRefIdeal.τ).loc Cert.MixDcatRefIdeal.main_arg1))
      ∧ r.2.sem = fun _ => 0)

def quiescent_MixDwout [hMixDwout : Cert.MixDwout.Facts] : Prop :=
  ∀ (m : (ℓ : Loc Cert.MixDwout.nD Cert.MixDwout.τ Cert.MixDwout.sig) → Buf (Elt Bits) ℓ) (g : Dev Cert.MixDwout.nD → PrngReg), Pre_MixDwout m →
    θ_run (Cert.MixDwout.defs (F := Bits)) (onTc (τ := Cert.MixDwout.τ) (Cert.MixDwout.main (F := Bits))) ⟨m, fun _ => 0, g⟩ (fun r => (∀ c : Dev Cert.MixDwout.nD,
      r.2.mem ((c.tc : Thread Cert.MixDwout.nD Cert.MixDwout.τ).loc Cert.MixDwout.main_arg0) = m ((c.tc : Thread Cert.MixDwout.nD Cert.MixDwout.τ).loc Cert.MixDwout.main_arg0)
      ∧ r.2.mem ((c.tc : Thread Cert.MixDwout.nD Cert.MixDwout.τ).loc Cert.MixDwout.main_arg1) = m ((c.tc : Thread Cert.MixDwout.nD Cert.MixDwout.τ).loc Cert.MixDwout.main_arg1))
      ∧ r.2.sem = fun _ => 0)

def quiescent_MixDwoutIdeal [hMixDwoutIdeal : Cert.MixDwoutIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg), Pre_MixDwoutIdeal m →
    θ_run (Cert.MixDwoutIdeal.defs (F := Ideal)) (onTc (τ := Cert.MixDwoutIdeal.τ) (Cert.MixDwoutIdeal.main (F := Ideal))) ⟨m, fun _ => 0, g⟩ (fun r => (∀ c : Dev Cert.MixDwoutIdeal.nD,
      r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
      ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ r.2.sem = fun _ => 0)

def quiescent_MixDwoutRefIdeal [hMixDwoutRefIdeal : Cert.MixDwoutRefIdeal.Facts] : Prop :=
  ∀ (m : (ℓ : Loc Cert.MixDwoutRefIdeal.nD Cert.MixDwoutRefIdeal.τ Cert.MixDwoutRefIdeal.sig) → Buf (Elt Ideal) ℓ) (g : Dev Cert.MixDwoutRefIdeal.nD → PrngReg), Pre_MixDwoutRefIdeal m →
    θ_run (Cert.MixDwoutRefIdeal.defs (F := Ideal)) (onTc (τ := Cert.MixDwoutRefIdeal.τ) (Cert.MixDwoutRefIdeal.main (F := Ideal))) ⟨m, fun _ => 0, g⟩ (fun r => (∀ c : Dev Cert.MixDwoutRefIdeal.nD,
      r.2.mem ((c.tc : Thread Cert.MixDwoutRefIdeal.nD Cert.MixDwoutRefIdeal.τ).loc Cert.MixDwoutRefIdeal.main_arg0) = m ((c.tc : Thread Cert.MixDwoutRefIdeal.nD Cert.MixDwoutRefIdeal.τ).loc Cert.MixDwoutRefIdeal.main_arg0)
      ∧ r.2.mem ((c.tc : Thread Cert.MixDwoutRefIdeal.nD Cert.MixDwoutRefIdeal.τ).loc Cert.MixDwoutRefIdeal.main_arg1) = m ((c.tc : Thread Cert.MixDwoutRefIdeal.nD Cert.MixDwoutRefIdeal.τ).loc Cert.MixDwoutRefIdeal.main_arg1))
      ∧ r.2.sem = fun _ => 0)

def quiescent_PleDn [hPleDn : Cert.PleDn.Facts] : Prop :=
  ∀ (m : (ℓ : Loc Cert.PleDn.nD Cert.PleDn.τ Cert.PleDn.sig) → Buf (Elt Bits) ℓ) (g : Dev Cert.PleDn.nD → PrngReg), Pre_PleDn m →
    θ_run (Cert.PleDn.defs (F := Bits)) (onTc (τ := Cert.PleDn.τ) (Cert.PleDn.main (F := Bits))) ⟨m, fun _ => 0, g⟩ (fun r => (∀ c : Dev Cert.PleDn.nD,
      r.2.mem ((c.tc : Thread Cert.PleDn.nD Cert.PleDn.τ).loc Cert.PleDn.main_arg0) = m ((c.tc : Thread Cert.PleDn.nD Cert.PleDn.τ).loc Cert.PleDn.main_arg0)
      ∧ r.2.mem ((c.tc : Thread Cert.PleDn.nD Cert.PleDn.τ).loc Cert.PleDn.main_arg1) = m ((c.tc : Thread Cert.PleDn.nD Cert.PleDn.τ).loc Cert.PleDn.main_arg1))
      ∧ r.2.sem = fun _ => 0)

def quiescent_PleDnIdeal [hPleDnIdeal : Cert.PleDnIdeal.Facts] : Prop :=
  ∀ (m : (ℓ : Loc Cert.PleDnIdeal.nD Cert.PleDnIdeal.τ Cert.PleDnIdeal.sig) → Buf (Elt Ideal) ℓ) (g : Dev Cert.PleDnIdeal.nD → PrngReg), Pre_PleDnIdeal m →
    θ_run (Cert.PleDnIdeal.defs (F := Ideal)) (onTc (τ := Cert.PleDnIdeal.τ) (Cert.PleDnIdeal.main (F := Ideal))) ⟨m, fun _ => 0, g⟩ (fun r => (∀ c : Dev Cert.PleDnIdeal.nD,
      r.2.mem ((c.tc : Thread Cert.PleDnIdeal.nD Cert.PleDnIdeal.τ).loc Cert.PleDnIdeal.main_arg0) = m ((c.tc : Thread Cert.PleDnIdeal.nD Cert.PleDnIdeal.τ).loc Cert.PleDnIdeal.main_arg0)
      ∧ r.2.mem ((c.tc : Thread Cert.PleDnIdeal.nD Cert.PleDnIdeal.τ).loc Cert.PleDnIdeal.main_arg1) = m ((c.tc : Thread Cert.PleDnIdeal.nD Cert.PleDnIdeal.τ).loc Cert.PleDnIdeal.main_arg1))
      ∧ r.2.sem = fun _ => 0)

def quiescent_PleDnRefIdeal [hPleDnRefIdeal : Cert.PleDnRefIdeal.Facts] : Prop :=
  ∀ (m : (ℓ : Loc Cert.PleDnRefIdeal.nD Cert.PleDnRefIdeal.τ Cert.PleDnRefIdeal.sig) → Buf (Elt Ideal) ℓ) (g : Dev Cert.PleDnRefIdeal.nD → PrngReg), Pre_PleDnRefIdeal m →
    θ_run (Cert.PleDnRefIdeal.defs (F := Ideal)) (onTc (τ := Cert.PleDnRefIdeal.τ) (Cert.PleDnRefIdeal.main (F := Ideal))) ⟨m, fun _ => 0, g⟩ (fun r => (∀ c : Dev Cert.PleDnRefIdeal.nD,
      r.2.mem ((c.tc : Thread Cert.PleDnRefIdeal.nD Cert.PleDnRefIdeal.τ).loc Cert.PleDnRefIdeal.main_arg0) = m ((c.tc : Thread Cert.PleDnRefIdeal.nD Cert.PleDnRefIdeal.τ).loc Cert.PleDnRefIdeal.main_arg0)
      ∧ r.2.mem ((c.tc : Thread Cert.PleDnRefIdeal.nD Cert.PleDnRefIdeal.τ).loc Cert.PleDnRefIdeal.main_arg1) = m ((c.tc : Thread Cert.PleDnRefIdeal.nD Cert.PleDnRefIdeal.τ).loc Cert.PleDnRefIdeal.main_arg1))
      ∧ r.2.sem = fun _ => 0)

def quiescent_PleDwgate [hPleDwgate : Cert.PleDwgate.Facts] : Prop :=
  ∀ (m : (ℓ : Loc Cert.PleDwgate.nD Cert.PleDwgate.τ Cert.PleDwgate.sig) → Buf (Elt Bits) ℓ) (g : Dev Cert.PleDwgate.nD → PrngReg), Pre_PleDwgate m →
    θ_run (Cert.PleDwgate.defs (F := Bits)) (onTc (τ := Cert.PleDwgate.τ) (Cert.PleDwgate.main (F := Bits))) ⟨m, fun _ => 0, g⟩ (fun r => (∀ c : Dev Cert.PleDwgate.nD,
      r.2.mem ((c.tc : Thread Cert.PleDwgate.nD Cert.PleDwgate.τ).loc Cert.PleDwgate.main_arg0) = m ((c.tc : Thread Cert.PleDwgate.nD Cert.PleDwgate.τ).loc Cert.PleDwgate.main_arg0)
      ∧ r.2.mem ((c.tc : Thread Cert.PleDwgate.nD Cert.PleDwgate.τ).loc Cert.PleDwgate.main_arg1) = m ((c.tc : Thread Cert.PleDwgate.nD Cert.PleDwgate.τ).loc Cert.PleDwgate.main_arg1))
      ∧ r.2.sem = fun _ => 0)

def quiescent_PleDwgateIdeal [hPleDwgateIdeal : Cert.PleDwgateIdeal.Facts] : Prop :=
  ∀ (m : (ℓ : Loc Cert.PleDwgateIdeal.nD Cert.PleDwgateIdeal.τ Cert.PleDwgateIdeal.sig) → Buf (Elt Ideal) ℓ) (g : Dev Cert.PleDwgateIdeal.nD → PrngReg), Pre_PleDwgateIdeal m →
    θ_run (Cert.PleDwgateIdeal.defs (F := Ideal)) (onTc (τ := Cert.PleDwgateIdeal.τ) (Cert.PleDwgateIdeal.main (F := Ideal))) ⟨m, fun _ => 0, g⟩ (fun r => (∀ c : Dev Cert.PleDwgateIdeal.nD,
      r.2.mem ((c.tc : Thread Cert.PleDwgateIdeal.nD Cert.PleDwgateIdeal.τ).loc Cert.PleDwgateIdeal.main_arg0) = m ((c.tc : Thread Cert.PleDwgateIdeal.nD Cert.PleDwgateIdeal.τ).loc Cert.PleDwgateIdeal.main_arg0)
      ∧ r.2.mem ((c.tc : Thread Cert.PleDwgateIdeal.nD Cert.PleDwgateIdeal.τ).loc Cert.PleDwgateIdeal.main_arg1) = m ((c.tc : Thread Cert.PleDwgateIdeal.nD Cert.PleDwgateIdeal.τ).loc Cert.PleDwgateIdeal.main_arg1))
      ∧ r.2.sem = fun _ => 0)

def quiescent_PleDwgateRefIdeal [hPleDwgateRefIdeal : Cert.PleDwgateRefIdeal.Facts] : Prop :=
  ∀ (m : (ℓ : Loc Cert.PleDwgateRefIdeal.nD Cert.PleDwgateRefIdeal.τ Cert.PleDwgateRefIdeal.sig) → Buf (Elt Ideal) ℓ) (g : Dev Cert.PleDwgateRefIdeal.nD → PrngReg), Pre_PleDwgateRefIdeal m →
    θ_run (Cert.PleDwgateRefIdeal.defs (F := Ideal)) (onTc (τ := Cert.PleDwgateRefIdeal.τ) (Cert.PleDwgateRefIdeal.main (F := Ideal))) ⟨m, fun _ => 0, g⟩ (fun r => (∀ c : Dev Cert.PleDwgateRefIdeal.nD,
      r.2.mem ((c.tc : Thread Cert.PleDwgateRefIdeal.nD Cert.PleDwgateRefIdeal.τ).loc Cert.PleDwgateRefIdeal.main_arg0) = m ((c.tc : Thread Cert.PleDwgateRefIdeal.nD Cert.PleDwgateRefIdeal.τ).loc Cert.PleDwgateRefIdeal.main_arg0)
      ∧ r.2.mem ((c.tc : Thread Cert.PleDwgateRefIdeal.nD Cert.PleDwgateRefIdeal.τ).loc Cert.PleDwgateRefIdeal.main_arg1) = m ((c.tc : Thread Cert.PleDwgateRefIdeal.nD Cert.PleDwgateRefIdeal.τ).loc Cert.PleDwgateRefIdeal.main_arg1))
      ∧ r.2.sem = fun _ => 0)

def quiescent_PleDwproj [hPleDwproj : Cert.PleDwproj.Facts] : Prop :=
  ∀ (m : (ℓ : Loc Cert.PleDwproj.nD Cert.PleDwproj.τ Cert.PleDwproj.sig) → Buf (Elt Bits) ℓ) (g : Dev Cert.PleDwproj.nD → PrngReg), Pre_PleDwproj m →
    θ_run (Cert.PleDwproj.defs (F := Bits)) (onTc (τ := Cert.PleDwproj.τ) (Cert.PleDwproj.main (F := Bits))) ⟨m, fun _ => 0, g⟩ (fun r => (∀ c : Dev Cert.PleDwproj.nD,
      r.2.mem ((c.tc : Thread Cert.PleDwproj.nD Cert.PleDwproj.τ).loc Cert.PleDwproj.main_arg0) = m ((c.tc : Thread Cert.PleDwproj.nD Cert.PleDwproj.τ).loc Cert.PleDwproj.main_arg0)
      ∧ r.2.mem ((c.tc : Thread Cert.PleDwproj.nD Cert.PleDwproj.τ).loc Cert.PleDwproj.main_arg1) = m ((c.tc : Thread Cert.PleDwproj.nD Cert.PleDwproj.τ).loc Cert.PleDwproj.main_arg1))
      ∧ r.2.sem = fun _ => 0)

def quiescent_PleDwprojIdeal [hPleDwprojIdeal : Cert.PleDwprojIdeal.Facts] : Prop :=
  ∀ (m : (ℓ : Loc Cert.PleDwprojIdeal.nD Cert.PleDwprojIdeal.τ Cert.PleDwprojIdeal.sig) → Buf (Elt Ideal) ℓ) (g : Dev Cert.PleDwprojIdeal.nD → PrngReg), Pre_PleDwprojIdeal m →
    θ_run (Cert.PleDwprojIdeal.defs (F := Ideal)) (onTc (τ := Cert.PleDwprojIdeal.τ) (Cert.PleDwprojIdeal.main (F := Ideal))) ⟨m, fun _ => 0, g⟩ (fun r => (∀ c : Dev Cert.PleDwprojIdeal.nD,
      r.2.mem ((c.tc : Thread Cert.PleDwprojIdeal.nD Cert.PleDwprojIdeal.τ).loc Cert.PleDwprojIdeal.main_arg0) = m ((c.tc : Thread Cert.PleDwprojIdeal.nD Cert.PleDwprojIdeal.τ).loc Cert.PleDwprojIdeal.main_arg0)
      ∧ r.2.mem ((c.tc : Thread Cert.PleDwprojIdeal.nD Cert.PleDwprojIdeal.τ).loc Cert.PleDwprojIdeal.main_arg1) = m ((c.tc : Thread Cert.PleDwprojIdeal.nD Cert.PleDwprojIdeal.τ).loc Cert.PleDwprojIdeal.main_arg1))
      ∧ r.2.sem = fun _ => 0)

def quiescent_PleDwprojRefIdeal [hPleDwprojRefIdeal : Cert.PleDwprojRefIdeal.Facts] : Prop :=
  ∀ (m : (ℓ : Loc Cert.PleDwprojRefIdeal.nD Cert.PleDwprojRefIdeal.τ Cert.PleDwprojRefIdeal.sig) → Buf (Elt Ideal) ℓ) (g : Dev Cert.PleDwprojRefIdeal.nD → PrngReg), Pre_PleDwprojRefIdeal m →
    θ_run (Cert.PleDwprojRefIdeal.defs (F := Ideal)) (onTc (τ := Cert.PleDwprojRefIdeal.τ) (Cert.PleDwprojRefIdeal.main (F := Ideal))) ⟨m, fun _ => 0, g⟩ (fun r => (∀ c : Dev Cert.PleDwprojRefIdeal.nD,
      r.2.mem ((c.tc : Thread Cert.PleDwprojRefIdeal.nD Cert.PleDwprojRefIdeal.τ).loc Cert.PleDwprojRefIdeal.main_arg0) = m ((c.tc : Thread Cert.PleDwprojRefIdeal.nD Cert.PleDwprojRefIdeal.τ).loc Cert.PleDwprojRefIdeal.main_arg0)
      ∧ r.2.mem ((c.tc : Thread Cert.PleDwprojRefIdeal.nD Cert.PleDwprojRefIdeal.τ).loc Cert.PleDwprojRefIdeal.main_arg1) = m ((c.tc : Thread Cert.PleDwprojRefIdeal.nD Cert.PleDwprojRefIdeal.τ).loc Cert.PleDwprojRefIdeal.main_arg1))
      ∧ r.2.sem = fun _ => 0)

def quiescent_PleDout [hPleDout : Cert.PleDout.Facts] : Prop :=
  ∀ (m : (ℓ : Loc Cert.PleDout.nD Cert.PleDout.τ Cert.PleDout.sig) → Buf (Elt Bits) ℓ) (g : Dev Cert.PleDout.nD → PrngReg), Pre_PleDout m →
    θ_run (Cert.PleDout.defs (F := Bits)) (onTc (τ := Cert.PleDout.τ) (Cert.PleDout.main (F := Bits))) ⟨m, fun _ => 0, g⟩ (fun r => (∀ c : Dev Cert.PleDout.nD,
      r.2.mem ((c.tc : Thread Cert.PleDout.nD Cert.PleDout.τ).loc Cert.PleDout.main_arg0) = m ((c.tc : Thread Cert.PleDout.nD Cert.PleDout.τ).loc Cert.PleDout.main_arg0)
      ∧ r.2.mem ((c.tc : Thread Cert.PleDout.nD Cert.PleDout.τ).loc Cert.PleDout.main_arg1) = m ((c.tc : Thread Cert.PleDout.nD Cert.PleDout.τ).loc Cert.PleDout.main_arg1)
      ∧ r.2.mem ((c.tc : Thread Cert.PleDout.nD Cert.PleDout.τ).loc Cert.PleDout.main_arg2) = m ((c.tc : Thread Cert.PleDout.nD Cert.PleDout.τ).loc Cert.PleDout.main_arg2)
      ∧ r.2.mem ((c.tc : Thread Cert.PleDout.nD Cert.PleDout.τ).loc Cert.PleDout.main_arg3) = m ((c.tc : Thread Cert.PleDout.nD Cert.PleDout.τ).loc Cert.PleDout.main_arg3))
      ∧ r.2.sem = fun _ => 0)

def quiescent_PleDoutIdeal [hPleDoutIdeal : Cert.PleDoutIdeal.Facts] : Prop :=
  ∀ (m : (ℓ : Loc Cert.PleDoutIdeal.nD Cert.PleDoutIdeal.τ Cert.PleDoutIdeal.sig) → Buf (Elt Ideal) ℓ) (g : Dev Cert.PleDoutIdeal.nD → PrngReg), Pre_PleDoutIdeal m →
    θ_run (Cert.PleDoutIdeal.defs (F := Ideal)) (onTc (τ := Cert.PleDoutIdeal.τ) (Cert.PleDoutIdeal.main (F := Ideal))) ⟨m, fun _ => 0, g⟩ (fun r => (∀ c : Dev Cert.PleDoutIdeal.nD,
      r.2.mem ((c.tc : Thread Cert.PleDoutIdeal.nD Cert.PleDoutIdeal.τ).loc Cert.PleDoutIdeal.main_arg0) = m ((c.tc : Thread Cert.PleDoutIdeal.nD Cert.PleDoutIdeal.τ).loc Cert.PleDoutIdeal.main_arg0)
      ∧ r.2.mem ((c.tc : Thread Cert.PleDoutIdeal.nD Cert.PleDoutIdeal.τ).loc Cert.PleDoutIdeal.main_arg1) = m ((c.tc : Thread Cert.PleDoutIdeal.nD Cert.PleDoutIdeal.τ).loc Cert.PleDoutIdeal.main_arg1)
      ∧ r.2.mem ((c.tc : Thread Cert.PleDoutIdeal.nD Cert.PleDoutIdeal.τ).loc Cert.PleDoutIdeal.main_arg2) = m ((c.tc : Thread Cert.PleDoutIdeal.nD Cert.PleDoutIdeal.τ).loc Cert.PleDoutIdeal.main_arg2)
      ∧ r.2.mem ((c.tc : Thread Cert.PleDoutIdeal.nD Cert.PleDoutIdeal.τ).loc Cert.PleDoutIdeal.main_arg3) = m ((c.tc : Thread Cert.PleDoutIdeal.nD Cert.PleDoutIdeal.τ).loc Cert.PleDoutIdeal.main_arg3))
      ∧ r.2.sem = fun _ => 0)

def quiescent_PleDoutRefIdeal [hPleDoutRefIdeal : Cert.PleDoutRefIdeal.Facts] : Prop :=
  ∀ (m : (ℓ : Loc Cert.PleDoutRefIdeal.nD Cert.PleDoutRefIdeal.τ Cert.PleDoutRefIdeal.sig) → Buf (Elt Ideal) ℓ) (g : Dev Cert.PleDoutRefIdeal.nD → PrngReg), Pre_PleDoutRefIdeal m →
    θ_run (Cert.PleDoutRefIdeal.defs (F := Ideal)) (onTc (τ := Cert.PleDoutRefIdeal.τ) (Cert.PleDoutRefIdeal.main (F := Ideal))) ⟨m, fun _ => 0, g⟩ (fun r => (∀ c : Dev Cert.PleDoutRefIdeal.nD,
      r.2.mem ((c.tc : Thread Cert.PleDoutRefIdeal.nD Cert.PleDoutRefIdeal.τ).loc Cert.PleDoutRefIdeal.main_arg0) = m ((c.tc : Thread Cert.PleDoutRefIdeal.nD Cert.PleDoutRefIdeal.τ).loc Cert.PleDoutRefIdeal.main_arg0)
      ∧ r.2.mem ((c.tc : Thread Cert.PleDoutRefIdeal.nD Cert.PleDoutRefIdeal.τ).loc Cert.PleDoutRefIdeal.main_arg1) = m ((c.tc : Thread Cert.PleDoutRefIdeal.nD Cert.PleDoutRefIdeal.τ).loc Cert.PleDoutRefIdeal.main_arg1)
      ∧ r.2.mem ((c.tc : Thread Cert.PleDoutRefIdeal.nD Cert.PleDoutRefIdeal.τ).loc Cert.PleDoutRefIdeal.main_arg2) = m ((c.tc : Thread Cert.PleDoutRefIdeal.nD Cert.PleDoutRefIdeal.τ).loc Cert.PleDoutRefIdeal.main_arg2)
      ∧ r.2.mem ((c.tc : Thread Cert.PleDoutRefIdeal.nD Cert.PleDoutRefIdeal.τ).loc Cert.PleDoutRefIdeal.main_arg3) = m ((c.tc : Thread Cert.PleDoutRefIdeal.nD Cert.PleDoutRefIdeal.τ).loc Cert.PleDoutRefIdeal.main_arg3))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_PleOut [hPleOut : Cert.PleOut.Facts] : Prop :=
  ∀ (m : (ℓ : Loc Cert.PleOut.nD Cert.PleOut.τ Cert.PleOut.sig) → Buf (Elt Bits) ℓ) (g : Dev Cert.PleOut.nD → PrngReg), Pre_PleOut m →
    θ_run (Cert.PleOut.defs (F := Bits)) (onTc (τ := Cert.PleOut.τ) (Cert.PleOut.main (F := Bits))) ⟨m, fun _ => 0, g⟩ (fun r => (∀ c : Dev Cert.PleOut.nD,
      r.2.mem ((c.tc : Thread Cert.PleOut.nD Cert.PleOut.τ).loc Cert.PleOut.main_arg0) = m ((c.tc : Thread Cert.PleOut.nD Cert.PleOut.τ).loc Cert.PleOut.main_arg0)
      ∧ r.2.mem ((c.tc : Thread Cert.PleOut.nD Cert.PleOut.τ).loc Cert.PleOut.main_arg1) = m ((c.tc : Thread Cert.PleOut.nD Cert.PleOut.τ).loc Cert.PleOut.main_arg1)
      ∧ r.2.mem ((c.tc : Thread Cert.PleOut.nD Cert.PleOut.τ).loc Cert.PleOut.main_arg2) = m ((c.tc : Thread Cert.PleOut.nD Cert.PleOut.τ).loc Cert.PleOut.main_arg2))
      ∧ r.2.sem = fun _ => 0)

def quiescent_PleOutIdeal [hPleOutIdeal : Cert.PleOutIdeal.Facts] : Prop :=
  ∀ (m : (ℓ : Loc Cert.PleOutIdeal.nD Cert.PleOutIdeal.τ Cert.PleOutIdeal.sig) → Buf (Elt Ideal) ℓ) (g : Dev Cert.PleOutIdeal.nD → PrngReg), Pre_PleOutIdeal m →
    θ_run (Cert.PleOutIdeal.defs (F := Ideal)) (onTc (τ := Cert.PleOutIdeal.τ) (Cert.PleOutIdeal.main (F := Ideal))) ⟨m, fun _ => 0, g⟩ (fun r => (∀ c : Dev Cert.PleOutIdeal.nD,
      r.2.mem ((c.tc : Thread Cert.PleOutIdeal.nD Cert.PleOutIdeal.τ).loc Cert.PleOutIdeal.main_arg0) = m ((c.tc : Thread Cert.PleOutIdeal.nD Cert.PleOutIdeal.τ).loc Cert.PleOutIdeal.main_arg0)
      ∧ r.2.mem ((c.tc : Thread Cert.PleOutIdeal.nD Cert.PleOutIdeal.τ).loc Cert.PleOutIdeal.main_arg1) = m ((c.tc : Thread Cert.PleOutIdeal.nD Cert.PleOutIdeal.τ).loc Cert.PleOutIdeal.main_arg1)
      ∧ r.2.mem ((c.tc : Thread Cert.PleOutIdeal.nD Cert.PleOutIdeal.τ).loc Cert.PleOutIdeal.main_arg2) = m ((c.tc : Thread Cert.PleOutIdeal.nD Cert.PleOutIdeal.τ).loc Cert.PleOutIdeal.main_arg2))
      ∧ r.2.sem = fun _ => 0)

def quiescent_PleOutRefIdeal [hPleOutRefIdeal : Cert.PleOutRefIdeal.Facts] : Prop :=
  ∀ (m : (ℓ : Loc Cert.PleOutRefIdeal.nD Cert.PleOutRefIdeal.τ Cert.PleOutRefIdeal.sig) → Buf (Elt Ideal) ℓ) (g : Dev Cert.PleOutRefIdeal.nD → PrngReg), Pre_PleOutRefIdeal m →
    θ_run (Cert.PleOutRefIdeal.defs (F := Ideal)) (onTc (τ := Cert.PleOutRefIdeal.τ) (Cert.PleOutRefIdeal.main (F := Ideal))) ⟨m, fun _ => 0, g⟩ (fun r => (∀ c : Dev Cert.PleOutRefIdeal.nD,
      r.2.mem ((c.tc : Thread Cert.PleOutRefIdeal.nD Cert.PleOutRefIdeal.τ).loc Cert.PleOutRefIdeal.main_arg0) = m ((c.tc : Thread Cert.PleOutRefIdeal.nD Cert.PleOutRefIdeal.τ).loc Cert.PleOutRefIdeal.main_arg0)
      ∧ r.2.mem ((c.tc : Thread Cert.PleOutRefIdeal.nD Cert.PleOutRefIdeal.τ).loc Cert.PleOutRefIdeal.main_arg1) = m ((c.tc : Thread Cert.PleOutRefIdeal.nD Cert.PleOutRefIdeal.τ).loc Cert.PleOutRefIdeal.main_arg1)
      ∧ r.2.mem ((c.tc : Thread Cert.PleOutRefIdeal.nD Cert.PleOutRefIdeal.τ).loc Cert.PleOutRefIdeal.main_arg2) = m ((c.tc : Thread Cert.PleOutRefIdeal.nD Cert.PleOutRefIdeal.τ).loc Cert.PleOutRefIdeal.main_arg2))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1))
      ∧ r.2.sem = fun _ => 0)

def quiescent_SsmGlu [hSsmGlu : Cert.SsmGlu.Facts] : Prop :=
  ∀ (m : (ℓ : Loc Cert.SsmGlu.nD Cert.SsmGlu.τ Cert.SsmGlu.sig) → Buf (Elt Bits) ℓ) (g : Dev Cert.SsmGlu.nD → PrngReg), Pre_SsmGlu m →
    θ_run (Cert.SsmGlu.defs (F := Bits)) (onTc (τ := Cert.SsmGlu.τ) (Cert.SsmGlu.main (F := Bits))) ⟨m, fun _ => 0, g⟩ (fun r => (∀ c : Dev Cert.SsmGlu.nD,
      r.2.mem ((c.tc : Thread Cert.SsmGlu.nD Cert.SsmGlu.τ).loc Cert.SsmGlu.main_arg0) = m ((c.tc : Thread Cert.SsmGlu.nD Cert.SsmGlu.τ).loc Cert.SsmGlu.main_arg0)
      ∧ r.2.mem ((c.tc : Thread Cert.SsmGlu.nD Cert.SsmGlu.τ).loc Cert.SsmGlu.main_arg1) = m ((c.tc : Thread Cert.SsmGlu.nD Cert.SsmGlu.τ).loc Cert.SsmGlu.main_arg1)
      ∧ r.2.mem ((c.tc : Thread Cert.SsmGlu.nD Cert.SsmGlu.τ).loc Cert.SsmGlu.main_arg2) = m ((c.tc : Thread Cert.SsmGlu.nD Cert.SsmGlu.τ).loc Cert.SsmGlu.main_arg2))
      ∧ r.2.sem = fun _ => 0)

def quiescent_SsmGluIdeal [hSsmGluIdeal : Cert.SsmGluIdeal.Facts] : Prop :=
  ∀ (m : (ℓ : Loc Cert.SsmGluIdeal.nD Cert.SsmGluIdeal.τ Cert.SsmGluIdeal.sig) → Buf (Elt Ideal) ℓ) (g : Dev Cert.SsmGluIdeal.nD → PrngReg), Pre_SsmGluIdeal m →
    θ_run (Cert.SsmGluIdeal.defs (F := Ideal)) (onTc (τ := Cert.SsmGluIdeal.τ) (Cert.SsmGluIdeal.main (F := Ideal))) ⟨m, fun _ => 0, g⟩ (fun r => (∀ c : Dev Cert.SsmGluIdeal.nD,
      r.2.mem ((c.tc : Thread Cert.SsmGluIdeal.nD Cert.SsmGluIdeal.τ).loc Cert.SsmGluIdeal.main_arg0) = m ((c.tc : Thread Cert.SsmGluIdeal.nD Cert.SsmGluIdeal.τ).loc Cert.SsmGluIdeal.main_arg0)
      ∧ r.2.mem ((c.tc : Thread Cert.SsmGluIdeal.nD Cert.SsmGluIdeal.τ).loc Cert.SsmGluIdeal.main_arg1) = m ((c.tc : Thread Cert.SsmGluIdeal.nD Cert.SsmGluIdeal.τ).loc Cert.SsmGluIdeal.main_arg1)
      ∧ r.2.mem ((c.tc : Thread Cert.SsmGluIdeal.nD Cert.SsmGluIdeal.τ).loc Cert.SsmGluIdeal.main_arg2) = m ((c.tc : Thread Cert.SsmGluIdeal.nD Cert.SsmGluIdeal.τ).loc Cert.SsmGluIdeal.main_arg2))
      ∧ r.2.sem = fun _ => 0)

def quiescent_SsmGluRefIdeal [hSsmGluRefIdeal : Cert.SsmGluRefIdeal.Facts] : Prop :=
  ∀ (m : (ℓ : Loc Cert.SsmGluRefIdeal.nD Cert.SsmGluRefIdeal.τ Cert.SsmGluRefIdeal.sig) → Buf (Elt Ideal) ℓ) (g : Dev Cert.SsmGluRefIdeal.nD → PrngReg), Pre_SsmGluRefIdeal m →
    θ_run (Cert.SsmGluRefIdeal.defs (F := Ideal)) (onTc (τ := Cert.SsmGluRefIdeal.τ) (Cert.SsmGluRefIdeal.main (F := Ideal))) ⟨m, fun _ => 0, g⟩ (fun r => (∀ c : Dev Cert.SsmGluRefIdeal.nD,
      r.2.mem ((c.tc : Thread Cert.SsmGluRefIdeal.nD Cert.SsmGluRefIdeal.τ).loc Cert.SsmGluRefIdeal.main_arg0) = m ((c.tc : Thread Cert.SsmGluRefIdeal.nD Cert.SsmGluRefIdeal.τ).loc Cert.SsmGluRefIdeal.main_arg0)
      ∧ r.2.mem ((c.tc : Thread Cert.SsmGluRefIdeal.nD Cert.SsmGluRefIdeal.τ).loc Cert.SsmGluRefIdeal.main_arg1) = m ((c.tc : Thread Cert.SsmGluRefIdeal.nD Cert.SsmGluRefIdeal.τ).loc Cert.SsmGluRefIdeal.main_arg1)
      ∧ r.2.mem ((c.tc : Thread Cert.SsmGluRefIdeal.nD Cert.SsmGluRefIdeal.τ).loc Cert.SsmGluRefIdeal.main_arg2) = m ((c.tc : Thread Cert.SsmGluRefIdeal.nD Cert.SsmGluRefIdeal.τ).loc Cert.SsmGluRefIdeal.main_arg2))
      ∧ r.2.sem = fun _ => 0)

def quiescent_SsmDglu [hSsmDglu : Cert.SsmDglu.Facts] : Prop :=
  ∀ (m : (ℓ : Loc Cert.SsmDglu.nD Cert.SsmDglu.τ Cert.SsmDglu.sig) → Buf (Elt Bits) ℓ) (g : Dev Cert.SsmDglu.nD → PrngReg), Pre_SsmDglu m →
    θ_run (Cert.SsmDglu.defs (F := Bits)) (onTc (τ := Cert.SsmDglu.τ) (Cert.SsmDglu.main (F := Bits))) ⟨m, fun _ => 0, g⟩ (fun r => (∀ c : Dev Cert.SsmDglu.nD,
      r.2.mem ((c.tc : Thread Cert.SsmDglu.nD Cert.SsmDglu.τ).loc Cert.SsmDglu.main_arg0) = m ((c.tc : Thread Cert.SsmDglu.nD Cert.SsmDglu.τ).loc Cert.SsmDglu.main_arg0)
      ∧ r.2.mem ((c.tc : Thread Cert.SsmDglu.nD Cert.SsmDglu.τ).loc Cert.SsmDglu.main_arg1) = m ((c.tc : Thread Cert.SsmDglu.nD Cert.SsmDglu.τ).loc Cert.SsmDglu.main_arg1)
      ∧ r.2.mem ((c.tc : Thread Cert.SsmDglu.nD Cert.SsmDglu.τ).loc Cert.SsmDglu.main_arg2) = m ((c.tc : Thread Cert.SsmDglu.nD Cert.SsmDglu.τ).loc Cert.SsmDglu.main_arg2)
      ∧ r.2.mem ((c.tc : Thread Cert.SsmDglu.nD Cert.SsmDglu.τ).loc Cert.SsmDglu.main_arg3) = m ((c.tc : Thread Cert.SsmDglu.nD Cert.SsmDglu.τ).loc Cert.SsmDglu.main_arg3))
      ∧ r.2.sem = fun _ => 0)

def quiescent_SsmDgluIdeal [hSsmDgluIdeal : Cert.SsmDgluIdeal.Facts] : Prop :=
  ∀ (m : (ℓ : Loc Cert.SsmDgluIdeal.nD Cert.SsmDgluIdeal.τ Cert.SsmDgluIdeal.sig) → Buf (Elt Ideal) ℓ) (g : Dev Cert.SsmDgluIdeal.nD → PrngReg), Pre_SsmDgluIdeal m →
    θ_run (Cert.SsmDgluIdeal.defs (F := Ideal)) (onTc (τ := Cert.SsmDgluIdeal.τ) (Cert.SsmDgluIdeal.main (F := Ideal))) ⟨m, fun _ => 0, g⟩ (fun r => (∀ c : Dev Cert.SsmDgluIdeal.nD,
      r.2.mem ((c.tc : Thread Cert.SsmDgluIdeal.nD Cert.SsmDgluIdeal.τ).loc Cert.SsmDgluIdeal.main_arg0) = m ((c.tc : Thread Cert.SsmDgluIdeal.nD Cert.SsmDgluIdeal.τ).loc Cert.SsmDgluIdeal.main_arg0)
      ∧ r.2.mem ((c.tc : Thread Cert.SsmDgluIdeal.nD Cert.SsmDgluIdeal.τ).loc Cert.SsmDgluIdeal.main_arg1) = m ((c.tc : Thread Cert.SsmDgluIdeal.nD Cert.SsmDgluIdeal.τ).loc Cert.SsmDgluIdeal.main_arg1)
      ∧ r.2.mem ((c.tc : Thread Cert.SsmDgluIdeal.nD Cert.SsmDgluIdeal.τ).loc Cert.SsmDgluIdeal.main_arg2) = m ((c.tc : Thread Cert.SsmDgluIdeal.nD Cert.SsmDgluIdeal.τ).loc Cert.SsmDgluIdeal.main_arg2)
      ∧ r.2.mem ((c.tc : Thread Cert.SsmDgluIdeal.nD Cert.SsmDgluIdeal.τ).loc Cert.SsmDgluIdeal.main_arg3) = m ((c.tc : Thread Cert.SsmDgluIdeal.nD Cert.SsmDgluIdeal.τ).loc Cert.SsmDgluIdeal.main_arg3))
      ∧ r.2.sem = fun _ => 0)

def quiescent_SsmDgluRefIdeal [hSsmDgluRefIdeal : Cert.SsmDgluRefIdeal.Facts] : Prop :=
  ∀ (m : (ℓ : Loc Cert.SsmDgluRefIdeal.nD Cert.SsmDgluRefIdeal.τ Cert.SsmDgluRefIdeal.sig) → Buf (Elt Ideal) ℓ) (g : Dev Cert.SsmDgluRefIdeal.nD → PrngReg), Pre_SsmDgluRefIdeal m →
    θ_run (Cert.SsmDgluRefIdeal.defs (F := Ideal)) (onTc (τ := Cert.SsmDgluRefIdeal.τ) (Cert.SsmDgluRefIdeal.main (F := Ideal))) ⟨m, fun _ => 0, g⟩ (fun r => (∀ c : Dev Cert.SsmDgluRefIdeal.nD,
      r.2.mem ((c.tc : Thread Cert.SsmDgluRefIdeal.nD Cert.SsmDgluRefIdeal.τ).loc Cert.SsmDgluRefIdeal.main_arg0) = m ((c.tc : Thread Cert.SsmDgluRefIdeal.nD Cert.SsmDgluRefIdeal.τ).loc Cert.SsmDgluRefIdeal.main_arg0)
      ∧ r.2.mem ((c.tc : Thread Cert.SsmDgluRefIdeal.nD Cert.SsmDgluRefIdeal.τ).loc Cert.SsmDgluRefIdeal.main_arg1) = m ((c.tc : Thread Cert.SsmDgluRefIdeal.nD Cert.SsmDgluRefIdeal.τ).loc Cert.SsmDgluRefIdeal.main_arg1)
      ∧ r.2.mem ((c.tc : Thread Cert.SsmDgluRefIdeal.nD Cert.SsmDgluRefIdeal.τ).loc Cert.SsmDgluRefIdeal.main_arg2) = m ((c.tc : Thread Cert.SsmDgluRefIdeal.nD Cert.SsmDgluRefIdeal.τ).loc Cert.SsmDgluRefIdeal.main_arg2)
      ∧ r.2.mem ((c.tc : Thread Cert.SsmDgluRefIdeal.nD Cert.SsmDgluRefIdeal.τ).loc Cert.SsmDgluRefIdeal.main_arg3) = m ((c.tc : Thread Cert.SsmDgluRefIdeal.nD Cert.SsmDgluRefIdeal.τ).loc Cert.SsmDgluRefIdeal.main_arg3))
      ∧ r.2.sem = fun _ => 0)

def quiescent_SsmDyg [hSsmDyg : Cert.SsmDyg.Facts] : Prop :=
  ∀ (m : (ℓ : Loc Cert.SsmDyg.nD Cert.SsmDyg.τ Cert.SsmDyg.sig) → Buf (Elt Bits) ℓ) (g : Dev Cert.SsmDyg.nD → PrngReg), Pre_SsmDyg m →
    θ_run (Cert.SsmDyg.defs (F := Bits)) (onTc (τ := Cert.SsmDyg.τ) (Cert.SsmDyg.main (F := Bits))) ⟨m, fun _ => 0, g⟩ (fun r => (∀ c : Dev Cert.SsmDyg.nD,
      r.2.mem ((c.tc : Thread Cert.SsmDyg.nD Cert.SsmDyg.τ).loc Cert.SsmDyg.main_arg0) = m ((c.tc : Thread Cert.SsmDyg.nD Cert.SsmDyg.τ).loc Cert.SsmDyg.main_arg0)
      ∧ r.2.mem ((c.tc : Thread Cert.SsmDyg.nD Cert.SsmDyg.τ).loc Cert.SsmDyg.main_arg1) = m ((c.tc : Thread Cert.SsmDyg.nD Cert.SsmDyg.τ).loc Cert.SsmDyg.main_arg1))
      ∧ r.2.sem = fun _ => 0)

def quiescent_SsmDygIdeal [hSsmDygIdeal : Cert.SsmDygIdeal.Facts] : Prop :=
  ∀ (m : (ℓ : Loc Cert.SsmDygIdeal.nD Cert.SsmDygIdeal.τ Cert.SsmDygIdeal.sig) → Buf (Elt Ideal) ℓ) (g : Dev Cert.SsmDygIdeal.nD → PrngReg), Pre_SsmDygIdeal m →
    θ_run (Cert.SsmDygIdeal.defs (F := Ideal)) (onTc (τ := Cert.SsmDygIdeal.τ) (Cert.SsmDygIdeal.main (F := Ideal))) ⟨m, fun _ => 0, g⟩ (fun r => (∀ c : Dev Cert.SsmDygIdeal.nD,
      r.2.mem ((c.tc : Thread Cert.SsmDygIdeal.nD Cert.SsmDygIdeal.τ).loc Cert.SsmDygIdeal.main_arg0) = m ((c.tc : Thread Cert.SsmDygIdeal.nD Cert.SsmDygIdeal.τ).loc Cert.SsmDygIdeal.main_arg0)
      ∧ r.2.mem ((c.tc : Thread Cert.SsmDygIdeal.nD Cert.SsmDygIdeal.τ).loc Cert.SsmDygIdeal.main_arg1) = m ((c.tc : Thread Cert.SsmDygIdeal.nD Cert.SsmDygIdeal.τ).loc Cert.SsmDygIdeal.main_arg1))
      ∧ r.2.sem = fun _ => 0)

def quiescent_SsmDygRefIdeal [hSsmDygRefIdeal : Cert.SsmDygRefIdeal.Facts] : Prop :=
  ∀ (m : (ℓ : Loc Cert.SsmDygRefIdeal.nD Cert.SsmDygRefIdeal.τ Cert.SsmDygRefIdeal.sig) → Buf (Elt Ideal) ℓ) (g : Dev Cert.SsmDygRefIdeal.nD → PrngReg), Pre_SsmDygRefIdeal m →
    θ_run (Cert.SsmDygRefIdeal.defs (F := Ideal)) (onTc (τ := Cert.SsmDygRefIdeal.τ) (Cert.SsmDygRefIdeal.main (F := Ideal))) ⟨m, fun _ => 0, g⟩ (fun r => (∀ c : Dev Cert.SsmDygRefIdeal.nD,
      r.2.mem ((c.tc : Thread Cert.SsmDygRefIdeal.nD Cert.SsmDygRefIdeal.τ).loc Cert.SsmDygRefIdeal.main_arg0) = m ((c.tc : Thread Cert.SsmDygRefIdeal.nD Cert.SsmDygRefIdeal.τ).loc Cert.SsmDygRefIdeal.main_arg0)
      ∧ r.2.mem ((c.tc : Thread Cert.SsmDygRefIdeal.nD Cert.SsmDygRefIdeal.τ).loc Cert.SsmDygRefIdeal.main_arg1) = m ((c.tc : Thread Cert.SsmDygRefIdeal.nD Cert.SsmDygRefIdeal.τ).loc Cert.SsmDygRefIdeal.main_arg1))
      ∧ r.2.sem = fun _ => 0)

def quiescent_SsmDygAdd [hSsmDygAdd : Cert.SsmDygAdd.Facts] : Prop :=
  ∀ (m : (ℓ : Loc Cert.SsmDygAdd.nD Cert.SsmDygAdd.τ Cert.SsmDygAdd.sig) → Buf (Elt Bits) ℓ) (g : Dev Cert.SsmDygAdd.nD → PrngReg), Pre_SsmDygAdd m →
    θ_run (Cert.SsmDygAdd.defs (F := Bits)) (onTc (τ := Cert.SsmDygAdd.τ) (Cert.SsmDygAdd.main (F := Bits))) ⟨m, fun _ => 0, g⟩ (fun r => (∀ c : Dev Cert.SsmDygAdd.nD,
      r.2.mem ((c.tc : Thread Cert.SsmDygAdd.nD Cert.SsmDygAdd.τ).loc Cert.SsmDygAdd.main_arg0) = m ((c.tc : Thread Cert.SsmDygAdd.nD Cert.SsmDygAdd.τ).loc Cert.SsmDygAdd.main_arg0)
      ∧ r.2.mem ((c.tc : Thread Cert.SsmDygAdd.nD Cert.SsmDygAdd.τ).loc Cert.SsmDygAdd.main_arg1) = m ((c.tc : Thread Cert.SsmDygAdd.nD Cert.SsmDygAdd.τ).loc Cert.SsmDygAdd.main_arg1)
      ∧ r.2.mem ((c.tc : Thread Cert.SsmDygAdd.nD Cert.SsmDygAdd.τ).loc Cert.SsmDygAdd.main_arg2) = m ((c.tc : Thread Cert.SsmDygAdd.nD Cert.SsmDygAdd.τ).loc Cert.SsmDygAdd.main_arg2))
      ∧ r.2.sem = fun _ => 0)

def quiescent_SsmDygAddIdeal [hSsmDygAddIdeal : Cert.SsmDygAddIdeal.Facts] : Prop :=
  ∀ (m : (ℓ : Loc Cert.SsmDygAddIdeal.nD Cert.SsmDygAddIdeal.τ Cert.SsmDygAddIdeal.sig) → Buf (Elt Ideal) ℓ) (g : Dev Cert.SsmDygAddIdeal.nD → PrngReg), Pre_SsmDygAddIdeal m →
    θ_run (Cert.SsmDygAddIdeal.defs (F := Ideal)) (onTc (τ := Cert.SsmDygAddIdeal.τ) (Cert.SsmDygAddIdeal.main (F := Ideal))) ⟨m, fun _ => 0, g⟩ (fun r => (∀ c : Dev Cert.SsmDygAddIdeal.nD,
      r.2.mem ((c.tc : Thread Cert.SsmDygAddIdeal.nD Cert.SsmDygAddIdeal.τ).loc Cert.SsmDygAddIdeal.main_arg0) = m ((c.tc : Thread Cert.SsmDygAddIdeal.nD Cert.SsmDygAddIdeal.τ).loc Cert.SsmDygAddIdeal.main_arg0)
      ∧ r.2.mem ((c.tc : Thread Cert.SsmDygAddIdeal.nD Cert.SsmDygAddIdeal.τ).loc Cert.SsmDygAddIdeal.main_arg1) = m ((c.tc : Thread Cert.SsmDygAddIdeal.nD Cert.SsmDygAddIdeal.τ).loc Cert.SsmDygAddIdeal.main_arg1)
      ∧ r.2.mem ((c.tc : Thread Cert.SsmDygAddIdeal.nD Cert.SsmDygAddIdeal.τ).loc Cert.SsmDygAddIdeal.main_arg2) = m ((c.tc : Thread Cert.SsmDygAddIdeal.nD Cert.SsmDygAddIdeal.τ).loc Cert.SsmDygAddIdeal.main_arg2))
      ∧ r.2.sem = fun _ => 0)

def quiescent_SsmDygAddRefIdeal [hSsmDygAddRefIdeal : Cert.SsmDygAddRefIdeal.Facts] : Prop :=
  ∀ (m : (ℓ : Loc Cert.SsmDygAddRefIdeal.nD Cert.SsmDygAddRefIdeal.τ Cert.SsmDygAddRefIdeal.sig) → Buf (Elt Ideal) ℓ) (g : Dev Cert.SsmDygAddRefIdeal.nD → PrngReg), Pre_SsmDygAddRefIdeal m →
    θ_run (Cert.SsmDygAddRefIdeal.defs (F := Ideal)) (onTc (τ := Cert.SsmDygAddRefIdeal.τ) (Cert.SsmDygAddRefIdeal.main (F := Ideal))) ⟨m, fun _ => 0, g⟩ (fun r => (∀ c : Dev Cert.SsmDygAddRefIdeal.nD,
      r.2.mem ((c.tc : Thread Cert.SsmDygAddRefIdeal.nD Cert.SsmDygAddRefIdeal.τ).loc Cert.SsmDygAddRefIdeal.main_arg0) = m ((c.tc : Thread Cert.SsmDygAddRefIdeal.nD Cert.SsmDygAddRefIdeal.τ).loc Cert.SsmDygAddRefIdeal.main_arg0)
      ∧ r.2.mem ((c.tc : Thread Cert.SsmDygAddRefIdeal.nD Cert.SsmDygAddRefIdeal.τ).loc Cert.SsmDygAddRefIdeal.main_arg1) = m ((c.tc : Thread Cert.SsmDygAddRefIdeal.nD Cert.SsmDygAddRefIdeal.τ).loc Cert.SsmDygAddRefIdeal.main_arg1)
      ∧ r.2.mem ((c.tc : Thread Cert.SsmDygAddRefIdeal.nD Cert.SsmDygAddRefIdeal.τ).loc Cert.SsmDygAddRefIdeal.main_arg2) = m ((c.tc : Thread Cert.SsmDygAddRefIdeal.nD Cert.SsmDygAddRefIdeal.τ).loc Cert.SsmDygAddRefIdeal.main_arg2))
      ∧ r.2.sem = fun _ => 0)

def quiescent_SsmDwout [hSsmDwout : Cert.SsmDwout.Facts] : Prop :=
  ∀ (m : (ℓ : Loc Cert.SsmDwout.nD Cert.SsmDwout.τ Cert.SsmDwout.sig) → Buf (Elt Bits) ℓ) (g : Dev Cert.SsmDwout.nD → PrngReg), Pre_SsmDwout m →
    θ_run (Cert.SsmDwout.defs (F := Bits)) (onTc (τ := Cert.SsmDwout.τ) (Cert.SsmDwout.main (F := Bits))) ⟨m, fun _ => 0, g⟩ (fun r => (∀ c : Dev Cert.SsmDwout.nD,
      r.2.mem ((c.tc : Thread Cert.SsmDwout.nD Cert.SsmDwout.τ).loc Cert.SsmDwout.main_arg0) = m ((c.tc : Thread Cert.SsmDwout.nD Cert.SsmDwout.τ).loc Cert.SsmDwout.main_arg0)
      ∧ r.2.mem ((c.tc : Thread Cert.SsmDwout.nD Cert.SsmDwout.τ).loc Cert.SsmDwout.main_arg1) = m ((c.tc : Thread Cert.SsmDwout.nD Cert.SsmDwout.τ).loc Cert.SsmDwout.main_arg1))
      ∧ r.2.sem = fun _ => 0)

def quiescent_SsmDwoutIdeal [hSsmDwoutIdeal : Cert.SsmDwoutIdeal.Facts] : Prop :=
  ∀ (m : (ℓ : Loc Cert.SsmDwoutIdeal.nD Cert.SsmDwoutIdeal.τ Cert.SsmDwoutIdeal.sig) → Buf (Elt Ideal) ℓ) (g : Dev Cert.SsmDwoutIdeal.nD → PrngReg), Pre_SsmDwoutIdeal m →
    θ_run (Cert.SsmDwoutIdeal.defs (F := Ideal)) (onTc (τ := Cert.SsmDwoutIdeal.τ) (Cert.SsmDwoutIdeal.main (F := Ideal))) ⟨m, fun _ => 0, g⟩ (fun r => (∀ c : Dev Cert.SsmDwoutIdeal.nD,
      r.2.mem ((c.tc : Thread Cert.SsmDwoutIdeal.nD Cert.SsmDwoutIdeal.τ).loc Cert.SsmDwoutIdeal.main_arg0) = m ((c.tc : Thread Cert.SsmDwoutIdeal.nD Cert.SsmDwoutIdeal.τ).loc Cert.SsmDwoutIdeal.main_arg0)
      ∧ r.2.mem ((c.tc : Thread Cert.SsmDwoutIdeal.nD Cert.SsmDwoutIdeal.τ).loc Cert.SsmDwoutIdeal.main_arg1) = m ((c.tc : Thread Cert.SsmDwoutIdeal.nD Cert.SsmDwoutIdeal.τ).loc Cert.SsmDwoutIdeal.main_arg1))
      ∧ r.2.sem = fun _ => 0)

def quiescent_SsmDwoutRefIdeal [hSsmDwoutRefIdeal : Cert.SsmDwoutRefIdeal.Facts] : Prop :=
  ∀ (m : (ℓ : Loc Cert.SsmDwoutRefIdeal.nD Cert.SsmDwoutRefIdeal.τ Cert.SsmDwoutRefIdeal.sig) → Buf (Elt Ideal) ℓ) (g : Dev Cert.SsmDwoutRefIdeal.nD → PrngReg), Pre_SsmDwoutRefIdeal m →
    θ_run (Cert.SsmDwoutRefIdeal.defs (F := Ideal)) (onTc (τ := Cert.SsmDwoutRefIdeal.τ) (Cert.SsmDwoutRefIdeal.main (F := Ideal))) ⟨m, fun _ => 0, g⟩ (fun r => (∀ c : Dev Cert.SsmDwoutRefIdeal.nD,
      r.2.mem ((c.tc : Thread Cert.SsmDwoutRefIdeal.nD Cert.SsmDwoutRefIdeal.τ).loc Cert.SsmDwoutRefIdeal.main_arg0) = m ((c.tc : Thread Cert.SsmDwoutRefIdeal.nD Cert.SsmDwoutRefIdeal.τ).loc Cert.SsmDwoutRefIdeal.main_arg0)
      ∧ r.2.mem ((c.tc : Thread Cert.SsmDwoutRefIdeal.nD Cert.SsmDwoutRefIdeal.τ).loc Cert.SsmDwoutRefIdeal.main_arg1) = m ((c.tc : Thread Cert.SsmDwoutRefIdeal.nD Cert.SsmDwoutRefIdeal.τ).loc Cert.SsmDwoutRefIdeal.main_arg1))
      ∧ r.2.sem = fun _ => 0)

def quiescent_SsmDwin [hSsmDwin : Cert.SsmDwin.Facts] : Prop :=
  ∀ (m : (ℓ : Loc Cert.SsmDwin.nD Cert.SsmDwin.τ Cert.SsmDwin.sig) → Buf (Elt Bits) ℓ) (g : Dev Cert.SsmDwin.nD → PrngReg), Pre_SsmDwin m →
    θ_run (Cert.SsmDwin.defs (F := Bits)) (onTc (τ := Cert.SsmDwin.τ) (Cert.SsmDwin.main (F := Bits))) ⟨m, fun _ => 0, g⟩ (fun r => (∀ c : Dev Cert.SsmDwin.nD,
      r.2.mem ((c.tc : Thread Cert.SsmDwin.nD Cert.SsmDwin.τ).loc Cert.SsmDwin.main_arg0) = m ((c.tc : Thread Cert.SsmDwin.nD Cert.SsmDwin.τ).loc Cert.SsmDwin.main_arg0)
      ∧ r.2.mem ((c.tc : Thread Cert.SsmDwin.nD Cert.SsmDwin.τ).loc Cert.SsmDwin.main_arg1) = m ((c.tc : Thread Cert.SsmDwin.nD Cert.SsmDwin.τ).loc Cert.SsmDwin.main_arg1))
      ∧ r.2.sem = fun _ => 0)

def quiescent_SsmDwinIdeal [hSsmDwinIdeal : Cert.SsmDwinIdeal.Facts] : Prop :=
  ∀ (m : (ℓ : Loc Cert.SsmDwinIdeal.nD Cert.SsmDwinIdeal.τ Cert.SsmDwinIdeal.sig) → Buf (Elt Ideal) ℓ) (g : Dev Cert.SsmDwinIdeal.nD → PrngReg), Pre_SsmDwinIdeal m →
    θ_run (Cert.SsmDwinIdeal.defs (F := Ideal)) (onTc (τ := Cert.SsmDwinIdeal.τ) (Cert.SsmDwinIdeal.main (F := Ideal))) ⟨m, fun _ => 0, g⟩ (fun r => (∀ c : Dev Cert.SsmDwinIdeal.nD,
      r.2.mem ((c.tc : Thread Cert.SsmDwinIdeal.nD Cert.SsmDwinIdeal.τ).loc Cert.SsmDwinIdeal.main_arg0) = m ((c.tc : Thread Cert.SsmDwinIdeal.nD Cert.SsmDwinIdeal.τ).loc Cert.SsmDwinIdeal.main_arg0)
      ∧ r.2.mem ((c.tc : Thread Cert.SsmDwinIdeal.nD Cert.SsmDwinIdeal.τ).loc Cert.SsmDwinIdeal.main_arg1) = m ((c.tc : Thread Cert.SsmDwinIdeal.nD Cert.SsmDwinIdeal.τ).loc Cert.SsmDwinIdeal.main_arg1))
      ∧ r.2.sem = fun _ => 0)

def quiescent_SsmDwinRefIdeal [hSsmDwinRefIdeal : Cert.SsmDwinRefIdeal.Facts] : Prop :=
  ∀ (m : (ℓ : Loc Cert.SsmDwinRefIdeal.nD Cert.SsmDwinRefIdeal.τ Cert.SsmDwinRefIdeal.sig) → Buf (Elt Ideal) ℓ) (g : Dev Cert.SsmDwinRefIdeal.nD → PrngReg), Pre_SsmDwinRefIdeal m →
    θ_run (Cert.SsmDwinRefIdeal.defs (F := Ideal)) (onTc (τ := Cert.SsmDwinRefIdeal.τ) (Cert.SsmDwinRefIdeal.main (F := Ideal))) ⟨m, fun _ => 0, g⟩ (fun r => (∀ c : Dev Cert.SsmDwinRefIdeal.nD,
      r.2.mem ((c.tc : Thread Cert.SsmDwinRefIdeal.nD Cert.SsmDwinRefIdeal.τ).loc Cert.SsmDwinRefIdeal.main_arg0) = m ((c.tc : Thread Cert.SsmDwinRefIdeal.nD Cert.SsmDwinRefIdeal.τ).loc Cert.SsmDwinRefIdeal.main_arg0)
      ∧ r.2.mem ((c.tc : Thread Cert.SsmDwinRefIdeal.nD Cert.SsmDwinRefIdeal.τ).loc Cert.SsmDwinRefIdeal.main_arg1) = m ((c.tc : Thread Cert.SsmDwinRefIdeal.nD Cert.SsmDwinRefIdeal.τ).loc Cert.SsmDwinRefIdeal.main_arg1))
      ∧ r.2.sem = fun _ => 0)

def quiescent_SsmDn [hSsmDn : Cert.SsmDn.Facts] : Prop :=
  ∀ (m : (ℓ : Loc Cert.SsmDn.nD Cert.SsmDn.τ Cert.SsmDn.sig) → Buf (Elt Bits) ℓ) (g : Dev Cert.SsmDn.nD → PrngReg), Pre_SsmDn m →
    θ_run (Cert.SsmDn.defs (F := Bits)) (onTc (τ := Cert.SsmDn.τ) (Cert.SsmDn.main (F := Bits))) ⟨m, fun _ => 0, g⟩ (fun r => (∀ c : Dev Cert.SsmDn.nD,
      r.2.mem ((c.tc : Thread Cert.SsmDn.nD Cert.SsmDn.τ).loc Cert.SsmDn.main_arg0) = m ((c.tc : Thread Cert.SsmDn.nD Cert.SsmDn.τ).loc Cert.SsmDn.main_arg0)
      ∧ r.2.mem ((c.tc : Thread Cert.SsmDn.nD Cert.SsmDn.τ).loc Cert.SsmDn.main_arg1) = m ((c.tc : Thread Cert.SsmDn.nD Cert.SsmDn.τ).loc Cert.SsmDn.main_arg1))
      ∧ r.2.sem = fun _ => 0)

def quiescent_SsmDnIdeal [hSsmDnIdeal : Cert.SsmDnIdeal.Facts] : Prop :=
  ∀ (m : (ℓ : Loc Cert.SsmDnIdeal.nD Cert.SsmDnIdeal.τ Cert.SsmDnIdeal.sig) → Buf (Elt Ideal) ℓ) (g : Dev Cert.SsmDnIdeal.nD → PrngReg), Pre_SsmDnIdeal m →
    θ_run (Cert.SsmDnIdeal.defs (F := Ideal)) (onTc (τ := Cert.SsmDnIdeal.τ) (Cert.SsmDnIdeal.main (F := Ideal))) ⟨m, fun _ => 0, g⟩ (fun r => (∀ c : Dev Cert.SsmDnIdeal.nD,
      r.2.mem ((c.tc : Thread Cert.SsmDnIdeal.nD Cert.SsmDnIdeal.τ).loc Cert.SsmDnIdeal.main_arg0) = m ((c.tc : Thread Cert.SsmDnIdeal.nD Cert.SsmDnIdeal.τ).loc Cert.SsmDnIdeal.main_arg0)
      ∧ r.2.mem ((c.tc : Thread Cert.SsmDnIdeal.nD Cert.SsmDnIdeal.τ).loc Cert.SsmDnIdeal.main_arg1) = m ((c.tc : Thread Cert.SsmDnIdeal.nD Cert.SsmDnIdeal.τ).loc Cert.SsmDnIdeal.main_arg1))
      ∧ r.2.sem = fun _ => 0)

def quiescent_SsmDnRefIdeal [hSsmDnRefIdeal : Cert.SsmDnRefIdeal.Facts] : Prop :=
  ∀ (m : (ℓ : Loc Cert.SsmDnRefIdeal.nD Cert.SsmDnRefIdeal.τ Cert.SsmDnRefIdeal.sig) → Buf (Elt Ideal) ℓ) (g : Dev Cert.SsmDnRefIdeal.nD → PrngReg), Pre_SsmDnRefIdeal m →
    θ_run (Cert.SsmDnRefIdeal.defs (F := Ideal)) (onTc (τ := Cert.SsmDnRefIdeal.τ) (Cert.SsmDnRefIdeal.main (F := Ideal))) ⟨m, fun _ => 0, g⟩ (fun r => (∀ c : Dev Cert.SsmDnRefIdeal.nD,
      r.2.mem ((c.tc : Thread Cert.SsmDnRefIdeal.nD Cert.SsmDnRefIdeal.τ).loc Cert.SsmDnRefIdeal.main_arg0) = m ((c.tc : Thread Cert.SsmDnRefIdeal.nD Cert.SsmDnRefIdeal.τ).loc Cert.SsmDnRefIdeal.main_arg0)
      ∧ r.2.mem ((c.tc : Thread Cert.SsmDnRefIdeal.nD Cert.SsmDnRefIdeal.τ).loc Cert.SsmDnRefIdeal.main_arg1) = m ((c.tc : Thread Cert.SsmDnRefIdeal.nD Cert.SsmDnRefIdeal.τ).loc Cert.SsmDnRefIdeal.main_arg1))
      ∧ r.2.sem = fun _ => 0)

def quiescent_SsmDhRe [hSsmDhRe : Cert.SsmDhRe.Facts] : Prop :=
  ∀ (m : (ℓ : Loc Cert.SsmDhRe.nD Cert.SsmDhRe.τ Cert.SsmDhRe.sig) → Buf (Elt Bits) ℓ) (g : Dev Cert.SsmDhRe.nD → PrngReg), Pre_SsmDhRe m →
    θ_run (Cert.SsmDhRe.defs (F := Bits)) (onTc (τ := Cert.SsmDhRe.τ) (Cert.SsmDhRe.main (F := Bits))) ⟨m, fun _ => 0, g⟩ (fun r => (∀ c : Dev Cert.SsmDhRe.nD,
      r.2.mem ((c.tc : Thread Cert.SsmDhRe.nD Cert.SsmDhRe.τ).loc Cert.SsmDhRe.main_arg0) = m ((c.tc : Thread Cert.SsmDhRe.nD Cert.SsmDhRe.τ).loc Cert.SsmDhRe.main_arg0)
      ∧ r.2.mem ((c.tc : Thread Cert.SsmDhRe.nD Cert.SsmDhRe.τ).loc Cert.SsmDhRe.main_arg1) = m ((c.tc : Thread Cert.SsmDhRe.nD Cert.SsmDhRe.τ).loc Cert.SsmDhRe.main_arg1))
      ∧ r.2.sem = fun _ => 0)

def quiescent_SsmDhReIdeal [hSsmDhReIdeal : Cert.SsmDhReIdeal.Facts] : Prop :=
  ∀ (m : (ℓ : Loc Cert.SsmDhReIdeal.nD Cert.SsmDhReIdeal.τ Cert.SsmDhReIdeal.sig) → Buf (Elt Ideal) ℓ) (g : Dev Cert.SsmDhReIdeal.nD → PrngReg), Pre_SsmDhReIdeal m →
    θ_run (Cert.SsmDhReIdeal.defs (F := Ideal)) (onTc (τ := Cert.SsmDhReIdeal.τ) (Cert.SsmDhReIdeal.main (F := Ideal))) ⟨m, fun _ => 0, g⟩ (fun r => (∀ c : Dev Cert.SsmDhReIdeal.nD,
      r.2.mem ((c.tc : Thread Cert.SsmDhReIdeal.nD Cert.SsmDhReIdeal.τ).loc Cert.SsmDhReIdeal.main_arg0) = m ((c.tc : Thread Cert.SsmDhReIdeal.nD Cert.SsmDhReIdeal.τ).loc Cert.SsmDhReIdeal.main_arg0)
      ∧ r.2.mem ((c.tc : Thread Cert.SsmDhReIdeal.nD Cert.SsmDhReIdeal.τ).loc Cert.SsmDhReIdeal.main_arg1) = m ((c.tc : Thread Cert.SsmDhReIdeal.nD Cert.SsmDhReIdeal.τ).loc Cert.SsmDhReIdeal.main_arg1))
      ∧ r.2.sem = fun _ => 0)

def quiescent_SsmDhReRefIdeal [hSsmDhReRefIdeal : Cert.SsmDhReRefIdeal.Facts] : Prop :=
  ∀ (m : (ℓ : Loc Cert.SsmDhReRefIdeal.nD Cert.SsmDhReRefIdeal.τ Cert.SsmDhReRefIdeal.sig) → Buf (Elt Ideal) ℓ) (g : Dev Cert.SsmDhReRefIdeal.nD → PrngReg), Pre_SsmDhReRefIdeal m →
    θ_run (Cert.SsmDhReRefIdeal.defs (F := Ideal)) (onTc (τ := Cert.SsmDhReRefIdeal.τ) (Cert.SsmDhReRefIdeal.main (F := Ideal))) ⟨m, fun _ => 0, g⟩ (fun r => (∀ c : Dev Cert.SsmDhReRefIdeal.nD,
      r.2.mem ((c.tc : Thread Cert.SsmDhReRefIdeal.nD Cert.SsmDhReRefIdeal.τ).loc Cert.SsmDhReRefIdeal.main_arg0) = m ((c.tc : Thread Cert.SsmDhReRefIdeal.nD Cert.SsmDhReRefIdeal.τ).loc Cert.SsmDhReRefIdeal.main_arg0)
      ∧ r.2.mem ((c.tc : Thread Cert.SsmDhReRefIdeal.nD Cert.SsmDhReRefIdeal.τ).loc Cert.SsmDhReRefIdeal.main_arg1) = m ((c.tc : Thread Cert.SsmDhReRefIdeal.nD Cert.SsmDhReRefIdeal.τ).loc Cert.SsmDhReRefIdeal.main_arg1))
      ∧ r.2.sem = fun _ => 0)

def quiescent_SsmDhIm [hSsmDhIm : Cert.SsmDhIm.Facts] : Prop :=
  ∀ (m : (ℓ : Loc Cert.SsmDhIm.nD Cert.SsmDhIm.τ Cert.SsmDhIm.sig) → Buf (Elt Bits) ℓ) (g : Dev Cert.SsmDhIm.nD → PrngReg), Pre_SsmDhIm m →
    θ_run (Cert.SsmDhIm.defs (F := Bits)) (onTc (τ := Cert.SsmDhIm.τ) (Cert.SsmDhIm.main (F := Bits))) ⟨m, fun _ => 0, g⟩ (fun r => (∀ c : Dev Cert.SsmDhIm.nD,
      r.2.mem ((c.tc : Thread Cert.SsmDhIm.nD Cert.SsmDhIm.τ).loc Cert.SsmDhIm.main_arg0) = m ((c.tc : Thread Cert.SsmDhIm.nD Cert.SsmDhIm.τ).loc Cert.SsmDhIm.main_arg0)
      ∧ r.2.mem ((c.tc : Thread Cert.SsmDhIm.nD Cert.SsmDhIm.τ).loc Cert.SsmDhIm.main_arg1) = m ((c.tc : Thread Cert.SsmDhIm.nD Cert.SsmDhIm.τ).loc Cert.SsmDhIm.main_arg1))
      ∧ r.2.sem = fun _ => 0)

def quiescent_SsmDhImIdeal [hSsmDhImIdeal : Cert.SsmDhImIdeal.Facts] : Prop :=
  ∀ (m : (ℓ : Loc Cert.SsmDhImIdeal.nD Cert.SsmDhImIdeal.τ Cert.SsmDhImIdeal.sig) → Buf (Elt Ideal) ℓ) (g : Dev Cert.SsmDhImIdeal.nD → PrngReg), Pre_SsmDhImIdeal m →
    θ_run (Cert.SsmDhImIdeal.defs (F := Ideal)) (onTc (τ := Cert.SsmDhImIdeal.τ) (Cert.SsmDhImIdeal.main (F := Ideal))) ⟨m, fun _ => 0, g⟩ (fun r => (∀ c : Dev Cert.SsmDhImIdeal.nD,
      r.2.mem ((c.tc : Thread Cert.SsmDhImIdeal.nD Cert.SsmDhImIdeal.τ).loc Cert.SsmDhImIdeal.main_arg0) = m ((c.tc : Thread Cert.SsmDhImIdeal.nD Cert.SsmDhImIdeal.τ).loc Cert.SsmDhImIdeal.main_arg0)
      ∧ r.2.mem ((c.tc : Thread Cert.SsmDhImIdeal.nD Cert.SsmDhImIdeal.τ).loc Cert.SsmDhImIdeal.main_arg1) = m ((c.tc : Thread Cert.SsmDhImIdeal.nD Cert.SsmDhImIdeal.τ).loc Cert.SsmDhImIdeal.main_arg1))
      ∧ r.2.sem = fun _ => 0)

def quiescent_SsmDhImRefIdeal [hSsmDhImRefIdeal : Cert.SsmDhImRefIdeal.Facts] : Prop :=
  ∀ (m : (ℓ : Loc Cert.SsmDhImRefIdeal.nD Cert.SsmDhImRefIdeal.τ Cert.SsmDhImRefIdeal.sig) → Buf (Elt Ideal) ℓ) (g : Dev Cert.SsmDhImRefIdeal.nD → PrngReg), Pre_SsmDhImRefIdeal m →
    θ_run (Cert.SsmDhImRefIdeal.defs (F := Ideal)) (onTc (τ := Cert.SsmDhImRefIdeal.τ) (Cert.SsmDhImRefIdeal.main (F := Ideal))) ⟨m, fun _ => 0, g⟩ (fun r => (∀ c : Dev Cert.SsmDhImRefIdeal.nD,
      r.2.mem ((c.tc : Thread Cert.SsmDhImRefIdeal.nD Cert.SsmDhImRefIdeal.τ).loc Cert.SsmDhImRefIdeal.main_arg0) = m ((c.tc : Thread Cert.SsmDhImRefIdeal.nD Cert.SsmDhImRefIdeal.τ).loc Cert.SsmDhImRefIdeal.main_arg0)
      ∧ r.2.mem ((c.tc : Thread Cert.SsmDhImRefIdeal.nD Cert.SsmDhImRefIdeal.τ).loc Cert.SsmDhImRefIdeal.main_arg1) = m ((c.tc : Thread Cert.SsmDhImRefIdeal.nD Cert.SsmDhImRefIdeal.τ).loc Cert.SsmDhImRefIdeal.main_arg1))
      ∧ r.2.sem = fun _ => 0)

def quiescent_SsmDu [hSsmDu : Cert.SsmDu.Facts] : Prop :=
  ∀ (m : (ℓ : Loc Cert.SsmDu.nD Cert.SsmDu.τ Cert.SsmDu.sig) → Buf (Elt Bits) ℓ) (g : Dev Cert.SsmDu.nD → PrngReg), Pre_SsmDu m →
    θ_run (Cert.SsmDu.defs (F := Bits)) (onTc (τ := Cert.SsmDu.τ) (Cert.SsmDu.main (F := Bits))) ⟨m, fun _ => 0, g⟩ (fun r => (∀ c : Dev Cert.SsmDu.nD,
      r.2.mem ((c.tc : Thread Cert.SsmDu.nD Cert.SsmDu.τ).loc Cert.SsmDu.main_arg0) = m ((c.tc : Thread Cert.SsmDu.nD Cert.SsmDu.τ).loc Cert.SsmDu.main_arg0)
      ∧ r.2.mem ((c.tc : Thread Cert.SsmDu.nD Cert.SsmDu.τ).loc Cert.SsmDu.main_arg1) = m ((c.tc : Thread Cert.SsmDu.nD Cert.SsmDu.τ).loc Cert.SsmDu.main_arg1)
      ∧ r.2.mem ((c.tc : Thread Cert.SsmDu.nD Cert.SsmDu.τ).loc Cert.SsmDu.main_arg2) = m ((c.tc : Thread Cert.SsmDu.nD Cert.SsmDu.τ).loc Cert.SsmDu.main_arg2))
      ∧ r.2.sem = fun _ => 0)

def quiescent_SsmDuIdeal [hSsmDuIdeal : Cert.SsmDuIdeal.Facts] : Prop :=
  ∀ (m : (ℓ : Loc Cert.SsmDuIdeal.nD Cert.SsmDuIdeal.τ Cert.SsmDuIdeal.sig) → Buf (Elt Ideal) ℓ) (g : Dev Cert.SsmDuIdeal.nD → PrngReg), Pre_SsmDuIdeal m →
    θ_run (Cert.SsmDuIdeal.defs (F := Ideal)) (onTc (τ := Cert.SsmDuIdeal.τ) (Cert.SsmDuIdeal.main (F := Ideal))) ⟨m, fun _ => 0, g⟩ (fun r => (∀ c : Dev Cert.SsmDuIdeal.nD,
      r.2.mem ((c.tc : Thread Cert.SsmDuIdeal.nD Cert.SsmDuIdeal.τ).loc Cert.SsmDuIdeal.main_arg0) = m ((c.tc : Thread Cert.SsmDuIdeal.nD Cert.SsmDuIdeal.τ).loc Cert.SsmDuIdeal.main_arg0)
      ∧ r.2.mem ((c.tc : Thread Cert.SsmDuIdeal.nD Cert.SsmDuIdeal.τ).loc Cert.SsmDuIdeal.main_arg1) = m ((c.tc : Thread Cert.SsmDuIdeal.nD Cert.SsmDuIdeal.τ).loc Cert.SsmDuIdeal.main_arg1)
      ∧ r.2.mem ((c.tc : Thread Cert.SsmDuIdeal.nD Cert.SsmDuIdeal.τ).loc Cert.SsmDuIdeal.main_arg2) = m ((c.tc : Thread Cert.SsmDuIdeal.nD Cert.SsmDuIdeal.τ).loc Cert.SsmDuIdeal.main_arg2))
      ∧ r.2.sem = fun _ => 0)

def quiescent_SsmDuRefIdeal [hSsmDuRefIdeal : Cert.SsmDuRefIdeal.Facts] : Prop :=
  ∀ (m : (ℓ : Loc Cert.SsmDuRefIdeal.nD Cert.SsmDuRefIdeal.τ Cert.SsmDuRefIdeal.sig) → Buf (Elt Ideal) ℓ) (g : Dev Cert.SsmDuRefIdeal.nD → PrngReg), Pre_SsmDuRefIdeal m →
    θ_run (Cert.SsmDuRefIdeal.defs (F := Ideal)) (onTc (τ := Cert.SsmDuRefIdeal.τ) (Cert.SsmDuRefIdeal.main (F := Ideal))) ⟨m, fun _ => 0, g⟩ (fun r => (∀ c : Dev Cert.SsmDuRefIdeal.nD,
      r.2.mem ((c.tc : Thread Cert.SsmDuRefIdeal.nD Cert.SsmDuRefIdeal.τ).loc Cert.SsmDuRefIdeal.main_arg0) = m ((c.tc : Thread Cert.SsmDuRefIdeal.nD Cert.SsmDuRefIdeal.τ).loc Cert.SsmDuRefIdeal.main_arg0)
      ∧ r.2.mem ((c.tc : Thread Cert.SsmDuRefIdeal.nD Cert.SsmDuRefIdeal.τ).loc Cert.SsmDuRefIdeal.main_arg1) = m ((c.tc : Thread Cert.SsmDuRefIdeal.nD Cert.SsmDuRefIdeal.τ).loc Cert.SsmDuRefIdeal.main_arg1)
      ∧ r.2.mem ((c.tc : Thread Cert.SsmDuRefIdeal.nD Cert.SsmDuRefIdeal.τ).loc Cert.SsmDuRefIdeal.main_arg2) = m ((c.tc : Thread Cert.SsmDuRefIdeal.nD Cert.SsmDuRefIdeal.τ).loc Cert.SsmDuRefIdeal.main_arg2))
      ∧ r.2.sem = fun _ => 0)

def quiescent_SsmBu [hSsmBu : Cert.SsmBu.Facts] : Prop :=
  ∀ (m : (ℓ : Loc Cert.SsmBu.nD Cert.SsmBu.τ Cert.SsmBu.sig) → Buf (Elt Bits) ℓ) (g : Dev Cert.SsmBu.nD → PrngReg), Pre_SsmBu m →
    θ_run (Cert.SsmBu.defs (F := Bits)) (onTc (τ := Cert.SsmBu.τ) (Cert.SsmBu.main (F := Bits))) ⟨m, fun _ => 0, g⟩ (fun r => (∀ c : Dev Cert.SsmBu.nD,
      r.2.mem ((c.tc : Thread Cert.SsmBu.nD Cert.SsmBu.τ).loc Cert.SsmBu.main_arg0) = m ((c.tc : Thread Cert.SsmBu.nD Cert.SsmBu.τ).loc Cert.SsmBu.main_arg0)
      ∧ r.2.mem ((c.tc : Thread Cert.SsmBu.nD Cert.SsmBu.τ).loc Cert.SsmBu.main_arg1) = m ((c.tc : Thread Cert.SsmBu.nD Cert.SsmBu.τ).loc Cert.SsmBu.main_arg1))
      ∧ r.2.sem = fun _ => 0)

def quiescent_SsmBuIdeal [hSsmBuIdeal : Cert.SsmBuIdeal.Facts] : Prop :=
  ∀ (m : (ℓ : Loc Cert.SsmBuIdeal.nD Cert.SsmBuIdeal.τ Cert.SsmBuIdeal.sig) → Buf (Elt Ideal) ℓ) (g : Dev Cert.SsmBuIdeal.nD → PrngReg), Pre_SsmBuIdeal m →
    θ_run (Cert.SsmBuIdeal.defs (F := Ideal)) (onTc (τ := Cert.SsmBuIdeal.τ) (Cert.SsmBuIdeal.main (F := Ideal))) ⟨m, fun _ => 0, g⟩ (fun r => (∀ c : Dev Cert.SsmBuIdeal.nD,
      r.2.mem ((c.tc : Thread Cert.SsmBuIdeal.nD Cert.SsmBuIdeal.τ).loc Cert.SsmBuIdeal.main_arg0) = m ((c.tc : Thread Cert.SsmBuIdeal.nD Cert.SsmBuIdeal.τ).loc Cert.SsmBuIdeal.main_arg0)
      ∧ r.2.mem ((c.tc : Thread Cert.SsmBuIdeal.nD Cert.SsmBuIdeal.τ).loc Cert.SsmBuIdeal.main_arg1) = m ((c.tc : Thread Cert.SsmBuIdeal.nD Cert.SsmBuIdeal.τ).loc Cert.SsmBuIdeal.main_arg1))
      ∧ r.2.sem = fun _ => 0)

def quiescent_SsmBuRefIdeal [hSsmBuRefIdeal : Cert.SsmBuRefIdeal.Facts] : Prop :=
  ∀ (m : (ℓ : Loc Cert.SsmBuRefIdeal.nD Cert.SsmBuRefIdeal.τ Cert.SsmBuRefIdeal.sig) → Buf (Elt Ideal) ℓ) (g : Dev Cert.SsmBuRefIdeal.nD → PrngReg), Pre_SsmBuRefIdeal m →
    θ_run (Cert.SsmBuRefIdeal.defs (F := Ideal)) (onTc (τ := Cert.SsmBuRefIdeal.τ) (Cert.SsmBuRefIdeal.main (F := Ideal))) ⟨m, fun _ => 0, g⟩ (fun r => (∀ c : Dev Cert.SsmBuRefIdeal.nD,
      r.2.mem ((c.tc : Thread Cert.SsmBuRefIdeal.nD Cert.SsmBuRefIdeal.τ).loc Cert.SsmBuRefIdeal.main_arg0) = m ((c.tc : Thread Cert.SsmBuRefIdeal.nD Cert.SsmBuRefIdeal.τ).loc Cert.SsmBuRefIdeal.main_arg0)
      ∧ r.2.mem ((c.tc : Thread Cert.SsmBuRefIdeal.nD Cert.SsmBuRefIdeal.τ).loc Cert.SsmBuRefIdeal.main_arg1) = m ((c.tc : Thread Cert.SsmBuRefIdeal.nD Cert.SsmBuRefIdeal.τ).loc Cert.SsmBuRefIdeal.main_arg1))
      ∧ r.2.sem = fun _ => 0)

def quiescent_SsmY [hSsmY : Cert.SsmY.Facts] : Prop :=
  ∀ (m : (ℓ : Loc Cert.SsmY.nD Cert.SsmY.τ Cert.SsmY.sig) → Buf (Elt Bits) ℓ) (g : Dev Cert.SsmY.nD → PrngReg), Pre_SsmY m →
    θ_run (Cert.SsmY.defs (F := Bits)) (onTc (τ := Cert.SsmY.τ) (Cert.SsmY.main (F := Bits))) ⟨m, fun _ => 0, g⟩ (fun r => (∀ c : Dev Cert.SsmY.nD,
      r.2.mem ((c.tc : Thread Cert.SsmY.nD Cert.SsmY.τ).loc Cert.SsmY.main_arg0) = m ((c.tc : Thread Cert.SsmY.nD Cert.SsmY.τ).loc Cert.SsmY.main_arg0)
      ∧ r.2.mem ((c.tc : Thread Cert.SsmY.nD Cert.SsmY.τ).loc Cert.SsmY.main_arg1) = m ((c.tc : Thread Cert.SsmY.nD Cert.SsmY.τ).loc Cert.SsmY.main_arg1))
      ∧ r.2.sem = fun _ => 0)

def quiescent_SsmYIdeal [hSsmYIdeal : Cert.SsmYIdeal.Facts] : Prop :=
  ∀ (m : (ℓ : Loc Cert.SsmYIdeal.nD Cert.SsmYIdeal.τ Cert.SsmYIdeal.sig) → Buf (Elt Ideal) ℓ) (g : Dev Cert.SsmYIdeal.nD → PrngReg), Pre_SsmYIdeal m →
    θ_run (Cert.SsmYIdeal.defs (F := Ideal)) (onTc (τ := Cert.SsmYIdeal.τ) (Cert.SsmYIdeal.main (F := Ideal))) ⟨m, fun _ => 0, g⟩ (fun r => (∀ c : Dev Cert.SsmYIdeal.nD,
      r.2.mem ((c.tc : Thread Cert.SsmYIdeal.nD Cert.SsmYIdeal.τ).loc Cert.SsmYIdeal.main_arg0) = m ((c.tc : Thread Cert.SsmYIdeal.nD Cert.SsmYIdeal.τ).loc Cert.SsmYIdeal.main_arg0)
      ∧ r.2.mem ((c.tc : Thread Cert.SsmYIdeal.nD Cert.SsmYIdeal.τ).loc Cert.SsmYIdeal.main_arg1) = m ((c.tc : Thread Cert.SsmYIdeal.nD Cert.SsmYIdeal.τ).loc Cert.SsmYIdeal.main_arg1))
      ∧ r.2.sem = fun _ => 0)

def quiescent_SsmYRefIdeal [hSsmYRefIdeal : Cert.SsmYRefIdeal.Facts] : Prop :=
  ∀ (m : (ℓ : Loc Cert.SsmYRefIdeal.nD Cert.SsmYRefIdeal.τ Cert.SsmYRefIdeal.sig) → Buf (Elt Ideal) ℓ) (g : Dev Cert.SsmYRefIdeal.nD → PrngReg), Pre_SsmYRefIdeal m →
    θ_run (Cert.SsmYRefIdeal.defs (F := Ideal)) (onTc (τ := Cert.SsmYRefIdeal.τ) (Cert.SsmYRefIdeal.main (F := Ideal))) ⟨m, fun _ => 0, g⟩ (fun r => (∀ c : Dev Cert.SsmYRefIdeal.nD,
      r.2.mem ((c.tc : Thread Cert.SsmYRefIdeal.nD Cert.SsmYRefIdeal.τ).loc Cert.SsmYRefIdeal.main_arg0) = m ((c.tc : Thread Cert.SsmYRefIdeal.nD Cert.SsmYRefIdeal.τ).loc Cert.SsmYRefIdeal.main_arg0)
      ∧ r.2.mem ((c.tc : Thread Cert.SsmYRefIdeal.nD Cert.SsmYRefIdeal.τ).loc Cert.SsmYRefIdeal.main_arg1) = m ((c.tc : Thread Cert.SsmYRefIdeal.nD Cert.SsmYRefIdeal.τ).loc Cert.SsmYRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dact_DactIdeal : Prop :=
  True

def algebraic_DactIdeal_DactRefIdeal_pre_finite_dact [hDactIdeal : Cert.DactIdeal.Facts] [hDactRefIdeal : Cert.DactRefIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_finite_dact m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v9) = v0 c
          ∧ r.2.mem ((c.tc : Thread Cert.DactRefIdeal.nD Cert.DactRefIdeal.τ).loc Cert.DactRefIdeal.main_v7) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Dnorm_DnormIdeal : Prop :=
  True

def algebraic_DnormIdeal_DnormRefIdeal [hDnormIdeal : Cert.DnormIdeal.Facts] [hDnormRefIdeal : Cert.DnormRefIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v0_0)) (v1 : (c : Dev Cert.DnormIdeal.nD) → Buf (Elt Ideal) ((c.tc : Thread Cert.DnormIdeal.nD Cert.DnormIdeal.τ).loc Cert.DnormIdeal.main_v0_1)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v0_0) = v0 c
          ∧ r.2.mem ((c.tc : Thread Cert.DnormIdeal.nD Cert.DnormIdeal.τ).loc Cert.DnormIdeal.main_v0_1) = v1 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v34) = v0 c
          ∧ r.2.mem ((c.tc : Thread Cert.DnormRefIdeal.nD Cert.DnormRefIdeal.τ).loc Cert.DnormRefIdeal.main_v17) = v1 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)) →
    ∃ (v0 : (c : Dev Cert.DaIdeal.nD) → Buf (Elt Ideal) ((c.tc : Thread Cert.DaIdeal.nD Cert.DaIdeal.τ).loc Cert.DaIdeal.main_v0)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v0) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v9) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1))

def preserves_Dwdown_DwdownIdeal : Prop :=
  True

def algebraic_DwdownIdeal_DwdownRefIdeal [hDwdownIdeal : Cert.DwdownIdeal.Facts] [hDwdownRefIdeal : Cert.DwdownRefIdeal.Facts] : Prop :=
  ∀ (m : (ℓ : Loc Cert.DwdownIdeal.nD Cert.DwdownIdeal.τ Cert.DwdownIdeal.sig) → Buf (Elt Ideal) ℓ) (g : Dev Cert.DwdownIdeal.nD → PrngReg)
    (m' : (ℓ : Loc Cert.DwdownRefIdeal.nD Cert.DwdownRefIdeal.τ Cert.DwdownRefIdeal.sig) → Buf (Elt Ideal) ℓ) (g' : Dev Cert.DwdownRefIdeal.nD → PrngReg), Pre_DwdownIdeal m →
    (∀ c : Dev Cert.DwdownIdeal.nD,
      m' ((c.tc : Thread Cert.DwdownRefIdeal.nD Cert.DwdownRefIdeal.τ).loc Cert.DwdownRefIdeal.main_arg0) = m ((c.tc : Thread Cert.DwdownIdeal.nD Cert.DwdownIdeal.τ).loc Cert.DwdownIdeal.main_arg0)
      ∧ m' ((c.tc : Thread Cert.DwdownRefIdeal.nD Cert.DwdownRefIdeal.τ).loc Cert.DwdownRefIdeal.main_arg1) = m ((c.tc : Thread Cert.DwdownIdeal.nD Cert.DwdownIdeal.τ).loc Cert.DwdownIdeal.main_arg1)) →
    ∃ (v0 : (c : Dev Cert.DwdownIdeal.nD) → Buf (Elt Ideal) ((c.tc : Thread Cert.DwdownIdeal.nD Cert.DwdownIdeal.τ).loc Cert.DwdownIdeal.main_v0)),
      θ_run (Cert.DwdownIdeal.defs (F := Ideal)) (onTc (τ := Cert.DwdownIdeal.τ) (Cert.DwdownIdeal.main (F := Ideal))) ⟨m, fun _ => 0, g⟩ (fun r => ∀ c : Dev Cert.DwdownIdeal.nD,
          r.2.mem ((c.tc : Thread Cert.DwdownIdeal.nD Cert.DwdownIdeal.τ).loc Cert.DwdownIdeal.main_v0) = v0 c
          ∧ r.2.mem ((c.tc : Thread Cert.DwdownIdeal.nD Cert.DwdownIdeal.τ).loc Cert.DwdownIdeal.main_arg0) = m ((c.tc : Thread Cert.DwdownIdeal.nD Cert.DwdownIdeal.τ).loc Cert.DwdownIdeal.main_arg0)
          ∧ r.2.mem ((c.tc : Thread Cert.DwdownIdeal.nD Cert.DwdownIdeal.τ).loc Cert.DwdownIdeal.main_arg1) = m ((c.tc : Thread Cert.DwdownIdeal.nD Cert.DwdownIdeal.τ).loc Cert.DwdownIdeal.main_arg1))
      ∧ θ_run (Cert.DwdownRefIdeal.defs (F := Ideal)) (onTc (τ := Cert.DwdownRefIdeal.τ) (Cert.DwdownRefIdeal.main (F := Ideal))) ⟨m', fun _ => 0, g'⟩ (fun r => ∀ c : Dev Cert.DwdownRefIdeal.nD,
          r.2.mem ((c.tc : Thread Cert.DwdownRefIdeal.nD Cert.DwdownRefIdeal.τ).loc Cert.DwdownRefIdeal.main_v10) = v0 c
          ∧ r.2.mem ((c.tc : Thread Cert.DwdownRefIdeal.nD Cert.DwdownRefIdeal.τ).loc Cert.DwdownRefIdeal.main_arg0) = m' ((c.tc : Thread Cert.DwdownRefIdeal.nD Cert.DwdownRefIdeal.τ).loc Cert.DwdownRefIdeal.main_arg0)
          ∧ r.2.mem ((c.tc : Thread Cert.DwdownRefIdeal.nD Cert.DwdownRefIdeal.τ).loc Cert.DwdownRefIdeal.main_arg1) = m' ((c.tc : Thread Cert.DwdownRefIdeal.nD Cert.DwdownRefIdeal.τ).loc Cert.DwdownRefIdeal.main_arg1))

def preserves_Dngate_DngateIdeal : Prop :=
  True

def algebraic_DngateIdeal_DngateRefIdeal [hDngateIdeal : Cert.DngateIdeal.Facts] [hDngateRefIdeal : Cert.DngateRefIdeal.Facts] : Prop :=
  ∀ (m : (ℓ : Loc Cert.DngateIdeal.nD Cert.DngateIdeal.τ Cert.DngateIdeal.sig) → Buf (Elt Ideal) ℓ) (g : Dev Cert.DngateIdeal.nD → PrngReg)
    (m' : (ℓ : Loc Cert.DngateRefIdeal.nD Cert.DngateRefIdeal.τ Cert.DngateRefIdeal.sig) → Buf (Elt Ideal) ℓ) (g' : Dev Cert.DngateRefIdeal.nD → PrngReg), Pre_DngateIdeal m →
    (∀ c : Dev Cert.DngateIdeal.nD,
      m' ((c.tc : Thread Cert.DngateRefIdeal.nD Cert.DngateRefIdeal.τ).loc Cert.DngateRefIdeal.main_arg0) = m ((c.tc : Thread Cert.DngateIdeal.nD Cert.DngateIdeal.τ).loc Cert.DngateIdeal.main_arg0)
      ∧ m' ((c.tc : Thread Cert.DngateRefIdeal.nD Cert.DngateRefIdeal.τ).loc Cert.DngateRefIdeal.main_arg1) = m ((c.tc : Thread Cert.DngateIdeal.nD Cert.DngateIdeal.τ).loc Cert.DngateIdeal.main_arg1)) →
    ∃ (v0 : (c : Dev Cert.DngateIdeal.nD) → Buf (Elt Ideal) ((c.tc : Thread Cert.DngateIdeal.nD Cert.DngateIdeal.τ).loc Cert.DngateIdeal.main_v0)),
      θ_run (Cert.DngateIdeal.defs (F := Ideal)) (onTc (τ := Cert.DngateIdeal.τ) (Cert.DngateIdeal.main (F := Ideal))) ⟨m, fun _ => 0, g⟩ (fun r => ∀ c : Dev Cert.DngateIdeal.nD,
          r.2.mem ((c.tc : Thread Cert.DngateIdeal.nD Cert.DngateIdeal.τ).loc Cert.DngateIdeal.main_v0) = v0 c
          ∧ r.2.mem ((c.tc : Thread Cert.DngateIdeal.nD Cert.DngateIdeal.τ).loc Cert.DngateIdeal.main_arg0) = m ((c.tc : Thread Cert.DngateIdeal.nD Cert.DngateIdeal.τ).loc Cert.DngateIdeal.main_arg0)
          ∧ r.2.mem ((c.tc : Thread Cert.DngateIdeal.nD Cert.DngateIdeal.τ).loc Cert.DngateIdeal.main_arg1) = m ((c.tc : Thread Cert.DngateIdeal.nD Cert.DngateIdeal.τ).loc Cert.DngateIdeal.main_arg1))
      ∧ θ_run (Cert.DngateRefIdeal.defs (F := Ideal)) (onTc (τ := Cert.DngateRefIdeal.τ) (Cert.DngateRefIdeal.main (F := Ideal))) ⟨m', fun _ => 0, g'⟩ (fun r => ∀ c : Dev Cert.DngateRefIdeal.nD,
          r.2.mem ((c.tc : Thread Cert.DngateRefIdeal.nD Cert.DngateRefIdeal.τ).loc Cert.DngateRefIdeal.main_v4) = v0 c
          ∧ r.2.mem ((c.tc : Thread Cert.DngateRefIdeal.nD Cert.DngateRefIdeal.τ).loc Cert.DngateRefIdeal.main_arg0) = m' ((c.tc : Thread Cert.DngateRefIdeal.nD Cert.DngateRefIdeal.τ).loc Cert.DngateRefIdeal.main_arg0)
          ∧ r.2.mem ((c.tc : Thread Cert.DngateRefIdeal.nD Cert.DngateRefIdeal.τ).loc Cert.DngateRefIdeal.main_arg1) = m' ((c.tc : Thread Cert.DngateRefIdeal.nD Cert.DngateRefIdeal.τ).loc Cert.DngateRefIdeal.main_arg1))

def preserves_Dnup_DnupIdeal : Prop :=
  True

def algebraic_DnupIdeal_DnupRefIdeal [hDnupIdeal : Cert.DnupIdeal.Facts] [hDnupRefIdeal : Cert.DnupRefIdeal.Facts] : Prop :=
  ∀ (m : (ℓ : Loc Cert.DnupIdeal.nD Cert.DnupIdeal.τ Cert.DnupIdeal.sig) → Buf (Elt Ideal) ℓ) (g : Dev Cert.DnupIdeal.nD → PrngReg)
    (m' : (ℓ : Loc Cert.DnupRefIdeal.nD Cert.DnupRefIdeal.τ Cert.DnupRefIdeal.sig) → Buf (Elt Ideal) ℓ) (g' : Dev Cert.DnupRefIdeal.nD → PrngReg), Pre_DnupIdeal m →
    (∀ c : Dev Cert.DnupIdeal.nD,
      m' ((c.tc : Thread Cert.DnupRefIdeal.nD Cert.DnupRefIdeal.τ).loc Cert.DnupRefIdeal.main_arg0) = m ((c.tc : Thread Cert.DnupIdeal.nD Cert.DnupIdeal.τ).loc Cert.DnupIdeal.main_arg0)
      ∧ m' ((c.tc : Thread Cert.DnupRefIdeal.nD Cert.DnupRefIdeal.τ).loc Cert.DnupRefIdeal.main_arg1) = m ((c.tc : Thread Cert.DnupIdeal.nD Cert.DnupIdeal.τ).loc Cert.DnupIdeal.main_arg1)
      ∧ m' ((c.tc : Thread Cert.DnupRefIdeal.nD Cert.DnupRefIdeal.τ).loc Cert.DnupRefIdeal.main_arg2) = m ((c.tc : Thread Cert.DnupIdeal.nD Cert.DnupIdeal.τ).loc Cert.DnupIdeal.main_arg2)) →
    ∃ (v0 : (c : Dev Cert.DnupIdeal.nD) → Buf (Elt Ideal) ((c.tc : Thread Cert.DnupIdeal.nD Cert.DnupIdeal.τ).loc Cert.DnupIdeal.main_v0)),
      θ_run (Cert.DnupIdeal.defs (F := Ideal)) (onTc (τ := Cert.DnupIdeal.τ) (Cert.DnupIdeal.main (F := Ideal))) ⟨m, fun _ => 0, g⟩ (fun r => ∀ c : Dev Cert.DnupIdeal.nD,
          r.2.mem ((c.tc : Thread Cert.DnupIdeal.nD Cert.DnupIdeal.τ).loc Cert.DnupIdeal.main_v0) = v0 c
          ∧ r.2.mem ((c.tc : Thread Cert.DnupIdeal.nD Cert.DnupIdeal.τ).loc Cert.DnupIdeal.main_arg0) = m ((c.tc : Thread Cert.DnupIdeal.nD Cert.DnupIdeal.τ).loc Cert.DnupIdeal.main_arg0)
          ∧ r.2.mem ((c.tc : Thread Cert.DnupIdeal.nD Cert.DnupIdeal.τ).loc Cert.DnupIdeal.main_arg1) = m ((c.tc : Thread Cert.DnupIdeal.nD Cert.DnupIdeal.τ).loc Cert.DnupIdeal.main_arg1)
          ∧ r.2.mem ((c.tc : Thread Cert.DnupIdeal.nD Cert.DnupIdeal.τ).loc Cert.DnupIdeal.main_arg2) = m ((c.tc : Thread Cert.DnupIdeal.nD Cert.DnupIdeal.τ).loc Cert.DnupIdeal.main_arg2))
      ∧ θ_run (Cert.DnupRefIdeal.defs (F := Ideal)) (onTc (τ := Cert.DnupRefIdeal.τ) (Cert.DnupRefIdeal.main (F := Ideal))) ⟨m', fun _ => 0, g'⟩ (fun r => ∀ c : Dev Cert.DnupRefIdeal.nD,
          r.2.mem ((c.tc : Thread Cert.DnupRefIdeal.nD Cert.DnupRefIdeal.τ).loc Cert.DnupRefIdeal.main_v5) = v0 c
          ∧ r.2.mem ((c.tc : Thread Cert.DnupRefIdeal.nD Cert.DnupRefIdeal.τ).loc Cert.DnupRefIdeal.main_arg0) = m' ((c.tc : Thread Cert.DnupRefIdeal.nD Cert.DnupRefIdeal.τ).loc Cert.DnupRefIdeal.main_arg0)
          ∧ r.2.mem ((c.tc : Thread Cert.DnupRefIdeal.nD Cert.DnupRefIdeal.τ).loc Cert.DnupRefIdeal.main_arg1) = m' ((c.tc : Thread Cert.DnupRefIdeal.nD Cert.DnupRefIdeal.τ).loc Cert.DnupRefIdeal.main_arg1)
          ∧ r.2.mem ((c.tc : Thread Cert.DnupRefIdeal.nD Cert.DnupRefIdeal.τ).loc Cert.DnupRefIdeal.main_arg2) = m' ((c.tc : Thread Cert.DnupRefIdeal.nD Cert.DnupRefIdeal.τ).loc Cert.DnupRefIdeal.main_arg2))

def preserves_Dwgate_DwgateIdeal : Prop :=
  True

def algebraic_DwgateIdeal_DwgateRefIdeal [hDwgateIdeal : Cert.DwgateIdeal.Facts] [hDwgateRefIdeal : Cert.DwgateRefIdeal.Facts] : Prop :=
  ∀ (m : (ℓ : Loc Cert.DwgateIdeal.nD Cert.DwgateIdeal.τ Cert.DwgateIdeal.sig) → Buf (Elt Ideal) ℓ) (g : Dev Cert.DwgateIdeal.nD → PrngReg)
    (m' : (ℓ : Loc Cert.DwgateRefIdeal.nD Cert.DwgateRefIdeal.τ Cert.DwgateRefIdeal.sig) → Buf (Elt Ideal) ℓ) (g' : Dev Cert.DwgateRefIdeal.nD → PrngReg), Pre_DwgateIdeal m →
    (∀ c : Dev Cert.DwgateIdeal.nD,
      m' ((c.tc : Thread Cert.DwgateRefIdeal.nD Cert.DwgateRefIdeal.τ).loc Cert.DwgateRefIdeal.main_arg0) = m ((c.tc : Thread Cert.DwgateIdeal.nD Cert.DwgateIdeal.τ).loc Cert.DwgateIdeal.main_arg0)
      ∧ m' ((c.tc : Thread Cert.DwgateRefIdeal.nD Cert.DwgateRefIdeal.τ).loc Cert.DwgateRefIdeal.main_arg1) = m ((c.tc : Thread Cert.DwgateIdeal.nD Cert.DwgateIdeal.τ).loc Cert.DwgateIdeal.main_arg1)) →
    ∃ (v0 : (c : Dev Cert.DwgateIdeal.nD) → Buf (Elt Ideal) ((c.tc : Thread Cert.DwgateIdeal.nD Cert.DwgateIdeal.τ).loc Cert.DwgateIdeal.main_v0)),
      θ_run (Cert.DwgateIdeal.defs (F := Ideal)) (onTc (τ := Cert.DwgateIdeal.τ) (Cert.DwgateIdeal.main (F := Ideal))) ⟨m, fun _ => 0, g⟩ (fun r => ∀ c : Dev Cert.DwgateIdeal.nD,
          r.2.mem ((c.tc : Thread Cert.DwgateIdeal.nD Cert.DwgateIdeal.τ).loc Cert.DwgateIdeal.main_v0) = v0 c
          ∧ r.2.mem ((c.tc : Thread Cert.DwgateIdeal.nD Cert.DwgateIdeal.τ).loc Cert.DwgateIdeal.main_arg0) = m ((c.tc : Thread Cert.DwgateIdeal.nD Cert.DwgateIdeal.τ).loc Cert.DwgateIdeal.main_arg0)
          ∧ r.2.mem ((c.tc : Thread Cert.DwgateIdeal.nD Cert.DwgateIdeal.τ).loc Cert.DwgateIdeal.main_arg1) = m ((c.tc : Thread Cert.DwgateIdeal.nD Cert.DwgateIdeal.τ).loc Cert.DwgateIdeal.main_arg1))
      ∧ θ_run (Cert.DwgateRefIdeal.defs (F := Ideal)) (onTc (τ := Cert.DwgateRefIdeal.τ) (Cert.DwgateRefIdeal.main (F := Ideal))) ⟨m', fun _ => 0, g'⟩ (fun r => ∀ c : Dev Cert.DwgateRefIdeal.nD,
          r.2.mem ((c.tc : Thread Cert.DwgateRefIdeal.nD Cert.DwgateRefIdeal.τ).loc Cert.DwgateRefIdeal.main_v7) = v0 c
          ∧ r.2.mem ((c.tc : Thread Cert.DwgateRefIdeal.nD Cert.DwgateRefIdeal.τ).loc Cert.DwgateRefIdeal.main_arg0) = m' ((c.tc : Thread Cert.DwgateRefIdeal.nD Cert.DwgateRefIdeal.τ).loc Cert.DwgateRefIdeal.main_arg0)
          ∧ r.2.mem ((c.tc : Thread Cert.DwgateRefIdeal.nD Cert.DwgateRefIdeal.τ).loc Cert.DwgateRefIdeal.main_arg1) = m' ((c.tc : Thread Cert.DwgateRefIdeal.nD Cert.DwgateRefIdeal.τ).loc Cert.DwgateRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v4) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_MixDn_MixDnIdeal : Prop :=
  True

def algebraic_MixDnIdeal_MixDnRefIdeal [hMixDnIdeal : Cert.MixDnIdeal.Facts] [hMixDnRefIdeal : Cert.MixDnRefIdeal.Facts] : Prop :=
  ∀ (m : (ℓ : Loc Cert.MixDnIdeal.nD Cert.MixDnIdeal.τ Cert.MixDnIdeal.sig) → Buf (Elt Ideal) ℓ) (g : Dev Cert.MixDnIdeal.nD → PrngReg)
    (m' : (ℓ : Loc Cert.MixDnRefIdeal.nD Cert.MixDnRefIdeal.τ Cert.MixDnRefIdeal.sig) → Buf (Elt Ideal) ℓ) (g' : Dev Cert.MixDnRefIdeal.nD → PrngReg), Pre_MixDnIdeal m →
    (∀ c : Dev Cert.MixDnIdeal.nD,
      m' ((c.tc : Thread Cert.MixDnRefIdeal.nD Cert.MixDnRefIdeal.τ).loc Cert.MixDnRefIdeal.main_arg0) = m ((c.tc : Thread Cert.MixDnIdeal.nD Cert.MixDnIdeal.τ).loc Cert.MixDnIdeal.main_arg0)
      ∧ m' ((c.tc : Thread Cert.MixDnRefIdeal.nD Cert.MixDnRefIdeal.τ).loc Cert.MixDnRefIdeal.main_arg1) = m ((c.tc : Thread Cert.MixDnIdeal.nD Cert.MixDnIdeal.τ).loc Cert.MixDnIdeal.main_arg1)) →
    ∃ (v0 : (c : Dev Cert.MixDnIdeal.nD) → Buf (Elt Ideal) ((c.tc : Thread Cert.MixDnIdeal.nD Cert.MixDnIdeal.τ).loc Cert.MixDnIdeal.main_v0)),
      θ_run (Cert.MixDnIdeal.defs (F := Ideal)) (onTc (τ := Cert.MixDnIdeal.τ) (Cert.MixDnIdeal.main (F := Ideal))) ⟨m, fun _ => 0, g⟩ (fun r => ∀ c : Dev Cert.MixDnIdeal.nD,
          r.2.mem ((c.tc : Thread Cert.MixDnIdeal.nD Cert.MixDnIdeal.τ).loc Cert.MixDnIdeal.main_v0) = v0 c
          ∧ r.2.mem ((c.tc : Thread Cert.MixDnIdeal.nD Cert.MixDnIdeal.τ).loc Cert.MixDnIdeal.main_arg0) = m ((c.tc : Thread Cert.MixDnIdeal.nD Cert.MixDnIdeal.τ).loc Cert.MixDnIdeal.main_arg0)
          ∧ r.2.mem ((c.tc : Thread Cert.MixDnIdeal.nD Cert.MixDnIdeal.τ).loc Cert.MixDnIdeal.main_arg1) = m ((c.tc : Thread Cert.MixDnIdeal.nD Cert.MixDnIdeal.τ).loc Cert.MixDnIdeal.main_arg1))
      ∧ θ_run (Cert.MixDnRefIdeal.defs (F := Ideal)) (onTc (τ := Cert.MixDnRefIdeal.τ) (Cert.MixDnRefIdeal.main (F := Ideal))) ⟨m', fun _ => 0, g'⟩ (fun r => ∀ c : Dev Cert.MixDnRefIdeal.nD,
          r.2.mem ((c.tc : Thread Cert.MixDnRefIdeal.nD Cert.MixDnRefIdeal.τ).loc Cert.MixDnRefIdeal.main_v4) = v0 c
          ∧ r.2.mem ((c.tc : Thread Cert.MixDnRefIdeal.nD Cert.MixDnRefIdeal.τ).loc Cert.MixDnRefIdeal.main_arg0) = m' ((c.tc : Thread Cert.MixDnRefIdeal.nD Cert.MixDnRefIdeal.τ).loc Cert.MixDnRefIdeal.main_arg0)
          ∧ r.2.mem ((c.tc : Thread Cert.MixDnRefIdeal.nD Cert.MixDnRefIdeal.τ).loc Cert.MixDnRefIdeal.main_arg1) = m' ((c.tc : Thread Cert.MixDnRefIdeal.nD Cert.MixDnRefIdeal.τ).loc Cert.MixDnRefIdeal.main_arg1))

def preserves_MixDwin_MixDwinIdeal : Prop :=
  True

def algebraic_MixDwinIdeal_MixDwinRefIdeal [hMixDwinIdeal : Cert.MixDwinIdeal.Facts] [hMixDwinRefIdeal : Cert.MixDwinRefIdeal.Facts] : Prop :=
  ∀ (m : (ℓ : Loc Cert.MixDwinIdeal.nD Cert.MixDwinIdeal.τ Cert.MixDwinIdeal.sig) → Buf (Elt Ideal) ℓ) (g : Dev Cert.MixDwinIdeal.nD → PrngReg)
    (m' : (ℓ : Loc Cert.MixDwinRefIdeal.nD Cert.MixDwinRefIdeal.τ Cert.MixDwinRefIdeal.sig) → Buf (Elt Ideal) ℓ) (g' : Dev Cert.MixDwinRefIdeal.nD → PrngReg), Pre_MixDwinIdeal m →
    (∀ c : Dev Cert.MixDwinIdeal.nD,
      m' ((c.tc : Thread Cert.MixDwinRefIdeal.nD Cert.MixDwinRefIdeal.τ).loc Cert.MixDwinRefIdeal.main_arg0) = m ((c.tc : Thread Cert.MixDwinIdeal.nD Cert.MixDwinIdeal.τ).loc Cert.MixDwinIdeal.main_arg0)
      ∧ m' ((c.tc : Thread Cert.MixDwinRefIdeal.nD Cert.MixDwinRefIdeal.τ).loc Cert.MixDwinRefIdeal.main_arg1) = m ((c.tc : Thread Cert.MixDwinIdeal.nD Cert.MixDwinIdeal.τ).loc Cert.MixDwinIdeal.main_arg1)) →
    ∃ (v0 : (c : Dev Cert.MixDwinIdeal.nD) → Buf (Elt Ideal) ((c.tc : Thread Cert.MixDwinIdeal.nD Cert.MixDwinIdeal.τ).loc Cert.MixDwinIdeal.main_v0)),
      θ_run (Cert.MixDwinIdeal.defs (F := Ideal)) (onTc (τ := Cert.MixDwinIdeal.τ) (Cert.MixDwinIdeal.main (F := Ideal))) ⟨m, fun _ => 0, g⟩ (fun r => ∀ c : Dev Cert.MixDwinIdeal.nD,
          r.2.mem ((c.tc : Thread Cert.MixDwinIdeal.nD Cert.MixDwinIdeal.τ).loc Cert.MixDwinIdeal.main_v0) = v0 c
          ∧ r.2.mem ((c.tc : Thread Cert.MixDwinIdeal.nD Cert.MixDwinIdeal.τ).loc Cert.MixDwinIdeal.main_arg0) = m ((c.tc : Thread Cert.MixDwinIdeal.nD Cert.MixDwinIdeal.τ).loc Cert.MixDwinIdeal.main_arg0)
          ∧ r.2.mem ((c.tc : Thread Cert.MixDwinIdeal.nD Cert.MixDwinIdeal.τ).loc Cert.MixDwinIdeal.main_arg1) = m ((c.tc : Thread Cert.MixDwinIdeal.nD Cert.MixDwinIdeal.τ).loc Cert.MixDwinIdeal.main_arg1))
      ∧ θ_run (Cert.MixDwinRefIdeal.defs (F := Ideal)) (onTc (τ := Cert.MixDwinRefIdeal.τ) (Cert.MixDwinRefIdeal.main (F := Ideal))) ⟨m', fun _ => 0, g'⟩ (fun r => ∀ c : Dev Cert.MixDwinRefIdeal.nD,
          r.2.mem ((c.tc : Thread Cert.MixDwinRefIdeal.nD Cert.MixDwinRefIdeal.τ).loc Cert.MixDwinRefIdeal.main_v7) = v0 c
          ∧ r.2.mem ((c.tc : Thread Cert.MixDwinRefIdeal.nD Cert.MixDwinRefIdeal.τ).loc Cert.MixDwinRefIdeal.main_arg0) = m' ((c.tc : Thread Cert.MixDwinRefIdeal.nD Cert.MixDwinRefIdeal.τ).loc Cert.MixDwinRefIdeal.main_arg0)
          ∧ r.2.mem ((c.tc : Thread Cert.MixDwinRefIdeal.nD Cert.MixDwinRefIdeal.τ).loc Cert.MixDwinRefIdeal.main_arg1) = m' ((c.tc : Thread Cert.MixDwinRefIdeal.nD Cert.MixDwinRefIdeal.τ).loc Cert.MixDwinRefIdeal.main_arg1))

def preserves_MixDcat_MixDcatIdeal : Prop :=
  True

def algebraic_MixDcatIdeal_MixDcatRefIdeal [hMixDcatIdeal : Cert.MixDcatIdeal.Facts] [hMixDcatRefIdeal : Cert.MixDcatRefIdeal.Facts] : Prop :=
  ∀ (m : (ℓ : Loc Cert.MixDcatIdeal.nD Cert.MixDcatIdeal.τ Cert.MixDcatIdeal.sig) → Buf (Elt Ideal) ℓ) (g : Dev Cert.MixDcatIdeal.nD → PrngReg)
    (m' : (ℓ : Loc Cert.MixDcatRefIdeal.nD Cert.MixDcatRefIdeal.τ Cert.MixDcatRefIdeal.sig) → Buf (Elt Ideal) ℓ) (g' : Dev Cert.MixDcatRefIdeal.nD → PrngReg), Pre_MixDcatIdeal m →
    (∀ c : Dev Cert.MixDcatIdeal.nD,
      m' ((c.tc : Thread Cert.MixDcatRefIdeal.nD Cert.MixDcatRefIdeal.τ).loc Cert.MixDcatRefIdeal.main_arg0) = m ((c.tc : Thread Cert.MixDcatIdeal.nD Cert.MixDcatIdeal.τ).loc Cert.MixDcatIdeal.main_arg0)
      ∧ m' ((c.tc : Thread Cert.MixDcatRefIdeal.nD Cert.MixDcatRefIdeal.τ).loc Cert.MixDcatRefIdeal.main_arg1) = m ((c.tc : Thread Cert.MixDcatIdeal.nD Cert.MixDcatIdeal.τ).loc Cert.MixDcatIdeal.main_arg1)) →
    ∃ (v0 : (c : Dev Cert.MixDcatIdeal.nD) → Buf (Elt Ideal) ((c.tc : Thread Cert.MixDcatIdeal.nD Cert.MixDcatIdeal.τ).loc Cert.MixDcatIdeal.main_v0)),
      θ_run (Cert.MixDcatIdeal.defs (F := Ideal)) (onTc (τ := Cert.MixDcatIdeal.τ) (Cert.MixDcatIdeal.main (F := Ideal))) ⟨m, fun _ => 0, g⟩ (fun r => ∀ c : Dev Cert.MixDcatIdeal.nD,
          r.2.mem ((c.tc : Thread Cert.MixDcatIdeal.nD Cert.MixDcatIdeal.τ).loc Cert.MixDcatIdeal.main_v0) = v0 c
          ∧ r.2.mem ((c.tc : Thread Cert.MixDcatIdeal.nD Cert.MixDcatIdeal.τ).loc Cert.MixDcatIdeal.main_arg0) = m ((c.tc : Thread Cert.MixDcatIdeal.nD Cert.MixDcatIdeal.τ).loc Cert.MixDcatIdeal.main_arg0)
          ∧ r.2.mem ((c.tc : Thread Cert.MixDcatIdeal.nD Cert.MixDcatIdeal.τ).loc Cert.MixDcatIdeal.main_arg1) = m ((c.tc : Thread Cert.MixDcatIdeal.nD Cert.MixDcatIdeal.τ).loc Cert.MixDcatIdeal.main_arg1))
      ∧ θ_run (Cert.MixDcatRefIdeal.defs (F := Ideal)) (onTc (τ := Cert.MixDcatRefIdeal.τ) (Cert.MixDcatRefIdeal.main (F := Ideal))) ⟨m', fun _ => 0, g'⟩ (fun r => ∀ c : Dev Cert.MixDcatRefIdeal.nD,
          r.2.mem ((c.tc : Thread Cert.MixDcatRefIdeal.nD Cert.MixDcatRefIdeal.τ).loc Cert.MixDcatRefIdeal.main_v3) = v0 c
          ∧ r.2.mem ((c.tc : Thread Cert.MixDcatRefIdeal.nD Cert.MixDcatRefIdeal.τ).loc Cert.MixDcatRefIdeal.main_arg0) = m' ((c.tc : Thread Cert.MixDcatRefIdeal.nD Cert.MixDcatRefIdeal.τ).loc Cert.MixDcatRefIdeal.main_arg0)
          ∧ r.2.mem ((c.tc : Thread Cert.MixDcatRefIdeal.nD Cert.MixDcatRefIdeal.τ).loc Cert.MixDcatRefIdeal.main_arg1) = m' ((c.tc : Thread Cert.MixDcatRefIdeal.nD Cert.MixDcatRefIdeal.τ).loc Cert.MixDcatRefIdeal.main_arg1))

def preserves_MixDwout_MixDwoutIdeal : Prop :=
  True

def algebraic_MixDwoutIdeal_MixDwoutRefIdeal [hMixDwoutIdeal : Cert.MixDwoutIdeal.Facts] [hMixDwoutRefIdeal : Cert.MixDwoutRefIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg)
    (m' : (ℓ : Loc Cert.MixDwoutRefIdeal.nD Cert.MixDwoutRefIdeal.τ Cert.MixDwoutRefIdeal.sig) → Buf (Elt Ideal) ℓ) (g' : Dev Cert.MixDwoutRefIdeal.nD → PrngReg), Pre_MixDwoutIdeal m →
    (∀ c : Dev Cert.MixDwoutIdeal.nD,
      m' ((c.tc : Thread Cert.MixDwoutRefIdeal.nD Cert.MixDwoutRefIdeal.τ).loc Cert.MixDwoutRefIdeal.main_arg0) = m ((c.tc : Thread Cert.MixDwoutIdeal.nD Cert.MixDwoutIdeal.τ).loc Cert.MixDwoutIdeal.main_arg0)
      ∧ m' ((c.tc : Thread Cert.MixDwoutRefIdeal.nD Cert.MixDwoutRefIdeal.τ).loc Cert.MixDwoutRefIdeal.main_arg1) = m ((c.tc : Thread Cert.MixDwoutIdeal.nD Cert.MixDwoutIdeal.τ).loc Cert.MixDwoutIdeal.main_arg1)) →
    ∃ (v0 : (c : Dev Cert.MixDwoutIdeal.nD) → Buf (Elt Ideal) ((c.tc : Thread Cert.MixDwoutIdeal.nD Cert.MixDwoutIdeal.τ).loc Cert.MixDwoutIdeal.main_v0)),
      θ_run (Cert.MixDwoutIdeal.defs (F := Ideal)) (onTc (τ := Cert.MixDwoutIdeal.τ) (Cert.MixDwoutIdeal.main (F := Ideal))) ⟨m, fun _ => 0, g⟩ (fun r => ∀ c : Dev Cert.MixDwoutIdeal.nD,
          r.2.mem ((c.tc : Thread Cert.MixDwoutIdeal.nD Cert.MixDwoutIdeal.τ).loc Cert.MixDwoutIdeal.main_v0) = v0 c
          ∧ r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
          ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ θ_run (Cert.MixDwoutRefIdeal.defs (F := Ideal)) (onTc (τ := Cert.MixDwoutRefIdeal.τ) (Cert.MixDwoutRefIdeal.main (F := Ideal))) ⟨m', fun _ => 0, g'⟩ (fun r => ∀ c : Dev Cert.MixDwoutRefIdeal.nD,
          r.2.mem ((c.tc : Thread Cert.MixDwoutRefIdeal.nD Cert.MixDwoutRefIdeal.τ).loc Cert.MixDwoutRefIdeal.main_v6) = v0 c
          ∧ r.2.mem ((c.tc : Thread Cert.MixDwoutRefIdeal.nD Cert.MixDwoutRefIdeal.τ).loc Cert.MixDwoutRefIdeal.main_arg0) = m' ((c.tc : Thread Cert.MixDwoutRefIdeal.nD Cert.MixDwoutRefIdeal.τ).loc Cert.MixDwoutRefIdeal.main_arg0)
          ∧ r.2.mem ((c.tc : Thread Cert.MixDwoutRefIdeal.nD Cert.MixDwoutRefIdeal.τ).loc Cert.MixDwoutRefIdeal.main_arg1) = m' ((c.tc : Thread Cert.MixDwoutRefIdeal.nD Cert.MixDwoutRefIdeal.τ).loc Cert.MixDwoutRefIdeal.main_arg1))

def preserves_PleDn_PleDnIdeal : Prop :=
  True

def algebraic_PleDnIdeal_PleDnRefIdeal [hPleDnIdeal : Cert.PleDnIdeal.Facts] [hPleDnRefIdeal : Cert.PleDnRefIdeal.Facts] : Prop :=
  ∀ (m : (ℓ : Loc Cert.PleDnIdeal.nD Cert.PleDnIdeal.τ Cert.PleDnIdeal.sig) → Buf (Elt Ideal) ℓ) (g : Dev Cert.PleDnIdeal.nD → PrngReg)
    (m' : (ℓ : Loc Cert.PleDnRefIdeal.nD Cert.PleDnRefIdeal.τ Cert.PleDnRefIdeal.sig) → Buf (Elt Ideal) ℓ) (g' : Dev Cert.PleDnRefIdeal.nD → PrngReg), Pre_PleDnIdeal m →
    (∀ c : Dev Cert.PleDnIdeal.nD,
      m' ((c.tc : Thread Cert.PleDnRefIdeal.nD Cert.PleDnRefIdeal.τ).loc Cert.PleDnRefIdeal.main_arg0) = m ((c.tc : Thread Cert.PleDnIdeal.nD Cert.PleDnIdeal.τ).loc Cert.PleDnIdeal.main_arg0)
      ∧ m' ((c.tc : Thread Cert.PleDnRefIdeal.nD Cert.PleDnRefIdeal.τ).loc Cert.PleDnRefIdeal.main_arg1) = m ((c.tc : Thread Cert.PleDnIdeal.nD Cert.PleDnIdeal.τ).loc Cert.PleDnIdeal.main_arg1)) →
    ∃ (v0 : (c : Dev Cert.PleDnIdeal.nD) → Buf (Elt Ideal) ((c.tc : Thread Cert.PleDnIdeal.nD Cert.PleDnIdeal.τ).loc Cert.PleDnIdeal.main_v0)),
      θ_run (Cert.PleDnIdeal.defs (F := Ideal)) (onTc (τ := Cert.PleDnIdeal.τ) (Cert.PleDnIdeal.main (F := Ideal))) ⟨m, fun _ => 0, g⟩ (fun r => ∀ c : Dev Cert.PleDnIdeal.nD,
          r.2.mem ((c.tc : Thread Cert.PleDnIdeal.nD Cert.PleDnIdeal.τ).loc Cert.PleDnIdeal.main_v0) = v0 c
          ∧ r.2.mem ((c.tc : Thread Cert.PleDnIdeal.nD Cert.PleDnIdeal.τ).loc Cert.PleDnIdeal.main_arg0) = m ((c.tc : Thread Cert.PleDnIdeal.nD Cert.PleDnIdeal.τ).loc Cert.PleDnIdeal.main_arg0)
          ∧ r.2.mem ((c.tc : Thread Cert.PleDnIdeal.nD Cert.PleDnIdeal.τ).loc Cert.PleDnIdeal.main_arg1) = m ((c.tc : Thread Cert.PleDnIdeal.nD Cert.PleDnIdeal.τ).loc Cert.PleDnIdeal.main_arg1))
      ∧ θ_run (Cert.PleDnRefIdeal.defs (F := Ideal)) (onTc (τ := Cert.PleDnRefIdeal.τ) (Cert.PleDnRefIdeal.main (F := Ideal))) ⟨m', fun _ => 0, g'⟩ (fun r => ∀ c : Dev Cert.PleDnRefIdeal.nD,
          r.2.mem ((c.tc : Thread Cert.PleDnRefIdeal.nD Cert.PleDnRefIdeal.τ).loc Cert.PleDnRefIdeal.main_v4) = v0 c
          ∧ r.2.mem ((c.tc : Thread Cert.PleDnRefIdeal.nD Cert.PleDnRefIdeal.τ).loc Cert.PleDnRefIdeal.main_arg0) = m' ((c.tc : Thread Cert.PleDnRefIdeal.nD Cert.PleDnRefIdeal.τ).loc Cert.PleDnRefIdeal.main_arg0)
          ∧ r.2.mem ((c.tc : Thread Cert.PleDnRefIdeal.nD Cert.PleDnRefIdeal.τ).loc Cert.PleDnRefIdeal.main_arg1) = m' ((c.tc : Thread Cert.PleDnRefIdeal.nD Cert.PleDnRefIdeal.τ).loc Cert.PleDnRefIdeal.main_arg1))

def preserves_PleDwgate_PleDwgateIdeal : Prop :=
  True

def algebraic_PleDwgateIdeal_PleDwgateRefIdeal [hPleDwgateIdeal : Cert.PleDwgateIdeal.Facts] [hPleDwgateRefIdeal : Cert.PleDwgateRefIdeal.Facts] : Prop :=
  ∀ (m : (ℓ : Loc Cert.PleDwgateIdeal.nD Cert.PleDwgateIdeal.τ Cert.PleDwgateIdeal.sig) → Buf (Elt Ideal) ℓ) (g : Dev Cert.PleDwgateIdeal.nD → PrngReg)
    (m' : (ℓ : Loc Cert.PleDwgateRefIdeal.nD Cert.PleDwgateRefIdeal.τ Cert.PleDwgateRefIdeal.sig) → Buf (Elt Ideal) ℓ) (g' : Dev Cert.PleDwgateRefIdeal.nD → PrngReg), Pre_PleDwgateIdeal m →
    (∀ c : Dev Cert.PleDwgateIdeal.nD,
      m' ((c.tc : Thread Cert.PleDwgateRefIdeal.nD Cert.PleDwgateRefIdeal.τ).loc Cert.PleDwgateRefIdeal.main_arg0) = m ((c.tc : Thread Cert.PleDwgateIdeal.nD Cert.PleDwgateIdeal.τ).loc Cert.PleDwgateIdeal.main_arg0)
      ∧ m' ((c.tc : Thread Cert.PleDwgateRefIdeal.nD Cert.PleDwgateRefIdeal.τ).loc Cert.PleDwgateRefIdeal.main_arg1) = m ((c.tc : Thread Cert.PleDwgateIdeal.nD Cert.PleDwgateIdeal.τ).loc Cert.PleDwgateIdeal.main_arg1)) →
    ∃ (v0 : (c : Dev Cert.PleDwgateIdeal.nD) → Buf (Elt Ideal) ((c.tc : Thread Cert.PleDwgateIdeal.nD Cert.PleDwgateIdeal.τ).loc Cert.PleDwgateIdeal.main_v0)),
      θ_run (Cert.PleDwgateIdeal.defs (F := Ideal)) (onTc (τ := Cert.PleDwgateIdeal.τ) (Cert.PleDwgateIdeal.main (F := Ideal))) ⟨m, fun _ => 0, g⟩ (fun r => ∀ c : Dev Cert.PleDwgateIdeal.nD,
          r.2.mem ((c.tc : Thread Cert.PleDwgateIdeal.nD Cert.PleDwgateIdeal.τ).loc Cert.PleDwgateIdeal.main_v0) = v0 c
          ∧ r.2.mem ((c.tc : Thread Cert.PleDwgateIdeal.nD Cert.PleDwgateIdeal.τ).loc Cert.PleDwgateIdeal.main_arg0) = m ((c.tc : Thread Cert.PleDwgateIdeal.nD Cert.PleDwgateIdeal.τ).loc Cert.PleDwgateIdeal.main_arg0)
          ∧ r.2.mem ((c.tc : Thread Cert.PleDwgateIdeal.nD Cert.PleDwgateIdeal.τ).loc Cert.PleDwgateIdeal.main_arg1) = m ((c.tc : Thread Cert.PleDwgateIdeal.nD Cert.PleDwgateIdeal.τ).loc Cert.PleDwgateIdeal.main_arg1))
      ∧ θ_run (Cert.PleDwgateRefIdeal.defs (F := Ideal)) (onTc (τ := Cert.PleDwgateRefIdeal.τ) (Cert.PleDwgateRefIdeal.main (F := Ideal))) ⟨m', fun _ => 0, g'⟩ (fun r => ∀ c : Dev Cert.PleDwgateRefIdeal.nD,
          r.2.mem ((c.tc : Thread Cert.PleDwgateRefIdeal.nD Cert.PleDwgateRefIdeal.τ).loc Cert.PleDwgateRefIdeal.main_v7) = v0 c
          ∧ r.2.mem ((c.tc : Thread Cert.PleDwgateRefIdeal.nD Cert.PleDwgateRefIdeal.τ).loc Cert.PleDwgateRefIdeal.main_arg0) = m' ((c.tc : Thread Cert.PleDwgateRefIdeal.nD Cert.PleDwgateRefIdeal.τ).loc Cert.PleDwgateRefIdeal.main_arg0)
          ∧ r.2.mem ((c.tc : Thread Cert.PleDwgateRefIdeal.nD Cert.PleDwgateRefIdeal.τ).loc Cert.PleDwgateRefIdeal.main_arg1) = m' ((c.tc : Thread Cert.PleDwgateRefIdeal.nD Cert.PleDwgateRefIdeal.τ).loc Cert.PleDwgateRefIdeal.main_arg1))

def preserves_PleDwproj_PleDwprojIdeal : Prop :=
  True

def algebraic_PleDwprojIdeal_PleDwprojRefIdeal [hPleDwprojIdeal : Cert.PleDwprojIdeal.Facts] [hPleDwprojRefIdeal : Cert.PleDwprojRefIdeal.Facts] : Prop :=
  ∀ (m : (ℓ : Loc Cert.PleDwprojIdeal.nD Cert.PleDwprojIdeal.τ Cert.PleDwprojIdeal.sig) → Buf (Elt Ideal) ℓ) (g : Dev Cert.PleDwprojIdeal.nD → PrngReg)
    (m' : (ℓ : Loc Cert.PleDwprojRefIdeal.nD Cert.PleDwprojRefIdeal.τ Cert.PleDwprojRefIdeal.sig) → Buf (Elt Ideal) ℓ) (g' : Dev Cert.PleDwprojRefIdeal.nD → PrngReg), Pre_PleDwprojIdeal m →
    (∀ c : Dev Cert.PleDwprojIdeal.nD,
      m' ((c.tc : Thread Cert.PleDwprojRefIdeal.nD Cert.PleDwprojRefIdeal.τ).loc Cert.PleDwprojRefIdeal.main_arg0) = m ((c.tc : Thread Cert.PleDwprojIdeal.nD Cert.PleDwprojIdeal.τ).loc Cert.PleDwprojIdeal.main_arg0)
      ∧ m' ((c.tc : Thread Cert.PleDwprojRefIdeal.nD Cert.PleDwprojRefIdeal.τ).loc Cert.PleDwprojRefIdeal.main_arg1) = m ((c.tc : Thread Cert.PleDwprojIdeal.nD Cert.PleDwprojIdeal.τ).loc Cert.PleDwprojIdeal.main_arg1)) →
    ∃ (v0 : (c : Dev Cert.PleDwprojIdeal.nD) → Buf (Elt Ideal) ((c.tc : Thread Cert.PleDwprojIdeal.nD Cert.PleDwprojIdeal.τ).loc Cert.PleDwprojIdeal.main_v0)),
      θ_run (Cert.PleDwprojIdeal.defs (F := Ideal)) (onTc (τ := Cert.PleDwprojIdeal.τ) (Cert.PleDwprojIdeal.main (F := Ideal))) ⟨m, fun _ => 0, g⟩ (fun r => ∀ c : Dev Cert.PleDwprojIdeal.nD,
          r.2.mem ((c.tc : Thread Cert.PleDwprojIdeal.nD Cert.PleDwprojIdeal.τ).loc Cert.PleDwprojIdeal.main_v0) = v0 c
          ∧ r.2.mem ((c.tc : Thread Cert.PleDwprojIdeal.nD Cert.PleDwprojIdeal.τ).loc Cert.PleDwprojIdeal.main_arg0) = m ((c.tc : Thread Cert.PleDwprojIdeal.nD Cert.PleDwprojIdeal.τ).loc Cert.PleDwprojIdeal.main_arg0)
          ∧ r.2.mem ((c.tc : Thread Cert.PleDwprojIdeal.nD Cert.PleDwprojIdeal.τ).loc Cert.PleDwprojIdeal.main_arg1) = m ((c.tc : Thread Cert.PleDwprojIdeal.nD Cert.PleDwprojIdeal.τ).loc Cert.PleDwprojIdeal.main_arg1))
      ∧ θ_run (Cert.PleDwprojRefIdeal.defs (F := Ideal)) (onTc (τ := Cert.PleDwprojRefIdeal.τ) (Cert.PleDwprojRefIdeal.main (F := Ideal))) ⟨m', fun _ => 0, g'⟩ (fun r => ∀ c : Dev Cert.PleDwprojRefIdeal.nD,
          r.2.mem ((c.tc : Thread Cert.PleDwprojRefIdeal.nD Cert.PleDwprojRefIdeal.τ).loc Cert.PleDwprojRefIdeal.main_v6) = v0 c
          ∧ r.2.mem ((c.tc : Thread Cert.PleDwprojRefIdeal.nD Cert.PleDwprojRefIdeal.τ).loc Cert.PleDwprojRefIdeal.main_arg0) = m' ((c.tc : Thread Cert.PleDwprojRefIdeal.nD Cert.PleDwprojRefIdeal.τ).loc Cert.PleDwprojRefIdeal.main_arg0)
          ∧ r.2.mem ((c.tc : Thread Cert.PleDwprojRefIdeal.nD Cert.PleDwprojRefIdeal.τ).loc Cert.PleDwprojRefIdeal.main_arg1) = m' ((c.tc : Thread Cert.PleDwprojRefIdeal.nD Cert.PleDwprojRefIdeal.τ).loc Cert.PleDwprojRefIdeal.main_arg1))

def preserves_PleDout_PleDoutIdeal : Prop :=
  True

def algebraic_PleDoutIdeal_PleDoutRefIdeal [hPleDoutIdeal : Cert.PleDoutIdeal.Facts] [hPleDoutRefIdeal : Cert.PleDoutRefIdeal.Facts] : Prop :=
  ∀ (m : (ℓ : Loc Cert.PleDoutIdeal.nD Cert.PleDoutIdeal.τ Cert.PleDoutIdeal.sig) → Buf (Elt Ideal) ℓ) (g : Dev Cert.PleDoutIdeal.nD → PrngReg)
    (m' : (ℓ : Loc Cert.PleDoutRefIdeal.nD Cert.PleDoutRefIdeal.τ Cert.PleDoutRefIdeal.sig) → Buf (Elt Ideal) ℓ) (g' : Dev Cert.PleDoutRefIdeal.nD → PrngReg), Pre_PleDoutIdeal m →
    (∀ c : Dev Cert.PleDoutIdeal.nD,
      m' ((c.tc : Thread Cert.PleDoutRefIdeal.nD Cert.PleDoutRefIdeal.τ).loc Cert.PleDoutRefIdeal.main_arg0) = m ((c.tc : Thread Cert.PleDoutIdeal.nD Cert.PleDoutIdeal.τ).loc Cert.PleDoutIdeal.main_arg0)
      ∧ m' ((c.tc : Thread Cert.PleDoutRefIdeal.nD Cert.PleDoutRefIdeal.τ).loc Cert.PleDoutRefIdeal.main_arg1) = m ((c.tc : Thread Cert.PleDoutIdeal.nD Cert.PleDoutIdeal.τ).loc Cert.PleDoutIdeal.main_arg1)
      ∧ m' ((c.tc : Thread Cert.PleDoutRefIdeal.nD Cert.PleDoutRefIdeal.τ).loc Cert.PleDoutRefIdeal.main_arg2) = m ((c.tc : Thread Cert.PleDoutIdeal.nD Cert.PleDoutIdeal.τ).loc Cert.PleDoutIdeal.main_arg2)
      ∧ m' ((c.tc : Thread Cert.PleDoutRefIdeal.nD Cert.PleDoutRefIdeal.τ).loc Cert.PleDoutRefIdeal.main_arg3) = m ((c.tc : Thread Cert.PleDoutIdeal.nD Cert.PleDoutIdeal.τ).loc Cert.PleDoutIdeal.main_arg3)) →
    ∃ (v0 : (c : Dev Cert.PleDoutIdeal.nD) → Buf (Elt Ideal) ((c.tc : Thread Cert.PleDoutIdeal.nD Cert.PleDoutIdeal.τ).loc Cert.PleDoutIdeal.main_v0_0)) (v1 : (c : Dev Cert.PleDoutIdeal.nD) → Buf (Elt Ideal) ((c.tc : Thread Cert.PleDoutIdeal.nD Cert.PleDoutIdeal.τ).loc Cert.PleDoutIdeal.main_v0_1)),
      θ_run (Cert.PleDoutIdeal.defs (F := Ideal)) (onTc (τ := Cert.PleDoutIdeal.τ) (Cert.PleDoutIdeal.main (F := Ideal))) ⟨m, fun _ => 0, g⟩ (fun r => ∀ c : Dev Cert.PleDoutIdeal.nD,
          r.2.mem ((c.tc : Thread Cert.PleDoutIdeal.nD Cert.PleDoutIdeal.τ).loc Cert.PleDoutIdeal.main_v0_0) = v0 c
          ∧ r.2.mem ((c.tc : Thread Cert.PleDoutIdeal.nD Cert.PleDoutIdeal.τ).loc Cert.PleDoutIdeal.main_v0_1) = v1 c
          ∧ r.2.mem ((c.tc : Thread Cert.PleDoutIdeal.nD Cert.PleDoutIdeal.τ).loc Cert.PleDoutIdeal.main_arg0) = m ((c.tc : Thread Cert.PleDoutIdeal.nD Cert.PleDoutIdeal.τ).loc Cert.PleDoutIdeal.main_arg0)
          ∧ r.2.mem ((c.tc : Thread Cert.PleDoutIdeal.nD Cert.PleDoutIdeal.τ).loc Cert.PleDoutIdeal.main_arg1) = m ((c.tc : Thread Cert.PleDoutIdeal.nD Cert.PleDoutIdeal.τ).loc Cert.PleDoutIdeal.main_arg1)
          ∧ r.2.mem ((c.tc : Thread Cert.PleDoutIdeal.nD Cert.PleDoutIdeal.τ).loc Cert.PleDoutIdeal.main_arg2) = m ((c.tc : Thread Cert.PleDoutIdeal.nD Cert.PleDoutIdeal.τ).loc Cert.PleDoutIdeal.main_arg2)
          ∧ r.2.mem ((c.tc : Thread Cert.PleDoutIdeal.nD Cert.PleDoutIdeal.τ).loc Cert.PleDoutIdeal.main_arg3) = m ((c.tc : Thread Cert.PleDoutIdeal.nD Cert.PleDoutIdeal.τ).loc Cert.PleDoutIdeal.main_arg3))
      ∧ θ_run (Cert.PleDoutRefIdeal.defs (F := Ideal)) (onTc (τ := Cert.PleDoutRefIdeal.τ) (Cert.PleDoutRefIdeal.main (F := Ideal))) ⟨m', fun _ => 0, g'⟩ (fun r => ∀ c : Dev Cert.PleDoutRefIdeal.nD,
          r.2.mem ((c.tc : Thread Cert.PleDoutRefIdeal.nD Cert.PleDoutRefIdeal.τ).loc Cert.PleDoutRefIdeal.main_v14) = v0 c
          ∧ r.2.mem ((c.tc : Thread Cert.PleDoutRefIdeal.nD Cert.PleDoutRefIdeal.τ).loc Cert.PleDoutRefIdeal.main_v15) = v1 c
          ∧ r.2.mem ((c.tc : Thread Cert.PleDoutRefIdeal.nD Cert.PleDoutRefIdeal.τ).loc Cert.PleDoutRefIdeal.main_arg0) = m' ((c.tc : Thread Cert.PleDoutRefIdeal.nD Cert.PleDoutRefIdeal.τ).loc Cert.PleDoutRefIdeal.main_arg0)
          ∧ r.2.mem ((c.tc : Thread Cert.PleDoutRefIdeal.nD Cert.PleDoutRefIdeal.τ).loc Cert.PleDoutRefIdeal.main_arg1) = m' ((c.tc : Thread Cert.PleDoutRefIdeal.nD Cert.PleDoutRefIdeal.τ).loc Cert.PleDoutRefIdeal.main_arg1)
          ∧ r.2.mem ((c.tc : Thread Cert.PleDoutRefIdeal.nD Cert.PleDoutRefIdeal.τ).loc Cert.PleDoutRefIdeal.main_arg2) = m' ((c.tc : Thread Cert.PleDoutRefIdeal.nD Cert.PleDoutRefIdeal.τ).loc Cert.PleDoutRefIdeal.main_arg2)
          ∧ r.2.mem ((c.tc : Thread Cert.PleDoutRefIdeal.nD Cert.PleDoutRefIdeal.τ).loc Cert.PleDoutRefIdeal.main_arg3) = m' ((c.tc : Thread Cert.PleDoutRefIdeal.nD Cert.PleDoutRefIdeal.τ).loc Cert.PleDoutRefIdeal.main_arg3))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)) →
    ∃ (v0 : (c : Dev Cert.AbOutIdeal.nD) → Buf (Elt Ideal) ((c.tc : Thread Cert.AbOutIdeal.nD Cert.AbOutIdeal.τ).loc Cert.AbOutIdeal.main_v0)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v0) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v3) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v2) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v1) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_PleOut_PleOutIdeal : Prop :=
  True

def algebraic_PleOutIdeal_PleOutRefIdeal [hPleOutIdeal : Cert.PleOutIdeal.Facts] [hPleOutRefIdeal : Cert.PleOutRefIdeal.Facts] : Prop :=
  ∀ (m : (ℓ : Loc Cert.PleOutIdeal.nD Cert.PleOutIdeal.τ Cert.PleOutIdeal.sig) → Buf (Elt Ideal) ℓ) (g : Dev Cert.PleOutIdeal.nD → PrngReg)
    (m' : (ℓ : Loc Cert.PleOutRefIdeal.nD Cert.PleOutRefIdeal.τ Cert.PleOutRefIdeal.sig) → Buf (Elt Ideal) ℓ) (g' : Dev Cert.PleOutRefIdeal.nD → PrngReg), Pre_PleOutIdeal m →
    (∀ c : Dev Cert.PleOutIdeal.nD,
      m' ((c.tc : Thread Cert.PleOutRefIdeal.nD Cert.PleOutRefIdeal.τ).loc Cert.PleOutRefIdeal.main_arg0) = m ((c.tc : Thread Cert.PleOutIdeal.nD Cert.PleOutIdeal.τ).loc Cert.PleOutIdeal.main_arg0)
      ∧ m' ((c.tc : Thread Cert.PleOutRefIdeal.nD Cert.PleOutRefIdeal.τ).loc Cert.PleOutRefIdeal.main_arg1) = m ((c.tc : Thread Cert.PleOutIdeal.nD Cert.PleOutIdeal.τ).loc Cert.PleOutIdeal.main_arg1)
      ∧ m' ((c.tc : Thread Cert.PleOutRefIdeal.nD Cert.PleOutRefIdeal.τ).loc Cert.PleOutRefIdeal.main_arg2) = m ((c.tc : Thread Cert.PleOutIdeal.nD Cert.PleOutIdeal.τ).loc Cert.PleOutIdeal.main_arg2)) →
    ∃ (v0 : (c : Dev Cert.PleOutIdeal.nD) → Buf (Elt Ideal) ((c.tc : Thread Cert.PleOutIdeal.nD Cert.PleOutIdeal.τ).loc Cert.PleOutIdeal.main_v0)),
      θ_run (Cert.PleOutIdeal.defs (F := Ideal)) (onTc (τ := Cert.PleOutIdeal.τ) (Cert.PleOutIdeal.main (F := Ideal))) ⟨m, fun _ => 0, g⟩ (fun r => ∀ c : Dev Cert.PleOutIdeal.nD,
          r.2.mem ((c.tc : Thread Cert.PleOutIdeal.nD Cert.PleOutIdeal.τ).loc Cert.PleOutIdeal.main_v0) = v0 c
          ∧ r.2.mem ((c.tc : Thread Cert.PleOutIdeal.nD Cert.PleOutIdeal.τ).loc Cert.PleOutIdeal.main_arg0) = m ((c.tc : Thread Cert.PleOutIdeal.nD Cert.PleOutIdeal.τ).loc Cert.PleOutIdeal.main_arg0)
          ∧ r.2.mem ((c.tc : Thread Cert.PleOutIdeal.nD Cert.PleOutIdeal.τ).loc Cert.PleOutIdeal.main_arg1) = m ((c.tc : Thread Cert.PleOutIdeal.nD Cert.PleOutIdeal.τ).loc Cert.PleOutIdeal.main_arg1)
          ∧ r.2.mem ((c.tc : Thread Cert.PleOutIdeal.nD Cert.PleOutIdeal.τ).loc Cert.PleOutIdeal.main_arg2) = m ((c.tc : Thread Cert.PleOutIdeal.nD Cert.PleOutIdeal.τ).loc Cert.PleOutIdeal.main_arg2))
      ∧ θ_run (Cert.PleOutRefIdeal.defs (F := Ideal)) (onTc (τ := Cert.PleOutRefIdeal.τ) (Cert.PleOutRefIdeal.main (F := Ideal))) ⟨m', fun _ => 0, g'⟩ (fun r => ∀ c : Dev Cert.PleOutRefIdeal.nD,
          r.2.mem ((c.tc : Thread Cert.PleOutRefIdeal.nD Cert.PleOutRefIdeal.τ).loc Cert.PleOutRefIdeal.main_v7) = v0 c
          ∧ r.2.mem ((c.tc : Thread Cert.PleOutRefIdeal.nD Cert.PleOutRefIdeal.τ).loc Cert.PleOutRefIdeal.main_arg0) = m' ((c.tc : Thread Cert.PleOutRefIdeal.nD Cert.PleOutRefIdeal.τ).loc Cert.PleOutRefIdeal.main_arg0)
          ∧ r.2.mem ((c.tc : Thread Cert.PleOutRefIdeal.nD Cert.PleOutRefIdeal.τ).loc Cert.PleOutRefIdeal.main_arg1) = m' ((c.tc : Thread Cert.PleOutRefIdeal.nD Cert.PleOutRefIdeal.τ).loc Cert.PleOutRefIdeal.main_arg1)
          ∧ r.2.mem ((c.tc : Thread Cert.PleOutRefIdeal.nD Cert.PleOutRefIdeal.τ).loc Cert.PleOutRefIdeal.main_arg2) = m' ((c.tc : Thread Cert.PleOutRefIdeal.nD Cert.PleOutRefIdeal.τ).loc Cert.PleOutRefIdeal.main_arg2))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v2) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v2) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1))

def preserves_SsmGlu_SsmGluIdeal : Prop :=
  True

def algebraic_SsmGluIdeal_SsmGluRefIdeal [hSsmGluIdeal : Cert.SsmGluIdeal.Facts] [hSsmGluRefIdeal : Cert.SsmGluRefIdeal.Facts] : Prop :=
  ∀ (m : (ℓ : Loc Cert.SsmGluIdeal.nD Cert.SsmGluIdeal.τ Cert.SsmGluIdeal.sig) → Buf (Elt Ideal) ℓ) (g : Dev Cert.SsmGluIdeal.nD → PrngReg)
    (m' : (ℓ : Loc Cert.SsmGluRefIdeal.nD Cert.SsmGluRefIdeal.τ Cert.SsmGluRefIdeal.sig) → Buf (Elt Ideal) ℓ) (g' : Dev Cert.SsmGluRefIdeal.nD → PrngReg), Pre_SsmGluIdeal m →
    (∀ c : Dev Cert.SsmGluIdeal.nD,
      m' ((c.tc : Thread Cert.SsmGluRefIdeal.nD Cert.SsmGluRefIdeal.τ).loc Cert.SsmGluRefIdeal.main_arg0) = m ((c.tc : Thread Cert.SsmGluIdeal.nD Cert.SsmGluIdeal.τ).loc Cert.SsmGluIdeal.main_arg0)
      ∧ m' ((c.tc : Thread Cert.SsmGluRefIdeal.nD Cert.SsmGluRefIdeal.τ).loc Cert.SsmGluRefIdeal.main_arg1) = m ((c.tc : Thread Cert.SsmGluIdeal.nD Cert.SsmGluIdeal.τ).loc Cert.SsmGluIdeal.main_arg1)
      ∧ m' ((c.tc : Thread Cert.SsmGluRefIdeal.nD Cert.SsmGluRefIdeal.τ).loc Cert.SsmGluRefIdeal.main_arg2) = m ((c.tc : Thread Cert.SsmGluIdeal.nD Cert.SsmGluIdeal.τ).loc Cert.SsmGluIdeal.main_arg2)) →
    ∃ (v0 : (c : Dev Cert.SsmGluIdeal.nD) → Buf (Elt Ideal) ((c.tc : Thread Cert.SsmGluIdeal.nD Cert.SsmGluIdeal.τ).loc Cert.SsmGluIdeal.main_v0)),
      θ_run (Cert.SsmGluIdeal.defs (F := Ideal)) (onTc (τ := Cert.SsmGluIdeal.τ) (Cert.SsmGluIdeal.main (F := Ideal))) ⟨m, fun _ => 0, g⟩ (fun r => ∀ c : Dev Cert.SsmGluIdeal.nD,
          r.2.mem ((c.tc : Thread Cert.SsmGluIdeal.nD Cert.SsmGluIdeal.τ).loc Cert.SsmGluIdeal.main_v0) = v0 c
          ∧ r.2.mem ((c.tc : Thread Cert.SsmGluIdeal.nD Cert.SsmGluIdeal.τ).loc Cert.SsmGluIdeal.main_arg0) = m ((c.tc : Thread Cert.SsmGluIdeal.nD Cert.SsmGluIdeal.τ).loc Cert.SsmGluIdeal.main_arg0)
          ∧ r.2.mem ((c.tc : Thread Cert.SsmGluIdeal.nD Cert.SsmGluIdeal.τ).loc Cert.SsmGluIdeal.main_arg1) = m ((c.tc : Thread Cert.SsmGluIdeal.nD Cert.SsmGluIdeal.τ).loc Cert.SsmGluIdeal.main_arg1)
          ∧ r.2.mem ((c.tc : Thread Cert.SsmGluIdeal.nD Cert.SsmGluIdeal.τ).loc Cert.SsmGluIdeal.main_arg2) = m ((c.tc : Thread Cert.SsmGluIdeal.nD Cert.SsmGluIdeal.τ).loc Cert.SsmGluIdeal.main_arg2))
      ∧ θ_run (Cert.SsmGluRefIdeal.defs (F := Ideal)) (onTc (τ := Cert.SsmGluRefIdeal.τ) (Cert.SsmGluRefIdeal.main (F := Ideal))) ⟨m', fun _ => 0, g'⟩ (fun r => ∀ c : Dev Cert.SsmGluRefIdeal.nD,
          r.2.mem ((c.tc : Thread Cert.SsmGluRefIdeal.nD Cert.SsmGluRefIdeal.τ).loc Cert.SsmGluRefIdeal.main_v7) = v0 c
          ∧ r.2.mem ((c.tc : Thread Cert.SsmGluRefIdeal.nD Cert.SsmGluRefIdeal.τ).loc Cert.SsmGluRefIdeal.main_arg0) = m' ((c.tc : Thread Cert.SsmGluRefIdeal.nD Cert.SsmGluRefIdeal.τ).loc Cert.SsmGluRefIdeal.main_arg0)
          ∧ r.2.mem ((c.tc : Thread Cert.SsmGluRefIdeal.nD Cert.SsmGluRefIdeal.τ).loc Cert.SsmGluRefIdeal.main_arg1) = m' ((c.tc : Thread Cert.SsmGluRefIdeal.nD Cert.SsmGluRefIdeal.τ).loc Cert.SsmGluRefIdeal.main_arg1)
          ∧ r.2.mem ((c.tc : Thread Cert.SsmGluRefIdeal.nD Cert.SsmGluRefIdeal.τ).loc Cert.SsmGluRefIdeal.main_arg2) = m' ((c.tc : Thread Cert.SsmGluRefIdeal.nD Cert.SsmGluRefIdeal.τ).loc Cert.SsmGluRefIdeal.main_arg2))

def preserves_SsmDglu_SsmDgluIdeal : Prop :=
  True

def algebraic_SsmDgluIdeal_SsmDgluRefIdeal [hSsmDgluIdeal : Cert.SsmDgluIdeal.Facts] [hSsmDgluRefIdeal : Cert.SsmDgluRefIdeal.Facts] : Prop :=
  ∀ (m : (ℓ : Loc Cert.SsmDgluIdeal.nD Cert.SsmDgluIdeal.τ Cert.SsmDgluIdeal.sig) → Buf (Elt Ideal) ℓ) (g : Dev Cert.SsmDgluIdeal.nD → PrngReg)
    (m' : (ℓ : Loc Cert.SsmDgluRefIdeal.nD Cert.SsmDgluRefIdeal.τ Cert.SsmDgluRefIdeal.sig) → Buf (Elt Ideal) ℓ) (g' : Dev Cert.SsmDgluRefIdeal.nD → PrngReg), Pre_SsmDgluIdeal m →
    (∀ c : Dev Cert.SsmDgluIdeal.nD,
      m' ((c.tc : Thread Cert.SsmDgluRefIdeal.nD Cert.SsmDgluRefIdeal.τ).loc Cert.SsmDgluRefIdeal.main_arg0) = m ((c.tc : Thread Cert.SsmDgluIdeal.nD Cert.SsmDgluIdeal.τ).loc Cert.SsmDgluIdeal.main_arg0)
      ∧ m' ((c.tc : Thread Cert.SsmDgluRefIdeal.nD Cert.SsmDgluRefIdeal.τ).loc Cert.SsmDgluRefIdeal.main_arg1) = m ((c.tc : Thread Cert.SsmDgluIdeal.nD Cert.SsmDgluIdeal.τ).loc Cert.SsmDgluIdeal.main_arg1)
      ∧ m' ((c.tc : Thread Cert.SsmDgluRefIdeal.nD Cert.SsmDgluRefIdeal.τ).loc Cert.SsmDgluRefIdeal.main_arg2) = m ((c.tc : Thread Cert.SsmDgluIdeal.nD Cert.SsmDgluIdeal.τ).loc Cert.SsmDgluIdeal.main_arg2)
      ∧ m' ((c.tc : Thread Cert.SsmDgluRefIdeal.nD Cert.SsmDgluRefIdeal.τ).loc Cert.SsmDgluRefIdeal.main_arg3) = m ((c.tc : Thread Cert.SsmDgluIdeal.nD Cert.SsmDgluIdeal.τ).loc Cert.SsmDgluIdeal.main_arg3)) →
    ∃ (v0 : (c : Dev Cert.SsmDgluIdeal.nD) → Buf (Elt Ideal) ((c.tc : Thread Cert.SsmDgluIdeal.nD Cert.SsmDgluIdeal.τ).loc Cert.SsmDgluIdeal.main_v0_0)) (v1 : (c : Dev Cert.SsmDgluIdeal.nD) → Buf (Elt Ideal) ((c.tc : Thread Cert.SsmDgluIdeal.nD Cert.SsmDgluIdeal.τ).loc Cert.SsmDgluIdeal.main_v0_1)),
      θ_run (Cert.SsmDgluIdeal.defs (F := Ideal)) (onTc (τ := Cert.SsmDgluIdeal.τ) (Cert.SsmDgluIdeal.main (F := Ideal))) ⟨m, fun _ => 0, g⟩ (fun r => ∀ c : Dev Cert.SsmDgluIdeal.nD,
          r.2.mem ((c.tc : Thread Cert.SsmDgluIdeal.nD Cert.SsmDgluIdeal.τ).loc Cert.SsmDgluIdeal.main_v0_0) = v0 c
          ∧ r.2.mem ((c.tc : Thread Cert.SsmDgluIdeal.nD Cert.SsmDgluIdeal.τ).loc Cert.SsmDgluIdeal.main_v0_1) = v1 c
          ∧ r.2.mem ((c.tc : Thread Cert.SsmDgluIdeal.nD Cert.SsmDgluIdeal.τ).loc Cert.SsmDgluIdeal.main_arg0) = m ((c.tc : Thread Cert.SsmDgluIdeal.nD Cert.SsmDgluIdeal.τ).loc Cert.SsmDgluIdeal.main_arg0)
          ∧ r.2.mem ((c.tc : Thread Cert.SsmDgluIdeal.nD Cert.SsmDgluIdeal.τ).loc Cert.SsmDgluIdeal.main_arg1) = m ((c.tc : Thread Cert.SsmDgluIdeal.nD Cert.SsmDgluIdeal.τ).loc Cert.SsmDgluIdeal.main_arg1)
          ∧ r.2.mem ((c.tc : Thread Cert.SsmDgluIdeal.nD Cert.SsmDgluIdeal.τ).loc Cert.SsmDgluIdeal.main_arg2) = m ((c.tc : Thread Cert.SsmDgluIdeal.nD Cert.SsmDgluIdeal.τ).loc Cert.SsmDgluIdeal.main_arg2)
          ∧ r.2.mem ((c.tc : Thread Cert.SsmDgluIdeal.nD Cert.SsmDgluIdeal.τ).loc Cert.SsmDgluIdeal.main_arg3) = m ((c.tc : Thread Cert.SsmDgluIdeal.nD Cert.SsmDgluIdeal.τ).loc Cert.SsmDgluIdeal.main_arg3))
      ∧ θ_run (Cert.SsmDgluRefIdeal.defs (F := Ideal)) (onTc (τ := Cert.SsmDgluRefIdeal.τ) (Cert.SsmDgluRefIdeal.main (F := Ideal))) ⟨m', fun _ => 0, g'⟩ (fun r => ∀ c : Dev Cert.SsmDgluRefIdeal.nD,
          r.2.mem ((c.tc : Thread Cert.SsmDgluRefIdeal.nD Cert.SsmDgluRefIdeal.τ).loc Cert.SsmDgluRefIdeal.main_v14) = v0 c
          ∧ r.2.mem ((c.tc : Thread Cert.SsmDgluRefIdeal.nD Cert.SsmDgluRefIdeal.τ).loc Cert.SsmDgluRefIdeal.main_v15) = v1 c
          ∧ r.2.mem ((c.tc : Thread Cert.SsmDgluRefIdeal.nD Cert.SsmDgluRefIdeal.τ).loc Cert.SsmDgluRefIdeal.main_arg0) = m' ((c.tc : Thread Cert.SsmDgluRefIdeal.nD Cert.SsmDgluRefIdeal.τ).loc Cert.SsmDgluRefIdeal.main_arg0)
          ∧ r.2.mem ((c.tc : Thread Cert.SsmDgluRefIdeal.nD Cert.SsmDgluRefIdeal.τ).loc Cert.SsmDgluRefIdeal.main_arg1) = m' ((c.tc : Thread Cert.SsmDgluRefIdeal.nD Cert.SsmDgluRefIdeal.τ).loc Cert.SsmDgluRefIdeal.main_arg1)
          ∧ r.2.mem ((c.tc : Thread Cert.SsmDgluRefIdeal.nD Cert.SsmDgluRefIdeal.τ).loc Cert.SsmDgluRefIdeal.main_arg2) = m' ((c.tc : Thread Cert.SsmDgluRefIdeal.nD Cert.SsmDgluRefIdeal.τ).loc Cert.SsmDgluRefIdeal.main_arg2)
          ∧ r.2.mem ((c.tc : Thread Cert.SsmDgluRefIdeal.nD Cert.SsmDgluRefIdeal.τ).loc Cert.SsmDgluRefIdeal.main_arg3) = m' ((c.tc : Thread Cert.SsmDgluRefIdeal.nD Cert.SsmDgluRefIdeal.τ).loc Cert.SsmDgluRefIdeal.main_arg3))

def preserves_SsmDyg_SsmDygIdeal : Prop :=
  True

def algebraic_SsmDygIdeal_SsmDygRefIdeal [hSsmDygIdeal : Cert.SsmDygIdeal.Facts] [hSsmDygRefIdeal : Cert.SsmDygRefIdeal.Facts] : Prop :=
  ∀ (m : (ℓ : Loc Cert.SsmDygIdeal.nD Cert.SsmDygIdeal.τ Cert.SsmDygIdeal.sig) → Buf (Elt Ideal) ℓ) (g : Dev Cert.SsmDygIdeal.nD → PrngReg)
    (m' : (ℓ : Loc Cert.SsmDygRefIdeal.nD Cert.SsmDygRefIdeal.τ Cert.SsmDygRefIdeal.sig) → Buf (Elt Ideal) ℓ) (g' : Dev Cert.SsmDygRefIdeal.nD → PrngReg), Pre_SsmDygIdeal m →
    (∀ c : Dev Cert.SsmDygIdeal.nD,
      m' ((c.tc : Thread Cert.SsmDygRefIdeal.nD Cert.SsmDygRefIdeal.τ).loc Cert.SsmDygRefIdeal.main_arg0) = m ((c.tc : Thread Cert.SsmDygIdeal.nD Cert.SsmDygIdeal.τ).loc Cert.SsmDygIdeal.main_arg0)
      ∧ m' ((c.tc : Thread Cert.SsmDygRefIdeal.nD Cert.SsmDygRefIdeal.τ).loc Cert.SsmDygRefIdeal.main_arg1) = m ((c.tc : Thread Cert.SsmDygIdeal.nD Cert.SsmDygIdeal.τ).loc Cert.SsmDygIdeal.main_arg1)) →
    ∃ (v0 : (c : Dev Cert.SsmDygIdeal.nD) → Buf (Elt Ideal) ((c.tc : Thread Cert.SsmDygIdeal.nD Cert.SsmDygIdeal.τ).loc Cert.SsmDygIdeal.main_v0)),
      θ_run (Cert.SsmDygIdeal.defs (F := Ideal)) (onTc (τ := Cert.SsmDygIdeal.τ) (Cert.SsmDygIdeal.main (F := Ideal))) ⟨m, fun _ => 0, g⟩ (fun r => ∀ c : Dev Cert.SsmDygIdeal.nD,
          r.2.mem ((c.tc : Thread Cert.SsmDygIdeal.nD Cert.SsmDygIdeal.τ).loc Cert.SsmDygIdeal.main_v0) = v0 c
          ∧ r.2.mem ((c.tc : Thread Cert.SsmDygIdeal.nD Cert.SsmDygIdeal.τ).loc Cert.SsmDygIdeal.main_arg0) = m ((c.tc : Thread Cert.SsmDygIdeal.nD Cert.SsmDygIdeal.τ).loc Cert.SsmDygIdeal.main_arg0)
          ∧ r.2.mem ((c.tc : Thread Cert.SsmDygIdeal.nD Cert.SsmDygIdeal.τ).loc Cert.SsmDygIdeal.main_arg1) = m ((c.tc : Thread Cert.SsmDygIdeal.nD Cert.SsmDygIdeal.τ).loc Cert.SsmDygIdeal.main_arg1))
      ∧ θ_run (Cert.SsmDygRefIdeal.defs (F := Ideal)) (onTc (τ := Cert.SsmDygRefIdeal.τ) (Cert.SsmDygRefIdeal.main (F := Ideal))) ⟨m', fun _ => 0, g'⟩ (fun r => ∀ c : Dev Cert.SsmDygRefIdeal.nD,
          r.2.mem ((c.tc : Thread Cert.SsmDygRefIdeal.nD Cert.SsmDygRefIdeal.τ).loc Cert.SsmDygRefIdeal.main_v4) = v0 c
          ∧ r.2.mem ((c.tc : Thread Cert.SsmDygRefIdeal.nD Cert.SsmDygRefIdeal.τ).loc Cert.SsmDygRefIdeal.main_arg0) = m' ((c.tc : Thread Cert.SsmDygRefIdeal.nD Cert.SsmDygRefIdeal.τ).loc Cert.SsmDygRefIdeal.main_arg0)
          ∧ r.2.mem ((c.tc : Thread Cert.SsmDygRefIdeal.nD Cert.SsmDygRefIdeal.τ).loc Cert.SsmDygRefIdeal.main_arg1) = m' ((c.tc : Thread Cert.SsmDygRefIdeal.nD Cert.SsmDygRefIdeal.τ).loc Cert.SsmDygRefIdeal.main_arg1))

def preserves_SsmDygAdd_SsmDygAddIdeal : Prop :=
  True

def algebraic_SsmDygAddIdeal_SsmDygAddRefIdeal [hSsmDygAddIdeal : Cert.SsmDygAddIdeal.Facts] [hSsmDygAddRefIdeal : Cert.SsmDygAddRefIdeal.Facts] : Prop :=
  ∀ (m : (ℓ : Loc Cert.SsmDygAddIdeal.nD Cert.SsmDygAddIdeal.τ Cert.SsmDygAddIdeal.sig) → Buf (Elt Ideal) ℓ) (g : Dev Cert.SsmDygAddIdeal.nD → PrngReg)
    (m' : (ℓ : Loc Cert.SsmDygAddRefIdeal.nD Cert.SsmDygAddRefIdeal.τ Cert.SsmDygAddRefIdeal.sig) → Buf (Elt Ideal) ℓ) (g' : Dev Cert.SsmDygAddRefIdeal.nD → PrngReg), Pre_SsmDygAddIdeal m →
    (∀ c : Dev Cert.SsmDygAddIdeal.nD,
      m' ((c.tc : Thread Cert.SsmDygAddRefIdeal.nD Cert.SsmDygAddRefIdeal.τ).loc Cert.SsmDygAddRefIdeal.main_arg0) = m ((c.tc : Thread Cert.SsmDygAddIdeal.nD Cert.SsmDygAddIdeal.τ).loc Cert.SsmDygAddIdeal.main_arg0)
      ∧ m' ((c.tc : Thread Cert.SsmDygAddRefIdeal.nD Cert.SsmDygAddRefIdeal.τ).loc Cert.SsmDygAddRefIdeal.main_arg1) = m ((c.tc : Thread Cert.SsmDygAddIdeal.nD Cert.SsmDygAddIdeal.τ).loc Cert.SsmDygAddIdeal.main_arg1)
      ∧ m' ((c.tc : Thread Cert.SsmDygAddRefIdeal.nD Cert.SsmDygAddRefIdeal.τ).loc Cert.SsmDygAddRefIdeal.main_arg2) = m ((c.tc : Thread Cert.SsmDygAddIdeal.nD Cert.SsmDygAddIdeal.τ).loc Cert.SsmDygAddIdeal.main_arg2)) →
    ∃ (v0 : (c : Dev Cert.SsmDygAddIdeal.nD) → Buf (Elt Ideal) ((c.tc : Thread Cert.SsmDygAddIdeal.nD Cert.SsmDygAddIdeal.τ).loc Cert.SsmDygAddIdeal.main_v0)),
      θ_run (Cert.SsmDygAddIdeal.defs (F := Ideal)) (onTc (τ := Cert.SsmDygAddIdeal.τ) (Cert.SsmDygAddIdeal.main (F := Ideal))) ⟨m, fun _ => 0, g⟩ (fun r => ∀ c : Dev Cert.SsmDygAddIdeal.nD,
          r.2.mem ((c.tc : Thread Cert.SsmDygAddIdeal.nD Cert.SsmDygAddIdeal.τ).loc Cert.SsmDygAddIdeal.main_v0) = v0 c
          ∧ r.2.mem ((c.tc : Thread Cert.SsmDygAddIdeal.nD Cert.SsmDygAddIdeal.τ).loc Cert.SsmDygAddIdeal.main_arg0) = m ((c.tc : Thread Cert.SsmDygAddIdeal.nD Cert.SsmDygAddIdeal.τ).loc Cert.SsmDygAddIdeal.main_arg0)
          ∧ r.2.mem ((c.tc : Thread Cert.SsmDygAddIdeal.nD Cert.SsmDygAddIdeal.τ).loc Cert.SsmDygAddIdeal.main_arg1) = m ((c.tc : Thread Cert.SsmDygAddIdeal.nD Cert.SsmDygAddIdeal.τ).loc Cert.SsmDygAddIdeal.main_arg1)
          ∧ r.2.mem ((c.tc : Thread Cert.SsmDygAddIdeal.nD Cert.SsmDygAddIdeal.τ).loc Cert.SsmDygAddIdeal.main_arg2) = m ((c.tc : Thread Cert.SsmDygAddIdeal.nD Cert.SsmDygAddIdeal.τ).loc Cert.SsmDygAddIdeal.main_arg2))
      ∧ θ_run (Cert.SsmDygAddRefIdeal.defs (F := Ideal)) (onTc (τ := Cert.SsmDygAddRefIdeal.τ) (Cert.SsmDygAddRefIdeal.main (F := Ideal))) ⟨m', fun _ => 0, g'⟩ (fun r => ∀ c : Dev Cert.SsmDygAddRefIdeal.nD,
          r.2.mem ((c.tc : Thread Cert.SsmDygAddRefIdeal.nD Cert.SsmDygAddRefIdeal.τ).loc Cert.SsmDygAddRefIdeal.main_v5) = v0 c
          ∧ r.2.mem ((c.tc : Thread Cert.SsmDygAddRefIdeal.nD Cert.SsmDygAddRefIdeal.τ).loc Cert.SsmDygAddRefIdeal.main_arg0) = m' ((c.tc : Thread Cert.SsmDygAddRefIdeal.nD Cert.SsmDygAddRefIdeal.τ).loc Cert.SsmDygAddRefIdeal.main_arg0)
          ∧ r.2.mem ((c.tc : Thread Cert.SsmDygAddRefIdeal.nD Cert.SsmDygAddRefIdeal.τ).loc Cert.SsmDygAddRefIdeal.main_arg1) = m' ((c.tc : Thread Cert.SsmDygAddRefIdeal.nD Cert.SsmDygAddRefIdeal.τ).loc Cert.SsmDygAddRefIdeal.main_arg1)
          ∧ r.2.mem ((c.tc : Thread Cert.SsmDygAddRefIdeal.nD Cert.SsmDygAddRefIdeal.τ).loc Cert.SsmDygAddRefIdeal.main_arg2) = m' ((c.tc : Thread Cert.SsmDygAddRefIdeal.nD Cert.SsmDygAddRefIdeal.τ).loc Cert.SsmDygAddRefIdeal.main_arg2))

def preserves_SsmDwout_SsmDwoutIdeal : Prop :=
  True

def algebraic_SsmDwoutIdeal_SsmDwoutRefIdeal [hSsmDwoutIdeal : Cert.SsmDwoutIdeal.Facts] [hSsmDwoutRefIdeal : Cert.SsmDwoutRefIdeal.Facts] : Prop :=
  ∀ (m : (ℓ : Loc Cert.SsmDwoutIdeal.nD Cert.SsmDwoutIdeal.τ Cert.SsmDwoutIdeal.sig) → Buf (Elt Ideal) ℓ) (g : Dev Cert.SsmDwoutIdeal.nD → PrngReg)
    (m' : (ℓ : Loc Cert.SsmDwoutRefIdeal.nD Cert.SsmDwoutRefIdeal.τ Cert.SsmDwoutRefIdeal.sig) → Buf (Elt Ideal) ℓ) (g' : Dev Cert.SsmDwoutRefIdeal.nD → PrngReg), Pre_SsmDwoutIdeal m →
    (∀ c : Dev Cert.SsmDwoutIdeal.nD,
      m' ((c.tc : Thread Cert.SsmDwoutRefIdeal.nD Cert.SsmDwoutRefIdeal.τ).loc Cert.SsmDwoutRefIdeal.main_arg0) = m ((c.tc : Thread Cert.SsmDwoutIdeal.nD Cert.SsmDwoutIdeal.τ).loc Cert.SsmDwoutIdeal.main_arg0)
      ∧ m' ((c.tc : Thread Cert.SsmDwoutRefIdeal.nD Cert.SsmDwoutRefIdeal.τ).loc Cert.SsmDwoutRefIdeal.main_arg1) = m ((c.tc : Thread Cert.SsmDwoutIdeal.nD Cert.SsmDwoutIdeal.τ).loc Cert.SsmDwoutIdeal.main_arg1)) →
    ∃ (v0 : (c : Dev Cert.SsmDwoutIdeal.nD) → Buf (Elt Ideal) ((c.tc : Thread Cert.SsmDwoutIdeal.nD Cert.SsmDwoutIdeal.τ).loc Cert.SsmDwoutIdeal.main_v0)),
      θ_run (Cert.SsmDwoutIdeal.defs (F := Ideal)) (onTc (τ := Cert.SsmDwoutIdeal.τ) (Cert.SsmDwoutIdeal.main (F := Ideal))) ⟨m, fun _ => 0, g⟩ (fun r => ∀ c : Dev Cert.SsmDwoutIdeal.nD,
          r.2.mem ((c.tc : Thread Cert.SsmDwoutIdeal.nD Cert.SsmDwoutIdeal.τ).loc Cert.SsmDwoutIdeal.main_v0) = v0 c
          ∧ r.2.mem ((c.tc : Thread Cert.SsmDwoutIdeal.nD Cert.SsmDwoutIdeal.τ).loc Cert.SsmDwoutIdeal.main_arg0) = m ((c.tc : Thread Cert.SsmDwoutIdeal.nD Cert.SsmDwoutIdeal.τ).loc Cert.SsmDwoutIdeal.main_arg0)
          ∧ r.2.mem ((c.tc : Thread Cert.SsmDwoutIdeal.nD Cert.SsmDwoutIdeal.τ).loc Cert.SsmDwoutIdeal.main_arg1) = m ((c.tc : Thread Cert.SsmDwoutIdeal.nD Cert.SsmDwoutIdeal.τ).loc Cert.SsmDwoutIdeal.main_arg1))
      ∧ θ_run (Cert.SsmDwoutRefIdeal.defs (F := Ideal)) (onTc (τ := Cert.SsmDwoutRefIdeal.τ) (Cert.SsmDwoutRefIdeal.main (F := Ideal))) ⟨m', fun _ => 0, g'⟩ (fun r => ∀ c : Dev Cert.SsmDwoutRefIdeal.nD,
          r.2.mem ((c.tc : Thread Cert.SsmDwoutRefIdeal.nD Cert.SsmDwoutRefIdeal.τ).loc Cert.SsmDwoutRefIdeal.main_v7) = v0 c
          ∧ r.2.mem ((c.tc : Thread Cert.SsmDwoutRefIdeal.nD Cert.SsmDwoutRefIdeal.τ).loc Cert.SsmDwoutRefIdeal.main_arg0) = m' ((c.tc : Thread Cert.SsmDwoutRefIdeal.nD Cert.SsmDwoutRefIdeal.τ).loc Cert.SsmDwoutRefIdeal.main_arg0)
          ∧ r.2.mem ((c.tc : Thread Cert.SsmDwoutRefIdeal.nD Cert.SsmDwoutRefIdeal.τ).loc Cert.SsmDwoutRefIdeal.main_arg1) = m' ((c.tc : Thread Cert.SsmDwoutRefIdeal.nD Cert.SsmDwoutRefIdeal.τ).loc Cert.SsmDwoutRefIdeal.main_arg1))

def preserves_SsmDwin_SsmDwinIdeal : Prop :=
  True

def algebraic_SsmDwinIdeal_SsmDwinRefIdeal [hSsmDwinIdeal : Cert.SsmDwinIdeal.Facts] [hSsmDwinRefIdeal : Cert.SsmDwinRefIdeal.Facts] : Prop :=
  ∀ (m : (ℓ : Loc Cert.SsmDwinIdeal.nD Cert.SsmDwinIdeal.τ Cert.SsmDwinIdeal.sig) → Buf (Elt Ideal) ℓ) (g : Dev Cert.SsmDwinIdeal.nD → PrngReg)
    (m' : (ℓ : Loc Cert.SsmDwinRefIdeal.nD Cert.SsmDwinRefIdeal.τ Cert.SsmDwinRefIdeal.sig) → Buf (Elt Ideal) ℓ) (g' : Dev Cert.SsmDwinRefIdeal.nD → PrngReg), Pre_SsmDwinIdeal m →
    (∀ c : Dev Cert.SsmDwinIdeal.nD,
      m' ((c.tc : Thread Cert.SsmDwinRefIdeal.nD Cert.SsmDwinRefIdeal.τ).loc Cert.SsmDwinRefIdeal.main_arg0) = m ((c.tc : Thread Cert.SsmDwinIdeal.nD Cert.SsmDwinIdeal.τ).loc Cert.SsmDwinIdeal.main_arg0)
      ∧ m' ((c.tc : Thread Cert.SsmDwinRefIdeal.nD Cert.SsmDwinRefIdeal.τ).loc Cert.SsmDwinRefIdeal.main_arg1) = m ((c.tc : Thread Cert.SsmDwinIdeal.nD Cert.SsmDwinIdeal.τ).loc Cert.SsmDwinIdeal.main_arg1)) →
    ∃ (v0 : (c : Dev Cert.SsmDwinIdeal.nD) → Buf (Elt Ideal) ((c.tc : Thread Cert.SsmDwinIdeal.nD Cert.SsmDwinIdeal.τ).loc Cert.SsmDwinIdeal.main_v0)),
      θ_run (Cert.SsmDwinIdeal.defs (F := Ideal)) (onTc (τ := Cert.SsmDwinIdeal.τ) (Cert.SsmDwinIdeal.main (F := Ideal))) ⟨m, fun _ => 0, g⟩ (fun r => ∀ c : Dev Cert.SsmDwinIdeal.nD,
          r.2.mem ((c.tc : Thread Cert.SsmDwinIdeal.nD Cert.SsmDwinIdeal.τ).loc Cert.SsmDwinIdeal.main_v0) = v0 c
          ∧ r.2.mem ((c.tc : Thread Cert.SsmDwinIdeal.nD Cert.SsmDwinIdeal.τ).loc Cert.SsmDwinIdeal.main_arg0) = m ((c.tc : Thread Cert.SsmDwinIdeal.nD Cert.SsmDwinIdeal.τ).loc Cert.SsmDwinIdeal.main_arg0)
          ∧ r.2.mem ((c.tc : Thread Cert.SsmDwinIdeal.nD Cert.SsmDwinIdeal.τ).loc Cert.SsmDwinIdeal.main_arg1) = m ((c.tc : Thread Cert.SsmDwinIdeal.nD Cert.SsmDwinIdeal.τ).loc Cert.SsmDwinIdeal.main_arg1))
      ∧ θ_run (Cert.SsmDwinRefIdeal.defs (F := Ideal)) (onTc (τ := Cert.SsmDwinRefIdeal.τ) (Cert.SsmDwinRefIdeal.main (F := Ideal))) ⟨m', fun _ => 0, g'⟩ (fun r => ∀ c : Dev Cert.SsmDwinRefIdeal.nD,
          r.2.mem ((c.tc : Thread Cert.SsmDwinRefIdeal.nD Cert.SsmDwinRefIdeal.τ).loc Cert.SsmDwinRefIdeal.main_v6) = v0 c
          ∧ r.2.mem ((c.tc : Thread Cert.SsmDwinRefIdeal.nD Cert.SsmDwinRefIdeal.τ).loc Cert.SsmDwinRefIdeal.main_arg0) = m' ((c.tc : Thread Cert.SsmDwinRefIdeal.nD Cert.SsmDwinRefIdeal.τ).loc Cert.SsmDwinRefIdeal.main_arg0)
          ∧ r.2.mem ((c.tc : Thread Cert.SsmDwinRefIdeal.nD Cert.SsmDwinRefIdeal.τ).loc Cert.SsmDwinRefIdeal.main_arg1) = m' ((c.tc : Thread Cert.SsmDwinRefIdeal.nD Cert.SsmDwinRefIdeal.τ).loc Cert.SsmDwinRefIdeal.main_arg1))

def preserves_SsmDn_SsmDnIdeal : Prop :=
  True

def algebraic_SsmDnIdeal_SsmDnRefIdeal [hSsmDnIdeal : Cert.SsmDnIdeal.Facts] [hSsmDnRefIdeal : Cert.SsmDnRefIdeal.Facts] : Prop :=
  ∀ (m : (ℓ : Loc Cert.SsmDnIdeal.nD Cert.SsmDnIdeal.τ Cert.SsmDnIdeal.sig) → Buf (Elt Ideal) ℓ) (g : Dev Cert.SsmDnIdeal.nD → PrngReg)
    (m' : (ℓ : Loc Cert.SsmDnRefIdeal.nD Cert.SsmDnRefIdeal.τ Cert.SsmDnRefIdeal.sig) → Buf (Elt Ideal) ℓ) (g' : Dev Cert.SsmDnRefIdeal.nD → PrngReg), Pre_SsmDnIdeal m →
    (∀ c : Dev Cert.SsmDnIdeal.nD,
      m' ((c.tc : Thread Cert.SsmDnRefIdeal.nD Cert.SsmDnRefIdeal.τ).loc Cert.SsmDnRefIdeal.main_arg0) = m ((c.tc : Thread Cert.SsmDnIdeal.nD Cert.SsmDnIdeal.τ).loc Cert.SsmDnIdeal.main_arg0)
      ∧ m' ((c.tc : Thread Cert.SsmDnRefIdeal.nD Cert.SsmDnRefIdeal.τ).loc Cert.SsmDnRefIdeal.main_arg1) = m ((c.tc : Thread Cert.SsmDnIdeal.nD Cert.SsmDnIdeal.τ).loc Cert.SsmDnIdeal.main_arg1)) →
    ∃ (v0 : (c : Dev Cert.SsmDnIdeal.nD) → Buf (Elt Ideal) ((c.tc : Thread Cert.SsmDnIdeal.nD Cert.SsmDnIdeal.τ).loc Cert.SsmDnIdeal.main_v0)),
      θ_run (Cert.SsmDnIdeal.defs (F := Ideal)) (onTc (τ := Cert.SsmDnIdeal.τ) (Cert.SsmDnIdeal.main (F := Ideal))) ⟨m, fun _ => 0, g⟩ (fun r => ∀ c : Dev Cert.SsmDnIdeal.nD,
          r.2.mem ((c.tc : Thread Cert.SsmDnIdeal.nD Cert.SsmDnIdeal.τ).loc Cert.SsmDnIdeal.main_v0) = v0 c
          ∧ r.2.mem ((c.tc : Thread Cert.SsmDnIdeal.nD Cert.SsmDnIdeal.τ).loc Cert.SsmDnIdeal.main_arg0) = m ((c.tc : Thread Cert.SsmDnIdeal.nD Cert.SsmDnIdeal.τ).loc Cert.SsmDnIdeal.main_arg0)
          ∧ r.2.mem ((c.tc : Thread Cert.SsmDnIdeal.nD Cert.SsmDnIdeal.τ).loc Cert.SsmDnIdeal.main_arg1) = m ((c.tc : Thread Cert.SsmDnIdeal.nD Cert.SsmDnIdeal.τ).loc Cert.SsmDnIdeal.main_arg1))
      ∧ θ_run (Cert.SsmDnRefIdeal.defs (F := Ideal)) (onTc (τ := Cert.SsmDnRefIdeal.τ) (Cert.SsmDnRefIdeal.main (F := Ideal))) ⟨m', fun _ => 0, g'⟩ (fun r => ∀ c : Dev Cert.SsmDnRefIdeal.nD,
          r.2.mem ((c.tc : Thread Cert.SsmDnRefIdeal.nD Cert.SsmDnRefIdeal.τ).loc Cert.SsmDnRefIdeal.main_v3) = v0 c
          ∧ r.2.mem ((c.tc : Thread Cert.SsmDnRefIdeal.nD Cert.SsmDnRefIdeal.τ).loc Cert.SsmDnRefIdeal.main_arg0) = m' ((c.tc : Thread Cert.SsmDnRefIdeal.nD Cert.SsmDnRefIdeal.τ).loc Cert.SsmDnRefIdeal.main_arg0)
          ∧ r.2.mem ((c.tc : Thread Cert.SsmDnRefIdeal.nD Cert.SsmDnRefIdeal.τ).loc Cert.SsmDnRefIdeal.main_arg1) = m' ((c.tc : Thread Cert.SsmDnRefIdeal.nD Cert.SsmDnRefIdeal.τ).loc Cert.SsmDnRefIdeal.main_arg1))

def preserves_SsmDhRe_SsmDhReIdeal : Prop :=
  True

def algebraic_SsmDhReIdeal_SsmDhReRefIdeal [hSsmDhReIdeal : Cert.SsmDhReIdeal.Facts] [hSsmDhReRefIdeal : Cert.SsmDhReRefIdeal.Facts] : Prop :=
  ∀ (m : (ℓ : Loc Cert.SsmDhReIdeal.nD Cert.SsmDhReIdeal.τ Cert.SsmDhReIdeal.sig) → Buf (Elt Ideal) ℓ) (g : Dev Cert.SsmDhReIdeal.nD → PrngReg)
    (m' : (ℓ : Loc Cert.SsmDhReRefIdeal.nD Cert.SsmDhReRefIdeal.τ Cert.SsmDhReRefIdeal.sig) → Buf (Elt Ideal) ℓ) (g' : Dev Cert.SsmDhReRefIdeal.nD → PrngReg), Pre_SsmDhReIdeal m →
    (∀ c : Dev Cert.SsmDhReIdeal.nD,
      m' ((c.tc : Thread Cert.SsmDhReRefIdeal.nD Cert.SsmDhReRefIdeal.τ).loc Cert.SsmDhReRefIdeal.main_arg0) = m ((c.tc : Thread Cert.SsmDhReIdeal.nD Cert.SsmDhReIdeal.τ).loc Cert.SsmDhReIdeal.main_arg0)
      ∧ m' ((c.tc : Thread Cert.SsmDhReRefIdeal.nD Cert.SsmDhReRefIdeal.τ).loc Cert.SsmDhReRefIdeal.main_arg1) = m ((c.tc : Thread Cert.SsmDhReIdeal.nD Cert.SsmDhReIdeal.τ).loc Cert.SsmDhReIdeal.main_arg1)) →
    ∃ (v0 : (c : Dev Cert.SsmDhReIdeal.nD) → Buf (Elt Ideal) ((c.tc : Thread Cert.SsmDhReIdeal.nD Cert.SsmDhReIdeal.τ).loc Cert.SsmDhReIdeal.main_v13)),
      θ_run (Cert.SsmDhReIdeal.defs (F := Ideal)) (onTc (τ := Cert.SsmDhReIdeal.τ) (Cert.SsmDhReIdeal.main (F := Ideal))) ⟨m, fun _ => 0, g⟩ (fun r => ∀ c : Dev Cert.SsmDhReIdeal.nD,
          r.2.mem ((c.tc : Thread Cert.SsmDhReIdeal.nD Cert.SsmDhReIdeal.τ).loc Cert.SsmDhReIdeal.main_v13) = v0 c
          ∧ r.2.mem ((c.tc : Thread Cert.SsmDhReIdeal.nD Cert.SsmDhReIdeal.τ).loc Cert.SsmDhReIdeal.main_arg0) = m ((c.tc : Thread Cert.SsmDhReIdeal.nD Cert.SsmDhReIdeal.τ).loc Cert.SsmDhReIdeal.main_arg0)
          ∧ r.2.mem ((c.tc : Thread Cert.SsmDhReIdeal.nD Cert.SsmDhReIdeal.τ).loc Cert.SsmDhReIdeal.main_arg1) = m ((c.tc : Thread Cert.SsmDhReIdeal.nD Cert.SsmDhReIdeal.τ).loc Cert.SsmDhReIdeal.main_arg1))
      ∧ θ_run (Cert.SsmDhReRefIdeal.defs (F := Ideal)) (onTc (τ := Cert.SsmDhReRefIdeal.τ) (Cert.SsmDhReRefIdeal.main (F := Ideal))) ⟨m', fun _ => 0, g'⟩ (fun r => ∀ c : Dev Cert.SsmDhReRefIdeal.nD,
          r.2.mem ((c.tc : Thread Cert.SsmDhReRefIdeal.nD Cert.SsmDhReRefIdeal.τ).loc Cert.SsmDhReRefIdeal.main_v9) = v0 c
          ∧ r.2.mem ((c.tc : Thread Cert.SsmDhReRefIdeal.nD Cert.SsmDhReRefIdeal.τ).loc Cert.SsmDhReRefIdeal.main_arg0) = m' ((c.tc : Thread Cert.SsmDhReRefIdeal.nD Cert.SsmDhReRefIdeal.τ).loc Cert.SsmDhReRefIdeal.main_arg0)
          ∧ r.2.mem ((c.tc : Thread Cert.SsmDhReRefIdeal.nD Cert.SsmDhReRefIdeal.τ).loc Cert.SsmDhReRefIdeal.main_arg1) = m' ((c.tc : Thread Cert.SsmDhReRefIdeal.nD Cert.SsmDhReRefIdeal.τ).loc Cert.SsmDhReRefIdeal.main_arg1))

def preserves_SsmDhIm_SsmDhImIdeal : Prop :=
  True

def algebraic_SsmDhImIdeal_SsmDhImRefIdeal [hSsmDhImIdeal : Cert.SsmDhImIdeal.Facts] [hSsmDhImRefIdeal : Cert.SsmDhImRefIdeal.Facts] : Prop :=
  ∀ (m : (ℓ : Loc Cert.SsmDhImIdeal.nD Cert.SsmDhImIdeal.τ Cert.SsmDhImIdeal.sig) → Buf (Elt Ideal) ℓ) (g : Dev Cert.SsmDhImIdeal.nD → PrngReg)
    (m' : (ℓ : Loc Cert.SsmDhImRefIdeal.nD Cert.SsmDhImRefIdeal.τ Cert.SsmDhImRefIdeal.sig) → Buf (Elt Ideal) ℓ) (g' : Dev Cert.SsmDhImRefIdeal.nD → PrngReg), Pre_SsmDhImIdeal m →
    (∀ c : Dev Cert.SsmDhImIdeal.nD,
      m' ((c.tc : Thread Cert.SsmDhImRefIdeal.nD Cert.SsmDhImRefIdeal.τ).loc Cert.SsmDhImRefIdeal.main_arg0) = m ((c.tc : Thread Cert.SsmDhImIdeal.nD Cert.SsmDhImIdeal.τ).loc Cert.SsmDhImIdeal.main_arg0)
      ∧ m' ((c.tc : Thread Cert.SsmDhImRefIdeal.nD Cert.SsmDhImRefIdeal.τ).loc Cert.SsmDhImRefIdeal.main_arg1) = m ((c.tc : Thread Cert.SsmDhImIdeal.nD Cert.SsmDhImIdeal.τ).loc Cert.SsmDhImIdeal.main_arg1)) →
    ∃ (v0 : (c : Dev Cert.SsmDhImIdeal.nD) → Buf (Elt Ideal) ((c.tc : Thread Cert.SsmDhImIdeal.nD Cert.SsmDhImIdeal.τ).loc Cert.SsmDhImIdeal.main_v14)),
      θ_run (Cert.SsmDhImIdeal.defs (F := Ideal)) (onTc (τ := Cert.SsmDhImIdeal.τ) (Cert.SsmDhImIdeal.main (F := Ideal))) ⟨m, fun _ => 0, g⟩ (fun r => ∀ c : Dev Cert.SsmDhImIdeal.nD,
          r.2.mem ((c.tc : Thread Cert.SsmDhImIdeal.nD Cert.SsmDhImIdeal.τ).loc Cert.SsmDhImIdeal.main_v14) = v0 c
          ∧ r.2.mem ((c.tc : Thread Cert.SsmDhImIdeal.nD Cert.SsmDhImIdeal.τ).loc Cert.SsmDhImIdeal.main_arg0) = m ((c.tc : Thread Cert.SsmDhImIdeal.nD Cert.SsmDhImIdeal.τ).loc Cert.SsmDhImIdeal.main_arg0)
          ∧ r.2.mem ((c.tc : Thread Cert.SsmDhImIdeal.nD Cert.SsmDhImIdeal.τ).loc Cert.SsmDhImIdeal.main_arg1) = m ((c.tc : Thread Cert.SsmDhImIdeal.nD Cert.SsmDhImIdeal.τ).loc Cert.SsmDhImIdeal.main_arg1))
      ∧ θ_run (Cert.SsmDhImRefIdeal.defs (F := Ideal)) (onTc (τ := Cert.SsmDhImRefIdeal.τ) (Cert.SsmDhImRefIdeal.main (F := Ideal))) ⟨m', fun _ => 0, g'⟩ (fun r => ∀ c : Dev Cert.SsmDhImRefIdeal.nD,
          r.2.mem ((c.tc : Thread Cert.SsmDhImRefIdeal.nD Cert.SsmDhImRefIdeal.τ).loc Cert.SsmDhImRefIdeal.main_v11) = v0 c
          ∧ r.2.mem ((c.tc : Thread Cert.SsmDhImRefIdeal.nD Cert.SsmDhImRefIdeal.τ).loc Cert.SsmDhImRefIdeal.main_arg0) = m' ((c.tc : Thread Cert.SsmDhImRefIdeal.nD Cert.SsmDhImRefIdeal.τ).loc Cert.SsmDhImRefIdeal.main_arg0)
          ∧ r.2.mem ((c.tc : Thread Cert.SsmDhImRefIdeal.nD Cert.SsmDhImRefIdeal.τ).loc Cert.SsmDhImRefIdeal.main_arg1) = m' ((c.tc : Thread Cert.SsmDhImRefIdeal.nD Cert.SsmDhImRefIdeal.τ).loc Cert.SsmDhImRefIdeal.main_arg1))

def preserves_SsmDu_SsmDuIdeal : Prop :=
  True

def algebraic_SsmDuIdeal_SsmDuRefIdeal [hSsmDuIdeal : Cert.SsmDuIdeal.Facts] [hSsmDuRefIdeal : Cert.SsmDuRefIdeal.Facts] : Prop :=
  ∀ (m : (ℓ : Loc Cert.SsmDuIdeal.nD Cert.SsmDuIdeal.τ Cert.SsmDuIdeal.sig) → Buf (Elt Ideal) ℓ) (g : Dev Cert.SsmDuIdeal.nD → PrngReg)
    (m' : (ℓ : Loc Cert.SsmDuRefIdeal.nD Cert.SsmDuRefIdeal.τ Cert.SsmDuRefIdeal.sig) → Buf (Elt Ideal) ℓ) (g' : Dev Cert.SsmDuRefIdeal.nD → PrngReg), Pre_SsmDuIdeal m →
    (∀ c : Dev Cert.SsmDuIdeal.nD,
      m' ((c.tc : Thread Cert.SsmDuRefIdeal.nD Cert.SsmDuRefIdeal.τ).loc Cert.SsmDuRefIdeal.main_arg0) = m ((c.tc : Thread Cert.SsmDuIdeal.nD Cert.SsmDuIdeal.τ).loc Cert.SsmDuIdeal.main_arg0)
      ∧ m' ((c.tc : Thread Cert.SsmDuRefIdeal.nD Cert.SsmDuRefIdeal.τ).loc Cert.SsmDuRefIdeal.main_arg1) = m ((c.tc : Thread Cert.SsmDuIdeal.nD Cert.SsmDuIdeal.τ).loc Cert.SsmDuIdeal.main_arg1)
      ∧ m' ((c.tc : Thread Cert.SsmDuRefIdeal.nD Cert.SsmDuRefIdeal.τ).loc Cert.SsmDuRefIdeal.main_arg2) = m ((c.tc : Thread Cert.SsmDuIdeal.nD Cert.SsmDuIdeal.τ).loc Cert.SsmDuIdeal.main_arg2)) →
    ∃ (v0 : (c : Dev Cert.SsmDuIdeal.nD) → Buf (Elt Ideal) ((c.tc : Thread Cert.SsmDuIdeal.nD Cert.SsmDuIdeal.τ).loc Cert.SsmDuIdeal.main_v14)),
      θ_run (Cert.SsmDuIdeal.defs (F := Ideal)) (onTc (τ := Cert.SsmDuIdeal.τ) (Cert.SsmDuIdeal.main (F := Ideal))) ⟨m, fun _ => 0, g⟩ (fun r => ∀ c : Dev Cert.SsmDuIdeal.nD,
          r.2.mem ((c.tc : Thread Cert.SsmDuIdeal.nD Cert.SsmDuIdeal.τ).loc Cert.SsmDuIdeal.main_v14) = v0 c
          ∧ r.2.mem ((c.tc : Thread Cert.SsmDuIdeal.nD Cert.SsmDuIdeal.τ).loc Cert.SsmDuIdeal.main_arg0) = m ((c.tc : Thread Cert.SsmDuIdeal.nD Cert.SsmDuIdeal.τ).loc Cert.SsmDuIdeal.main_arg0)
          ∧ r.2.mem ((c.tc : Thread Cert.SsmDuIdeal.nD Cert.SsmDuIdeal.τ).loc Cert.SsmDuIdeal.main_arg1) = m ((c.tc : Thread Cert.SsmDuIdeal.nD Cert.SsmDuIdeal.τ).loc Cert.SsmDuIdeal.main_arg1)
          ∧ r.2.mem ((c.tc : Thread Cert.SsmDuIdeal.nD Cert.SsmDuIdeal.τ).loc Cert.SsmDuIdeal.main_arg2) = m ((c.tc : Thread Cert.SsmDuIdeal.nD Cert.SsmDuIdeal.τ).loc Cert.SsmDuIdeal.main_arg2))
      ∧ θ_run (Cert.SsmDuRefIdeal.defs (F := Ideal)) (onTc (τ := Cert.SsmDuRefIdeal.τ) (Cert.SsmDuRefIdeal.main (F := Ideal))) ⟨m', fun _ => 0, g'⟩ (fun r => ∀ c : Dev Cert.SsmDuRefIdeal.nD,
          r.2.mem ((c.tc : Thread Cert.SsmDuRefIdeal.nD Cert.SsmDuRefIdeal.τ).loc Cert.SsmDuRefIdeal.main_v11) = v0 c
          ∧ r.2.mem ((c.tc : Thread Cert.SsmDuRefIdeal.nD Cert.SsmDuRefIdeal.τ).loc Cert.SsmDuRefIdeal.main_arg0) = m' ((c.tc : Thread Cert.SsmDuRefIdeal.nD Cert.SsmDuRefIdeal.τ).loc Cert.SsmDuRefIdeal.main_arg0)
          ∧ r.2.mem ((c.tc : Thread Cert.SsmDuRefIdeal.nD Cert.SsmDuRefIdeal.τ).loc Cert.SsmDuRefIdeal.main_arg1) = m' ((c.tc : Thread Cert.SsmDuRefIdeal.nD Cert.SsmDuRefIdeal.τ).loc Cert.SsmDuRefIdeal.main_arg1)
          ∧ r.2.mem ((c.tc : Thread Cert.SsmDuRefIdeal.nD Cert.SsmDuRefIdeal.τ).loc Cert.SsmDuRefIdeal.main_arg2) = m' ((c.tc : Thread Cert.SsmDuRefIdeal.nD Cert.SsmDuRefIdeal.τ).loc Cert.SsmDuRefIdeal.main_arg2))

def preserves_SsmBu_SsmBuIdeal : Prop :=
  True

def algebraic_SsmBuIdeal_SsmBuRefIdeal [hSsmBuIdeal : Cert.SsmBuIdeal.Facts] [hSsmBuRefIdeal : Cert.SsmBuRefIdeal.Facts] : Prop :=
  ∀ (m : (ℓ : Loc Cert.SsmBuIdeal.nD Cert.SsmBuIdeal.τ Cert.SsmBuIdeal.sig) → Buf (Elt Ideal) ℓ) (g : Dev Cert.SsmBuIdeal.nD → PrngReg)
    (m' : (ℓ : Loc Cert.SsmBuRefIdeal.nD Cert.SsmBuRefIdeal.τ Cert.SsmBuRefIdeal.sig) → Buf (Elt Ideal) ℓ) (g' : Dev Cert.SsmBuRefIdeal.nD → PrngReg), Pre_SsmBuIdeal m →
    (∀ c : Dev Cert.SsmBuIdeal.nD,
      m' ((c.tc : Thread Cert.SsmBuRefIdeal.nD Cert.SsmBuRefIdeal.τ).loc Cert.SsmBuRefIdeal.main_arg0) = m ((c.tc : Thread Cert.SsmBuIdeal.nD Cert.SsmBuIdeal.τ).loc Cert.SsmBuIdeal.main_arg0)
      ∧ m' ((c.tc : Thread Cert.SsmBuRefIdeal.nD Cert.SsmBuRefIdeal.τ).loc Cert.SsmBuRefIdeal.main_arg1) = m ((c.tc : Thread Cert.SsmBuIdeal.nD Cert.SsmBuIdeal.τ).loc Cert.SsmBuIdeal.main_arg1)) →
    ∃ (v0 : (c : Dev Cert.SsmBuIdeal.nD) → Buf (Elt Ideal) ((c.tc : Thread Cert.SsmBuIdeal.nD Cert.SsmBuIdeal.τ).loc Cert.SsmBuIdeal.main_v14)),
      θ_run (Cert.SsmBuIdeal.defs (F := Ideal)) (onTc (τ := Cert.SsmBuIdeal.τ) (Cert.SsmBuIdeal.main (F := Ideal))) ⟨m, fun _ => 0, g⟩ (fun r => ∀ c : Dev Cert.SsmBuIdeal.nD,
          r.2.mem ((c.tc : Thread Cert.SsmBuIdeal.nD Cert.SsmBuIdeal.τ).loc Cert.SsmBuIdeal.main_v14) = v0 c
          ∧ r.2.mem ((c.tc : Thread Cert.SsmBuIdeal.nD Cert.SsmBuIdeal.τ).loc Cert.SsmBuIdeal.main_arg0) = m ((c.tc : Thread Cert.SsmBuIdeal.nD Cert.SsmBuIdeal.τ).loc Cert.SsmBuIdeal.main_arg0)
          ∧ r.2.mem ((c.tc : Thread Cert.SsmBuIdeal.nD Cert.SsmBuIdeal.τ).loc Cert.SsmBuIdeal.main_arg1) = m ((c.tc : Thread Cert.SsmBuIdeal.nD Cert.SsmBuIdeal.τ).loc Cert.SsmBuIdeal.main_arg1))
      ∧ θ_run (Cert.SsmBuRefIdeal.defs (F := Ideal)) (onTc (τ := Cert.SsmBuRefIdeal.τ) (Cert.SsmBuRefIdeal.main (F := Ideal))) ⟨m', fun _ => 0, g'⟩ (fun r => ∀ c : Dev Cert.SsmBuRefIdeal.nD,
          r.2.mem ((c.tc : Thread Cert.SsmBuRefIdeal.nD Cert.SsmBuRefIdeal.τ).loc Cert.SsmBuRefIdeal.main_v4) = v0 c
          ∧ r.2.mem ((c.tc : Thread Cert.SsmBuRefIdeal.nD Cert.SsmBuRefIdeal.τ).loc Cert.SsmBuRefIdeal.main_arg0) = m' ((c.tc : Thread Cert.SsmBuRefIdeal.nD Cert.SsmBuRefIdeal.τ).loc Cert.SsmBuRefIdeal.main_arg0)
          ∧ r.2.mem ((c.tc : Thread Cert.SsmBuRefIdeal.nD Cert.SsmBuRefIdeal.τ).loc Cert.SsmBuRefIdeal.main_arg1) = m' ((c.tc : Thread Cert.SsmBuRefIdeal.nD Cert.SsmBuRefIdeal.τ).loc Cert.SsmBuRefIdeal.main_arg1))

def preserves_SsmY_SsmYIdeal : Prop :=
  True

def algebraic_SsmYIdeal_SsmYRefIdeal [hSsmYIdeal : Cert.SsmYIdeal.Facts] [hSsmYRefIdeal : Cert.SsmYRefIdeal.Facts] : Prop :=
  ∀ (m : (ℓ : Loc Cert.SsmYIdeal.nD Cert.SsmYIdeal.τ Cert.SsmYIdeal.sig) → Buf (Elt Ideal) ℓ) (g : Dev Cert.SsmYIdeal.nD → PrngReg)
    (m' : (ℓ : Loc Cert.SsmYRefIdeal.nD Cert.SsmYRefIdeal.τ Cert.SsmYRefIdeal.sig) → Buf (Elt Ideal) ℓ) (g' : Dev Cert.SsmYRefIdeal.nD → PrngReg), Pre_SsmYIdeal m →
    (∀ c : Dev Cert.SsmYIdeal.nD,
      m' ((c.tc : Thread Cert.SsmYRefIdeal.nD Cert.SsmYRefIdeal.τ).loc Cert.SsmYRefIdeal.main_arg0) = m ((c.tc : Thread Cert.SsmYIdeal.nD Cert.SsmYIdeal.τ).loc Cert.SsmYIdeal.main_arg0)
      ∧ m' ((c.tc : Thread Cert.SsmYRefIdeal.nD Cert.SsmYRefIdeal.τ).loc Cert.SsmYRefIdeal.main_arg1) = m ((c.tc : Thread Cert.SsmYIdeal.nD Cert.SsmYIdeal.τ).loc Cert.SsmYIdeal.main_arg1)) →
    ∃ (v0 : (c : Dev Cert.SsmYIdeal.nD) → Buf (Elt Ideal) ((c.tc : Thread Cert.SsmYIdeal.nD Cert.SsmYIdeal.τ).loc Cert.SsmYIdeal.main_v13)),
      θ_run (Cert.SsmYIdeal.defs (F := Ideal)) (onTc (τ := Cert.SsmYIdeal.τ) (Cert.SsmYIdeal.main (F := Ideal))) ⟨m, fun _ => 0, g⟩ (fun r => ∀ c : Dev Cert.SsmYIdeal.nD,
          r.2.mem ((c.tc : Thread Cert.SsmYIdeal.nD Cert.SsmYIdeal.τ).loc Cert.SsmYIdeal.main_v13) = v0 c
          ∧ r.2.mem ((c.tc : Thread Cert.SsmYIdeal.nD Cert.SsmYIdeal.τ).loc Cert.SsmYIdeal.main_arg0) = m ((c.tc : Thread Cert.SsmYIdeal.nD Cert.SsmYIdeal.τ).loc Cert.SsmYIdeal.main_arg0)
          ∧ r.2.mem ((c.tc : Thread Cert.SsmYIdeal.nD Cert.SsmYIdeal.τ).loc Cert.SsmYIdeal.main_arg1) = m ((c.tc : Thread Cert.SsmYIdeal.nD Cert.SsmYIdeal.τ).loc Cert.SsmYIdeal.main_arg1))
      ∧ θ_run (Cert.SsmYRefIdeal.defs (F := Ideal)) (onTc (τ := Cert.SsmYRefIdeal.τ) (Cert.SsmYRefIdeal.main (F := Ideal))) ⟨m', fun _ => 0, g'⟩ (fun r => ∀ c : Dev Cert.SsmYRefIdeal.nD,
          r.2.mem ((c.tc : Thread Cert.SsmYRefIdeal.nD Cert.SsmYRefIdeal.τ).loc Cert.SsmYRefIdeal.main_v3) = v0 c
          ∧ r.2.mem ((c.tc : Thread Cert.SsmYRefIdeal.nD Cert.SsmYRefIdeal.τ).loc Cert.SsmYRefIdeal.main_arg0) = m' ((c.tc : Thread Cert.SsmYRefIdeal.nD Cert.SsmYRefIdeal.τ).loc Cert.SsmYRefIdeal.main_arg0)
          ∧ r.2.mem ((c.tc : Thread Cert.SsmYRefIdeal.nD Cert.SsmYRefIdeal.τ).loc Cert.SsmYRefIdeal.main_arg1) = m' ((c.tc : Thread Cert.SsmYRefIdeal.nD Cert.SsmYRefIdeal.τ).loc Cert.SsmYRefIdeal.main_arg1))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hDnorm : Cert.Dnorm.Facts) (hDnormIdeal : Cert.DnormIdeal.Facts) (hDnormRefIdeal : Cert.DnormRefIdeal.Facts) (hDa : Cert.Da.Facts) (hDaIdeal : Cert.DaIdeal.Facts) (hDaRefIdeal : Cert.DaRefIdeal.Facts) (hDwdown : Cert.Dwdown.Facts) (hDwdownIdeal : Cert.DwdownIdeal.Facts) (hDwdownRefIdeal : Cert.DwdownRefIdeal.Facts) (hDngate : Cert.Dngate.Facts) (hDngateIdeal : Cert.DngateIdeal.Facts) (hDngateRefIdeal : Cert.DngateRefIdeal.Facts) (hDnup : Cert.Dnup.Facts) (hDnupIdeal : Cert.DnupIdeal.Facts) (hDnupRefIdeal : Cert.DnupRefIdeal.Facts) (hDwgate : Cert.Dwgate.Facts) (hDwgateIdeal : Cert.DwgateIdeal.Facts) (hDwgateRefIdeal : Cert.DwgateRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hAct : Cert.Act.Facts) (hActIdeal : Cert.ActIdeal.Facts) (hActRefIdeal : Cert.ActRefIdeal.Facts) (hDown : Cert.Down.Facts) (hDownIdeal : Cert.DownIdeal.Facts) (hDownRefIdeal : Cert.DownRefIdeal.Facts) (hMixDn : Cert.MixDn.Facts) (hMixDnIdeal : Cert.MixDnIdeal.Facts) (hMixDnRefIdeal : Cert.MixDnRefIdeal.Facts) (hMixDwin : Cert.MixDwin.Facts) (hMixDwinIdeal : Cert.MixDwinIdeal.Facts) (hMixDwinRefIdeal : Cert.MixDwinRefIdeal.Facts) (hMixDcat : Cert.MixDcat.Facts) (hMixDcatIdeal : Cert.MixDcatIdeal.Facts) (hMixDcatRefIdeal : Cert.MixDcatRefIdeal.Facts) (hMixDwout : Cert.MixDwout.Facts) (hMixDwoutIdeal : Cert.MixDwoutIdeal.Facts) (hMixDwoutRefIdeal : Cert.MixDwoutRefIdeal.Facts) (hPleDn : Cert.PleDn.Facts) (hPleDnIdeal : Cert.PleDnIdeal.Facts) (hPleDnRefIdeal : Cert.PleDnRefIdeal.Facts) (hPleDwgate : Cert.PleDwgate.Facts) (hPleDwgateIdeal : Cert.PleDwgateIdeal.Facts) (hPleDwgateRefIdeal : Cert.PleDwgateRefIdeal.Facts) (hPleDwproj : Cert.PleDwproj.Facts) (hPleDwprojIdeal : Cert.PleDwprojIdeal.Facts) (hPleDwprojRefIdeal : Cert.PleDwprojRefIdeal.Facts) (hPleDout : Cert.PleDout.Facts) (hPleDoutIdeal : Cert.PleDoutIdeal.Facts) (hPleDoutRefIdeal : Cert.PleDoutRefIdeal.Facts) (hAbOut : Cert.AbOut.Facts) (hAbOutIdeal : Cert.AbOutIdeal.Facts) (hAbOutRefIdeal : Cert.AbOutRefIdeal.Facts) (hPleGate : Cert.PleGate.Facts) (hPleGateIdeal : Cert.PleGateIdeal.Facts) (hPleGateRefIdeal : Cert.PleGateRefIdeal.Facts) (hPleProj : Cert.PleProj.Facts) (hPleProjIdeal : Cert.PleProjIdeal.Facts) (hPleProjRefIdeal : Cert.PleProjRefIdeal.Facts) (hPleOut : Cert.PleOut.Facts) (hPleOutIdeal : Cert.PleOutIdeal.Facts) (hPleOutRefIdeal : Cert.PleOutRefIdeal.Facts) (hSsmIn : Cert.SsmIn.Facts) (hSsmInIdeal : Cert.SsmInIdeal.Facts) (hSsmInRefIdeal : Cert.SsmInRefIdeal.Facts) (hSsmOut : Cert.SsmOut.Facts) (hSsmOutIdeal : Cert.SsmOutIdeal.Facts) (hSsmOutRefIdeal : Cert.SsmOutRefIdeal.Facts) (hSsmGlu : Cert.SsmGlu.Facts) (hSsmGluIdeal : Cert.SsmGluIdeal.Facts) (hSsmGluRefIdeal : Cert.SsmGluRefIdeal.Facts) (hSsmDglu : Cert.SsmDglu.Facts) (hSsmDgluIdeal : Cert.SsmDgluIdeal.Facts) (hSsmDgluRefIdeal : Cert.SsmDgluRefIdeal.Facts) (hSsmDyg : Cert.SsmDyg.Facts) (hSsmDygIdeal : Cert.SsmDygIdeal.Facts) (hSsmDygRefIdeal : Cert.SsmDygRefIdeal.Facts) (hSsmDygAdd : Cert.SsmDygAdd.Facts) (hSsmDygAddIdeal : Cert.SsmDygAddIdeal.Facts) (hSsmDygAddRefIdeal : Cert.SsmDygAddRefIdeal.Facts) (hSsmDwout : Cert.SsmDwout.Facts) (hSsmDwoutIdeal : Cert.SsmDwoutIdeal.Facts) (hSsmDwoutRefIdeal : Cert.SsmDwoutRefIdeal.Facts) (hSsmDwin : Cert.SsmDwin.Facts) (hSsmDwinIdeal : Cert.SsmDwinIdeal.Facts) (hSsmDwinRefIdeal : Cert.SsmDwinRefIdeal.Facts) (hSsmDn : Cert.SsmDn.Facts) (hSsmDnIdeal : Cert.SsmDnIdeal.Facts) (hSsmDnRefIdeal : Cert.SsmDnRefIdeal.Facts) (hSsmDhRe : Cert.SsmDhRe.Facts) (hSsmDhReIdeal : Cert.SsmDhReIdeal.Facts) (hSsmDhReRefIdeal : Cert.SsmDhReRefIdeal.Facts) (hSsmDhIm : Cert.SsmDhIm.Facts) (hSsmDhImIdeal : Cert.SsmDhImIdeal.Facts) (hSsmDhImRefIdeal : Cert.SsmDhImRefIdeal.Facts) (hSsmDu : Cert.SsmDu.Facts) (hSsmDuIdeal : Cert.SsmDuIdeal.Facts) (hSsmDuRefIdeal : Cert.SsmDuRefIdeal.Facts) (hSsmBu : Cert.SsmBu.Facts) (hSsmBuIdeal : Cert.SsmBuIdeal.Facts) (hSsmBuRefIdeal : Cert.SsmBuRefIdeal.Facts) (hSsmY : Cert.SsmY.Facts) (hSsmYIdeal : Cert.SsmYIdeal.Facts) (hSsmYRefIdeal : Cert.SsmYRefIdeal.Facts) (hPre_finite_dact : Cert.Pre_finite_dact.Facts),
    quiescent_Kernel (hKernel := hKernel)
    ∧ quiescent_KernelIdeal (hKernelIdeal := hKernelIdeal)
    ∧ quiescent_ReferenceIdeal (hReferenceIdeal := hReferenceIdeal)
    ∧ quiescent_Dact (hDact := hDact)
    ∧ quiescent_DactIdeal (hDactIdeal := hDactIdeal)
    ∧ quiescent_DactIdeal_pre_finite_dact (hDactIdeal := hDactIdeal) (hPre_finite_dact := hPre_finite_dact)
    ∧ quiescent_DactRefIdeal (hDactRefIdeal := hDactRefIdeal)
    ∧ quiescent_DactRefIdeal_pre_finite_dact (hDactRefIdeal := hDactRefIdeal) (hPre_finite_dact := hPre_finite_dact)
    ∧ quiescent_Dnorm (hDnorm := hDnorm)
    ∧ quiescent_DnormIdeal (hDnormIdeal := hDnormIdeal)
    ∧ quiescent_DnormRefIdeal (hDnormRefIdeal := hDnormRefIdeal)
    ∧ quiescent_Da (hDa := hDa)
    ∧ quiescent_DaIdeal (hDaIdeal := hDaIdeal)
    ∧ quiescent_DaRefIdeal (hDaRefIdeal := hDaRefIdeal)
    ∧ quiescent_Dwdown (hDwdown := hDwdown)
    ∧ quiescent_DwdownIdeal (hDwdownIdeal := hDwdownIdeal)
    ∧ quiescent_DwdownRefIdeal (hDwdownRefIdeal := hDwdownRefIdeal)
    ∧ quiescent_Dngate (hDngate := hDngate)
    ∧ quiescent_DngateIdeal (hDngateIdeal := hDngateIdeal)
    ∧ quiescent_DngateRefIdeal (hDngateRefIdeal := hDngateRefIdeal)
    ∧ quiescent_Dnup (hDnup := hDnup)
    ∧ quiescent_DnupIdeal (hDnupIdeal := hDnupIdeal)
    ∧ quiescent_DnupRefIdeal (hDnupRefIdeal := hDnupRefIdeal)
    ∧ quiescent_Dwgate (hDwgate := hDwgate)
    ∧ quiescent_DwgateIdeal (hDwgateIdeal := hDwgateIdeal)
    ∧ quiescent_DwgateRefIdeal (hDwgateRefIdeal := hDwgateRefIdeal)
    ∧ quiescent_Norm (hNorm := hNorm)
    ∧ quiescent_NormIdeal (hNormIdeal := hNormIdeal)
    ∧ quiescent_NormRefIdeal (hNormRefIdeal := hNormRefIdeal)
    ∧ quiescent_Gate (hGate := hGate)
    ∧ quiescent_GateIdeal (hGateIdeal := hGateIdeal)
    ∧ quiescent_GateRefIdeal (hGateRefIdeal := hGateRefIdeal)
    ∧ quiescent_Act (hAct := hAct)
    ∧ quiescent_ActIdeal (hActIdeal := hActIdeal)
    ∧ quiescent_ActRefIdeal (hActRefIdeal := hActRefIdeal)
    ∧ quiescent_Down (hDown := hDown)
    ∧ quiescent_DownIdeal (hDownIdeal := hDownIdeal)
    ∧ quiescent_DownRefIdeal (hDownRefIdeal := hDownRefIdeal)
    ∧ quiescent_MixDn (hMixDn := hMixDn)
    ∧ quiescent_MixDnIdeal (hMixDnIdeal := hMixDnIdeal)
    ∧ quiescent_MixDnRefIdeal (hMixDnRefIdeal := hMixDnRefIdeal)
    ∧ quiescent_MixDwin (hMixDwin := hMixDwin)
    ∧ quiescent_MixDwinIdeal (hMixDwinIdeal := hMixDwinIdeal)
    ∧ quiescent_MixDwinRefIdeal (hMixDwinRefIdeal := hMixDwinRefIdeal)
    ∧ quiescent_MixDcat (hMixDcat := hMixDcat)
    ∧ quiescent_MixDcatIdeal (hMixDcatIdeal := hMixDcatIdeal)
    ∧ quiescent_MixDcatRefIdeal (hMixDcatRefIdeal := hMixDcatRefIdeal)
    ∧ quiescent_MixDwout (hMixDwout := hMixDwout)
    ∧ quiescent_MixDwoutIdeal (hMixDwoutIdeal := hMixDwoutIdeal)
    ∧ quiescent_MixDwoutRefIdeal (hMixDwoutRefIdeal := hMixDwoutRefIdeal)
    ∧ quiescent_PleDn (hPleDn := hPleDn)
    ∧ quiescent_PleDnIdeal (hPleDnIdeal := hPleDnIdeal)
    ∧ quiescent_PleDnRefIdeal (hPleDnRefIdeal := hPleDnRefIdeal)
    ∧ quiescent_PleDwgate (hPleDwgate := hPleDwgate)
    ∧ quiescent_PleDwgateIdeal (hPleDwgateIdeal := hPleDwgateIdeal)
    ∧ quiescent_PleDwgateRefIdeal (hPleDwgateRefIdeal := hPleDwgateRefIdeal)
    ∧ quiescent_PleDwproj (hPleDwproj := hPleDwproj)
    ∧ quiescent_PleDwprojIdeal (hPleDwprojIdeal := hPleDwprojIdeal)
    ∧ quiescent_PleDwprojRefIdeal (hPleDwprojRefIdeal := hPleDwprojRefIdeal)
    ∧ quiescent_PleDout (hPleDout := hPleDout)
    ∧ quiescent_PleDoutIdeal (hPleDoutIdeal := hPleDoutIdeal)
    ∧ quiescent_PleDoutRefIdeal (hPleDoutRefIdeal := hPleDoutRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_PleOut (hPleOut := hPleOut)
    ∧ quiescent_PleOutIdeal (hPleOutIdeal := hPleOutIdeal)
    ∧ quiescent_PleOutRefIdeal (hPleOutRefIdeal := hPleOutRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_SsmGlu (hSsmGlu := hSsmGlu)
    ∧ quiescent_SsmGluIdeal (hSsmGluIdeal := hSsmGluIdeal)
    ∧ quiescent_SsmGluRefIdeal (hSsmGluRefIdeal := hSsmGluRefIdeal)
    ∧ quiescent_SsmDglu (hSsmDglu := hSsmDglu)
    ∧ quiescent_SsmDgluIdeal (hSsmDgluIdeal := hSsmDgluIdeal)
    ∧ quiescent_SsmDgluRefIdeal (hSsmDgluRefIdeal := hSsmDgluRefIdeal)
    ∧ quiescent_SsmDyg (hSsmDyg := hSsmDyg)
    ∧ quiescent_SsmDygIdeal (hSsmDygIdeal := hSsmDygIdeal)
    ∧ quiescent_SsmDygRefIdeal (hSsmDygRefIdeal := hSsmDygRefIdeal)
    ∧ quiescent_SsmDygAdd (hSsmDygAdd := hSsmDygAdd)
    ∧ quiescent_SsmDygAddIdeal (hSsmDygAddIdeal := hSsmDygAddIdeal)
    ∧ quiescent_SsmDygAddRefIdeal (hSsmDygAddRefIdeal := hSsmDygAddRefIdeal)
    ∧ quiescent_SsmDwout (hSsmDwout := hSsmDwout)
    ∧ quiescent_SsmDwoutIdeal (hSsmDwoutIdeal := hSsmDwoutIdeal)
    ∧ quiescent_SsmDwoutRefIdeal (hSsmDwoutRefIdeal := hSsmDwoutRefIdeal)
    ∧ quiescent_SsmDwin (hSsmDwin := hSsmDwin)
    ∧ quiescent_SsmDwinIdeal (hSsmDwinIdeal := hSsmDwinIdeal)
    ∧ quiescent_SsmDwinRefIdeal (hSsmDwinRefIdeal := hSsmDwinRefIdeal)
    ∧ quiescent_SsmDn (hSsmDn := hSsmDn)
    ∧ quiescent_SsmDnIdeal (hSsmDnIdeal := hSsmDnIdeal)
    ∧ quiescent_SsmDnRefIdeal (hSsmDnRefIdeal := hSsmDnRefIdeal)
    ∧ quiescent_SsmDhRe (hSsmDhRe := hSsmDhRe)
    ∧ quiescent_SsmDhReIdeal (hSsmDhReIdeal := hSsmDhReIdeal)
    ∧ quiescent_SsmDhReRefIdeal (hSsmDhReRefIdeal := hSsmDhReRefIdeal)
    ∧ quiescent_SsmDhIm (hSsmDhIm := hSsmDhIm)
    ∧ quiescent_SsmDhImIdeal (hSsmDhImIdeal := hSsmDhImIdeal)
    ∧ quiescent_SsmDhImRefIdeal (hSsmDhImRefIdeal := hSsmDhImRefIdeal)
    ∧ quiescent_SsmDu (hSsmDu := hSsmDu)
    ∧ quiescent_SsmDuIdeal (hSsmDuIdeal := hSsmDuIdeal)
    ∧ quiescent_SsmDuRefIdeal (hSsmDuRefIdeal := hSsmDuRefIdeal)
    ∧ quiescent_SsmBu (hSsmBu := hSsmBu)
    ∧ quiescent_SsmBuIdeal (hSsmBuIdeal := hSsmBuIdeal)
    ∧ quiescent_SsmBuRefIdeal (hSsmBuRefIdeal := hSsmBuRefIdeal)
    ∧ quiescent_SsmY (hSsmY := hSsmY)
    ∧ quiescent_SsmYIdeal (hSsmYIdeal := hSsmYIdeal)
    ∧ quiescent_SsmYRefIdeal (hSsmYRefIdeal := hSsmYRefIdeal)
    ∧ preserves_Kernel_KernelIdeal
    ∧ algebraic_KernelIdeal_ReferenceIdeal (hKernelIdeal := hKernelIdeal) (hReferenceIdeal := hReferenceIdeal)
    ∧ preserves_Dact_DactIdeal
    ∧ algebraic_DactIdeal_DactRefIdeal_pre_finite_dact (hDactIdeal := hDactIdeal) (hDactRefIdeal := hDactRefIdeal) (hPre_finite_dact := hPre_finite_dact)
    ∧ preserves_Dnorm_DnormIdeal
    ∧ algebraic_DnormIdeal_DnormRefIdeal (hDnormIdeal := hDnormIdeal) (hDnormRefIdeal := hDnormRefIdeal)
    ∧ preserves_Da_DaIdeal
    ∧ algebraic_DaIdeal_DaRefIdeal (hDaIdeal := hDaIdeal) (hDaRefIdeal := hDaRefIdeal)
    ∧ preserves_Dwdown_DwdownIdeal
    ∧ algebraic_DwdownIdeal_DwdownRefIdeal (hDwdownIdeal := hDwdownIdeal) (hDwdownRefIdeal := hDwdownRefIdeal)
    ∧ preserves_Dngate_DngateIdeal
    ∧ algebraic_DngateIdeal_DngateRefIdeal (hDngateIdeal := hDngateIdeal) (hDngateRefIdeal := hDngateRefIdeal)
    ∧ preserves_Dnup_DnupIdeal
    ∧ algebraic_DnupIdeal_DnupRefIdeal (hDnupIdeal := hDnupIdeal) (hDnupRefIdeal := hDnupRefIdeal)
    ∧ preserves_Dwgate_DwgateIdeal
    ∧ algebraic_DwgateIdeal_DwgateRefIdeal (hDwgateIdeal := hDwgateIdeal) (hDwgateRefIdeal := hDwgateRefIdeal)
    ∧ preserves_Norm_NormIdeal
    ∧ algebraic_NormIdeal_NormRefIdeal (hNormIdeal := hNormIdeal) (hNormRefIdeal := hNormRefIdeal)
    ∧ preserves_Gate_GateIdeal
    ∧ algebraic_GateIdeal_GateRefIdeal (hGateIdeal := hGateIdeal) (hGateRefIdeal := hGateRefIdeal)
    ∧ preserves_Act_ActIdeal
    ∧ algebraic_ActIdeal_ActRefIdeal (hActIdeal := hActIdeal) (hActRefIdeal := hActRefIdeal)
    ∧ preserves_Down_DownIdeal
    ∧ algebraic_DownIdeal_DownRefIdeal (hDownIdeal := hDownIdeal) (hDownRefIdeal := hDownRefIdeal)
    ∧ preserves_MixDn_MixDnIdeal
    ∧ algebraic_MixDnIdeal_MixDnRefIdeal (hMixDnIdeal := hMixDnIdeal) (hMixDnRefIdeal := hMixDnRefIdeal)
    ∧ preserves_MixDwin_MixDwinIdeal
    ∧ algebraic_MixDwinIdeal_MixDwinRefIdeal (hMixDwinIdeal := hMixDwinIdeal) (hMixDwinRefIdeal := hMixDwinRefIdeal)
    ∧ preserves_MixDcat_MixDcatIdeal
    ∧ algebraic_MixDcatIdeal_MixDcatRefIdeal (hMixDcatIdeal := hMixDcatIdeal) (hMixDcatRefIdeal := hMixDcatRefIdeal)
    ∧ preserves_MixDwout_MixDwoutIdeal
    ∧ algebraic_MixDwoutIdeal_MixDwoutRefIdeal (hMixDwoutIdeal := hMixDwoutIdeal) (hMixDwoutRefIdeal := hMixDwoutRefIdeal)
    ∧ preserves_PleDn_PleDnIdeal
    ∧ algebraic_PleDnIdeal_PleDnRefIdeal (hPleDnIdeal := hPleDnIdeal) (hPleDnRefIdeal := hPleDnRefIdeal)
    ∧ preserves_PleDwgate_PleDwgateIdeal
    ∧ algebraic_PleDwgateIdeal_PleDwgateRefIdeal (hPleDwgateIdeal := hPleDwgateIdeal) (hPleDwgateRefIdeal := hPleDwgateRefIdeal)
    ∧ preserves_PleDwproj_PleDwprojIdeal
    ∧ algebraic_PleDwprojIdeal_PleDwprojRefIdeal (hPleDwprojIdeal := hPleDwprojIdeal) (hPleDwprojRefIdeal := hPleDwprojRefIdeal)
    ∧ preserves_PleDout_PleDoutIdeal
    ∧ algebraic_PleDoutIdeal_PleDoutRefIdeal (hPleDoutIdeal := hPleDoutIdeal) (hPleDoutRefIdeal := hPleDoutRefIdeal)
    ∧ preserves_AbOut_AbOutIdeal
    ∧ algebraic_AbOutIdeal_AbOutRefIdeal (hAbOutIdeal := hAbOutIdeal) (hAbOutRefIdeal := hAbOutRefIdeal)
    ∧ preserves_PleGate_PleGateIdeal
    ∧ algebraic_PleGateIdeal_PleGateRefIdeal (hPleGateIdeal := hPleGateIdeal) (hPleGateRefIdeal := hPleGateRefIdeal)
    ∧ preserves_PleProj_PleProjIdeal
    ∧ algebraic_PleProjIdeal_PleProjRefIdeal (hPleProjIdeal := hPleProjIdeal) (hPleProjRefIdeal := hPleProjRefIdeal)
    ∧ preserves_PleOut_PleOutIdeal
    ∧ algebraic_PleOutIdeal_PleOutRefIdeal (hPleOutIdeal := hPleOutIdeal) (hPleOutRefIdeal := hPleOutRefIdeal)
    ∧ preserves_SsmIn_SsmInIdeal
    ∧ algebraic_SsmInIdeal_SsmInRefIdeal (hSsmInIdeal := hSsmInIdeal) (hSsmInRefIdeal := hSsmInRefIdeal)
    ∧ preserves_SsmOut_SsmOutIdeal
    ∧ algebraic_SsmOutIdeal_SsmOutRefIdeal (hSsmOutIdeal := hSsmOutIdeal) (hSsmOutRefIdeal := hSsmOutRefIdeal)
    ∧ preserves_SsmGlu_SsmGluIdeal
    ∧ algebraic_SsmGluIdeal_SsmGluRefIdeal (hSsmGluIdeal := hSsmGluIdeal) (hSsmGluRefIdeal := hSsmGluRefIdeal)
    ∧ preserves_SsmDglu_SsmDgluIdeal
    ∧ algebraic_SsmDgluIdeal_SsmDgluRefIdeal (hSsmDgluIdeal := hSsmDgluIdeal) (hSsmDgluRefIdeal := hSsmDgluRefIdeal)
    ∧ preserves_SsmDyg_SsmDygIdeal
    ∧ algebraic_SsmDygIdeal_SsmDygRefIdeal (hSsmDygIdeal := hSsmDygIdeal) (hSsmDygRefIdeal := hSsmDygRefIdeal)
    ∧ preserves_SsmDygAdd_SsmDygAddIdeal
    ∧ algebraic_SsmDygAddIdeal_SsmDygAddRefIdeal (hSsmDygAddIdeal := hSsmDygAddIdeal) (hSsmDygAddRefIdeal := hSsmDygAddRefIdeal)
    ∧ preserves_SsmDwout_SsmDwoutIdeal
    ∧ algebraic_SsmDwoutIdeal_SsmDwoutRefIdeal (hSsmDwoutIdeal := hSsmDwoutIdeal) (hSsmDwoutRefIdeal := hSsmDwoutRefIdeal)
    ∧ preserves_SsmDwin_SsmDwinIdeal
    ∧ algebraic_SsmDwinIdeal_SsmDwinRefIdeal (hSsmDwinIdeal := hSsmDwinIdeal) (hSsmDwinRefIdeal := hSsmDwinRefIdeal)
    ∧ preserves_SsmDn_SsmDnIdeal
    ∧ algebraic_SsmDnIdeal_SsmDnRefIdeal (hSsmDnIdeal := hSsmDnIdeal) (hSsmDnRefIdeal := hSsmDnRefIdeal)
    ∧ preserves_SsmDhRe_SsmDhReIdeal
    ∧ algebraic_SsmDhReIdeal_SsmDhReRefIdeal (hSsmDhReIdeal := hSsmDhReIdeal) (hSsmDhReRefIdeal := hSsmDhReRefIdeal)
    ∧ preserves_SsmDhIm_SsmDhImIdeal
    ∧ algebraic_SsmDhImIdeal_SsmDhImRefIdeal (hSsmDhImIdeal := hSsmDhImIdeal) (hSsmDhImRefIdeal := hSsmDhImRefIdeal)
    ∧ preserves_SsmDu_SsmDuIdeal
    ∧ algebraic_SsmDuIdeal_SsmDuRefIdeal (hSsmDuIdeal := hSsmDuIdeal) (hSsmDuRefIdeal := hSsmDuRefIdeal)
    ∧ preserves_SsmBu_SsmBuIdeal
    ∧ algebraic_SsmBuIdeal_SsmBuRefIdeal (hSsmBuIdeal := hSsmBuIdeal) (hSsmBuRefIdeal := hSsmBuRefIdeal)
    ∧ preserves_SsmY_SsmYIdeal
    ∧ algebraic_SsmYIdeal_SsmYRefIdeal (hSsmYIdeal := hSsmYIdeal) (hSsmYRefIdeal := hSsmYRefIdeal)
-- ==== Pre_finite_dact.lean ====
abbrev S4096x5632 : Shape := ⟨2, ![4096, 5632]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel

variable [Facts]

def fn {F : FTy → Type} [FloatOps F] (main_arg0 : FVec F S4096x5632 .bf16) (main_arg1 : FVec F S4096x5632 .bf16) (main_arg2 : FVec F S4096x5632 .bf16) : IVec S_ 1 :=
  let main_cst : FVec F S_ .bf16 := constant S_ .bf16 0x7F80#16
  let main_v0 : FVec F S4096x5632 .bf16 := broadcastInDim S4096x5632 ![] bcast_S_S4096x5632 main_cst
  let main_v1 : IVec S4096x5632 1 := cmpf .olt main_arg1 main_v0
  let main_cst_0 : FVec F S_ .bf16 := constant S_ .bf16 0xFF80#16
  let main_v2 : FVec F S4096x5632 .bf16 := broadcastInDim S4096x5632 ![] bcast_S_S4096x5632 main_cst_0
  let main_v3 : IVec S4096x5632 1 := cmpf .ogt main_arg1 main_v2
  let main_v4 : IVec S4096x5632 1 := andi main_v1 main_v3
  let main_cst_1 : FVec F S_ .bf16 := constant S_ .bf16 0x7F80#16
  let main_v5 : FVec F S4096x5632 .bf16 := broadcastInDim S4096x5632 ![] bcast_S_S4096x5632 main_cst_1
  let main_v6 : IVec S4096x5632 1 := cmpf .olt main_arg2 main_v5
  let main_v7 : IVec S4096x5632 1 := andi main_v4 main_v6
  let main_cst_2 : FVec F S_ .bf16 := constant S_ .bf16 0xFF80#16
  let main_v8 : FVec F S4096x5632 .bf16 := broadcastInDim S4096x5632 ![] bcast_S_S4096x5632 main_cst_2
  let main_v9 : IVec S4096x5632 1 := cmpf .ogt main_arg2 main_v8
  let main_v10 : IVec S4096x5632 1 := andi main_v7 main_v9
  let main_c : IVec S_ 1 := constantI S_ 1 1#1
  let main_v11 : IVec S_ 1 := (fun x v => Host.reduce IntOp.andi x v reducesTo_S4096x5632_S_d0_1 h_S_) main_v10 main_c
  main_v11
-- ==== Kernel.lean ====
abbrev S4096x1024 : Shape := ⟨2, ![4096, 1024]⟩
abbrev S16x64x576 : Shape := ⟨3, ![16, 64, 576]⟩
abbrev S4096x128 : Shape := ⟨2, ![4096, 128]⟩
abbrev S2x64x576 : Shape := ⟨3, ![2, 64, 576]⟩
abbrev S4608x128 : Shape := ⟨2, ![4608, 128]⟩
abbrev S512x128 : Shape := ⟨2, ![512, 128]⟩
abbrev S1x64x576 : Shape := ⟨3, ![1, 64, 576]⟩
abbrev S64x576 : Shape := ⟨2, ![64, 576]⟩
abbrev S64x128 : Shape := ⟨2, ![64, 128]⟩
abbrev S64x64 : Shape := ⟨2, ![64, 64]⟩
abbrev S576x128 : Shape := ⟨2, ![576, 128]⟩
abbrev S576x64 : Shape := ⟨2, ![576, 64]⟩
abbrev S1x576 : Shape := ⟨2, ![1, 576]⟩
abbrev S64 : Shape := ⟨1, ![64]⟩
abbrev S64x1 : Shape := ⟨2, ![64, 1]⟩

abbrev nBuf : Space → Nat
  | .hbm => 9
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S16x64x576, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S16x64x576, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S2x64x576, .f32⟩
  | .local _ .vmem, ⟨7, _⟩ => ⟨S2x64x576, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S2x64x576, .f32⟩
  | .local _ .vmem, ⟨17, _⟩ => ⟨S2x64x576, .f32⟩
  | .local _ .vmem, ⟨18, _⟩ => ⟨S4608x128, .f32⟩
  | .local _ .vmem, ⟨19, _⟩ => ⟨S4608x128, .f32⟩
  | .local _ .vmem, ⟨20, _⟩ => ⟨S4608x128, .f32⟩
  | .local _ .vmem, ⟨21, _⟩ => ⟨S4608x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v29 : BitVec 32 := Scalar.addi c0_i32 c32_i32
  let c1_i32 : BitVec 32 := 1#32
  ⟨c0_i32, v29, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32 : BitVec 32 := 2#32
  let v34 : BitVec 32 := Scalar.muli arg14 c2_i32
  let c0_i32_34 : BitVec 32 := 0#32
  let v35 : BitVec 32 := Scalar.addi v34 c0_i32_34
  let c64_i32 : BitVec 32 := 64#32
  let v38 : BitVec 32 := Scalar.muli v35 c64_i32
  v38
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c2_i32_35 : BitVec 32 := 2#32
  let v36 : BitVec 32 := Scalar.muli arg14 c2_i32_35
  let c1_i32_36 : BitVec 32 := 1#32
  let v37 : BitVec 32 := Scalar.addi v36 c1_i32_36
  let c64_i32_37 : BitVec 32 := 64#32
  let v40 : BitVec 32 := Scalar.muli v37 c64_i32_37
  v40
def k0_off1 (k0_t1 : Fin k0_t1_loop.trips) (c0_i32_34 : BitVec 32) : Fin 2 → Nat :=
  let c0_i32 : BitVec 32 := 0#32
  let c1_i32 : BitVec 32 := 1#32
  let arg14 : BitVec 32 := Scf.iv c0_i32 c1_i32 k0_t1
  let c2_i32 : BitVec 32 := 2#32
  let v34 : BitVec 32 := Scalar.muli arg14 c2_i32
  let v35 : BitVec 32 := Scalar.addi v34 c0_i32_34
  let c64_i32 : BitVec 32 := 64#32
  let v38 : BitVec 32 := Scalar.muli v35 c64_i32
  let v39 : BitVec 32 := v38
  let v42 : Index := Scalar.indexCast v39
  let c0_38 : Index := 0#32
  ![v42.toNat, 0]
def k0_off2 (k0_t1 : Fin k0_t1_loop.trips) (c0_i32_34 : BitVec 32) : Fin 2 → Nat :=
  let c0_i32 : BitVec 32 := 0#32
  let c1_i32 : BitVec 32 := 1#32
  let arg14 : BitVec 32 := Scf.iv c0_i32 c1_i32 k0_t1
  let c2_i32 : BitVec 32 := 2#32
  let v34 : BitVec 32 := Scalar.muli arg14 c2_i32
  let v35 : BitVec 32 := Scalar.addi v34 c0_i32_34
  let c64_i32 : BitVec 32 := 64#32
  let v38 : BitVec 32 := Scalar.muli v35 c64_i32
  let v39 : BitVec 32 := v38
  let v50 : Index := Scalar.indexCast v39
  let c0_40 : Index := 0#32
  ![v50.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x64x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S16x64x576 : Shape := ⟨3, ![16, 64, 576]⟩
abbrev S64x64x16x64 : Shape := ⟨4, ![64, 64, 16, 64]⟩
abbrev S_ : Shape := ⟨0, ![]⟩
abbrev S8x64x16x64 : Shape := ⟨4, ![8, 64, 16, 64]⟩
abbrev S72x64x16x64 : Shape := ⟨4, ![72, 64, 16, 64]⟩
abbrev S64x576x16x64 : Shape := ⟨4, ![64, 576, 16, 64]⟩
abbrev S64x16x64x576 : Shape := ⟨4, ![64, 16, 64, 576]⟩
abbrev S1x16x64x576 : Shape := ⟨4, ![1, 16, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x1x1x576 : Shape := ⟨4, ![64, 1, 1, 576]⟩
abbrev S64x16x64 : Shape := ⟨3, ![64, 16, 64]⟩
abbrev S64x16x64x1 : Shape := ⟨4, ![64, 16, 64, 1]⟩
abbrev S64x16x64x64 : Shape := ⟨4, ![64, 16, 64, 64]⟩
abbrev S64x16x576x64 : Shape := ⟨4, ![64, 16, 576, 64]⟩

abbrev nBuf : Space → Nat
  | .hbm => 195
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S16x64x576, .f32⟩
  | 4 => ⟨S4096x1024, .f32⟩
  | 5 => ⟨S64x64x16x64, .f32⟩
  | 6 => ⟨S_, .f32⟩
  | 7 => ⟨S8x64x16x64, .f32⟩
  | 8 => ⟨S64x64x16x64, .f32⟩
  | 9 => ⟨S72x64x16x64, .f32⟩
  | 10 => ⟨S_, .f32⟩
  | 11 => ⟨S8x64x16x64, .f32⟩
  | 12 => ⟨S64x64x16x64, .f32⟩
  | 13 => ⟨S64x64x16x64, .f32⟩
  | 14 => ⟨S64x64x16x64, .f32⟩
  | 15 => ⟨S64x64x16x64, .f32⟩
  | 16 => ⟨S64x64x16x64, .f32⟩
  | 17 => ⟨S64x64x16x64, .f32⟩
  | 18 => ⟨S64x64x16x64, .f32⟩
  | 19 => ⟨S64x64x16x64, .f32⟩
  | 20 => ⟨S64x64x16x64, .f32⟩
  | 21 => ⟨S64x576x16x64, .f32⟩
  | 22 => ⟨S64x16x64x576, .f32⟩
  | 23 => ⟨S1x16x64x576, .f32⟩
  | 24 => ⟨S64x16x64x576, .f32⟩
  | 25 => ⟨S64x16x64x576, .f32⟩
  | 26 => ⟨S64, .i32⟩
  | 27 => ⟨S64x1, .i32⟩
  | 28 => ⟨S_, .i32⟩
  | 29 => ⟨S64x1, .i32⟩
  | 30 => ⟨S64x1, .i32⟩
  | 31 => ⟨S576, .i32⟩
  | 32 => ⟨S1x576, .i32⟩
  | 33 => ⟨S64x576, .i32⟩
  | 34 => ⟨S64x576, .i32⟩
  | 35 => ⟨S64x576, .i32⟩
  | 36 => ⟨S_, .i32⟩
  | 37 => ⟨S64x576, .i32⟩
  | 38 => ⟨S64x576, .i1⟩
  | 39 => ⟨S64x1x1x576, .i1⟩
  | 40 => ⟨S_, .f32⟩
  | 41 => ⟨S_, .f32⟩
  | 42 => ⟨S64x16x64x576, .i1⟩
  | 43 => ⟨S64x16x64x576, .f32⟩
  | 44 => ⟨S64x16x64x576, .f32⟩
  | 45 => ⟨S_, .f32⟩
  | 46 => ⟨S64x16x64x576, .f32⟩
  | 47 => ⟨S_, .f32⟩
  | 48 => ⟨S64x16x64, .f32⟩
  | 49 => ⟨S64x16x64x1, .f32⟩
  | 50 => ⟨S64x16x64x576, .f32⟩
  | 51 => ⟨S64x16x64x576, .i1⟩
  | 52 => ⟨S64x16x64x576, .f32⟩
  | 53 => ⟨S_, .f32⟩
  | 54 => ⟨S64x16x64, .f32⟩
  | 55 => ⟨S64x16x64x1, .f32⟩
  | 56 => ⟨S64x16x64x576, .f32⟩
  | 57 => ⟨S64x16x64x576, .f32⟩
  | 58 => ⟨S64x16x64x576, .f32⟩
  | 59 => ⟨S_, .f32⟩
  | 60 => ⟨S64x16x64, .f32⟩
  | 61 => ⟨S64x16x64x1, .f32⟩
  | 62 => ⟨S64x16x64x576, .f32⟩
  | 63 => ⟨S64x16x64x576, .f32⟩
  | 64 => ⟨S64x16x64x1, .f32⟩
  | 65 => ⟨S_, .f32⟩
  | 66 => ⟨S64x16x64x1, .f32⟩
  | 67 => ⟨S64x16x64x1, .f32⟩
  | 68 => ⟨S_, .f32⟩
  | 69 => ⟨S8x64x16x64, .f32⟩
  | 70 => ⟨S64x64x16x64, .f32⟩
  | 71 => ⟨S72x64x16x64, .f32⟩
  | 72 => ⟨S_, .f32⟩
  | 73 => ⟨S8x64x16x64, .f32⟩
  | 74 => ⟨S64x64x16x64, .f32⟩
  | 75 => ⟨S64x64x16x64, .f32⟩
  | 76 => ⟨S64x64x16x64, .f32⟩
  | 77 => ⟨S64x64x16x64, .f32⟩
  | 78 => ⟨S64x64x16x64, .f32⟩
  | 79 => ⟨S64x64x16x64, .f32⟩
  | 80 => ⟨S64x64x16x64, .f32⟩
  | 81 => ⟨S64x64x16x64, .f32⟩
  | 82 => ⟨S64x64x16x64, .f32⟩
  | 83 => ⟨S64x576x16x64, .f32⟩
  | 84 => ⟨S64x16x64x64, .f32⟩
  | 85 => ⟨S64x64x16x64, .f32⟩
  | 86 => ⟨S4096x1024, .f32⟩
  | 87 => ⟨S64x64x16x64, .f32⟩
  | 88 => ⟨S64x16x64x64, .f32⟩
  | 89 => ⟨S64x16x64x576, .f32⟩
  | 90 => ⟨S64x16x64x576, .f32⟩
  | 91 => ⟨S64x576x16x64, .f32⟩
  | 92 => ⟨S64x64x16x64, .f32⟩
  | 93 => ⟨S64x64x16x64, .f32⟩
  | 94 => ⟨S64x64x16x64, .f32⟩
  | 95 => ⟨S64x64x16x64, .f32⟩
  | 96 => ⟨S64x64x16x64, .f32⟩
  | 97 => ⟨S64x64x16x64, .f32⟩
  | 98 => ⟨S64x64x16x64, .f32⟩
  | 99 => ⟨S64x64x16x64, .f32⟩
  | 100 => ⟨S64x64x16x64, .f32⟩
  | 101 => ⟨S_, .f32⟩
  | 102 => ⟨S72x64x16x64, .f32⟩
  | 103 => ⟨S_, .f32⟩
  | 104 => ⟨S72x64x16x64, .f32⟩
  | 105 => ⟨S72x64x16x64, .f32⟩
  | 106 => ⟨S_, .f32⟩
  | 107 => ⟨S72x64x16x64, .f32⟩
  | 108 => ⟨S72x64x16x64, .f32⟩
  | 109 => ⟨S_, .f32⟩
  | 110 => ⟨S72x64x16x64, .f32⟩
  | 111 => ⟨S72x64x16x64, .f32⟩
  | 112 => ⟨S_, .f32⟩
  | 113 => ⟨S72x64x16x64, .f32⟩
  | 114 => ⟨S72x64x16x64, .f32⟩
  | 115 => ⟨S_, .f32⟩
  | 116 => ⟨S72x64x16x64, .f32⟩
  | 117 => ⟨S72x64x16x64, .f32⟩
  | 118 => ⟨S_, .f32⟩
  | 119 => ⟨S72x64x16x64, .f32⟩
  | 120 => ⟨S72x64x16x64, .f32⟩
  | 121 => ⟨S_, .f32⟩
  | 122 => ⟨S72x64x16x64, .f32⟩
  | 123 => ⟨S72x64x16x64, .f32⟩
  | 124 => ⟨S_, .f32⟩
  | 125 => ⟨S72x64x16x64, .f32⟩
  | 126 => ⟨S72x64x16x64, .f32⟩
  | 127 => ⟨S8x64x16x64, .f32⟩
  | _ => ⟨S4096x1024, .f32⟩

abbrev hbmTy0_1 (i : Nat) : BufTy := match i % 128 with
  | 0 => ⟨S64x64x16x64, .f32⟩
  | 1 => ⟨S4096x1024, .f32⟩
  | 2 => ⟨S64x16x64x576, .f32⟩
  | 3 => ⟨S64x16x64x576, .f32⟩
  | 4 => ⟨S64x16x64x576, .f32⟩
  | 5 => ⟨S_, .f32⟩
  | 6 => ⟨S64x16x64, .f32⟩
  | 7 => ⟨S64x16x64x1, .f32⟩
  | 8 => ⟨S64x16x64x1, .f32⟩
  | 9 => ⟨S64x16x64x576, .f32⟩
  | 10 => ⟨S64x16x64x576, .f32⟩
  | 11 => ⟨S_, .f32⟩
  | 12 => ⟨S64x16x64, .f32⟩
  | 13 => ⟨S64x16x64x576, .f32⟩
  | 14 => ⟨S64x16x64x576, .f32⟩
  | 15 => ⟨S64x16x64x576, .f32⟩
  | 16 => ⟨S_, .f32⟩
  | 17 => ⟨S64x16x64x576, .f32⟩
  | 18 => ⟨S64x16x64x576, .f32⟩
  | 19 => ⟨S_, .f32⟩
  | 20 => ⟨S16x64x576, .f32⟩
  | 21 => ⟨S1x16x64x576, .f32⟩
  | 22 => ⟨S_, .f32⟩
  | 23 => ⟨S16x64x576, .f32⟩
  | 24 => ⟨S64x16x576x64, .f32⟩
  | 25 => ⟨S64x576x16x64, .f32⟩
  | 26 => ⟨S64x16x64x64, .f32⟩
  | 27 => ⟨S64x64x16x64, .f32⟩
  | 28 => ⟨S64x64x16x64, .f32⟩
  | 29 => ⟨S64x64x16x64, .f32⟩
  | 30 => ⟨S64x64x16x64, .f32⟩
  | 31 => ⟨S64x64x16x64, .f32⟩
  | 32 => ⟨S64x64x16x64, .f32⟩
  | 33 => ⟨S64x64x16x64, .f32⟩
  | 34 => ⟨S64x64x16x64, .f32⟩
  | 35 => ⟨S64x64x16x64, .f32⟩
  | 36 => ⟨S64x64x16x64, .f32⟩
  | 37 => ⟨S_, .f32⟩
  | 38 => ⟨S72x64x16x64, .f32⟩
  | 39 => ⟨S_, .f32⟩
  | 40 => ⟨S72x64x16x64, .f32⟩
  | 41 => ⟨S72x64x16x64, .f32⟩
  | 42 => ⟨S_, .f32⟩
  | 43 => ⟨S72x64x16x64, .f32⟩
  | 44 => ⟨S72x64x16x64, .f32⟩
  | 45 => ⟨S_, .f32⟩
  | 46 => ⟨S72x64x16x64, .f32⟩
  | 47 => ⟨S72x64x16x64, .f32⟩
  | 48 => ⟨S_, .f32⟩
  | 49 => ⟨S72x64x16x64, .f32⟩
  | 50 => ⟨S72x64x16x64, .f32⟩
  | 51 => ⟨S_, .f32⟩
  | 52 => ⟨S72x64x16x64, .f32⟩
  | 53 => ⟨S72x64x16x64, .f32⟩
  | 54 => ⟨S_, .f32⟩
  | 55 => ⟨S72x64x16x64, .f32⟩
  | 56 => ⟨S72x64x16x64, .f32⟩
  | 57 => ⟨S_, .f32⟩
  | 58 => ⟨S72x64x16x64, .f32⟩
  | 59 => ⟨S72x64x16x64, .f32⟩
  | 60 => ⟨S_, .f32⟩
  | 61 => ⟨S72x64x16x64, .f32⟩
  | 62 => ⟨S72x64x16x64, .f32⟩
  | 63 => ⟨S8x64x16x64, .f32⟩
  | 64 => ⟨S64x64x16x64, .f32⟩
  | 65 => ⟨S4096x1024, .f32⟩
  | 66 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_call0_v0 : Ref sig .tc := ⟨.hbm, 41, rfl⟩
abbrev main_v31_1 : Ref sig .tc := ⟨.hbm, 42, rfl⟩
abbrev main_call0_v2 : Ref sig .tc := ⟨.hbm, 43, rfl⟩
abbrev main_v31_0 : Ref sig .tc := ⟨.hbm, 44, rfl⟩
abbrev main_call0_cst : Ref sig .tc := ⟨.hbm, 45, rfl⟩
abbrev main_v31_2 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_cst_10 : Ref sig .tc := ⟨.hbm, 103, rfl⟩
abbrev main_v81 : Ref sig .tc := ⟨.hbm, 104, rfl⟩
abbrev main_v82 : Ref sig .tc := ⟨.hbm, 105, rfl⟩
abbrev main_cst_11 : Ref sig .tc := ⟨.hbm, 106, rfl⟩
abbrev main_v83 : Ref sig .tc := ⟨.hbm, 107, rfl⟩
abbrev main_v84 : Ref sig .tc := ⟨.hbm, 108, rfl⟩
abbrev main_cst_12 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_cst_15 : Ref sig .tc := ⟨.hbm, 118, rfl⟩
abbrev main_v91 : Ref sig .tc := ⟨.hbm, 119, rfl⟩
abbrev main_v92 : Ref sig .tc := ⟨.hbm, 120, rfl⟩
abbrev main_cst_16 : Ref sig .tc := ⟨.hbm, 121, rfl⟩
abbrev main_v93 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_18 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_19 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_call1_cst : Ref sig .tc := ⟨.hbm, 144, rfl⟩
abbrev main_call1_v0 : Ref sig .tc := ⟨.hbm, 145, rfl⟩
abbrev main_v112 : Ref sig .tc := ⟨.hbm, 146, rfl⟩
abbrev main_cst_20 : Ref sig .tc := ⟨.hbm, 147, rfl⟩
abbrev main_v113 : Ref sig .tc := ⟨.hbm, 148, rfl⟩
abbrev main_v114 : Ref sig .tc := ⟨.hbm, 149, rfl⟩
abbrev main_cst_21 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_22 : Ref sig .tc := ⟨.hbm, 165, rfl⟩
abbrev main_v129 : Ref sig .tc := ⟨.hbm, 166, rfl⟩
abbrev main_cst_23 : Ref sig .tc := ⟨.hbm, 167, rfl⟩
abbrev main_v130 : Ref sig .tc := ⟨.hbm, 168, rfl⟩
abbrev main_v131 : Ref sig .tc := ⟨.hbm, 169, rfl⟩
abbrev main_cst_24 : Ref sig .tc := ⟨.hbm, 170, rfl⟩
abbrev main_v132 : Ref sig .tc := ⟨.hbm, 171, rfl⟩
abbrev main_v133 : Ref sig .tc := ⟨.hbm, 172, rfl⟩
abbrev main_cst_25 : Ref sig .tc := ⟨.hbm, 173, rfl⟩
abbrev main_v134 : Ref sig .tc := ⟨.hbm, 174, rfl⟩
abbrev main_v135 : Ref sig .tc := ⟨.hbm, 175, rfl⟩
abbrev main_cst_26 : Ref sig .tc := ⟨.hbm, 176, rfl⟩
abbrev main_v136 : Ref sig .tc := ⟨.hbm, 177, rfl⟩
abbrev main_v137 : Ref sig .tc := ⟨.hbm, 178, rfl⟩
abbrev main_cst_27 : Ref sig .tc := ⟨.hbm, 179, rfl⟩
abbrev main_v138 : Ref sig .tc := ⟨.hbm, 180, rfl⟩
abbrev main_v139 : Ref sig .tc := ⟨.hbm, 181, rfl⟩
abbrev main_cst_28 : Ref sig .tc := ⟨.hbm, 182, rfl⟩
abbrev main_v140 : Ref sig .tc := ⟨.hbm, 183, rfl⟩
abbrev main_v141 : Ref sig .tc := ⟨.hbm, 184, rfl⟩
abbrev main_cst_29 : Ref sig .tc := ⟨.hbm, 185, rfl⟩
abbrev main_v142 : Ref sig .tc := ⟨.hbm, 186, rfl⟩
abbrev main_v143 : Ref sig .tc := ⟨.hbm, 187, rfl⟩
abbrev main_cst_30 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩

abbrev nD : Nat := 1
abbrev τ : Topo := Topo.v7x

variable {F : FTy → Type} [FloatOps F]
-- ==== Dact.lean ====
abbrev S4096x5632 : Shape := ⟨2, ![4096, 5632]⟩
abbrev S128x5632 : Shape := ⟨2, ![128, 5632]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | .local _ .vmem, ⟨6, _⟩ => ⟨S128x5632, .bf16⟩
  | .local _ .vmem, ⟨7, _⟩ => ⟨S128x5632, .bf16⟩
  | .local _ .vmem, ⟨8, _⟩ => ⟨S128x5632, .bf16⟩
  | .local _ .vmem, ⟨9, _⟩ => ⟨S128x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DactRefIdeal.lean ====
abbrev S4096x5632 : Shape := ⟨2, ![4096, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Dnorm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DnormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Da.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S4096x5632, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S_, .bf16⟩
  | .hbm, ⟨3, _⟩ => ⟨S4096x5632, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x5632, .f32⟩
  | .hbm, ⟨14, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Dwdown.lean ====
abbrev S4096x5632 : Shape := ⟨2, ![4096, 5632]⟩
abbrev S4096x2048 : Shape := ⟨2, ![4096, 2048]⟩
abbrev S5632x2048 : Shape := ⟨2, ![5632, 2048]⟩
abbrev S256x1408 : Shape := ⟨2, ![256, 1408]⟩
abbrev S256x2048 : Shape := ⟨2, ![256, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S5632x2048, .bf16⟩
  | .local _ .vmem, ⟨0, _⟩ => ⟨S256x1408, .bf16⟩
  | .local _ .vmem, ⟨1, _⟩ => ⟨S256x1408, .bf16⟩
  | .local _ .vmem, ⟨2, _⟩ => ⟨S256x2048, .f32⟩
  | .local _ .vmem, ⟨3, _⟩ => ⟨S256x2048, .f32⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .bf16⟩
  | .hbm, ⟨3, _⟩ => ⟨S5632x2048, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Dngate.lean ====
abbrev S4096x5632 : Shape := ⟨2, ![4096, 5632]⟩
abbrev S2048x5632 : Shape := ⟨2, ![2048, 5632]⟩
abbrev S4096x2048 : Shape := ⟨2, ![4096, 2048]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DngateRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S_, .f32⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x5632, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dnup.lean ====
abbrev S4096x5632 : Shape := ⟨2, ![4096, 5632]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DnupRefIdeal.lean ====
abbrev S4096x5632 : Shape := ⟨2, ![4096, 5632]⟩
abbrev S2048x5632 : Shape := ⟨2, ![2048, 5632]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Dwgate.lean ====
abbrev S4096x2048 : Shape := ⟨2, ![4096, 2048]⟩
abbrev S4096x5632 : Shape := ⟨2, ![4096, 5632]⟩
abbrev S2048x5632 : Shape := ⟨2, ![2048, 5632]⟩
abbrev S512x2048 : Shape := ⟨2, ![512, 2048]⟩
abbrev S512x1408 : Shape := ⟨2, ![512, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S512x1408, .bf16⟩
  | .local _ .vmem, ⟨3, _⟩ => ⟨S512x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgateRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .bf16⟩
  | .hbm, ⟨3, _⟩ => ⟨S2048x5632, .bf16⟩
  | .hbm, ⟨4, _⟩ => ⟨S4096x2048, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Gate.lean ====
abbrev S4096x2048 : Shape := ⟨2, ![4096, 2048]⟩
abbrev S2048x5632 : Shape := ⟨2, ![2048, 5632]⟩
abbrev S4096x5632 : Shape := ⟨2, ![4096, 5632]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x2048, .f32⟩
  | .hbm, ⟨3, _⟩ => ⟨S2048x5632, .f32⟩
  | .hbm, ⟨4, _⟩ => ⟨S4096x5632, .f32⟩
  | .hbm, ⟨5, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Act.lean ====
abbrev S4096x5632 : Shape := ⟨2, ![4096, 5632]⟩
abbrev S128x5632 : Shape := ⟨2, ![128, 5632]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActRefIdeal.lean ====
abbrev S4096x5632 : Shape := ⟨2, ![4096, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S_, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixDn.lean ====
abbrev S4096x6400 : Shape := ⟨2, ![4096, 6400]⟩
abbrev S2048x6400 : Shape := ⟨2, ![2048, 6400]⟩
abbrev S4096x2048 : Shape := ⟨2, ![4096, 2048]⟩
abbrev S1024x640 : Shape := ⟨2, ![1024, 640]⟩
abbrev S2048x640 : Shape := ⟨2, ![2048, 640]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x6400, .bf16⟩
  | .hbm, ⟨1, _⟩ => ⟨S2048x6400, .bf16⟩
  | .hbm, ⟨2, _⟩ => ⟨S4096x2048, .f32⟩
  | .local _ .vmem, ⟨0, _⟩ => ⟨S1024x640, .bf16⟩
  | .local _ .vmem, ⟨1, _⟩ => ⟨S1024x640, .bf16⟩
  | .local _ .vmem, ⟨2, _⟩ => ⟨S2048x640, .bf16⟩
  | .local _ .vmem, ⟨3, _⟩ => ⟨S2048x640, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 10], ![false, false, false]⟩

def k0_cond2 (i : grid0.Coords) : BitVec 1 :=
  let arg2 : BitVec 32 := BitVec.ofNat 32 (i 2).val
  let c9_i32 : BitVec 32 := 9#32
  let v11 : BitVec 1 := Scalar.cmpi .eq arg2 c9_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDnRefIdeal.lean ====
abbrev S4096x6400 : Shape := ⟨2, ![4096, 6400]⟩
abbrev S2048x6400 : Shape := ⟨2, ![2048, 6400]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6400, .bf16⟩
  | .hbm, ⟨1, _⟩ => ⟨S2048x6400, .bf16⟩
  | .hbm, ⟨2, _⟩ => ⟨S_, .f32⟩
  | .hbm, ⟨3, _⟩ => ⟨S4096x2048, .f32⟩
  | .hbm, ⟨4, _⟩ => ⟨S2048x6400, .f32⟩
  | .hbm, ⟨5, _⟩ => ⟨S4096x6400, .f32⟩
  | .hbm, ⟨6, _⟩ => ⟨S4096x6400, .f32⟩
  | .hbm, ⟨7, _⟩ => ⟨S4096x2048, .f32⟩
  | _, _ => ⟨S4096x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDwin.lean ====
abbrev S4096x2048 : Shape := ⟨2, ![4096, 2048]⟩
abbrev S4096x6400 : Shape := ⟨2, ![4096, 6400]⟩
abbrev S2048x6400 : Shape := ⟨2, ![2048, 6400]⟩
abbrev S512x2048 : Shape := ⟨2, ![512, 2048]⟩
abbrev S512x1280 : Shape := ⟨2, ![512, 1280]⟩
abbrev S2048x1280 : Shape := ⟨2, ![2048, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6400, .bf16⟩
  | .hbm, ⟨2, _⟩ => ⟨S2048x6400, .bf16⟩
  | .local _ .vmem, ⟨0, _⟩ => ⟨S512x2048, .bf16⟩
  | .local _ .vmem, ⟨1, _⟩ => ⟨S512x2048, .bf16⟩
  | .local _ .vmem, ⟨2, _⟩ => ⟨S512x1280, .bf16⟩
  | .local _ .vmem, ⟨3, _⟩ => ⟨S512x1280, .bf16⟩
  | .local _ .vmem, ⟨4, _⟩ => ⟨S2048x1280, .bf16⟩
  | .local _ .vmem, ⟨5, _⟩ => ⟨S2048x1280, .bf16⟩
  | .local _ .vmem, ⟨6, _⟩ => ⟨S2048x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwinRefIdeal.lean ====
abbrev S4096x2048 : Shape := ⟨2, ![4096, 2048]⟩
abbrev S4096x6400 : Shape := ⟨2, ![4096, 6400]⟩
abbrev S_ : Shape := ⟨0, ![]⟩
abbrev S2048x6400 : Shape := ⟨2, ![2048, 6400]⟩
abbrev S6400x2048 : Shape := ⟨2, ![6400, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6400, .bf16⟩
  | .hbm, ⟨2, _⟩ => ⟨S_, .bf16⟩
  | .hbm, ⟨3, _⟩ => ⟨S2048x6400, .bf16⟩
  | .hbm, ⟨4, _⟩ => ⟨S4096x2048, .f32⟩
  | .hbm, ⟨5, _⟩ => ⟨S2048x6400, .f32⟩
  | .hbm, ⟨6, _⟩ => ⟨S4096x6400, .f32⟩
  | .hbm, ⟨7, _⟩ => ⟨S4096x6400, .f32⟩
  | .hbm, ⟨8, _⟩ => ⟨S6400x2048, .f32⟩
  | .hbm, ⟨9, _⟩ => ⟨S2048x6400, .f32⟩
  | .hbm, ⟨10, _⟩ => ⟨S2048x6400, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDcat.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDcatRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixDwout.lean ====
abbrev S4096x2048 : Shape := ⟨2, ![4096, 2048]⟩
abbrev S2048x2048 : Shape := ⟨2, ![2048, 2048]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwoutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .bf16⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PleDn.lean ====
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleDnRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PleDwgate.lean ====
abbrev S4096x2048 : Shape := ⟨2, ![4096, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleDwgateRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .bf16⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PleDwproj.lean ====
abbrev S4096x256 : Shape := ⟨2, ![4096, 256]⟩
abbrev S4096x2048 : Shape := ⟨2, ![4096, 2048]⟩
abbrev S256x2048 : Shape := ⟨2, ![256, 2048]⟩
abbrev S512x256 : Shape := ⟨2, ![512, 256]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S256x2048, .bf16⟩
  | .local _ .vmem, ⟨0, _⟩ => ⟨S512x256, .f32⟩
  | .local _ .vmem, ⟨1, _⟩ => ⟨S512x256, .f32⟩
  | .local _ .vmem, ⟨2, _⟩ => ⟨S512x2048, .bf16⟩
  | .local _ .vmem, ⟨3, _⟩ => ⟨S512x2048, .bf16⟩
  | .local _ .vmem, ⟨4, _⟩ => ⟨S256x2048, .bf16⟩
  | .local _ .vmem, ⟨5, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleDwprojRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .bf16⟩
  | .hbm, ⟨3, _⟩ => ⟨S256x2048, .bf16⟩
  | .hbm, ⟨4, _⟩ => ⟨S256x2048, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PleDout.lean ====
abbrev S4096x2048 : Shape := ⟨2, ![4096, 2048]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleDoutRefIdeal.lean ====
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AbOut.lean ====
abbrev S4096x2048 : Shape := ⟨2, ![4096, 2048]⟩
abbrev S2048x2048 : Shape := ⟨2, ![2048, 2048]⟩
abbrev S2048x256 : Shape := ⟨2, ![2048, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AbOutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleGate.lean ====
abbrev S4096x2048 : Shape := ⟨2, ![4096, 2048]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleProj.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩
abbrev S256x512 : Shape := ⟨2, ![256, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S256x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x2048, .f32⟩
  | .hbm, ⟨3, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PleOut.lean ====
abbrev S4096x2048 : Shape := ⟨2, ![4096, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleOutRefIdeal.lean ====
abbrev S4096x2048 : Shape := ⟨2, ![4096, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== SsmIn.lean ====
abbrev S4096x2048 : Shape := ⟨2, ![4096, 2048]⟩
abbrev S2048x1024 : Shape := ⟨2, ![2048, 1024]⟩
abbrev S4096x1024 : Shape := ⟨2, ![4096, 1024]⟩
abbrev S2048x2048 : Shape := ⟨2, ![2048, 2048]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmOut.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmGlu.lean ====
abbrev S4096x2048 : Shape := ⟨2, ![4096, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsmGluRefIdeal.lean ====
abbrev S4096x2048 : Shape := ⟨2, ![4096, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== SsmDglu.lean ====
abbrev S4096x2048 : Shape := ⟨2, ![4096, 2048]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SsmDgluRefIdeal.lean ====
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SsmDyg.lean ====
abbrev S4096x2048 : Shape := ⟨2, ![4096, 2048]⟩
abbrev S1024x2048 : Shape := ⟨2, ![1024, 2048]⟩
abbrev S4096x1024 : Shape := ⟨2, ![4096, 1024]⟩
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDygRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmDygAdd.lean ====
abbrev S4096x2048 : Shape := ⟨2, ![4096, 2048]⟩
abbrev S1024x2048 : Shape := ⟨2, ![1024, 2048]⟩
abbrev S4096x1024 : Shape := ⟨2, ![4096, 1024]⟩
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsmDygAddRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SsmDwout.lean ====
abbrev S4096x1024 : Shape := ⟨2, ![4096, 1024]⟩
abbrev S4096x2048 : Shape := ⟨2, ![4096, 2048]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsmDwoutRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .bf16⟩
  | .hbm, ⟨3, _⟩ => ⟨S1024x2048, .bf16⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SsmDwin.lean ====
abbrev S4096x2048 : Shape := ⟨2, ![4096, 2048]⟩
abbrev S4096x1024 : Shape := ⟨2, ![4096, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsmDwinRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .bf16⟩
  | .hbm, ⟨3, _⟩ => ⟨S2048x1024, .bf16⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmDn.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDnRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsmDhRe.lean ====
abbrev S4096x1024 : Shape := ⟨2, ![4096, 1024]⟩
abbrev S64x16x64 : Shape := ⟨3, ![64, 16, 64]⟩
abbrev S64x64x16 : Shape := ⟨3, ![64, 64, 16]⟩
abbrev S64x64 : Shape := ⟨2, ![64, 64]⟩
abbrev S_ : Shape := ⟨0, ![]⟩
abbrev S64x64x1x16 : Shape := ⟨4, ![64, 64, 1, 16]⟩
abbrev S64x1x64x1 : Shape := ⟨4, ![64, 1, 64, 1]⟩
abbrev S64x64x64x16 : Shape := ⟨4, ![64, 64, 64, 16]⟩
abbrev S4096x4096 : Shape := ⟨2, ![4096, 4096]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 17
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S64x16x64, .f32⟩
  | .hbm, ⟨2, _⟩ => ⟨S64x64x16, .f32⟩
  | .hbm, ⟨3, _⟩ => ⟨S64x64, .i32⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i1⟩
  | .hbm, ⟨9, _⟩ => ⟨S64x64, .f32⟩
  | .hbm, ⟨10, _⟩ => ⟨S64x64x1x16, .f32⟩
  | .hbm, ⟨11, _⟩ => ⟨S64x1x64x1, .f32⟩
  | .hbm, ⟨12, _⟩ => ⟨S64x64x64x16, .f32⟩
  | .hbm, ⟨13, _⟩ => ⟨S64x64x64x16, .f32⟩
  | .hbm, ⟨14, _⟩ => ⟨S64x64x64x16, .f32⟩
  | .hbm, ⟨15, _⟩ => ⟨S4096x1024, .f32⟩
  | .hbm, ⟨16, _⟩ => ⟨S4096x4096, .f32⟩
  | .local _ .vmem, ⟨0, _⟩ => ⟨S2048x1024, .f32⟩
  | .local _ .vmem, ⟨1, _⟩ => ⟨S2048x1024, .f32⟩
  | .local _ .vmem, ⟨2, _⟩ => ⟨S256x1024, .f32⟩
  | .local _ .vmem, ⟨3, _⟩ => ⟨S256x1024, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDhReRefIdeal.lean ====
abbrev S4096x1024 : Shape := ⟨2, ![4096, 1024]⟩
abbrev S64x16x64 : Shape := ⟨3, ![64, 16, 64]⟩
abbrev S_ : Shape := ⟨0, ![]⟩
abbrev S4096x4096 : Shape := ⟨2, ![4096, 4096]⟩
abbrev S4096x64x64 : Shape := ⟨3, ![4096, 64, 64]⟩
abbrev S64x4096x16 : Shape := ⟨3, ![64, 4096, 16]⟩
abbrev S4096x64x16 : Shape := ⟨3, ![4096, 64, 16]⟩
abbrev S64x4096x64 : Shape := ⟨3, ![64, 4096, 64]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64x16x64, .f32⟩
  | .hbm, ⟨2, _⟩ => ⟨S_, .f32⟩
  | .hbm, ⟨3, _⟩ => ⟨S4096x4096, .f32⟩
  | .hbm, ⟨4, _⟩ => ⟨S4096x64x64, .f32⟩
  | .hbm, ⟨5, _⟩ => ⟨S64x4096x16, .f32⟩
  | .hbm, ⟨6, _⟩ => ⟨S4096x64x16, .f32⟩
  | .hbm, ⟨7, _⟩ => ⟨S4096x1024, .f32⟩
  | .hbm, ⟨8, _⟩ => ⟨S4096x64x16, .f32⟩
  | .hbm, ⟨9, _⟩ => ⟨S64x4096x16, .f32⟩
  | .hbm, ⟨10, _⟩ => ⟨S64x4096x64, .f32⟩
  | .hbm, ⟨11, _⟩ => ⟨S4096x64x64, .f32⟩
  | .hbm, ⟨12, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SsmDhIm.lean ====
abbrev S4096x1024 : Shape := ⟨2, ![4096, 1024]⟩
abbrev S64x16x64 : Shape := ⟨3, ![64, 16, 64]⟩
abbrev S64x64x16 : Shape := ⟨3, ![64, 64, 16]⟩
abbrev S64x64 : Shape := ⟨2, ![64, 64]⟩
abbrev S_ : Shape := ⟨0, ![]⟩
abbrev S64x64x1x16 : Shape := ⟨4, ![64, 64, 1, 16]⟩
abbrev S64x1x64x1 : Shape := ⟨4, ![64, 1, 64, 1]⟩
abbrev S64x64x64x16 : Shape := ⟨4, ![64, 64, 64, 16]⟩
abbrev S4096x4096 : Shape := ⟨2, ![4096, 4096]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 18
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S64x16x64, .f32⟩
  | .hbm, ⟨2, _⟩ => ⟨S64x64x16, .f32⟩
  | .hbm, ⟨3, _⟩ => ⟨S64x64, .i32⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i1⟩
  | .hbm, ⟨9, _⟩ => ⟨S64x64, .f32⟩
  | .hbm, ⟨10, _⟩ => ⟨S64x64x1x16, .f32⟩
  | .hbm, ⟨11, _⟩ => ⟨S64x1x64x1, .f32⟩
  | .hbm, ⟨12, _⟩ => ⟨S64x64x64x16, .f32⟩
  | .hbm, ⟨13, _⟩ => ⟨S64x64x64x16, .f32⟩
  | .hbm, ⟨14, _⟩ => ⟨S64x64x64x16, .f32⟩
  | .hbm, ⟨15, _⟩ => ⟨S4096x1024, .f32⟩
  | .hbm, ⟨16, _⟩ => ⟨S4096x1024, .f32⟩
  | .hbm, ⟨17, _⟩ => ⟨S4096x4096, .f32⟩
  | .local _ .vmem, ⟨0, _⟩ => ⟨S2048x1024, .f32⟩
  | .local _ .vmem, ⟨1, _⟩ => ⟨S2048x1024, .f32⟩
  | .local _ .vmem, ⟨2, _⟩ => ⟨S256x1024, .f32⟩
  | .local _ .vmem, ⟨3, _⟩ => ⟨S256x1024, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDhImRefIdeal.lean ====
abbrev S4096x1024 : Shape := ⟨2, ![4096, 1024]⟩
abbrev S64x16x64 : Shape := ⟨3, ![64, 16, 64]⟩
abbrev S_ : Shape := ⟨0, ![]⟩
abbrev S4096x4096 : Shape := ⟨2, ![4096, 4096]⟩
abbrev S4096x64x64 : Shape := ⟨3, ![4096, 64, 64]⟩
abbrev S64x4096x16 : Shape := ⟨3, ![64, 4096, 16]⟩
abbrev S4096x64x16 : Shape := ⟨3, ![4096, 64, 16]⟩
abbrev S64x4096x64 : Shape := ⟨3, ![64, 4096, 64]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64x16x64, .f32⟩
  | .hbm, ⟨2, _⟩ => ⟨S_, .f32⟩
  | .hbm, ⟨3, _⟩ => ⟨S4096x4096, .f32⟩
  | .hbm, ⟨4, _⟩ => ⟨S4096x64x64, .f32⟩
  | .hbm, ⟨5, _⟩ => ⟨S64x4096x16, .f32⟩
  | .hbm, ⟨6, _⟩ => ⟨S4096x64x16, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x64x16, .f32⟩
  | .hbm, ⟨11, _⟩ => ⟨S64x4096x16, .f32⟩
  | .hbm, ⟨12, _⟩ => ⟨S64x4096x64, .f32⟩
  | .hbm, ⟨13, _⟩ => ⟨S4096x64x64, .f32⟩
  | .hbm, ⟨14, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== SsmDu.lean ====
abbrev S4096x4096 : Shape := ⟨2, ![4096, 4096]⟩
abbrev S4096x16 : Shape := ⟨2, ![4096, 16]⟩
abbrev S4096x1024 : Shape := ⟨2, ![4096, 1024]⟩
abbrev S64x64x16 : Shape := ⟨3, ![64, 64, 16]⟩
abbrev S64x16x64 : Shape := ⟨3, ![64, 16, 64]⟩
abbrev S64x64 : Shape := ⟨2, ![64, 64]⟩
abbrev S_ : Shape := ⟨0, ![]⟩
abbrev S64x16x1x64 : Shape := ⟨4, ![64, 16, 1, 64]⟩
abbrev S64x1x64x1 : Shape := ⟨4, ![64, 1, 64, 1]⟩
abbrev S64x16x64x64 : Shape := ⟨4, ![64, 16, 64, 64]⟩
abbrev S1024x4096 : Shape := ⟨2, ![1024, 4096]⟩
abbrev S1024x512 : Shape := ⟨2, ![1024, 512]⟩
abbrev S1024x1024 : Shape := ⟨2, ![1024, 1024]⟩

abbrev nBuf : Space → Nat
  | .hbm => 19
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x16, .f32⟩
  | .hbm, ⟨2, _⟩ => ⟨S4096x1024, .f32⟩
  | .hbm, ⟨3, _⟩ => ⟨S64x64x16, .f32⟩
  | .hbm, ⟨4, _⟩ => ⟨S64x16x64, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x64, .f32⟩
  | .hbm, ⟨12, _⟩ => ⟨S64x16x1x64, .f32⟩
  | .hbm, ⟨13, _⟩ => ⟨S64x1x64x1, .f32⟩
  | .hbm, ⟨14, _⟩ => ⟨S64x16x64x64, .f32⟩
  | .hbm, ⟨15, _⟩ => ⟨S64x16x64x64, .f32⟩
  | .hbm, ⟨16, _⟩ => ⟨S64x16x64x64, .f32⟩
  | .hbm, ⟨17, _⟩ => ⟨S1024x4096, .f32⟩
  | .hbm, ⟨18, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsmDuRefIdeal.lean ====
abbrev S4096x4096 : Shape := ⟨2, ![4096, 4096]⟩
abbrev S4096x16 : Shape := ⟨2, ![4096, 16]⟩
abbrev S4096x1024 : Shape := ⟨2, ![4096, 1024]⟩
abbrev S_ : Shape := ⟨0, ![]⟩
abbrev S64x64x16 : Shape := ⟨3, ![64, 64, 16]⟩
abbrev S4096x64x16 : Shape := ⟨3, ![4096, 64, 16]⟩
abbrev S64x4096x64 : Shape := ⟨3, ![64, 4096, 64]⟩
abbrev S4096x64x64 : Shape := ⟨3, ![4096, 64, 64]⟩
abbrev S64x4096x16 : Shape := ⟨3, ![64, 4096, 16]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x16, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S64x64x16, .f32⟩
  | .hbm, ⟨6, _⟩ => ⟨S4096x64x16, .f32⟩
  | .hbm, ⟨7, _⟩ => ⟨S64x4096x64, .f32⟩
  | .hbm, ⟨8, _⟩ => ⟨S4096x64x64, .f32⟩
  | .hbm, ⟨9, _⟩ => ⟨S4096x4096, .f32⟩
  | .hbm, ⟨10, _⟩ => ⟨S4096x64x64, .f32⟩
  | .hbm, ⟨11, _⟩ => ⟨S64x4096x64, .f32⟩
  | .hbm, ⟨12, _⟩ => ⟨S64x4096x16, .f32⟩
  | .hbm, ⟨13, _⟩ => ⟨S4096x64x16, .f32⟩
  | .hbm, ⟨14, _⟩ => ⟨S4096x1024, .f32⟩
  | .hbm, ⟨15, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== SsmBu.lean ====
abbrev S4096x1024 : Shape := ⟨2, ![4096, 1024]⟩
abbrev S4096x16 : Shape := ⟨2, ![4096, 16]⟩
abbrev S64x64x16 : Shape := ⟨3, ![64, 64, 16]⟩
abbrev S64x16x64 : Shape := ⟨3, ![64, 16, 64]⟩
abbrev S64x64 : Shape := ⟨2, ![64, 64]⟩
abbrev S_ : Shape := ⟨0, ![]⟩
abbrev S64x16x1x64 : Shape := ⟨4, ![64, 16, 1, 64]⟩
abbrev S64x1x64x1 : Shape := ⟨4, ![64, 1, 64, 1]⟩
abbrev S64x16x64x64 : Shape := ⟨4, ![64, 16, 64, 64]⟩
abbrev S1024x4096 : Shape := ⟨2, ![1024, 4096]⟩
abbrev S4096x4096 : Shape := ⟨2, ![4096, 4096]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 18
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x16, .f32⟩
  | .hbm, ⟨2, _⟩ => ⟨S64x64x16, .f32⟩
  | .hbm, ⟨3, _⟩ => ⟨S64x16x64, .f32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S64x64, .f32⟩
  | .hbm, ⟨11, _⟩ => ⟨S64x16x1x64, .f32⟩
  | .hbm, ⟨12, _⟩ => ⟨S64x1x64x1, .f32⟩
  | .hbm, ⟨13, _⟩ => ⟨S64x16x64x64, .f32⟩
  | .hbm, ⟨14, _⟩ => ⟨S64x16x64x64, .f32⟩
  | .hbm, ⟨15, _⟩ => ⟨S64x16x64x64, .f32⟩
  | .hbm, ⟨16, _⟩ => ⟨S1024x4096, .f32⟩
  | .hbm, ⟨17, _⟩ => ⟨S4096x4096, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S1024x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmBuRefIdeal.lean ====
abbrev S4096x1024 : Shape := ⟨2, ![4096, 1024]⟩
abbrev S4096x16 : Shape := ⟨2, ![4096, 16]⟩
abbrev S64x64x16 : Shape := ⟨3, ![64, 64, 16]⟩
abbrev S4096x64x16 : Shape := ⟨3, ![4096, 64, 16]⟩
abbrev S64x4096x64 : Shape := ⟨3, ![64, 4096, 64]⟩
abbrev S4096x64x64 : Shape := ⟨3, ![4096, 64, 64]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x16, .f32⟩
  | .hbm, ⟨2, _⟩ => ⟨S64x64x16, .f32⟩
  | .hbm, ⟨3, _⟩ => ⟨S4096x64x16, .f32⟩
  | .hbm, ⟨4, _⟩ => ⟨S64x4096x64, .f32⟩
  | .hbm, ⟨5, _⟩ => ⟨S4096x64x64, .f32⟩
  | .hbm, ⟨6, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmY.lean ====
abbrev S4096x4096 : Shape := ⟨2, ![4096, 4096]⟩
abbrev S64x16x64 : Shape := ⟨3, ![64, 16, 64]⟩
abbrev S64x64x16 : Shape := ⟨3, ![64, 64, 16]⟩
abbrev S64x64 : Shape := ⟨2, ![64, 64]⟩
abbrev S_ : Shape := ⟨0, ![]⟩
abbrev S64x64x1x16 : Shape := ⟨4, ![64, 64, 1, 16]⟩
abbrev S64x1x64x1 : Shape := ⟨4, ![64, 1, 64, 1]⟩
abbrev S64x64x64x16 : Shape := ⟨4, ![64, 64, 64, 16]⟩
abbrev S4096x1024 : Shape := ⟨2, ![4096, 1024]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 17
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S64x16x64, .f32⟩
  | .hbm, ⟨2, _⟩ => ⟨S64x64x16, .f32⟩
  | .hbm, ⟨3, _⟩ => ⟨S64x64, .i32⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i1⟩
  | .hbm, ⟨9, _⟩ => ⟨S64x64, .f32⟩
  | .hbm, ⟨10, _⟩ => ⟨S64x64x1x16, .f32⟩
  | .hbm, ⟨11, _⟩ => ⟨S64x1x64x1, .f32⟩
  | .hbm, ⟨12, _⟩ => ⟨S64x64x64x16, .f32⟩
  | .hbm, ⟨13, _⟩ => ⟨S64x64x64x16, .f32⟩
  | .hbm, ⟨14, _⟩ => ⟨S64x64x64x16, .f32⟩
  | .hbm, ⟨15, _⟩ => ⟨S4096x1024, .f32⟩
  | .hbm, ⟨16, _⟩ => ⟨S4096x1024, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S256x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmYRefIdeal.lean ====
abbrev S4096x4096 : Shape := ⟨2, ![4096, 4096]⟩
abbrev S64x16x64 : Shape := ⟨3, ![64, 16, 64]⟩
abbrev S4096x64x64 : Shape := ⟨3, ![4096, 64, 64]⟩
abbrev S64x4096x16 : Shape := ⟨3, ![64, 4096, 16]⟩
abbrev S4096x64x16 : Shape := ⟨3, ![4096, 64, 16]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S64x16x64, .f32⟩
  | .hbm, ⟨2, _⟩ => ⟨S4096x64x64, .f32⟩
  | .hbm, ⟨3, _⟩ => ⟨S64x4096x16, .f32⟩
  | .hbm, ⟨4, _⟩ => ⟨S4096x64x16, .f32⟩
  | .hbm, ⟨5, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Attn.KernelFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

/-! The kernel at machine words: every run ends with the arguments unchanged and the counters at zero. What the body
leaves in its outputs is not named. -/

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole memrefs: the inputs stay, the outputs and the scratch end at some contents. -/
theorem body_run (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x64x576 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S2x64x576 .f32) (harg9 : arg9.IsWhole) (arg10 : Memref sig .tc .vmem S4608x128 .f32) (harg10 : arg10.IsWhole) (arg11 : Memref sig .tc .vmem S4608x128 .f32) (harg11 : arg11.IsWhole) (arg12 : Memref sig .tc .vmem S4608x128 .f32) (harg12 : arg12.IsWhole) (arg13 : Memref sig .tc .vmem S4608x128 .f32) (harg13 : arg13.IsWhole)
    (x0 : Vec F S4096x128 .f32) (x1 : Vec F S4096x128 .f32) (x2 : Vec F S4096x128 .f32) (x3 : Vec F S2x64x576 .f32) (x4 : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attention_bwd i arg1 harg1 arg2 harg2 arg3 harg3 arg4 harg4 arg5 harg5 arg6 harg6 arg7 harg7 arg8 harg8 arg9 harg9 arg10 harg10 arg11 harg11 arg12 harg12 arg13 harg13) K := by
    intro E K
    simp only [cc0_attention_bwd_eq_skeleton]; unfold cc0_attention_bwd_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

/-- Window 0's staging memref at a point. -/
abbrev ms0_0 (t : Fin cfg0.N) : Memref sig .tc .vmem S4096x128 .f32 := win0_0.stage (cfg0.slots t 0)
/-- Window 1's staging memref at a point. -/
abbrev ms0_1 (t : Fin cfg0.N) : Memref sig .tc .vmem S4096x128 .f32 := win0_1.stage (cfg0.slots t 1)
/-- Window 2's staging memref at a point. -/
abbrev ms0_2 (t : Fin cfg0.N) : Memref sig .tc .vmem S4096x128 .f32 := win0_2.stage (cfg0.slots t 2)
/-- Window 3's staging memref at a point. -/
abbrev ms0_3 (t : Fin cfg0.N) : Memref sig .tc .vmem S2x64x576 .f32 := win0_3.stage (cfg0.slots t 3)
/-- Window 4's staging memref at a point. -/
abbrev ms0_4 (t : Fin cfg0.N) : Memref sig .tc .vmem S4096x128 .f32 := win0_4.stage (cfg0.slots t 4)
/-- Window 5's staging memref at a point. -/
abbrev ms0_5 (t : Fin cfg0.N) : Memref sig .tc .vmem S4096x128 .f32 := win0_5.stage (cfg0.slots t 5)
/-- Window 6's staging memref at a point. -/
abbrev ms0_6 (t : Fin cfg0.N) : Memref sig .tc .vmem S4096x128 .f32 := win0_6.stage (cfg0.slots t 6)
/-- Window 7's staging memref at a point. -/
abbrev ms0_7 (t : Fin cfg0.N) : Memref sig .tc .vmem S4096x128 .f32 := win0_7.stage (cfg0.slots t 7)
/-- Window 8's staging memref at a point. -/
abbrev ms0_8 (t : Fin cfg0.N) : Memref sig .tc .vmem S2x64x576 .f32 := win0_8.stage (cfg0.slots t 8)
/-- Scratch buffer 0 as a memref. -/
abbrev scM0_0 : Memref sig .tc .vmem S4608x128 .f32 := Memref.whole cc0_scratch0
/-- Scratch buffer 1 as a memref. -/
abbrev scM0_1 : Memref sig .tc .vmem S4608x128 .f32 := Memref.whole cc0_scratch1
/-- Scratch buffer 2 as a memref. -/
abbrev scM0_2 : Memref sig .tc .vmem S4608x128 .f32 := Memref.whole cc0_scratch2
/-- Scratch buffer 3 as a memref. -/
abbrev scM0_3 : Memref sig .tc .vmem S4608x128 .f32 := Memref.whole cc0_scratch3

/-- The invariant between points, with the scratch buffers as memrefs held at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The windows whose contents are not named: the outputs. -/
def forgets0 : Fin 9 → Bool := fun w => w.val == 5 || w.val == 6 || w.val == 7 || w.val == 8

/-- The proof data: the inputs stay at their blocks, the outputs are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the input arrays unchanged and the counters at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c))⟩)
    (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Attn

end
-- ==== Proof.Attn.Math.lean ====
module

public import Idealize.ShloMosaic.Lib.Pipeline.ValueKit

@[expose] public section

/-! One head of one chunk of the banded softmax attention, and its gradients, as sums over extended reals. -/

noncomputable section

namespace Cert.Attn

open Idealize.ShloMosaic

/-- The bit pattern of minus infinity. -/
theorem ofBits_bot : Ideal.ofBits .f32 0xFF800000#32 = ⊥ := by simp [Ideal.ofBits, Ideal.ieee]

/-- The operands of one head of one chunk: its number, the queries, the cotangent, the band of keys and of values, and
the bias, as functions of natural numbers. -/
structure Blk where
  c : ℕ
  q : ℕ → ℕ → EReal
  g : ℕ → ℕ → EReal
  k : ℕ → ℕ → EReal
  v : ℕ → ℕ → EReal
  b : ℕ → ℕ → EReal

namespace Blk

variable (B : Blk)

/-- The masked score. -/
def s (i j : ℕ) : EReal := if 512 ≤ 64 * B.c + j then (∑ d : Fin 64, B.q i d * B.k j d) + B.b i j else ⊥
/-- The maximum of a row of scores. -/
def mx (i : ℕ) : EReal := Finset.univ.fold max ⊥ (fun j : Fin 576 => B.s i j)
/-- The exponential of a shifted score. -/
def e (i j : ℕ) : EReal := Ideal.exp (B.s i j - B.mx i)
/-- The sum of a row of exponentials. -/
def S (i : ℕ) : EReal := ∑ j : Fin 576, B.e i j
/-- The attention probability. -/
def p (i j : ℕ) : EReal := Ideal.div (B.e i j) (B.S i)
/-- The gradient of a probability. -/
def dp (i j : ℕ) : EReal := ∑ d : Fin 64, B.g i d * B.v j d
/-- The gradient of a row sum. -/
def t (i : ℕ) : EReal := 0 - ∑ j : Fin 576, B.dp i j * Ideal.div 1 (B.S i * B.S i) * B.e i j
/-- The gradient of a score. -/
def ds (i j : ℕ) : EReal :=
  if 512 ≤ 64 * B.c + j then (Ideal.div (B.dp i j) (B.S i) + B.t i) * B.e i j else 0
/-- The gradient of a query entry. -/
def dq (i d : ℕ) : EReal := ∑ j : Fin 576, B.ds i j * B.k j d
/-- The chunk's part of the gradient of a key entry. -/
def dk (j d : ℕ) : EReal := ∑ i : Fin 64, B.ds i j * B.q i d
/-- The chunk's part of the gradient of a value entry. -/
def dv (j d : ℕ) : EReal := ∑ i : Fin 64, B.p i j * B.g i d

end Blk

/-- The operands of the whole call, as functions of natural numbers. -/
structure Args where
  q : ℕ → ℕ → EReal
  k : ℕ → ℕ → EReal
  v : ℕ → ℕ → EReal
  b : ℕ → ℕ → ℕ → EReal
  g : ℕ → ℕ → EReal

/-- An array with eight chunks of zero rows before it. -/
def pad (x : ℕ → ℕ → EReal) (r n : ℕ) : EReal := if 512 ≤ r then x (r - 512) n else 0

namespace Args

variable (A : Args)

/-- The operands of head `H` of chunk `c`. -/
def blk (c H : ℕ) : Blk where
  c := c
  q := fun i d => A.q (64 * c + i) (64 * H + d)
  g := fun i d => A.g (64 * c + i) (64 * H + d)
  k := fun j d => pad A.k (64 * c + j) (64 * H + d)
  v := fun j d => pad A.v (64 * c + j) (64 * H + d)
  b := A.b H

/-- Chunk `c`'s part of row `r` of the padded gradient of the keys. -/
def dkc (c r n : ℕ) : EReal :=
  if 64 * c ≤ r ∧ r < 64 * c + 576 then (A.blk c (n / 64)).dk (r - 64 * c) (n % 64) else 0
/-- Chunk `c`'s part of row `r` of the padded gradient of the values. -/
def dvc (c r n : ℕ) : EReal :=
  if 64 * c ≤ r ∧ r < 64 * c + 576 then (A.blk c (n / 64)).dv (r - 64 * c) (n % 64) else 0

/-- The gradient of the queries. -/
def dq (r n : ℕ) : EReal := (A.blk (r / 64) (n / 64)).dq (r % 64) (n % 64)
/-- The first `m` chunks' part of the padded gradient of the keys. -/
def dkS (m r n : ℕ) : EReal := ∑ c ∈ Finset.range m, A.dkc c r n
/-- The first `m` chunks' part of the padded gradient of the values. -/
def dvS (m r n : ℕ) : EReal := ∑ c ∈ Finset.range m, A.dvc c r n
/-- The first `m` chunks' part of the gradient of the bias. -/
def dbS (m H i j : ℕ) : EReal := ∑ c ∈ Finset.range m, (A.blk c H).ds i j

end Args

end Cert.Attn
end
-- ==== Proof.Attn.Ops.lean ====
module

public import proofs.«01_k».proof.Proof.Gen.KernelIdeal.Loops
public import proofs.«01_k».proof.Proof.Attn.Math

@[expose] public section

set_option maxRecDepth 16384

/-! The operations of one head of one chunk, as functions of vectors, in the order the kernel runs them. -/

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- The masked scores of a chunk of queries against its band of keys. -/
def scoreV (b : FVec F S64x576 .f32) (q : FVec F S64x64 .f32) (k : FVec F S576x64 .f32) (ok : IVec S64x576 1) :
    FVec F S64x576 .f32 :=
  select ok (addf (matmul dot_S64x64_S576x64_S64x576_1_1_0_0_n_n none (truncf .bf16 q bitsLt_bf16_f32)
    (truncf .bf16 k bitsLt_bf16_f32) (constant S64x576 .f32 0x00000000#32)) b)
    (broadcast S64x576 (Named.named κ "mask" 0xF149F2CA#32 : F .f32))

/-- The exponentials of the scores, each row shifted by its maximum. -/
def expV (s : FVec F S64x576 .f32) : FVec F S64x576 .f32 :=
  exp (subf s (broadcastTo S64x576 (shapeCast S64x1 (multiReduction .maximumf [1] S64 s 0xFF800000#32
    reduces_S64x576_S64 (.inl rfl) rfl) shapeCasts_S64_S64x1) broadcasts_S64x1_S64x576))

/-- The row sums of a matrix, as a column. -/
def sumV (e : FVec F S64x576 .f32) : FVec F S64x1 .f32 :=
  shapeCast S64x1 (multiReduction .add [1] S64 e 0x00000000#32 reduces_S64x576_S64 (.inl rfl) rfl)
    shapeCasts_S64_S64x1

/-- The probabilities: each row divided by its sum. -/
def probV (e : FVec F S64x576 .f32) : FVec F S64x576 .f32 :=
  divf e (broadcastTo S64x576 (sumV e) broadcasts_S64x1_S64x576)

/-- The gradient of the probabilities. -/
def dpV (g : FVec F S64x64 .f32) (v : FVec F S576x64 .f32) : FVec F S64x576 .f32 :=
  matmul dot_S64x64_S576x64_S64x576_1_1_0_0_n_n none (truncf .bf16 g bitsLt_bf16_f32)
    (truncf .bf16 v bitsLt_bf16_f32) (constant S64x576 .f32 0x00000000#32)

/-- The gradient of the row sums, as a column. -/
def tV (e dp : FVec F S64x576 .f32) : FVec F S64x1 .f32 :=
  subf (broadcast S64x1 (FloatOps.ofBits .f32 0x00000000#32 : F .f32))
    (sumV (mulf (mulf dp (broadcastTo S64x576 (divf (broadcast S64x1 (FloatOps.ofBits .f32 0x3F800000#32 : F .f32))
      (mulf (sumV e) (sumV e))) broadcasts_S64x1_S64x576)) e))

/-- The gradient of the scores. -/
def dsV (e dp : FVec F S64x576 .f32) (ok : IVec S64x576 1) : FVec F S64x576 .f32 :=
  select ok (mulf (addf (divf dp (broadcastTo S64x576 (sumV e) broadcasts_S64x1_S64x576))
    (broadcastTo S64x576 (shapeCast S64x1 (multiReduction .add [1] S64 (tV e dp) 0x00000000#32
      reduces_S64x1_S64 (.inl rfl) rfl) shapeCasts_S64_S64x1) broadcasts_S64x1_S64x576)) e)
    (broadcast S64x576 (FloatOps.ofBits .f32 0x00000000#32 : F .f32))

/-- The gradient of the queries. -/
def dqV (ds : FVec F S64x576 .f32) (k : FVec F S576x64 .f32) : FVec F S64x64 .f32 :=
  matmul dot_S64x576_S576x64_S64x64_1_0_0_1_n_n none (truncf .bf16 ds bitsLt_bf16_f32)
    (truncf .bf16 k bitsLt_bf16_f32) (constant S64x64 .f32 0x00000000#32)

/-- The gradient of the keys (and, of the probabilities and the cotangent, that of the values). -/
def dkV (ds : FVec F S64x576 .f32) (q : FVec F S64x64 .f32) : FVec F S576x64 .f32 :=
  matmul dot_S64x576_S64x64_S576x64_0_0_1_1_n_n none (truncf .bf16 ds bitsLt_bf16_f32)
    (truncf .bf16 q bitsLt_bf16_f32) (constant S576x64 .f32 0x00000000#32)

/-! Each read at an entry, as the entry of the block of extended reals. -/

open Cert.Attn

variable {B : Blk}

/-- The scores at an entry. -/
theorem scoreV_apply {b : FVec Ideal S64x576 .f32} {q : FVec Ideal S64x64 .f32} {k : FVec Ideal S576x64 .f32}
    {ok : IVec S64x576 1} (hb : ∀ i j, b (ix2 i j) = B.b i.val j.val) (hq : ∀ i d, q (ix2 i d) = B.q i.val d.val)
    (hk : ∀ j d, k (ix2 j d) = B.k j.val d.val)
    (hok : ∀ i j, ok (ix2 i j) = if 512 ≤ 64 * B.c + j.val then 1#1 else 0#1) (i : Fin 64) (j : Fin 576) :
    scoreV b q k ok (ix2 i j) = B.s i.val j.val := by
  pointwise [scoreV]
  rw [hok, hb, Blk.s]
  simp only [hq, hk]
  split
  · rfl
  · rfl

/-- The exponentials at an entry. -/
theorem expV_apply {s : FVec Ideal S64x576 .f32} (hs : ∀ i j, s (ix2 i j) = B.s i.val j.val) (i : Fin 64)
    (j : Fin 576) : expV s (ix2 i j) = B.e i.val j.val := by
  pointwise [expV]
  rw [ofBits_bot, hs, Blk.e, Blk.mx]
  simp only [hs]

/-- The probabilities at an entry. -/
theorem probV_apply {e : FVec Ideal S64x576 .f32} (he : ∀ i j, e (ix2 i j) = B.e i.val j.val) (i : Fin 64)
    (j : Fin 576) : probV e (ix2 i j) = B.p i.val j.val := by
  pointwise [probV, sumV]
  simp only [he, Blk.p, Blk.S]

/-- The gradient of the probabilities at an entry. -/
theorem dpV_apply {g : FVec Ideal S64x64 .f32} {v : FVec Ideal S576x64 .f32}
    (hg : ∀ i d, g (ix2 i d) = B.g i.val d.val) (hv : ∀ j d, v (ix2 j d) = B.v j.val d.val) (i : Fin 64)
    (j : Fin 576) : dpV g v (ix2 i j) = B.dp i.val j.val := by
  pointwise [dpV]
  simp only [hg, hv, Blk.dp]

/-- The gradient of the scores at an entry. -/
theorem dsV_apply {e dp : FVec Ideal S64x576 .f32} {ok : IVec S64x576 1}
    (he : ∀ i j, e (ix2 i j) = B.e i.val j.val) (hdp : ∀ i j, dp (ix2 i j) = B.dp i.val j.val)
    (hok : ∀ i j, ok (ix2 i j) = if 512 ≤ 64 * B.c + j.val then 1#1 else 0#1) (i : Fin 64) (j : Fin 576) :
    dsV e dp ok (ix2 i j) = B.ds i.val j.val := by
  pointwise [dsV, tV, sumV]
  rw [hok, Blk.ds]
  simp only [he, hdp, Blk.t, Blk.S, Fin.sum_univ_one]
  split
  · rfl
  · rfl

/-- The gradient of the queries at an entry. -/
theorem dqV_apply {ds : FVec Ideal S64x576 .f32} {k : FVec Ideal S576x64 .f32}
    (hds : ∀ i j, ds (ix2 i j) = B.ds i.val j.val) (hk : ∀ j d, k (ix2 j d) = B.k j.val d.val) (i d : Fin 64) :
    dqV ds k (ix2 i d) = B.dq i.val d.val := by
  pointwise [dqV]
  simp only [hds, hk, Blk.dq]

/-- The gradient of the keys at an entry. -/
theorem dkV_apply {ds : FVec Ideal S64x576 .f32} {q : FVec Ideal S64x64 .f32}
    (hds : ∀ i j, ds (ix2 i j) = B.ds i.val j.val) (hq : ∀ i d, q (ix2 i d) = B.q i.val d.val) (j : Fin 576)
    (d : Fin 64) : dkV ds q (ix2 j d) = B.dk j.val d.val := by
  pointwise [dkV]
  simp only [hds, hq, Blk.dk]

/-- The gradient of the values at an entry. -/
theorem dvV_apply {p : FVec Ideal S64x576 .f32} {g : FVec Ideal S64x64 .f32}
    (hp : ∀ i j, p (ix2 i j) = B.p i.val j.val) (hg : ∀ i d, g (ix2 i d) = B.g i.val d.val) (j : Fin 576)
    (d : Fin 64) : dkV p g (ix2 j d) = B.dv j.val d.val := by
  pointwise [dkV]
  simp only [hp, hg, Blk.dv]

end Cert.KernelIdeal.Attn
end
-- ==== Proof.Attn.Words.lean ====
module

public import proofs.«01_k».proof.Proof.Attn.Ops
public import proofs.«01_k».proof.Proof.Gen.KernelIdeal.Frame
public import Idealize.ShloMosaic.Lib.Tactic.WordOmega

@[expose] public section

set_option maxRecDepth 16384

/-! The loop body's vectors at an entry: for the two chunks of a trip and the two heads of a block, each operand and each
gradient is the entry of the block of extended reals of that chunk and head. -/

noncomputable section

namespace Cert.KernelIdeal.Attn

open Cert.KernelIdeal Cert.KernelIdeal.Gen Cert.Attn
open Idealize.ShloMosaic Idealize.ShloMosaic.TcCoe Idealize.ShloMosaic.Tactic

/-- A load of a unit-stride rectangle read at an entry. -/
theorem readAt_at {sig : RefSig} {κ : Kind} {sp : Space} {s : Shape} {e : EltTy} {Val : EltTy → Type} (v : View sig κ sp s e)
    {off off' size : Fin s.rank → ℕ} (inb : ∀ a, off a + size a ≤ s.size a) (f : v.ty.Contents Val)
    (x : (Rect.unit off size inb).shape.Idx) (y : s.Idx) (heq : off = off') (hy : ∀ a, (y a).val = off' a + (x a).val) :
    v.readAt Val (Rect.unit off size inb).toLoadRect f x = v.read Val f y := by
  subst heq
  have h : (Rect.unit off size inb).emb x = y := funext fun a => Fin.ext (by
    show off a + 1 * (x a).val = (y a).val
    rw [hy a, Nat.one_mul])
  rw [← h]
  rfl

/-- The loop runs at most thirty-two trips. -/
theorem trip_lt (k : Fin k0_t1_loop.trips) : k.val < 32 := Nat.lt_of_lt_of_le k.isLt k0_t1_abs.2.1

/-- What a block of the grid holds before the loop: the queries, the cotangent, the padded keys and values, and the two
heads' biases, from head `hd` on. -/
structure Holds (A : Args) (hd : ℕ) (arg1 : Memref sig .tc .vmem S4096x128 .f32) (arg5 : Memref sig .tc .vmem S4096x128 .f32) (arg10 : Memref sig .tc .vmem S4608x128 .f32) (arg11 : Memref sig .tc .vmem S4608x128 .f32)
    (v25 v27 : Vec Ideal S1x64x576 .f32) (X1 : BufTy.Contents (Elt Ideal) arg1.view.ty) (X5 : BufTy.Contents (Elt Ideal) arg5.view.ty) (X10 : BufTy.Contents (Elt Ideal) arg10.view.ty) (X11 : BufTy.Contents (Elt Ideal) arg11.view.ty) : Prop where
  q : ∀ (r : Fin 4096) (n : Fin 128), arg1.view.read (Elt Ideal) X1 (ix2 r n) = A.q r.val (64 * hd + n.val)
  g : ∀ (r : Fin 4096) (n : Fin 128), arg5.view.read (Elt Ideal) X5 (ix2 r n) = A.g r.val (64 * hd + n.val)
  k : ∀ (r : Fin 4608) (n : Fin 128), arg10.view.read (Elt Ideal) X10 (ix2 r n) = pad A.k r.val (64 * hd + n.val)
  v : ∀ (r : Fin 4608) (n : Fin 128), arg11.view.read (Elt Ideal) X11 (ix2 r n) = pad A.v r.val (64 * hd + n.val)
  b0 : ∀ (i : Fin 64) (j : Fin 576), v25 (ix3 0 i j) = A.b hd i.val j.val
  b1 : ∀ (i : Fin 64) (j : Fin 576), v27 (ix3 0 i j) = A.b (hd + 1) i.val j.val

variable {A : Args} {hd : ℕ} {arg1 : Memref sig .tc .vmem S4096x128 .f32} {arg5 : Memref sig .tc .vmem S4096x128 .f32} {arg10 : Memref sig .tc .vmem S4608x128 .f32} {arg11 : Memref sig .tc .vmem S4608x128 .f32}
  {v25 v27 : Vec Ideal S1x64x576 .f32} {X1 : BufTy.Contents (Elt Ideal) arg1.view.ty} {X5 : BufTy.Contents (Elt Ideal) arg5.view.ty} {X10 : BufTy.Contents (Elt Ideal) arg10.view.ty} {X11 : BufTy.Contents (Elt Ideal) arg11.view.ty}

/-- The bias of head 0 of the block. -/
theorem b_0 (H : Holds A hd arg1 arg5 arg10 arg11 v25 v27 X1 X5 X10 X11) (i : Fin 64) (j : Fin 576) :
    k0_pay1 v25 (ix2 i j) = A.b (hd + 0) i.val j.val := by
  pointwise [k0_pay1]
  exact H.b0 i j

/-- The bias of head 1 of the block. -/
theorem b_1 (H : Holds A hd arg1 arg5 arg10 arg11 v25 v27 X1 X5 X10 X11) (i : Fin 64) (j : Fin 576) :
    k0_pay2 v27 (ix2 i j) = A.b (hd + 1) i.val j.val := by
  pointwise [k0_pay2]
  exact H.b1 i j

/-- The comparison of a small word with 512. -/
theorem sge_512 {w : BitVec 32} {n : ℕ} (hw : w.toNat = n) (hn : n < 2 ^ 31) :
    IntOp.cmpi .sge w 512#32 = if 512 ≤ n then 1#1 else 0#1 := by
  split <;> word_omega

/-- The queries of chunk 0, head 0. -/
theorem q_00 (H : Holds A hd arg1 arg5 arg10 arg11 v25 v27 X1 X5 X10 X11) (k : Fin k0_t1_loop.trips) (i : Fin 64) (d : Fin 64) :
    trip_k0_t1.sl.v44 (F := Ideal) arg1 X1 k (ix2 i d) = (A.blk (2 * k.val + 0) (hd + 0)).q i.val d.val := by
  have hk := trip_lt k
  pointwise [trip_k0_t1.sl.v44]
  refine (readAt_at _ _ _ _ (ix2 (⟨128 * k.val + 64 * 0 + i.val, by omega⟩ : Fin 4096) (⟨0 + d.val, by omega⟩ : Fin 128))
    (k0_off1_eq k ⟨0, by decide⟩) (Fin.forall_fin_two.mpr ⟨rfl, ?_⟩)).trans ?_
  · show 0 + d.val = 0 + _
    simp
  · rw [H.q]
    show A.q _ _ = A.q (64 * (2 * k.val + 0) + i.val) (64 * (hd + 0) + d.val)
    exact congrArg₂ _ (by simp only []; omega) (by simp only []; omega)

/-- The cotangent of chunk 0, head 0. -/
theorem g_00 (H : Holds A hd arg1 arg5 arg10 arg11 v25 v27 X1 X5 X10 X11) (k : Fin k0_t1_loop.trips) (i : Fin 64) (d : Fin 64) :
    trip_k0_t1.sl.v172 (F := Ideal) arg5 X5 k (ix2 i d) = (A.blk (2 * k.val + 0) (hd + 0)).g i.val d.val := by
  have hk := trip_lt k
  pointwise [trip_k0_t1.sl.v172, trip_k0_t1.sl.r_9]
  refine (readAt_at _ _ _ _ (ix2 (⟨128 * k.val + 64 * 0 + i.val, by omega⟩ : Fin 4096) (⟨0 + d.val, by omega⟩ : Fin 128))
    (k0_off1_eq k ⟨0, by decide⟩) (Fin.forall_fin_two.mpr ⟨rfl, ?_⟩)).trans ?_
  · show 0 + d.val = 0 + _
    simp
  · rw [H.g]
    show A.g _ _ = A.g (64 * (2 * k.val + 0) + i.val) (64 * (hd + 0) + d.val)
    exact congrArg₂ _ (by simp only []; omega) (by simp only []; omega)

/-- The band of keys of chunk 0, head 0. -/
theorem k_00 (H : Holds A hd arg1 arg5 arg10 arg11 v25 v27 X1 X5 X10 X11) (k : Fin k0_t1_loop.trips) (i : Fin 576) (d : Fin 64) :
    trip_k0_t1.sl.v52 (F := Ideal) arg10 X10 k (ix2 i d) = (A.blk (2 * k.val + 0) (hd + 0)).k i.val d.val := by
  have hk := trip_lt k
  pointwise [trip_k0_t1.sl.v52]
  refine (readAt_at _ _ _ _ (ix2 (⟨128 * k.val + 64 * 0 + i.val, by omega⟩ : Fin 4608) (⟨0 + d.val, by omega⟩ : Fin 128))
    (k0_off2_eq k ⟨0, by decide⟩) (Fin.forall_fin_two.mpr ⟨rfl, ?_⟩)).trans ?_
  · show 0 + d.val = 0 + _
    simp
  · rw [H.k]
    show pad A.k _ _ = pad A.k (64 * (2 * k.val + 0) + i.val) (64 * (hd + 0) + d.val)
    exact congrArg₂ _ (by simp only []; omega) (by simp only []; omega)

/-- The band of values of chunk 0, head 0. -/
theorem v_00 (H : Holds A hd arg1 arg5 arg10 arg11 v25 v27 X1 X5 X10 X11) (k : Fin k0_t1_loop.trips) (i : Fin 576) (d : Fin 64) :
    trip_k0_t1.sl.v60 (F := Ideal) arg11 X11 k (ix2 i d) = (A.blk (2 * k.val + 0) (hd + 0)).v i.val d.val := by
  have hk := trip_lt k
  pointwise [trip_k0_t1.sl.v60]
  refine (readAt_at _ _ _ _ (ix2 (⟨128 * k.val + 64 * 0 + i.val, by omega⟩ : Fin 4608) (⟨0 + d.val, by omega⟩ : Fin 128))
    (k0_off2_eq k ⟨0, by decide⟩) (Fin.forall_fin_two.mpr ⟨rfl, ?_⟩)).trans ?_
  · show 0 + d.val = 0 + _
    simp
  · rw [H.v]
    show pad A.v _ _ = pad A.v (64 * (2 * k.val + 0) + i.val) (64 * (hd + 0) + d.val)
    exact congrArg₂ _ (by simp only []; omega) (by simp only []; omega)

/-- The mask of chunk 0, head 0. -/
theorem m_00 (k : Fin k0_t1_loop.trips) (i : Fin 64) (j : Fin 576) :
    trip_k0_t1.sl.r k (ix2 i j) = if 512 ≤ 64 * (2 * k.val + 0) + j.val then 1#1 else 0#1 := by
  have hk := trip_lt k
  pointwise [trip_k0_t1.sl.r, k0_pay22, k0_pay24, k0_pay26, k0_pay28, trip_k0_t1.sl.v71, trip_k0_t1.sl.v70, trip_k0_t1.sl.v69, trip_k0_t1.sl.v68,
    trip_k0_t1.sl.v67, trip_k0_t1.sl.v38, trip_k0_t1.sl.v37, trip_k0_t1.sl.v35, trip_k0_t1.sl.v34, trip_k0_t1.sl.arg14]
  refine sge_512 ?_ (by omega)
  simp only [Scf.iv, Scalar.muli, Scalar.addi, IntOp.muli, IntOp.addi, BitVec.toNat_add, BitVec.toNat_mul,
    BitVec.toNat_ofNat]
  omega

/-- The exponentials of chunk 0, head 0. -/
theorem e_00 (H : Holds A hd arg1 arg5 arg10 arg11 v25 v27 X1 X5 X10 X11) (k : Fin k0_t1_loop.trips) (i : Fin 64) (j : Fin 576) :
    trip_k0_t1.sl.v126 (F := Ideal) arg1 arg10 v25 X1 X10 k (ix2 i j) = (A.blk (2 * k.val + 0) (hd + 0)).e i.val j.val := by
  have h : trip_k0_t1.sl.v126 (F := Ideal) arg1 arg10 v25 X1 X10 k = expV (scoreV (k0_pay1 v25) (trip_k0_t1.sl.v44 (F := Ideal) arg1 X1 k) (trip_k0_t1.sl.v52 (F := Ideal) arg10 X10 k)
    (trip_k0_t1.sl.r k)) := rfl
  rw [h]
  exact expV_apply (scoreV_apply (b_0 H) (q_00 H k) (k_00 H k) (m_00 k)) i j

/-- The gradient of the scores of chunk 0, head 0. -/
theorem ds_00 (H : Holds A hd arg1 arg5 arg10 arg11 v25 v27 X1 X5 X10 X11) (k : Fin k0_t1_loop.trips) (i : Fin 64) (j : Fin 576) :
    trip_k0_t1.sl.v283 (F := Ideal) arg1 arg5 arg10 arg11 v25 X1 X5 X10 X11 k (ix2 i j) = (A.blk (2 * k.val + 0) (hd + 0)).ds i.val j.val := by
  have h : trip_k0_t1.sl.v283 (F := Ideal) arg1 arg5 arg10 arg11 v25 X1 X5 X10 X11 k = dsV (trip_k0_t1.sl.v126 (F := Ideal) arg1 arg10 v25 X1 X10 k) (dpV (trip_k0_t1.sl.v172 (F := Ideal) arg5 X5 k) (trip_k0_t1.sl.v60 (F := Ideal) arg11 X11 k))
    (trip_k0_t1.sl.r k) := rfl
  rw [h]
  exact dsV_apply (e_00 H k) (dpV_apply (g_00 H k) (v_00 H k)) (m_00 k) i j

/-- The gradient of the queries of chunk 0, head 0. -/
theorem dq_00 (H : Holds A hd arg1 arg5 arg10 arg11 v25 v27 X1 X5 X10 X11) (k : Fin k0_t1_loop.trips) (i d : Fin 64) :
    trip_k0_t1.sl.v286 (F := Ideal) arg1 arg5 arg10 arg11 v25 X1 X5 X10 X11 k (ix2 i d) = (A.blk (2 * k.val + 0) (hd + 0)).dq i.val d.val := by
  have h : trip_k0_t1.sl.v286 (F := Ideal) arg1 arg5 arg10 arg11 v25 X1 X5 X10 X11 k = dqV (trip_k0_t1.sl.v283 (F := Ideal) arg1 arg5 arg10 arg11 v25 X1 X5 X10 X11 k) (trip_k0_t1.sl.v52 (F := Ideal) arg10 X10 k) := rfl
  rw [h]
  exact dqV_apply (ds_00 H k) (k_00 H k) i d

/-- The gradient of the band of keys of chunk 0, head 0. -/
theorem dk_00 (H : Holds A hd arg1 arg5 arg10 arg11 v25 v27 X1 X5 X10 X11) (k : Fin k0_t1_loop.trips) (j : Fin 576) (d : Fin 64) :
    trip_k0_t1.sl.v289 (F := Ideal) arg1 arg5 arg10 arg11 v25 X1 X5 X10 X11 k (ix2 j d) = (A.blk (2 * k.val + 0) (hd + 0)).dk j.val d.val := by
  have h : trip_k0_t1.sl.v289 (F := Ideal) arg1 arg5 arg10 arg11 v25 X1 X5 X10 X11 k = dkV (trip_k0_t1.sl.v283 (F := Ideal) arg1 arg5 arg10 arg11 v25 X1 X5 X10 X11 k) (trip_k0_t1.sl.v44 (F := Ideal) arg1 X1 k) := rfl
  rw [h]
  exact dkV_apply (ds_00 H k) (q_00 H k) j d

/-- The gradient of the band of values of chunk 0, head 0. -/
theorem dv_00 (H : Holds A hd arg1 arg5 arg10 arg11 v25 v27 X1 X5 X10 X11) (k : Fin k0_t1_loop.trips) (j : Fin 576) (d : Fin 64) :
    trip_k0_t1.sl.v201 (F := Ideal) arg1 arg5 arg10 v25 X1 X5 X10 k (ix2 j d) = (A.blk (2 * k.val + 0) (hd + 0)).dv j.val d.val := by
  have h : trip_k0_t1.sl.v201 (F := Ideal) arg1 arg5 arg10 v25 X1 X5 X10 k = dkV (probV (trip_k0_t1.sl.v126 (F := Ideal) arg1 arg10 v25 X1 X10 k)) (trip_k0_t1.sl.v172 (F := Ideal) arg5 X5 k) := rfl
  rw [h]
  exact dvV_apply (probV_apply (e_00 H k)) (g_00 H k) j d

/-- The queries of chunk 0, head 1. -/
theorem q_01 (H : Holds A hd arg1 arg5 arg10 arg11 v25 v27 X1 X5 X10 X11) (k : Fin k0_t1_loop.trips) (i : Fin 64) (d : Fin 64) :
    trip_k0_t1.sl.v45 (F := Ideal) arg1 X1 k (ix2 i d) = (A.blk (2 * k.val + 0) (hd + 1)).q i.val d.val := by
  have hk := trip_lt k
  pointwise [trip_k0_t1.sl.v45]
  refine (readAt_at _ _ _ _ (ix2 (⟨128 * k.val + 64 * 0 + i.val, by omega⟩ : Fin 4096) (⟨64 + d.val, by omega⟩ : Fin 128))
    (k0_off1_eq k ⟨0, by decide⟩) (Fin.forall_fin_two.mpr ⟨rfl, ?_⟩)).trans ?_
  · show 64 + d.val = 0 + _
    simp
  · rw [H.q]
    show A.q _ _ = A.q (64 * (2 * k.val + 0) + i.val) (64 * (hd + 1) + d.val)
    exact congrArg₂ _ (by simp only []; omega) (by simp only []; omega)

/-- The cotangent of chunk 0, head 1. -/
theorem g_01 (H : Holds A hd arg1 arg5 arg10 arg11 v25 v27 X1 X5 X10 X11) (k : Fin k0_t1_loop.trips) (i : Fin 64) (d : Fin 64) :
    trip_k0_t1.sl.v173 (F := Ideal) arg5 X5 k (ix2 i d) = (A.blk (2 * k.val + 0) (hd + 1)).g i.val d.val := by
  have hk := trip_lt k
  pointwise [trip_k0_t1.sl.v173, trip_k0_t1.sl.r_9]
  refine (readAt_at _ _ _ _ (ix2 (⟨128 * k.val + 64 * 0 + i.val, by omega⟩ : Fin 4096) (⟨64 + d.val, by omega⟩ : Fin 128))
    (k0_off1_eq k ⟨0, by decide⟩) (Fin.forall_fin_two.mpr ⟨rfl, ?_⟩)).trans ?_
  · show 64 + d.val = 0 + _
    simp
  · rw [H.g]
    show A.g _ _ = A.g (64 * (2 * k.val + 0) + i.val) (64 * (hd + 1) + d.val)
    exact congrArg₂ _ (by simp only []; omega) (by simp only []; omega)

/-- The band of keys of chunk 0, head 1. -/
theorem k_01 (H : Holds A hd arg1 arg5 arg10 arg11 v25 v27 X1 X5 X10 X11) (k : Fin k0_t1_loop.trips) (i : Fin 576) (d : Fin 64) :
    trip_k0_t1.sl.v53 (F := Ideal) arg10 X10 k (ix2 i d) = (A.blk (2 * k.val + 0) (hd + 1)).k i.val d.val := by
  have hk := trip_lt k
  pointwise [trip_k0_t1.sl.v53]
  refine (readAt_at _ _ _ _ (ix2 (⟨128 * k.val + 64 * 0 + i.val, by omega⟩ : Fin 4608) (⟨64 + d.val, by omega⟩ : Fin 128))
    (k0_off2_eq k ⟨0, by decide⟩) (Fin.forall_fin_two.mpr ⟨rfl, ?_⟩)).trans ?_
  · show 64 + d.val = 0 + _
    simp
  · rw [H.k]
    show pad A.k _ _ = pad A.k (64 * (2 * k.val + 0) + i.val) (64 * (hd + 1) + d.val)
    exact congrArg₂ _ (by simp only []; omega) (by simp only []; omega)

/-- The band of values of chunk 0, head 1. -/
theorem v_01 (H : Holds A hd arg1 arg5 arg10 arg11 v25 v27 X1 X5 X10 X11) (k : Fin k0_t1_loop.trips) (i : Fin 576) (d : Fin 64) :
    trip_k0_t1.sl.v61 (F := Ideal) arg11 X11 k (ix2 i d) = (A.blk (2 * k.val + 0) (hd + 1)).v i.val d.val := by
  have hk := trip_lt k
  pointwise [trip_k0_t1.sl.v61]
  refine (readAt_at _ _ _ _ (ix2 (⟨128 * k.val + 64 * 0 + i.val, by omega⟩ : Fin 4608) (⟨64 + d.val, by omega⟩ : Fin 128))
    (k0_off2_eq k ⟨0, by decide⟩) (Fin.forall_fin_two.mpr ⟨rfl, ?_⟩)).trans ?_
  · show 64 + d.val = 0 + _
    simp
  · rw [H.v]
    show pad A.v _ _ = pad A.v (64 * (2 * k.val + 0) + i.val) (64 * (hd + 1) + d.val)
    exact congrArg₂ _ (by simp only []; omega) (by simp only []; omega)

/-- The mask of chunk 0, head 1. -/
theorem m_01 (k : Fin k0_t1_loop.trips) (i : Fin 64) (j : Fin 576) :
    trip_k0_t1.sl.r_2 k (ix2 i j) = if 512 ≤ 64 * (2 * k.val + 0) + j.val then 1#1 else 0#1 := by
  have hk := trip_lt k
  pointwise [trip_k0_t1.sl.r_2, k0_pay22, k0_pay24, k0_pay26, k0_pay28, trip_k0_t1.sl.v71, trip_k0_t1.sl.v70, trip_k0_t1.sl.v69, trip_k0_t1.sl.v68,
    trip_k0_t1.sl.v67, trip_k0_t1.sl.v38, trip_k0_t1.sl.v37, trip_k0_t1.sl.v35, trip_k0_t1.sl.v34, trip_k0_t1.sl.arg14]
  refine sge_512 ?_ (by omega)
  simp only [Scf.iv, Scalar.muli, Scalar.addi, IntOp.muli, IntOp.addi, BitVec.toNat_add, BitVec.toNat_mul,
    BitVec.toNat_ofNat]
  omega

/-- The exponentials of chunk 0, head 1. -/
theorem e_01 (H : Holds A hd arg1 arg5 arg10 arg11 v25 v27 X1 X5 X10 X11) (k : Fin k0_t1_loop.trips) (i : Fin 64) (j : Fin 576) :
    trip_k0_t1.sl.v131 (F := Ideal) arg1 arg10 v27 X1 X10 k (ix2 i j) = (A.blk (2 * k.val + 0) (hd + 1)).e i.val j.val := by
  have h : trip_k0_t1.sl.v131 (F := Ideal) arg1 arg10 v27 X1 X10 k = expV (scoreV (k0_pay2 v27) (trip_k0_t1.sl.v45 (F := Ideal) arg1 X1 k) (trip_k0_t1.sl.v53 (F := Ideal) arg10 X10 k)
    (trip_k0_t1.sl.r_2 k)) := rfl
  rw [h]
  exact expV_apply (scoreV_apply (b_1 H) (q_01 H k) (k_01 H k) (m_01 k)) i j

/-- The gradient of the scores of chunk 0, head 1. -/
theorem ds_01 (H : Holds A hd arg1 arg5 arg10 arg11 v25 v27 X1 X5 X10 X11) (k : Fin k0_t1_loop.trips) (i : Fin 64) (j : Fin 576) :
    trip_k0_t1.sl.v275 (F := Ideal) arg1 arg5 arg10 arg11 v27 X1 X5 X10 X11 k (ix2 i j) = (A.blk (2 * k.val + 0) (hd + 1)).ds i.val j.val := by
  have h : trip_k0_t1.sl.v275 (F := Ideal) arg1 arg5 arg10 arg11 v27 X1 X5 X10 X11 k = dsV (trip_k0_t1.sl.v131 (F := Ideal) arg1 arg10 v27 X1 X10 k) (dpV (trip_k0_t1.sl.v173 (F := Ideal) arg5 X5 k) (trip_k0_t1.sl.v61 (F := Ideal) arg11 X11 k))
    (trip_k0_t1.sl.r_2 k) := rfl
  rw [h]
  exact dsV_apply (e_01 H k) (dpV_apply (g_01 H k) (v_01 H k)) (m_01 k) i j

/-- The gradient of the queries of chunk 0, head 1. -/
theorem dq_01 (H : Holds A hd arg1 arg5 arg10 arg11 v25 v27 X1 X5 X10 X11) (k : Fin k0_t1_loop.trips) (i d : Fin 64) :
    trip_k0_t1.sl.v278 (F := Ideal) arg1 arg5 arg10 arg11 v27 X1 X5 X10 X11 k (ix2 i d) = (A.blk (2 * k.val + 0) (hd + 1)).dq i.val d.val := by
  have h : trip_k0_t1.sl.v278 (F := Ideal) arg1 arg5 arg10 arg11 v27 X1 X5 X10 X11 k = dqV (trip_k0_t1.sl.v275 (F := Ideal) arg1 arg5 arg10 arg11 v27 X1 X5 X10 X11 k) (trip_k0_t1.sl.v53 (F := Ideal) arg10 X10 k) := rfl
  rw [h]
  exact dqV_apply (ds_01 H k) (k_01 H k) i d

/-- The gradient of the band of keys of chunk 0, head 1. -/
theorem dk_01 (H : Holds A hd arg1 arg5 arg10 arg11 v25 v27 X1 X5 X10 X11) (k : Fin k0_t1_loop.trips) (j : Fin 576) (d : Fin 64) :
    trip_k0_t1.sl.v281 (F := Ideal) arg1 arg5 arg10 arg11 v27 X1 X5 X10 X11 k (ix2 j d) = (A.blk (2 * k.val + 0) (hd + 1)).dk j.val d.val := by
  have h : trip_k0_t1.sl.v281 (F := Ideal) arg1 arg5 arg10 arg11 v27 X1 X5 X10 X11 k = dkV (trip_k0_t1.sl.v275 (F := Ideal) arg1 arg5 arg10 arg11 v27 X1 X5 X10 X11 k) (trip_k0_t1.sl.v45 (F := Ideal) arg1 X1 k) := rfl
  rw [h]
  exact dkV_apply (ds_01 H k) (q_01 H k) j d

/-- The gradient of the band of values of chunk 0, head 1. -/
theorem dv_01 (H : Holds A hd arg1 arg5 arg10 arg11 v25 v27 X1 X5 X10 X11) (k : Fin k0_t1_loop.trips) (j : Fin 576) (d : Fin 64) :
    trip_k0_t1.sl.v195 (F := Ideal) arg1 arg5 arg10 v27 X1 X5 X10 k (ix2 j d) = (A.blk (2 * k.val + 0) (hd + 1)).dv j.val d.val := by
  have h : trip_k0_t1.sl.v195 (F := Ideal) arg1 arg5 arg10 v27 X1 X5 X10 k = dkV (probV (trip_k0_t1.sl.v131 (F := Ideal) arg1 arg10 v27 X1 X10 k)) (trip_k0_t1.sl.v173 (F := Ideal) arg5 X5 k) := rfl
  rw [h]
  exact dvV_apply (probV_apply (e_01 H k)) (g_01 H k) j d

/-- The queries of chunk 1, head 0. -/
theorem q_10 (H : Holds A hd arg1 arg5 arg10 arg11 v25 v27 X1 X5 X10 X11) (k : Fin k0_t1_loop.trips) (i : Fin 64) (d : Fin 64) :
    trip_k0_t1.sl.v48 (F := Ideal) arg1 X1 k (ix2 i d) = (A.blk (2 * k.val + 1) (hd + 0)).q i.val d.val := by
  have hk := trip_lt k
  pointwise [trip_k0_t1.sl.v48]
  refine (readAt_at _ _ _ _ (ix2 (⟨128 * k.val + 64 * 1 + i.val, by omega⟩ : Fin 4096) (⟨0 + d.val, by omega⟩ : Fin 128))
    (k0_off1_eq k ⟨1, by decide⟩) (Fin.forall_fin_two.mpr ⟨rfl, ?_⟩)).trans ?_
  · show 0 + d.val = 0 + _
    simp
  · rw [H.q]
    show A.q _ _ = A.q (64 * (2 * k.val + 1) + i.val) (64 * (hd + 0) + d.val)
    exact congrArg₂ _ (by simp only []; omega) (by simp only []; omega)

/-- The cotangent of chunk 1, head 0. -/
theorem g_10 (H : Holds A hd arg1 arg5 arg10 arg11 v25 v27 X1 X5 X10 X11) (k : Fin k0_t1_loop.trips) (i : Fin 64) (d : Fin 64) :
    trip_k0_t1.sl.v176 (F := Ideal) arg5 X5 k (ix2 i d) = (A.blk (2 * k.val + 1) (hd + 0)).g i.val d.val := by
  have hk := trip_lt k
  pointwise [trip_k0_t1.sl.v176]
  refine (readAt_at _ _ _ _ (ix2 (⟨128 * k.val + 64 * 1 + i.val, by omega⟩ : Fin 4096) (⟨0 + d.val, by omega⟩ : Fin 128))
    (k0_off1_eq k ⟨1, by decide⟩) (Fin.forall_fin_two.mpr ⟨rfl, ?_⟩)).trans ?_
  · show 0 + d.val = 0 + _
    simp
  · rw [H.g]
    show A.g _ _ = A.g (64 * (2 * k.val + 1) + i.val) (64 * (hd + 0) + d.val)
    exact congrArg₂ _ (by simp only []; omega) (by simp only []; omega)

/-- The band of keys of chunk 1, head 0. -/
theorem k_10 (H : Holds A hd arg1 arg5 arg10 arg11 v25 v27 X1 X5 X10 X11) (k : Fin k0_t1_loop.trips) (i : Fin 576) (d : Fin 64) :
    trip_k0_t1.sl.v56 (F := Ideal) arg10 X10 k (ix2 i d) = (A.blk (2 * k.val + 1) (hd + 0)).k i.val d.val := by
  have hk := trip_lt k
  pointwise [trip_k0_t1.sl.v56]
  refine (readAt_at _ _ _ _ (ix2 (⟨128 * k.val + 64 * 1 + i.val, by omega⟩ : Fin 4608) (⟨0 + d.val, by omega⟩ : Fin 128))
    (k0_off2_eq k ⟨1, by decide⟩) (Fin.forall_fin_two.mpr ⟨rfl, ?_⟩)).trans ?_
  · show 0 + d.val = 0 + _
    simp
  · rw [H.k]
    show pad A.k _ _ = pad A.k (64 * (2 * k.val + 1) + i.val) (64 * (hd + 0) + d.val)
    exact congrArg₂ _ (by simp only []; omega) (by simp only []; omega)

/-- The band of values of chunk 1, head 0. -/
theorem v_10 (H : Holds A hd arg1 arg5 arg10 arg11 v25 v27 X1 X5 X10 X11) (k : Fin k0_t1_loop.trips) (i : Fin 576) (d : Fin 64) :
    trip_k0_t1.sl.v64 (F := Ideal) arg11 X11 k (ix2 i d) = (A.blk (2 * k.val + 1) (hd + 0)).v i.val d.val := by
  have hk := trip_lt k
  pointwise [trip_k0_t1.sl.v64]
  refine (readAt_at _ _ _ _ (ix2 (⟨128 * k.val + 64 * 1 + i.val, by omega⟩ : Fin 4608) (⟨0 + d.val, by omega⟩ : Fin 128))
    (k0_off2_eq k ⟨1, by decide⟩) (Fin.forall_fin_two.mpr ⟨rfl, ?_⟩)).trans ?_
  · show 0 + d.val = 0 + _
    simp
  · rw [H.v]
    show pad A.v _ _ = pad A.v (64 * (2 * k.val + 1) + i.val) (64 * (hd + 0) + d.val)
    exact congrArg₂ _ (by simp only []; omega) (by simp only []; omega)

/-- The mask of chunk 1, head 0. -/
theorem m_10 (k : Fin k0_t1_loop.trips) (i : Fin 64) (j : Fin 576) :
    trip_k0_t1.sl.r_4 k (ix2 i j) = if 512 ≤ 64 * (2 * k.val + 1) + j.val then 1#1 else 0#1 := by
  have hk := trip_lt k
  pointwise [trip_k0_t1.sl.r_4, k0_pay22, k0_pay24, k0_pay26, k0_pay28, trip_k0_t1.sl.v71, trip_k0_t1.sl.v70, trip_k0_t1.sl.v69, trip_k0_t1.sl.v68,
    trip_k0_t1.sl.v67, trip_k0_t1.sl.v38, trip_k0_t1.sl.v37, trip_k0_t1.sl.v35, trip_k0_t1.sl.v34, trip_k0_t1.sl.arg14]
  refine sge_512 ?_ (by omega)
  simp only [Scf.iv, Scalar.muli, Scalar.addi, IntOp.muli, IntOp.addi, BitVec.toNat_add, BitVec.toNat_mul,
    BitVec.toNat_ofNat]
  omega

/-- The exponentials of chunk 1, head 0. -/
theorem e_10 (H : Holds A hd arg1 arg5 arg10 arg11 v25 v27 X1 X5 X10 X11) (k : Fin k0_t1_loop.trips) (i : Fin 64) (j : Fin 576) :
    trip_k0_t1.sl.v136 (F := Ideal) arg1 arg10 v25 X1 X10 k (ix2 i j) = (A.blk (2 * k.val + 1) (hd + 0)).e i.val j.val := by
  have h : trip_k0_t1.sl.v136 (F := Ideal) arg1 arg10 v25 X1 X10 k = expV (scoreV (k0_pay1 v25) (trip_k0_t1.sl.v48 (F := Ideal) arg1 X1 k) (trip_k0_t1.sl.v56 (F := Ideal) arg10 X10 k)
    (trip_k0_t1.sl.r_4 k)) := rfl
  rw [h]
  exact expV_apply (scoreV_apply (b_0 H) (q_10 H k) (k_10 H k) (m_10 k)) i j

/-- The gradient of the scores of chunk 1, head 0. -/
theorem ds_10 (H : Holds A hd arg1 arg5 arg10 arg11 v25 v27 X1 X5 X10 X11) (k : Fin k0_t1_loop.trips) (i : Fin 64) (j : Fin 576) :
    trip_k0_t1.sl.v267 (F := Ideal) arg1 arg5 arg10 arg11 v25 X1 X5 X10 X11 k (ix2 i j) = (A.blk (2 * k.val + 1) (hd + 0)).ds i.val j.val := by
  have h : trip_k0_t1.sl.v267 (F := Ideal) arg1 arg5 arg10 arg11 v25 X1 X5 X10 X11 k = dsV (trip_k0_t1.sl.v136 (F := Ideal) arg1 arg10 v25 X1 X10 k) (dpV (trip_k0_t1.sl.v176 (F := Ideal) arg5 X5 k) (trip_k0_t1.sl.v64 (F := Ideal) arg11 X11 k))
    (trip_k0_t1.sl.r_4 k) := rfl
  rw [h]
  exact dsV_apply (e_10 H k) (dpV_apply (g_10 H k) (v_10 H k)) (m_10 k) i j

/-- The gradient of the queries of chunk 1, head 0. -/
theorem dq_10 (H : Holds A hd arg1 arg5 arg10 arg11 v25 v27 X1 X5 X10 X11) (k : Fin k0_t1_loop.trips) (i d : Fin 64) :
    trip_k0_t1.sl.v270 (F := Ideal) arg1 arg5 arg10 arg11 v25 X1 X5 X10 X11 k (ix2 i d) = (A.blk (2 * k.val + 1) (hd + 0)).dq i.val d.val := by
  have h : trip_k0_t1.sl.v270 (F := Ideal) arg1 arg5 arg10 arg11 v25 X1 X5 X10 X11 k = dqV (trip_k0_t1.sl.v267 (F := Ideal) arg1 arg5 arg10 arg11 v25 X1 X5 X10 X11 k) (trip_k0_t1.sl.v56 (F := Ideal) arg10 X10 k) := rfl
  rw [h]
  exact dqV_apply (ds_10 H k) (k_10 H k) i d

/-- The gradient of the band of keys of chunk 1, head 0. -/
theorem dk_10 (H : Holds A hd arg1 arg5 arg10 arg11 v25 v27 X1 X5 X10 X11) (k : Fin k0_t1_loop.trips) (j : Fin 576) (d : Fin 64) :
    trip_k0_t1.sl.v273 (F := Ideal) arg1 arg5 arg10 arg11 v25 X1 X5 X10 X11 k (ix2 j d) = (A.blk (2 * k.val + 1) (hd + 0)).dk j.val d.val := by
  have h : trip_k0_t1.sl.v273 (F := Ideal) arg1 arg5 arg10 arg11 v25 X1 X5 X10 X11 k = dkV (trip_k0_t1.sl.v267 (F := Ideal) arg1 arg5 arg10 arg11 v25 X1 X5 X10 X11 k) (trip_k0_t1.sl.v48 (F := Ideal) arg1 X1 k) := rfl
  rw [h]
  exact dkV_apply (ds_10 H k) (q_10 H k) j d

/-- The gradient of the band of values of chunk 1, head 0. -/
theorem dv_10 (H : Holds A hd arg1 arg5 arg10 arg11 v25 v27 X1 X5 X10 X11) (k : Fin k0_t1_loop.trips) (j : Fin 576) (d : Fin 64) :
    trip_k0_t1.sl.v189 (F := Ideal) arg1 arg5 arg10 v25 X1 X5 X10 k (ix2 j d) = (A.blk (2 * k.val + 1) (hd + 0)).dv j.val d.val := by
  have h : trip_k0_t1.sl.v189 (F := Ideal) arg1 arg5 arg10 v25 X1 X5 X10 k = dkV (probV (trip_k0_t1.sl.v136 (F := Ideal) arg1 arg10 v25 X1 X10 k)) (trip_k0_t1.sl.v176 (F := Ideal) arg5 X5 k) := rfl
  rw [h]
  exact dvV_apply (probV_apply (e_10 H k)) (g_10 H k) j d

/-- The queries of chunk 1, head 1. -/
theorem q_11 (H : Holds A hd arg1 arg5 arg10 arg11 v25 v27 X1 X5 X10 X11) (k : Fin k0_t1_loop.trips) (i : Fin 64) (d : Fin 64) :
    trip_k0_t1.sl.v49 (F := Ideal) arg1 X1 k (ix2 i d) = (A.blk (2 * k.val + 1) (hd + 1)).q i.val d.val := by
  have hk := trip_lt k
  pointwise [trip_k0_t1.sl.v49]
  refine (readAt_at _ _ _ _ (ix2 (⟨128 * k.val + 64 * 1 + i.val, by omega⟩ : Fin 4096) (⟨64 + d.val, by omega⟩ : Fin 128))
    (k0_off1_eq k ⟨1, by decide⟩) (Fin.forall_fin_two.mpr ⟨rfl, ?_⟩)).trans ?_
  · show 64 + d.val = 0 + _
    simp
  · rw [H.q]
    show A.q _ _ = A.q (64 * (2 * k.val + 1) + i.val) (64 * (hd + 1) + d.val)
    exact congrArg₂ _ (by simp only []; omega) (by simp only []; omega)

/-- The cotangent of chunk 1, head 1. -/
theorem g_11 (H : Holds A hd arg1 arg5 arg10 arg11 v25 v27 X1 X5 X10 X11) (k : Fin k0_t1_loop.trips) (i : Fin 64) (d : Fin 64) :
    trip_k0_t1.sl.v177 (F := Ideal) arg5 X5 k (ix2 i d) = (A.blk (2 * k.val + 1) (hd + 1)).g i.val d.val := by
  have hk := trip_lt k
  pointwise [trip_k0_t1.sl.v177]
  refine (readAt_at _ _ _ _ (ix2 (⟨128 * k.val + 64 * 1 + i.val, by omega⟩ : Fin 4096) (⟨64 + d.val, by omega⟩ : Fin 128))
    (k0_off1_eq k ⟨1, by decide⟩) (Fin.forall_fin_two.mpr ⟨rfl, ?_⟩)).trans ?_
  · show 64 + d.val = 0 + _
    simp
  · rw [H.g]
    show A.g _ _ = A.g (64 * (2 * k.val + 1) + i.val) (64 * (hd + 1) + d.val)
    exact congrArg₂ _ (by simp only []; omega) (by simp only []; omega)

/-- The band of keys of chunk 1, head 1. -/
theorem k_11 (H : Holds A hd arg1 arg5 arg10 arg11 v25 v27 X1 X5 X10 X11) (k : Fin k0_t1_loop.trips) (i : Fin 576) (d : Fin 64) :
    trip_k0_t1.sl.v57 (F := Ideal) arg10 X10 k (ix2 i d) = (A.blk (2 * k.val + 1) (hd + 1)).k i.val d.val := by
  have hk := trip_lt k
  pointwise [trip_k0_t1.sl.v57]
  refine (readAt_at _ _ _ _ (ix2 (⟨128 * k.val + 64 * 1 + i.val, by omega⟩ : Fin 4608) (⟨64 + d.val, by omega⟩ : Fin 128))
    (k0_off2_eq k ⟨1, by decide⟩) (Fin.forall_fin_two.mpr ⟨rfl, ?_⟩)).trans ?_
  · show 64 + d.val = 0 + _
    simp
  · rw [H.k]
    show pad A.k _ _ = pad A.k (64 * (2 * k.val + 1) + i.val) (64 * (hd + 1) + d.val)
    exact congrArg₂ _ (by simp only []; omega) (by simp only []; omega)

/-- The band of values of chunk 1, head 1. -/
theorem v_11 (H : Holds A hd arg1 arg5 arg10 arg11 v25 v27 X1 X5 X10 X11) (k : Fin k0_t1_loop.trips) (i : Fin 576) (d : Fin 64) :
    trip_k0_t1.sl.v65 (F := Ideal) arg11 X11 k (ix2 i d) = (A.blk (2 * k.val + 1) (hd + 1)).v i.val d.val := by
  have hk := trip_lt k
  pointwise [trip_k0_t1.sl.v65]
  refine (readAt_at _ _ _ _ (ix2 (⟨128 * k.val + 64 * 1 + i.val, by omega⟩ : Fin 4608) (⟨64 + d.val, by omega⟩ : Fin 128))
    (k0_off2_eq k ⟨1, by decide⟩) (Fin.forall_fin_two.mpr ⟨rfl, ?_⟩)).trans ?_
  · show 64 + d.val = 0 + _
    simp
  · rw [H.v]
    show pad A.v _ _ = pad A.v (64 * (2 * k.val + 1) + i.val) (64 * (hd + 1) + d.val)
    exact congrArg₂ _ (by simp only []; omega) (by simp only []; omega)

/-- The mask of chunk 1, head 1. -/
theorem m_11 (k : Fin k0_t1_loop.trips) (i : Fin 64) (j : Fin 576) :
    trip_k0_t1.sl.r_6 k (ix2 i j) = if 512 ≤ 64 * (2 * k.val + 1) + j.val then 1#1 else 0#1 := by
  have hk := trip_lt k
  pointwise [trip_k0_t1.sl.r_6, k0_pay22, k0_pay24, k0_pay26, k0_pay28, trip_k0_t1.sl.v71, trip_k0_t1.sl.v70, trip_k0_t1.sl.v69, trip_k0_t1.sl.v68,
    trip_k0_t1.sl.v67, trip_k0_t1.sl.v38, trip_k0_t1.sl.v37, trip_k0_t1.sl.v35, trip_k0_t1.sl.v34, trip_k0_t1.sl.arg14]
  refine sge_512 ?_ (by omega)
  simp only [Scf.iv, Scalar.muli, Scalar.addi, IntOp.muli, IntOp.addi, BitVec.toNat_add, BitVec.toNat_mul,
    BitVec.toNat_ofNat]
  omega

/-- The exponentials of chunk 1, head 1. -/
theorem e_11 (H : Holds A hd arg1 arg5 arg10 arg11 v25 v27 X1 X5 X10 X11) (k : Fin k0_t1_loop.trips) (i : Fin 64) (j : Fin 576) :
    trip_k0_t1.sl.v141 (F := Ideal) arg1 arg10 v27 X1 X10 k (ix2 i j) = (A.blk (2 * k.val + 1) (hd + 1)).e i.val j.val := by
  have h : trip_k0_t1.sl.v141 (F := Ideal) arg1 arg10 v27 X1 X10 k = expV (scoreV (k0_pay2 v27) (trip_k0_t1.sl.v49 (F := Ideal) arg1 X1 k) (trip_k0_t1.sl.v57 (F := Ideal) arg10 X10 k)
    (trip_k0_t1.sl.r_6 k)) := rfl
  rw [h]
  exact expV_apply (scoreV_apply (b_1 H) (q_11 H k) (k_11 H k) (m_11 k)) i j

/-- The gradient of the scores of chunk 1, head 1. -/
theorem ds_11 (H : Holds A hd arg1 arg5 arg10 arg11 v25 v27 X1 X5 X10 X11) (k : Fin k0_t1_loop.trips) (i : Fin 64) (j : Fin 576) :
    trip_k0_t1.sl.v259 (F := Ideal) arg1 arg5 arg10 arg11 v27 X1 X5 X10 X11 k (ix2 i j) = (A.blk (2 * k.val + 1) (hd + 1)).ds i.val j.val := by
  have h : trip_k0_t1.sl.v259 (F := Ideal) arg1 arg5 arg10 arg11 v27 X1 X5 X10 X11 k = dsV (trip_k0_t1.sl.v141 (F := Ideal) arg1 arg10 v27 X1 X10 k) (dpV (trip_k0_t1.sl.v177 (F := Ideal) arg5 X5 k) (trip_k0_t1.sl.v65 (F := Ideal) arg11 X11 k))
    (trip_k0_t1.sl.r_6 k) := rfl
  rw [h]
  exact dsV_apply (e_11 H k) (dpV_apply (g_11 H k) (v_11 H k)) (m_11 k) i j

/-- The gradient of the queries of chunk 1, head 1. -/
theorem dq_11 (H : Holds A hd arg1 arg5 arg10 arg11 v25 v27 X1 X5 X10 X11) (k : Fin k0_t1_loop.trips) (i d : Fin 64) :
    trip_k0_t1.sl.v262 (F := Ideal) arg1 arg5 arg10 arg11 v27 X1 X5 X10 X11 k (ix2 i d) = (A.blk (2 * k.val + 1) (hd + 1)).dq i.val d.val := by
  have h : trip_k0_t1.sl.v262 (F := Ideal) arg1 arg5 arg10 arg11 v27 X1 X5 X10 X11 k = dqV (trip_k0_t1.sl.v259 (F := Ideal) arg1 arg5 arg10 arg11 v27 X1 X5 X10 X11 k) (trip_k0_t1.sl.v57 (F := Ideal) arg10 X10 k) := rfl
  rw [h]
  exact dqV_apply (ds_11 H k) (k_11 H k) i d

/-- The gradient of the band of keys of chunk 1, head 1. -/
theorem dk_11 (H : Holds A hd arg1 arg5 arg10 arg11 v25 v27 X1 X5 X10 X11) (k : Fin k0_t1_loop.trips) (j : Fin 576) (d : Fin 64) :
    trip_k0_t1.sl.v265 (F := Ideal) arg1 arg5 arg10 arg11 v27 X1 X5 X10 X11 k (ix2 j d) = (A.blk (2 * k.val + 1) (hd + 1)).dk j.val d.val := by
  have h : trip_k0_t1.sl.v265 (F := Ideal) arg1 arg5 arg10 arg11 v27 X1 X5 X10 X11 k = dkV (trip_k0_t1.sl.v259 (F := Ideal) arg1 arg5 arg10 arg11 v27 X1 X5 X10 X11 k) (trip_k0_t1.sl.v49 (F := Ideal) arg1 X1 k) := rfl
  rw [h]
  exact dkV_apply (ds_11 H k) (q_11 H k) j d

/-- The gradient of the band of values of chunk 1, head 1. -/
theorem dv_11 (H : Holds A hd arg1 arg5 arg10 arg11 v25 v27 X1 X5 X10 X11) (k : Fin k0_t1_loop.trips) (j : Fin 576) (d : Fin 64) :
    trip_k0_t1.sl.v183 (F := Ideal) arg1 arg5 arg10 v27 X1 X5 X10 k (ix2 j d) = (A.blk (2 * k.val + 1) (hd + 1)).dv j.val d.val := by
  have h : trip_k0_t1.sl.v183 (F := Ideal) arg1 arg5 arg10 v27 X1 X5 X10 k = dkV (probV (trip_k0_t1.sl.v141 (F := Ideal) arg1 arg10 v27 X1 X10 k)) (trip_k0_t1.sl.v177 (F := Ideal) arg5 X5 k) := rfl
  rw [h]
  exact dvV_apply (probV_apply (e_11 H k)) (g_11 H k) j d

end Cert.KernelIdeal.Attn
end
-- ==== Proof.Attn.Trip.lean ====
module

public import proofs.«01_k».proof.Proof.Attn.Words
public import Idealize.ShloMosaic.Lib.WritesUnit

@[expose] public section

set_option maxRecDepth 16384

/-! One trip of the loop: what it leaves in the queries' gradient, in the bias's gradient and in the padded gradients of
the keys and the values, entry by entry; and, by induction on the trips, what the loop leaves. -/

noncomputable section

namespace Cert.KernelIdeal.Attn

open Cert.KernelIdeal Cert.KernelIdeal.Gen Cert.Attn
open Idealize.ShloMosaic Idealize.ShloMosaic.TcCoe Idealize.ShloMosaic.Tactic

variable {A : Args} {hd : ℕ} (c : Dev nD) (i : grid0.Coords) {arg1 : Memref sig .tc .vmem S4096x128 .f32} {arg2 : Memref sig .tc .vmem S4096x128 .f32} {arg3 : Memref sig .tc .vmem S4096x128 .f32} {arg4 : Memref sig .tc .vmem S2x64x576 .f32} {arg5 : Memref sig .tc .vmem S4096x128 .f32} {arg6 : Memref sig .tc .vmem S4096x128 .f32} {arg7 : Memref sig .tc .vmem S4096x128 .f32} {arg8 : Memref sig .tc .vmem S4096x128 .f32} {arg9 : Memref sig .tc .vmem S2x64x576 .f32} {arg10 : Memref sig .tc .vmem S4608x128 .f32} {arg11 : Memref sig .tc .vmem S4608x128 .f32} {arg12 : Memref sig .tc .vmem S4608x128 .f32} {arg13 : Memref sig .tc .vmem S4608x128 .f32}
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
  {v25 v27 : Vec Ideal S1x64x576 .f32} {X1 : BufTy.Contents (Elt Ideal) arg1.view.ty} {X5 : BufTy.Contents (Elt Ideal) arg5.view.ty} {X10 : BufTy.Contents (Elt Ideal) arg10.view.ty} {X11 : BufTy.Contents (Elt Ideal) arg11.view.ty}
  (k : Fin k0_t1_loop.trips) (f6 : BufTy.Contents (Elt Ideal) arg6.view.ty) (f9 : BufTy.Contents (Elt Ideal) arg9.view.ty) (f12 : BufTy.Contents (Elt Ideal) arg12.view.ty) (f13 : BufTy.Contents (Elt Ideal) arg13.view.ty)

/-- The pieces a trip writes into the queries' gradient. -/
theorem list6 : (trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).1 f6 f9 f12 f13 =
    [⟨Rect.unit (s := S4096x128) (k0_off1 k 1#32) S64x128.size (k0_off1_inb k 1), trip_k0_t1.sl.v309 (F := Ideal) arg1 arg5 arg10 arg11 v25 v27 X1 X5 X10 X11 k⟩,
     ⟨Rect.unit (s := S4096x128) (k0_off1 k 0#32) S64x128.size (k0_off1_inb k 0), trip_k0_t1.sl.v290 (F := Ideal) arg1 arg5 arg10 arg11 v25 v27 X1 X5 X10 X11 k⟩] := by
  unfold trip_k0_t1
  rfl

/-- The pieces a trip writes into the bias's gradient. -/
theorem list9 : (trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.1 f6 f9 f12 f13 =
    [⟨Rect.unit (s := S2x64x576) ![1, 0, 0] S1x64x576.size inb_S2x64x576_S1x64x576_1_0_0,
        k0_pay6 (trip_k0_t1.sl.v259 (F := Ideal) arg1 arg5 arg10 arg11 v27 X1 X5 X10 X11 k) (trip_k0_t1.sl.v275 (F := Ideal) arg1 arg5 arg10 arg11 v27 X1 X5 X10 X11 k) (arg9.view.readAt (Elt Ideal) (Rect.unit (s := S2x64x576) ![1, 0, 0] S1x64x576.size inb_S2x64x576_S1x64x576_1_0_0).toLoadRect f9)⟩,
     ⟨Rect.unit (s := S2x64x576) ![0, 0, 0] S1x64x576.size inb_S2x64x576_S1x64x576_0_0_0,
        k0_pay5 (trip_k0_t1.sl.v267 (F := Ideal) arg1 arg5 arg10 arg11 v25 X1 X5 X10 X11 k) (trip_k0_t1.sl.v283 (F := Ideal) arg1 arg5 arg10 arg11 v25 X1 X5 X10 X11 k) (arg9.view.readAt (Elt Ideal) (Rect.unit (s := S2x64x576) ![0, 0, 0] S1x64x576.size inb_S2x64x576_S1x64x576_0_0_0).toLoadRect f9)⟩] := by
  unfold trip_k0_t1
  rfl

/-- The pieces a trip writes into the padded gradient of the keys. -/
theorem list12 : (trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.2.1 f6 f9 f12 f13 =
    [⟨Rect.unit (s := S4608x128) (k0_off2 k 1#32) S576x128.size (k0_off2_inb k 1),
        k0_pay3 (trip_k0_t1.sl.v265 (F := Ideal) arg1 arg5 arg10 arg11 v27 X1 X5 X10 X11 k) (trip_k0_t1.sl.v273 (F := Ideal) arg1 arg5 arg10 arg11 v25 X1 X5 X10 X11 k) (arg12.view.readAt (Elt Ideal) (Rect.unit (s := S4608x128) (k0_off2 k 1#32) S576x128.size (k0_off2_inb k 1)).toLoadRect
          (arg12.view.writes (Elt Ideal) f12 [⟨Rect.unit (s := S4608x128) (k0_off2 k 0#32) S576x128.size (k0_off2_inb k 0), trip_k0_t1.sl.v300 (F := Ideal) arg1 arg5 arg10 arg11 arg12 v25 v27 X1 X5 X10 X11 k f12⟩]))⟩,
     ⟨Rect.unit (s := S4608x128) (k0_off2 k 0#32) S576x128.size (k0_off2_inb k 0), trip_k0_t1.sl.v300 (F := Ideal) arg1 arg5 arg10 arg11 arg12 v25 v27 X1 X5 X10 X11 k f12⟩] := by
  unfold trip_k0_t1
  rfl

/-- The pieces a trip writes into the padded gradient of the values. -/
theorem list13 : (trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.2.2.1 f6 f9 f12 f13 =
    [⟨Rect.unit (s := S4608x128) (k0_off2 k 1#32) S576x128.size (k0_off2_inb k 1),
        k0_pay4 (trip_k0_t1.sl.v183 (F := Ideal) arg1 arg5 arg10 v27 X1 X5 X10 k) (trip_k0_t1.sl.v189 (F := Ideal) arg1 arg5 arg10 v25 X1 X5 X10 k) (arg13.view.readAt (Elt Ideal) (Rect.unit (s := S4608x128) (k0_off2 k 1#32) S576x128.size (k0_off2_inb k 1)).toLoadRect
          (arg13.view.writes (Elt Ideal) f13 [⟨Rect.unit (s := S4608x128) (k0_off2 k 0#32) S576x128.size (k0_off2_inb k 0), trip_k0_t1.sl.v308 (F := Ideal) arg1 arg5 arg10 arg13 v25 v27 X1 X5 X10 k f13⟩]))⟩,
     ⟨Rect.unit (s := S4608x128) (k0_off2 k 0#32) S576x128.size (k0_off2_inb k 0), trip_k0_t1.sl.v308 (F := Ideal) arg1 arg5 arg10 arg13 v25 v27 X1 X5 X10 k f13⟩] := by
  unfold trip_k0_t1
  rfl

/-- The row of queries' gradients of chunk 0, both heads. -/
theorem dqcat_0 (H : Holds A hd arg1 arg5 arg10 arg11 v25 v27 X1 X5 X10 X11) (y : Fin 64) (n : Fin 128) :
    trip_k0_t1.sl.v290 (F := Ideal) arg1 arg5 arg10 arg11 v25 v27 X1 X5 X10 X11 k (ix2 y n) = (A.blk (2 * k.val) ((64 * hd + n.val) / 64)).dq y.val ((64 * hd + n.val) % 64) := by
  pointwise [trip_k0_t1.sl.v290]
  split
  next h =>
    rw [dq_00 H k, show (64 * hd + n.val) / 64 = hd + 0 by omega, show (64 * hd + n.val) % 64 = n.val by omega]
    rfl
  next h =>
    rw [dq_01 H k, show (64 * hd + n.val) / 64 = hd + 1 by omega, show (64 * hd + n.val) % 64 = n.val - 64 by omega]
    rfl

/-- The row of queries' gradients of chunk 1, both heads. -/
theorem dqcat_1 (H : Holds A hd arg1 arg5 arg10 arg11 v25 v27 X1 X5 X10 X11) (y : Fin 64) (n : Fin 128) :
    trip_k0_t1.sl.v309 (F := Ideal) arg1 arg5 arg10 arg11 v25 v27 X1 X5 X10 X11 k (ix2 y n) = (A.blk (2 * k.val + 1) ((64 * hd + n.val) / 64)).dq y.val ((64 * hd + n.val) % 64) := by
  pointwise [trip_k0_t1.sl.v309]
  split
  next h =>
    rw [dq_10 H k, show (64 * hd + n.val) / 64 = hd + 0 by omega, show (64 * hd + n.val) % 64 = n.val by omega]
  next h =>
    rw [dq_11 H k, show (64 * hd + n.val) / 64 = hd + 1 by omega, show (64 * hd + n.val) % 64 = n.val - 64 by omega]

/-- What is added to a row of the padded gradient of the keys by the even chunk of a trip. -/
theorem dkcat_0 (H : Holds A hd arg1 arg5 arg10 arg11 v25 v27 X1 X5 X10 X11) (y : Fin 576) (n : Fin 128) :
    trip_k0_t1.sl.v300 (F := Ideal) arg1 arg5 arg10 arg11 arg12 v25 v27 X1 X5 X10 X11 k f12 (ix2 y n) = arg12.view.readAt (Elt Ideal) (Rect.unit (s := S4608x128) (k0_off2 k 0#32) S576x128.size (k0_off2_inb k 0)).toLoadRect f12 (ix2 y n)
      + (A.blk (2 * k.val) ((64 * hd + n.val) / 64)).dk y.val ((64 * hd + n.val) % 64) := by
  pointwise [trip_k0_t1.sl.v300, trip_k0_t1.sl.v296, trip_k0_t1.sl.v295]
  refine congrArg (_ + ·) ?_
  split
  next h =>
    rw [dk_00 H k, show (64 * hd + n.val) / 64 = hd + 0 by omega, show (64 * hd + n.val) % 64 = n.val by omega]
    rfl
  next h =>
    rw [dk_01 H k, show (64 * hd + n.val) / 64 = hd + 1 by omega, show (64 * hd + n.val) % 64 = n.val - 64 by omega]
    rfl

/-- What is added to a row of the padded gradient of the keys by the odd chunk of a trip. -/
theorem dkcat_1 (H : Holds A hd arg1 arg5 arg10 arg11 v25 v27 X1 X5 X10 X11) (x : FVec Ideal S576x128 .f32) (y : Fin 576) (n : Fin 128) :
    k0_pay3 (trip_k0_t1.sl.v265 (F := Ideal) arg1 arg5 arg10 arg11 v27 X1 X5 X10 X11 k) (trip_k0_t1.sl.v273 (F := Ideal) arg1 arg5 arg10 arg11 v25 X1 X5 X10 X11 k) x (ix2 y n) = x (ix2 y n)
      + (A.blk (2 * k.val + 1) ((64 * hd + n.val) / 64)).dk y.val ((64 * hd + n.val) % 64) := by
  pointwise [k0_pay3]
  refine congrArg (_ + ·) ?_
  split
  next h =>
    rw [dk_10 H k, show (64 * hd + n.val) / 64 = hd + 0 by omega, show (64 * hd + n.val) % 64 = n.val by omega]
  next h =>
    rw [dk_11 H k, show (64 * hd + n.val) / 64 = hd + 1 by omega, show (64 * hd + n.val) % 64 = n.val - 64 by omega]

/-- A trip adds its two chunks' parts to the padded gradient of the keys. -/
theorem trip12 (H : Holds A hd arg1 arg5 arg10 arg11 v25 v27 X1 X5 X10 X11) (r : Fin 4608) (n : Fin 128) :
    arg12.view.read (Elt Ideal) (arg12.view.writes (Elt Ideal) f12 ((trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.2.1 f6 f9 f12 f13)) (ix2 r n)
      = arg12.view.read (Elt Ideal) f12 (ix2 r n) + A.dkc (2 * k.val) r.val (64 * hd + n.val)
        + A.dkc (2 * k.val + 1) r.val (64 * hd + n.val) := by
  have hk := trip_lt k
  have e0 : arg12.view.read (Elt Ideal) (arg12.view.writes (Elt Ideal) f12 [⟨Rect.unit (s := S4608x128) (k0_off2 k 0#32) S576x128.size (k0_off2_inb k 0), trip_k0_t1.sl.v300 (F := Ideal) arg1 arg5 arg10 arg11 arg12 v25 v27 X1 X5 X10 X11 k f12⟩]) (ix2 r n)
      = arg12.view.read (Elt Ideal) f12 (ix2 r n) + A.dkc (2 * k.val) r.val (64 * hd + n.val) := by
    unfold Args.dkc
    split
    next h =>
      refine (View.read_writes_cons_rows_of_mem _ _ _ _ _ (ix2 r n) (ix2 (⟨r.val - 128 * k.val, by omega⟩ : Fin 576) n)
        (k0_off2_eq k ⟨0, by decide⟩) (by show r.val = 128 * k.val + 64 * 0 + (r.val - 128 * k.val); omega) rfl).trans ?_
      rw [dkcat_0 k f12 H]
      refine congrArg₂ (· + ·) (readAt_at _ _ _ _ _ (k0_off2_eq k ⟨0, by decide⟩) (Fin.forall_fin_two.mpr ⟨?_, ?_⟩)) ?_
      · show r.val = 128 * k.val + 64 * 0 + (r.val - 128 * k.val); omega
      · show n.val = 0 + n.val; omega
      · show (A.blk (2 * k.val) _).dk (r.val - 128 * k.val) _ = (A.blk (2 * k.val) _).dk (r.val - 64 * (2 * k.val)) _
        rw [show 128 * k.val = 64 * (2 * k.val) by omega]
    next h =>
      rw [add_zero]
      exact View.read_writes_cons_rows_of_not_mem (W := 576) _ _ _ _ _ _ (k0_off2_eq k ⟨0, by decide⟩) rfl
        (by show r.val < 128 * k.val + 64 * 0 ∨ 128 * k.val + 64 * 0 + 576 ≤ r.val; omega)
  rw [list12, ← e0]
  unfold Args.dkc
  split
  next h =>
    refine (View.read_writes_cons_rows_of_mem _ _ _ _ _ (ix2 r n) (ix2 (⟨r.val - (128 * k.val + 64), by omega⟩ : Fin 576) n)
      (k0_off2_eq k ⟨1, by decide⟩) (by show r.val = 128 * k.val + 64 * 1 + (r.val - (128 * k.val + 64)); omega) rfl).trans ?_
    rw [dkcat_1 k H]
    refine congrArg₂ (· + ·) (readAt_at _ _ _ _ _ (k0_off2_eq k ⟨1, by decide⟩) (Fin.forall_fin_two.mpr ⟨?_, ?_⟩)) ?_
    · show r.val = 128 * k.val + 64 * 1 + (r.val - (128 * k.val + 64)); omega
    · show n.val = 0 + n.val; omega
    · show (A.blk (2 * k.val + 1) _).dk (r.val - (128 * k.val + 64)) _ = (A.blk (2 * k.val + 1) _).dk (r.val - 64 * (2 * k.val + 1)) _
      rw [show 128 * k.val + 64 = 64 * (2 * k.val + 1) by omega]
  next h =>
    rw [add_zero]
    exact View.read_writes_cons_rows_of_not_mem (W := 576) _ _ _ _ _ _ (k0_off2_eq k ⟨1, by decide⟩) rfl
      (by show r.val < 128 * k.val + 64 * 1 ∨ 128 * k.val + 64 * 1 + 576 ≤ r.val; omega)

/-- What is added to a row of the padded gradient of the values by the even chunk of a trip. -/
theorem dvcat_0 (H : Holds A hd arg1 arg5 arg10 arg11 v25 v27 X1 X5 X10 X11) (y : Fin 576) (n : Fin 128) :
    trip_k0_t1.sl.v308 (F := Ideal) arg1 arg5 arg10 arg13 v25 v27 X1 X5 X10 k f13 (ix2 y n) = arg13.view.readAt (Elt Ideal) (Rect.unit (s := S4608x128) (k0_off2 k 0#32) S576x128.size (k0_off2_inb k 0)).toLoadRect f13 (ix2 y n)
      + (A.blk (2 * k.val) ((64 * hd + n.val) / 64)).dv y.val ((64 * hd + n.val) % 64) := by
  pointwise [trip_k0_t1.sl.v308, trip_k0_t1.sl.v304, trip_k0_t1.sl.v303]
  refine congrArg (_ + ·) ?_
  split
  next h =>
    rw [dv_00 H k, show (64 * hd + n.val) / 64 = hd + 0 by omega, show (64 * hd + n.val) % 64 = n.val by omega]
    rfl
  next h =>
    rw [dv_01 H k, show (64 * hd + n.val) / 64 = hd + 1 by omega, show (64 * hd + n.val) % 64 = n.val - 64 by omega]
    rfl

/-- What is added to a row of the padded gradient of the values by the odd chunk of a trip. -/
theorem dvcat_1 (H : Holds A hd arg1 arg5 arg10 arg11 v25 v27 X1 X5 X10 X11) (x : FVec Ideal S576x128 .f32) (y : Fin 576) (n : Fin 128) :
    k0_pay4 (trip_k0_t1.sl.v183 (F := Ideal) arg1 arg5 arg10 v27 X1 X5 X10 k) (trip_k0_t1.sl.v189 (F := Ideal) arg1 arg5 arg10 v25 X1 X5 X10 k) x (ix2 y n) = x (ix2 y n)
      + (A.blk (2 * k.val + 1) ((64 * hd + n.val) / 64)).dv y.val ((64 * hd + n.val) % 64) := by
  pointwise [k0_pay4]
  refine congrArg (_ + ·) ?_
  split
  next h =>
    rw [dv_10 H k, show (64 * hd + n.val) / 64 = hd + 0 by omega, show (64 * hd + n.val) % 64 = n.val by omega]
  next h =>
    rw [dv_11 H k, show (64 * hd + n.val) / 64 = hd + 1 by omega, show (64 * hd + n.val) % 64 = n.val - 64 by omega]

/-- A trip adds its two chunks' parts to the padded gradient of the values. -/
theorem trip13 (H : Holds A hd arg1 arg5 arg10 arg11 v25 v27 X1 X5 X10 X11) (r : Fin 4608) (n : Fin 128) :
    arg13.view.read (Elt Ideal) (arg13.view.writes (Elt Ideal) f13 ((trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.2.2.1 f6 f9 f12 f13)) (ix2 r n)
      = arg13.view.read (Elt Ideal) f13 (ix2 r n) + A.dvc (2 * k.val) r.val (64 * hd + n.val)
        + A.dvc (2 * k.val + 1) r.val (64 * hd + n.val) := by
  have hk := trip_lt k
  have e0 : arg13.view.read (Elt Ideal) (arg13.view.writes (Elt Ideal) f13 [⟨Rect.unit (s := S4608x128) (k0_off2 k 0#32) S576x128.size (k0_off2_inb k 0), trip_k0_t1.sl.v308 (F := Ideal) arg1 arg5 arg10 arg13 v25 v27 X1 X5 X10 k f13⟩]) (ix2 r n)
      = arg13.view.read (Elt Ideal) f13 (ix2 r n) + A.dvc (2 * k.val) r.val (64 * hd + n.val) := by
    unfold Args.dvc
    split
    next h =>
      refine (View.read_writes_cons_rows_of_mem _ _ _ _ _ (ix2 r n) (ix2 (⟨r.val - 128 * k.val, by omega⟩ : Fin 576) n)
        (k0_off2_eq k ⟨0, by decide⟩) (by show r.val = 128 * k.val + 64 * 0 + (r.val - 128 * k.val); omega) rfl).trans ?_
      rw [dvcat_0 k f13 H]
      refine congrArg₂ (· + ·) (readAt_at _ _ _ _ _ (k0_off2_eq k ⟨0, by decide⟩) (Fin.forall_fin_two.mpr ⟨?_, ?_⟩)) ?_
      · show r.val = 128 * k.val + 64 * 0 + (r.val - 128 * k.val); omega
      · show n.val = 0 + n.val; omega
      · show (A.blk (2 * k.val) _).dv (r.val - 128 * k.val) _ = (A.blk (2 * k.val) _).dv (r.val - 64 * (2 * k.val)) _
        rw [show 128 * k.val = 64 * (2 * k.val) by omega]
    next h =>
      rw [add_zero]
      exact View.read_writes_cons_rows_of_not_mem (W := 576) _ _ _ _ _ _ (k0_off2_eq k ⟨0, by decide⟩) rfl
        (by show r.val < 128 * k.val + 64 * 0 ∨ 128 * k.val + 64 * 0 + 576 ≤ r.val; omega)
  rw [list13, ← e0]
  unfold Args.dvc
  split
  next h =>
    refine (View.read_writes_cons_rows_of_mem _ _ _ _ _ (ix2 r n) (ix2 (⟨r.val - (128 * k.val + 64), by omega⟩ : Fin 576) n)
      (k0_off2_eq k ⟨1, by decide⟩) (by show r.val = 128 * k.val + 64 * 1 + (r.val - (128 * k.val + 64)); omega) rfl).trans ?_
    rw [dvcat_1 k H]
    refine congrArg₂ (· + ·) (readAt_at _ _ _ _ _ (k0_off2_eq k ⟨1, by decide⟩) (Fin.forall_fin_two.mpr ⟨?_, ?_⟩)) ?_
    · show r.val = 128 * k.val + 64 * 1 + (r.val - (128 * k.val + 64)); omega
    · show n.val = 0 + n.val; omega
    · show (A.blk (2 * k.val + 1) _).dv (r.val - (128 * k.val + 64)) _ = (A.blk (2 * k.val + 1) _).dv (r.val - 64 * (2 * k.val + 1)) _
      rw [show 128 * k.val + 64 = 64 * (2 * k.val + 1) by omega]
  next h =>
    rw [add_zero]
    exact View.read_writes_cons_rows_of_not_mem (W := 576) _ _ _ _ _ _ (k0_off2_eq k ⟨1, by decide⟩) rfl
      (by show r.val < 128 * k.val + 64 * 1 ∨ 128 * k.val + 64 * 1 + 576 ≤ r.val; omega)

/-- A trip writes its two chunks' rows of the queries' gradient. -/
theorem trip6 (H : Holds A hd arg1 arg5 arg10 arg11 v25 v27 X1 X5 X10 X11) (r : Fin 4096) (n : Fin 128) :
    arg6.view.read (Elt Ideal) (arg6.view.writes (Elt Ideal) f6 ((trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).1 f6 f9 f12 f13)) (ix2 r n)
      = if 128 * k.val ≤ r.val ∧ r.val < 128 * k.val + 128 then A.dq r.val (64 * hd + n.val)
        else arg6.view.read (Elt Ideal) f6 (ix2 r n) := by
  have hk := trip_lt k
  rw [list6]
  by_cases h1 : 128 * k.val + 64 ≤ r.val ∧ r.val < 128 * k.val + 128
  · rw [if_pos (by omega)]
    refine (View.read_writes_cons_rows_of_mem _ _ _ _ _ (ix2 r n) (ix2 (⟨r.val - (128 * k.val + 64), by omega⟩ : Fin 64) n)
      (k0_off1_eq k ⟨1, by decide⟩) (by show r.val = 128 * k.val + 64 * 1 + (r.val - (128 * k.val + 64)); omega) rfl).trans ?_
    rw [dqcat_1 k H]
    show (A.blk (2 * k.val + 1) _).dq (r.val - (128 * k.val + 64)) _ = (A.blk (r.val / 64) _).dq (r.val % 64) _
    rw [show r.val / 64 = 2 * k.val + 1 by omega, show r.val % 64 = r.val - (128 * k.val + 64) by omega]
  refine (View.read_writes_cons_rows_of_not_mem (W := 64) _ _ _ _ _ _ (k0_off1_eq k ⟨1, by decide⟩) rfl
    (by show r.val < 128 * k.val + 64 * 1 ∨ 128 * k.val + 64 * 1 + 64 ≤ r.val; omega)).trans ?_
  by_cases h0 : 128 * k.val ≤ r.val ∧ r.val < 128 * k.val + 64
  · rw [if_pos (by omega)]
    refine (View.read_writes_cons_rows_of_mem _ _ _ _ _ (ix2 r n) (ix2 (⟨r.val - 128 * k.val, by omega⟩ : Fin 64) n)
      (k0_off1_eq k ⟨0, by decide⟩) (by show r.val = 128 * k.val + 64 * 0 + (r.val - 128 * k.val); omega) rfl).trans ?_
    rw [dqcat_0 k H]
    show (A.blk (2 * k.val) _).dq (r.val - 128 * k.val) _ = (A.blk (r.val / 64) _).dq (r.val % 64) _
    rw [show r.val / 64 = 2 * k.val by omega, show r.val % 64 = r.val - 128 * k.val by omega]
  rw [if_neg (by omega)]
  exact View.read_writes_cons_rows_of_not_mem (W := 64) _ _ _ _ _ _ (k0_off1_eq k ⟨0, by decide⟩) rfl
    (by show r.val < 128 * k.val + 64 * 0 ∨ 128 * k.val + 64 * 0 + 64 ≤ r.val; omega)

/-- A trip adds its two chunks' gradients of the scores to the bias's gradient. -/
theorem trip9 (H : Holds A hd arg1 arg5 arg10 arg11 v25 v27 X1 X5 X10 X11) (h : Fin 2) (y : Fin 64) (j : Fin 576) :
    arg9.view.read (Elt Ideal) (arg9.view.writes (Elt Ideal) f9 ((trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.1 f6 f9 f12 f13)) (ix3 h y j)
      = arg9.view.read (Elt Ideal) f9 (ix3 h y j) + ((A.blk (2 * k.val) (hd + h.val)).ds y.val j.val
        + (A.blk (2 * k.val + 1) (hd + h.val)).ds y.val j.val) := by
  rw [list9]
  match h with
  | ⟨1, _⟩ =>
    refine (View.read_writes_cons_unit_of_mem _ _ _ _ _ _ (ix3 (0 : Fin 1) y j) rfl (fun a => match a with
      | ⟨0, _⟩ => rfl | ⟨1, _⟩ => (Nat.zero_add _).symm | ⟨2, _⟩ => (Nat.zero_add _).symm)).trans ?_
    pointwise [k0_pay6]
    rw [ds_01 H k, ds_11 H k]
    refine congrArg (· + _) (readAt_at _ _ _ _ _ rfl (fun a => match a with
      | ⟨0, _⟩ => rfl | ⟨1, _⟩ => (Nat.zero_add _).symm | ⟨2, _⟩ => (Nat.zero_add _).symm))
  | ⟨0, _⟩ =>
    refine (View.read_writes_cons_unit_of_not_mem _ _ _ _ _ _ rfl (0 : Fin 3) (.inl Nat.zero_lt_one)).trans ?_
    refine (View.read_writes_cons_unit_of_mem _ _ _ _ _ _ (ix3 (0 : Fin 1) y j) rfl (fun a => match a with
      | ⟨0, _⟩ => rfl | ⟨1, _⟩ => (Nat.zero_add _).symm | ⟨2, _⟩ => (Nat.zero_add _).symm)).trans ?_
    pointwise [k0_pay5]
    rw [ds_00 H k, ds_10 H k]
    refine congrArg (· + _) (readAt_at _ _ _ _ _ rfl (fun a => match a with
      | ⟨0, _⟩ => rfl | ⟨1, _⟩ => (Nat.zero_add _).symm | ⟨2, _⟩ => (Nat.zero_add _).symm))

end Cert.KernelIdeal.Attn
end
-- ==== Proof.Attn.Loop.lean ====
module

public import proofs.«01_k».proof.Proof.Attn.Trip

@[expose] public section

set_option maxRecDepth 16384

/-! What the loop leaves, by induction on its trips. -/

noncomputable section

namespace Cert.KernelIdeal.Attn

open Cert.KernelIdeal Cert.KernelIdeal.Gen Cert.Attn
open Idealize.ShloMosaic Idealize.ShloMosaic.TcCoe Idealize.ShloMosaic.Tactic

/-- The loop runs thirty-two trips. -/
theorem trips_eq : k0_t1_loop.trips = 32 := by decide +kernel

variable {A : Args} {hd : ℕ} (c : Dev nD) (i : grid0.Coords) {arg1 : Memref sig .tc .vmem S4096x128 .f32} {arg2 : Memref sig .tc .vmem S4096x128 .f32} {arg3 : Memref sig .tc .vmem S4096x128 .f32} {arg4 : Memref sig .tc .vmem S2x64x576 .f32} {arg5 : Memref sig .tc .vmem S4096x128 .f32} {arg6 : Memref sig .tc .vmem S4096x128 .f32} {arg7 : Memref sig .tc .vmem S4096x128 .f32} {arg8 : Memref sig .tc .vmem S4096x128 .f32} {arg9 : Memref sig .tc .vmem S2x64x576 .f32} {arg10 : Memref sig .tc .vmem S4608x128 .f32} {arg11 : Memref sig .tc .vmem S4608x128 .f32} {arg12 : Memref sig .tc .vmem S4608x128 .f32} {arg13 : Memref sig .tc .vmem S4608x128 .f32}
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
  {v25 v27 : Vec Ideal S1x64x576 .f32} {X1 : BufTy.Contents (Elt Ideal) arg1.view.ty} {X5 : BufTy.Contents (Elt Ideal) arg5.view.ty} {X10 : BufTy.Contents (Elt Ideal) arg10.view.ty} {X11 : BufTy.Contents (Elt Ideal) arg11.view.ty}
  (G6 : BufTy.Contents (Elt Ideal) arg6.view.ty) (G9 : BufTy.Contents (Elt Ideal) arg9.view.ty) (G12 : BufTy.Contents (Elt Ideal) arg12.view.ty) (G13 : BufTy.Contents (Elt Ideal) arg13.view.ty)

/-- After `n` trips: the first `128 * n` rows of the queries' gradient are written, and the bias's gradient and the padded
gradients of the keys and the values hold the sums over the first `2 * n` chunks. -/
structure Done (A : Args) (hd n : ℕ) (arg6 : Memref sig .tc .vmem S4096x128 .f32) (arg9 : Memref sig .tc .vmem S2x64x576 .f32)
    (arg12 arg13 : Memref sig .tc .vmem S4608x128 .f32) (f6 : BufTy.Contents (Elt Ideal) arg6.view.ty)
    (f9 : BufTy.Contents (Elt Ideal) arg9.view.ty) (f12 : BufTy.Contents (Elt Ideal) arg12.view.ty)
    (f13 : BufTy.Contents (Elt Ideal) arg13.view.ty) : Prop where
  q : ∀ (r : Fin 4096) (m : Fin 128), r.val < 128 * n →
    arg6.view.read (Elt Ideal) f6 (ix2 r m) = A.dq r.val (64 * hd + m.val)
  b : ∀ (h : Fin 2) (y : Fin 64) (j : Fin 576),
    arg9.view.read (Elt Ideal) f9 (ix3 h y j) = A.dbS (2 * n) (hd + h.val) y.val j.val
  k : ∀ (r : Fin 4608) (m : Fin 128), arg12.view.read (Elt Ideal) f12 (ix2 r m) = A.dkS (2 * n) r.val (64 * hd + m.val)
  v : ∀ (r : Fin 4608) (m : Fin 128), arg13.view.read (Elt Ideal) f13 (ix2 r m) = A.dvS (2 * n) r.val (64 * hd + m.val)

/-- One trip takes the state after `n` trips to the state after `n + 1`. -/
theorem Done.trip (H : Holds A hd arg1 arg5 arg10 arg11 v25 v27 X1 X5 X10 X11) (k : Fin k0_t1_loop.trips)
    (D : Done A hd k.val arg6 arg9 arg12 arg13 G6 G9 G12 G13) :
    Done A hd (k.val + 1) arg6 arg9 arg12 arg13 (arg6.view.writes (Elt Ideal) G6 ((trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).1 G6 G9 G12 G13))
      (arg9.view.writes (Elt Ideal) G9 ((trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.1 G6 G9 G12 G13))
      (arg12.view.writes (Elt Ideal) G12 ((trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.2.1 G6 G9 G12 G13))
      (arg13.view.writes (Elt Ideal) G13 ((trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 k).2.2.2.1 G6 G9 G12 G13)) where
  q r m hr := by
    rw [trip6 c i harg1 harg2 harg3 harg4 harg5 harg6 harg7 harg8 harg9 harg10 harg11 harg12 harg13 k G6 G9 G12 G13 H]
    split
    · rfl
    · exact D.q r m (by omega)
  b h y j := by
    rw [trip9 c i harg1 harg2 harg3 harg4 harg5 harg6 harg7 harg8 harg9 harg10 harg11 harg12 harg13 k G6 G9 G12 G13 H, D.b, Args.dbS, Args.dbS, show 2 * (k.val + 1) = 2 * k.val + 1 + 1 by omega,
      Finset.sum_range_succ, Finset.sum_range_succ, add_assoc]
  k r m := by
    rw [trip12 c i harg1 harg2 harg3 harg4 harg5 harg6 harg7 harg8 harg9 harg10 harg11 harg12 harg13 k G6 G9 G12 G13 H, D.k, Args.dkS, Args.dkS, show 2 * (k.val + 1) = 2 * k.val + 1 + 1 by omega,
      Finset.sum_range_succ, Finset.sum_range_succ]
  v r m := by
    rw [trip13 c i harg1 harg2 harg3 harg4 harg5 harg6 harg7 harg8 harg9 harg10 harg11 harg12 harg13 k G6 G9 G12 G13 H, D.v, Args.dvS, Args.dvS, show 2 * (k.val + 1) = 2 * k.val + 1 + 1 by omega,
      Finset.sum_range_succ, Finset.sum_range_succ]

/-- The state after `n` trips, from zeros. -/
theorem done_loop (H : Holds A hd arg1 arg5 arg10 arg11 v25 v27 X1 X5 X10 X11)
    (D : Done A hd 0 arg6 arg9 arg12 arg13 G6 G9 G12 G13) (n : ℕ) (hn : n ≤ k0_t1_loop.trips) :
    Done A hd n arg6 arg9 arg12 arg13
      (arg6.view.writes (Elt Ideal) G6 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 G6 G9 G12 G13 n).1)
      (arg9.view.writes (Elt Ideal) G9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 G6 G9 G12 G13 n).2.1)
      (arg12.view.writes (Elt Ideal) G12 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 G6 G9 G12 G13 n).2.2.1)
      (arg13.view.writes (Elt Ideal) G13 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 G6 G9 G12 G13 n).2.2.2) := by
  induction n with
  | zero => exact D
  | succ n ih =>
    have ih := ih (by omega)
    rw [show pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 G6 G9 G12 G13 (n + 1) = _ from pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 G6 G9 G12 G13 ⟨n, by omega⟩]
    generalize pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 G6 G9 G12 G13 n = P at ih
    dsimp only
    rw [View.writes_append, View.writes_append, View.writes_append, View.writes_append]
    exact Done.trip c i harg1 harg2 harg3 harg4 harg5 harg6 harg7 harg8 harg9 harg10 harg11 harg12 harg13 _ _ _ _ H ⟨n, by omega⟩ ih

end Cert.KernelIdeal.Attn
end
-- ==== Proof.Attn.Run.lean ====
module

public import proofs.«01_k».proof.Proof.Attn.Loop
public import Idealize.ShloMosaic.Lib.Claim

@[expose] public section

set_option maxRecDepth 16384

/-! The kernel's body on a block of the grid: given the inputs of two heads, the gradients it leaves are those of the
specification. -/

noncomputable section

namespace Cert.KernelIdeal.Attn

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The block of the queries' gradient from head `hd` on. -/
def dqF (A : Args) (hd : ℕ) : Vec Ideal S4096x128 .f32 := fun y => A.dq (y 0).val (64 * hd + (y 1).val)
/-- The block of the keys' gradient from head `hd` on. -/
def dkF (A : Args) (hd : ℕ) : Vec Ideal S4096x128 .f32 := fun y => A.dkS 64 ((y 0).val + 512) (64 * hd + (y 1).val)
/-- The block of the values' gradient from head `hd` on. -/
def dvF (A : Args) (hd : ℕ) : Vec Ideal S4096x128 .f32 := fun y => A.dvS 64 ((y 0).val + 512) (64 * hd + (y 1).val)
/-- The block of the bias's gradient from head `hd` on. -/
def dbF (A : Args) (hd : ℕ) : Vec Ideal S2x64x576 .f32 := fun y => A.dbS 64 (hd + (y 0).val) (y 1).val (y 2).val

/-- The five input blocks are those of the arguments from head `hd` on. -/
structure Inputs (A : Args) (hd : ℕ) (x0 x1 x2 : Vec Ideal S4096x128 .f32) (x3 : Vec Ideal S2x64x576 .f32)
    (x4 : Vec Ideal S4096x128 .f32) : Prop where
  q : ∀ (r : Fin 4096) (n : Fin 128), x0 (ix2 r n) = A.q r.val (64 * hd + n.val)
  k : ∀ (r : Fin 4096) (n : Fin 128), x1 (ix2 r n) = A.k r.val (64 * hd + n.val)
  v : ∀ (r : Fin 4096) (n : Fin 128), x2 (ix2 r n) = A.v r.val (64 * hd + n.val)
  b : ∀ (h : Fin 2) (i : Fin 64) (j : Fin 576), x3 (ix3 h i j) = A.b (hd + h.val) i.val j.val
  g : ∀ (r : Fin 4096) (n : Fin 128), x4 (ix2 r n) = A.g r.val (64 * hd + n.val)

variable {A : Args} {hd : ℕ}

/-- A padded buffer after its two stores: zeros in the first 512 rows, then the array. -/
theorem pad_read (arg : Memref sig .tc .vmem S4608x128 .f32) (f : BufTy.Contents (Elt Ideal) arg.view.ty)
    (z : Vec Ideal S512x128 .f32) (w : Vec Ideal S4096x128 .f32) (a : ℕ → ℕ → EReal)
    (hz : ∀ (r : Fin 512) (n : Fin 128), z (ix2 r n) = 0) (hw : ∀ (r : Fin 4096) (n : Fin 128), w (ix2 r n) = a r.val (64 * hd + n.val))
    (r : Fin 4608) (n : Fin 128) :
    arg.view.read (Elt Ideal) (arg.view.writes (Elt Ideal) f
      [⟨Rect.unit (s := S4608x128) ![512, 0] S4096x128.size inb_S4608x128_S4096x128_512_0, w⟩,
       ⟨Rect.unit (s := S4608x128) ![0, 0] S512x128.size inb_S4608x128_S512x128_0_0, z⟩]) (ix2 r n) = pad a r.val (64 * hd + n.val) := by
  by_cases h : 512 ≤ r.val
  · refine (View.read_writes_cons_rows_of_mem _ _ _ _ _ (ix2 r n) (ix2 (⟨r.val - 512, by omega⟩ : Fin 4096) n) rfl ?_ rfl).trans ?_
    · show r.val = 512 + (r.val - 512)
      omega
    · rw [hw]; unfold Cert.Attn.pad; rw [if_pos h]
  · rw [View.read_writes_cons_rows_of_not_mem (W := 4096) _ _ _ _ _ (ix2 r n) rfl rfl (Or.inl (by show r.val < 512; omega))]
    refine (View.read_writes_cons_rows_of_mem _ _ _ _ _ (ix2 r n) (ix2 (⟨r.val, by omega⟩ : Fin 512) n) rfl ?_ rfl).trans ?_
    · show r.val = 0 + r.val
      omega
    · rw [hz]; unfold Cert.Attn.pad; rw [if_neg h]

theorem pay76_zero (r : Fin 512) (n : Fin 128) : k0_pay76 (F := Ideal) (ix2 r n) = 0 := by
  pointwise [k0_pay76, k0_pay75]
theorem pay77_zero (r : Fin 512) (n : Fin 128) : k0_pay77 (F := Ideal) (ix2 r n) = 0 := by
  pointwise [k0_pay77, k0_pay75]
theorem pay80_zero (r : Fin 4608) (n : Fin 128) : k0_pay80 (F := Ideal) (ix2 r n) = 0 := by
  pointwise [k0_pay80]
theorem pay81_zero (r : Fin 4608) (n : Fin 128) : k0_pay81 (F := Ideal) (ix2 r n) = 0 := by
  pointwise [k0_pay81]
theorem pay82_zero (h : Fin 2) (i : Fin 64) (j : Fin 576) : k0_pay82 (F := Ideal) (ix3 h i j) = 0 := by
  pointwise [k0_pay82]
theorem pay78_at (v : Vec Ideal S4096x128 .f32) (r : Fin 4096) (n : Fin 128) : k0_pay78 v (ix2 r n) = v (ix2 r n) := by
  pointwise [k0_pay78]
theorem pay79_at (v : Vec Ideal S4096x128 .f32) (r : Fin 4096) (n : Fin 128) : k0_pay79 v (ix2 r n) = v (ix2 r n) := by
  pointwise [k0_pay79]

/-- A whole-buffer load of a whole memref read at an entry. -/
theorem load_at {arg : Memref sig .tc .vmem S4096x128 .f32} (harg : arg.IsWhole) (x : Vec Ideal S4096x128 .f32) (r : Fin 4096) (n : Fin 128) :
    arg.view.readAt (Elt Ideal) (Rect.unit (s := S4096x128) ![0, 0] S4096x128.size inb_S4096x128_S4096x128_0_0).toLoadRect
      (harg.unread x) (ix2 r n) = x (ix2 r n) := by
  refine (readAt_at _ _ _ (ix2 r n) (ix2 r n) rfl (Fin.forall_fin_two.mpr ⟨?_, ?_⟩)).trans (congrFun (harg.read_unread x) _)
  · exact (Nat.zero_add _).symm
  · exact (Nat.zero_add _).symm

/-- What the loop finds. -/
theorem holds_start {arg1 arg2 arg3 arg5 : Memref sig .tc .vmem S4096x128 .f32} {arg4 : Memref sig .tc .vmem S2x64x576 .f32}
    {arg10 arg11 : Memref sig .tc .vmem S4608x128 .f32} (harg1 : arg1.IsWhole) (harg2 : arg2.IsWhole) (harg3 : arg3.IsWhole)
    (harg4 : arg4.IsWhole) (harg5 : arg5.IsWhole) (g10 : BufTy.Contents (Elt Ideal) arg10.view.ty) (g11 : BufTy.Contents (Elt Ideal) arg11.view.ty)
    {x0 x1 x2 : Vec Ideal S4096x128 .f32} {x3 : Vec Ideal S2x64x576 .f32} {x4 : Vec Ideal S4096x128 .f32} (hin : Inputs A hd x0 x1 x2 x3 x4) :
    Holds A hd arg1 arg5 arg10 arg11
      (arg4.view.readAt (Elt Ideal) (Rect.unit (s := S2x64x576) ![0, 0, 0] S1x64x576.size inb_S2x64x576_S1x64x576_0_0_0).toLoadRect (harg4.unread x3))
      (arg4.view.readAt (Elt Ideal) (Rect.unit (s := S2x64x576) ![1, 0, 0] S1x64x576.size inb_S2x64x576_S1x64x576_1_0_0).toLoadRect (harg4.unread x3))
      (harg1.unread x0) (harg5.unread x4)
      (arg10.view.writes (Elt Ideal) g10
        [⟨Rect.unit (s := S4608x128) ![512, 0] S4096x128.size inb_S4608x128_S4096x128_512_0,
           k0_pay78 (arg2.view.readAt (Elt Ideal) (Rect.unit (s := S4096x128) ![0, 0] S4096x128.size inb_S4096x128_S4096x128_0_0).toLoadRect (harg2.unread x1))⟩,
         ⟨Rect.unit (s := S4608x128) ![0, 0] S512x128.size inb_S4608x128_S512x128_0_0, k0_pay76 (F := Ideal)⟩])
      (arg11.view.writes (Elt Ideal) g11
        [⟨Rect.unit (s := S4608x128) ![512, 0] S4096x128.size inb_S4608x128_S4096x128_512_0,
           k0_pay79 (arg3.view.readAt (Elt Ideal) (Rect.unit (s := S4096x128) ![0, 0] S4096x128.size inb_S4096x128_S4096x128_0_0).toLoadRect (harg3.unread x2))⟩,
         ⟨Rect.unit (s := S4608x128) ![0, 0] S512x128.size inb_S4608x128_S512x128_0_0, k0_pay77 (F := Ideal)⟩]) where
  q r n := (congrFun (harg1.read_unread x0) _).trans (hin.q r n)
  g r n := (congrFun (harg5.read_unread x4) _).trans (hin.g r n)
  k r n := pad_read _ _ _ _ _ pay76_zero (fun r n => by rw [pay78_at, load_at, hin.k]) r n
  v r n := pad_read _ _ _ _ _ pay77_zero (fun r n => by rw [pay79_at, load_at, hin.v]) r n
  b0 i j := by
    refine (readAt_at _ _ _ (ix3 (0 : Fin 1) i j) (ix3 (0 : Fin 2) i j) rfl ?_).trans ((congrFun (harg4.read_unread x3) _).trans (hin.b 0 i j))
    intro a
    fin_cases a
    · rfl
    · exact (Nat.zero_add _).symm
    · exact (Nat.zero_add _).symm
  b1 i j := by
    refine (readAt_at _ _ _ (ix3 (0 : Fin 1) i j) (ix3 (1 : Fin 2) i j) rfl ?_).trans ((congrFun (harg4.read_unread x3) _).trans (hin.b 1 i j))
    intro a
    fin_cases a
    · rfl
    · exact (Nat.zero_add _).symm
    · exact (Nat.zero_add _).symm

/-- Before the first trip the bias's gradient and the padded gradients are zero. -/
theorem done_start (arg6 : Memref sig .tc .vmem S4096x128 .f32) (arg9 : Memref sig .tc .vmem S2x64x576 .f32)
    (arg12 arg13 : Memref sig .tc .vmem S4608x128 .f32) (f6 : BufTy.Contents (Elt Ideal) arg6.view.ty)
    (g9 : BufTy.Contents (Elt Ideal) arg9.view.ty) (g12 : BufTy.Contents (Elt Ideal) arg12.view.ty) (g13 : BufTy.Contents (Elt Ideal) arg13.view.ty) :
    Done A hd 0 arg6 arg9 arg12 arg13 f6
      (arg9.view.writes (Elt Ideal) g9 [⟨Rect.unit (s := S2x64x576) ![0, 0, 0] S2x64x576.size inb_S2x64x576_S2x64x576_0_0_0, k0_pay82 (F := Ideal)⟩])
      (arg12.view.writes (Elt Ideal) g12 [⟨Rect.unit (s := S4608x128) ![0, 0] S4608x128.size inb_S4608x128_S4608x128_0_0, k0_pay80 (F := Ideal)⟩])
      (arg13.view.writes (Elt Ideal) g13 [⟨Rect.unit (s := S4608x128) ![0, 0] S4608x128.size inb_S4608x128_S4608x128_0_0, k0_pay81 (F := Ideal)⟩]) where
  q r m hr := absurd hr (by omega)
  b h y j := by
    refine (View.read_writes_cons_unit_of_mem _ _ _ _ _ (ix3 h y j) (ix3 h y j) rfl ?_).trans (pay82_zero h y j)
    intro a
    fin_cases a <;> exact (Nat.zero_add _).symm
  k r m := by
    refine (View.read_writes_cons_unit_of_mem _ _ _ _ _ (ix2 r m) (ix2 r m) rfl ?_).trans (pay80_zero r m)
    intro a
    fin_cases a <;> exact (Nat.zero_add _).symm
  v r m := by
    refine (View.read_writes_cons_unit_of_mem _ _ _ _ _ (ix2 r m) (ix2 r m) rfl ?_).trans (pay81_zero r m)
    intro a
    fin_cases a <;> exact (Nat.zero_add _).symm

/-- A whole-buffer store of the rows from 512 on of a padded buffer. -/
theorem out_read (arg : Memref sig .tc .vmem S4096x128 .f32) (f : BufTy.Contents (Elt Ideal) arg.view.ty)
    (src : Memref sig .tc .vmem S4608x128 .f32) (g : BufTy.Contents (Elt Ideal) src.view.ty) (r : Fin 4096) (n : Fin 128) :
    arg.view.read (Elt Ideal) (arg.view.writes (Elt Ideal) f
      [⟨Rect.unit (s := S4096x128) ![0, 0] S4096x128.size inb_S4096x128_S4096x128_0_0,
        src.view.readAt (Elt Ideal) (Rect.unit (s := S4608x128) ![512, 0] S4096x128.size inb_S4608x128_S4096x128_512_0).toLoadRect g⟩]) (ix2 r n)
      = src.view.read (Elt Ideal) g (ix2 (⟨r.val + 512, by omega⟩ : Fin 4608) n) := by
  refine (View.read_writes_cons_unit_of_mem _ _ _ _ _ (ix2 r n) (ix2 r n) rfl ?_).trans ?_
  · intro a
    fin_cases a <;> exact (Nat.zero_add _).symm
  · refine readAt_at _ _ _ (ix2 r n) (ix2 (⟨r.val + 512, by omega⟩ : Fin 4608) n) rfl (Fin.forall_fin_two.mpr ⟨?_, ?_⟩)
    · exact Nat.add_comm _ _
    · exact (Nat.zero_add _).symm

section
variable (c : Dev nD) (i : grid0.Coords) {arg1 : Memref sig .tc .vmem S4096x128 .f32} {arg2 : Memref sig .tc .vmem S4096x128 .f32} {arg3 : Memref sig .tc .vmem S4096x128 .f32} {arg4 : Memref sig .tc .vmem S2x64x576 .f32} {arg5 : Memref sig .tc .vmem S4096x128 .f32} {arg6 : Memref sig .tc .vmem S4096x128 .f32} {arg7 : Memref sig .tc .vmem S4096x128 .f32} {arg8 : Memref sig .tc .vmem S4096x128 .f32} {arg9 : Memref sig .tc .vmem S2x64x576 .f32} {arg10 : Memref sig .tc .vmem S4608x128 .f32} {arg11 : Memref sig .tc .vmem S4608x128 .f32} {arg12 : Memref sig .tc .vmem S4608x128 .f32} {arg13 : Memref sig .tc .vmem S4608x128 .f32} (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
  {v25 v27 : Vec Ideal S1x64x576 .f32} {X1 : BufTy.Contents (Elt Ideal) arg1.view.ty} {X5 : BufTy.Contents (Elt Ideal) arg5.view.ty} {X10 : BufTy.Contents (Elt Ideal) arg10.view.ty} {X11 : BufTy.Contents (Elt Ideal) arg11.view.ty}
  (f6 : BufTy.Contents (Elt Ideal) arg6.view.ty) (g9 : BufTy.Contents (Elt Ideal) arg9.view.ty) (g12 : BufTy.Contents (Elt Ideal) arg12.view.ty) (g13 : BufTy.Contents (Elt Ideal) arg13.view.ty)
  (L9 : List (View.Piece (Elt Ideal) S2x64x576 .f32)) (L12 L13 : List (View.Piece (Elt Ideal) S4608x128 .f32))
/-- The queries' gradient after the loop. -/
theorem out6 (H : Holds A hd arg1 arg5 arg10 arg11 v25 v27 X1 X5 X10 X11)
    (D : Done A hd 0 arg6 arg9 arg12 arg13 f6 (arg9.view.writes (Elt Ideal) g9 L9) (arg12.view.writes (Elt Ideal) g12 L12) (arg13.view.writes (Elt Ideal) g13 L13)) :
    arg6.view.read (Elt Ideal) (arg6.view.writes (Elt Ideal) f6 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 f6 (arg9.view.writes (Elt Ideal) g9 L9) (arg12.view.writes (Elt Ideal) g12 L12) (arg13.view.writes (Elt Ideal) g13 L13) (Scf.trips k0_t1_loop.lb k0_t1_loop.ub k0_t1_loop.st)).1) = dqF A hd := by
  funext y
  idx_vars y
  exact (done_loop c i harg1 harg2 harg3 harg4 harg5 harg6 harg7 harg8 harg9 harg10 harg11 harg12 harg13 _ _ _ _ H D k0_t1_loop.trips le_rfl).q y0 y1 (by rw [trips_eq]; exact y0.isLt)

/-- The bias's gradient after the loop. -/
theorem out9 (H : Holds A hd arg1 arg5 arg10 arg11 v25 v27 X1 X5 X10 X11)
    (D : Done A hd 0 arg6 arg9 arg12 arg13 f6 (arg9.view.writes (Elt Ideal) g9 L9) (arg12.view.writes (Elt Ideal) g12 L12) (arg13.view.writes (Elt Ideal) g13 L13)) :
    arg9.view.read (Elt Ideal) (arg9.view.writes (Elt Ideal) g9 ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 f6 (arg9.view.writes (Elt Ideal) g9 L9) (arg12.view.writes (Elt Ideal) g12 L12) (arg13.view.writes (Elt Ideal) g13 L13) (Scf.trips k0_t1_loop.lb k0_t1_loop.ub k0_t1_loop.st)).2.1 ++ L9)) = dbF A hd := by
  funext y
  idx_vars y
  rw [View.writes_append]
  refine ((done_loop c i harg1 harg2 harg3 harg4 harg5 harg6 harg7 harg8 harg9 harg10 harg11 harg12 harg13 _ _ _ _ H D k0_t1_loop.trips le_rfl).b y0 y1 y2).trans ?_
  rw [trips_eq]; rfl

/-- The keys' gradient after the loop and the last store. -/
theorem out7 (f : BufTy.Contents (Elt Ideal) arg7.view.ty) (H : Holds A hd arg1 arg5 arg10 arg11 v25 v27 X1 X5 X10 X11)
    (D : Done A hd 0 arg6 arg9 arg12 arg13 f6 (arg9.view.writes (Elt Ideal) g9 L9) (arg12.view.writes (Elt Ideal) g12 L12) (arg13.view.writes (Elt Ideal) g13 L13)) :
    arg7.view.read (Elt Ideal) (arg7.view.writes (Elt Ideal) f
      [⟨Rect.unit (s := S4096x128) ![0, 0] S4096x128.size inb_S4096x128_S4096x128_0_0,
        arg12.view.readAt (Elt Ideal) (Rect.unit (s := S4608x128) ![512, 0] S4096x128.size inb_S4608x128_S4096x128_512_0).toLoadRect
          (arg12.view.writes (Elt Ideal) g12 ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 f6 (arg9.view.writes (Elt Ideal) g9 L9) (arg12.view.writes (Elt Ideal) g12 L12) (arg13.view.writes (Elt Ideal) g13 L13) (Scf.trips k0_t1_loop.lb k0_t1_loop.ub k0_t1_loop.st)).2.2.1 ++ L12))⟩]) = dkF A hd := by
  funext y
  idx_vars y
  rw [out_read, View.writes_append]
  refine ((done_loop c i harg1 harg2 harg3 harg4 harg5 harg6 harg7 harg8 harg9 harg10 harg11 harg12 harg13 _ _ _ _ H D k0_t1_loop.trips le_rfl).k _ y1).trans ?_
  rw [trips_eq]; rfl

/-- The values' gradient after the loop and the last store. -/
theorem out8 (f : BufTy.Contents (Elt Ideal) arg8.view.ty) (H : Holds A hd arg1 arg5 arg10 arg11 v25 v27 X1 X5 X10 X11)
    (D : Done A hd 0 arg6 arg9 arg12 arg13 f6 (arg9.view.writes (Elt Ideal) g9 L9) (arg12.view.writes (Elt Ideal) g12 L12) (arg13.view.writes (Elt Ideal) g13 L13)) :
    arg8.view.read (Elt Ideal) (arg8.view.writes (Elt Ideal) f
      [⟨Rect.unit (s := S4096x128) ![0, 0] S4096x128.size inb_S4096x128_S4096x128_0_0,
        arg13.view.readAt (Elt Ideal) (Rect.unit (s := S4608x128) ![512, 0] S4096x128.size inb_S4608x128_S4096x128_512_0).toLoadRect
          (arg13.view.writes (Elt Ideal) g13 ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 v25 v27 X1 X5 X10 X11 f6 (arg9.view.writes (Elt Ideal) g9 L9) (arg12.view.writes (Elt Ideal) g12 L12) (arg13.view.writes (Elt Ideal) g13 L13) (Scf.trips k0_t1_loop.lb k0_t1_loop.ub k0_t1_loop.st)).2.2.2 ++ L13))⟩]) = dvF A hd := by
  funext y
  idx_vars y
  rw [out_read, View.writes_append]
  refine ((done_loop c i harg1 harg2 harg3 harg4 harg5 harg6 harg7 harg8 harg9 harg10 harg11 harg12 harg13 _ _ _ _ H D k0_t1_loop.trips le_rfl).v _ y1).trans ?_
  rw [trips_eq]; rfl

end

set_option maxHeartbeats 2000000 in
/-- The body, given the inputs of heads `hd` and `hd + 1`, leaves their four gradients. -/
theorem kernelRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S2x64x576 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S2x64x576 .f32) (harg9 : arg9.IsWhole) (arg10 : Memref sig .tc .vmem S4608x128 .f32) (harg10 : arg10.IsWhole) (arg11 : Memref sig .tc .vmem S4608x128 .f32) (harg11 : arg11.IsWhole) (arg12 : Memref sig .tc .vmem S4608x128 .f32) (harg12 : arg12.IsWhole) (arg13 : Memref sig .tc .vmem S4608x128 .f32) (harg13 : arg13.IsWhole)
    (x0 : Vec Ideal S4096x128 .f32) (x1 : Vec Ideal S4096x128 .f32) (x2 : Vec Ideal S4096x128 .f32) (x3 : Vec Ideal S2x64x576 .f32) (x4 : Vec Ideal S4096x128 .f32)
    (hin : Inputs A hd x0 x1 x2 x3 x4) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dqF A hd) ∗ owns (c : Thread nD τ) arg7 fullShare (dkF A hd) ∗ owns (c : Thread nD τ) arg8 fullShare (dvF A hd) ∗ owns (c : Thread nD τ) arg9 fullShare (dbF A hd) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := Ideal)) Variants.none c none) E (cc0_attention_bwd i arg1 harg1 arg2 harg2 arg3 harg3 arg4 harg4 arg5 harg5 arg6 harg6 arg7 harg7 arg8 harg8 arg9 harg9 arg10 harg10 arg11 harg11 arg12 harg12 arg13 harg13) K := by
    intro E K
    simp only [cc0_attention_bwd_eq_skeleton]; unfold cc0_attention_bwd_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine out6 c i harg1 harg2 harg3 harg4 harg5 harg6 harg7 harg8 harg9 harg10 harg11 harg12 harg13 _ _ _ _ _ _ _ ?_ ?_
      · exact holds_start harg1 harg2 harg3 harg4 harg5 _ _ hin
      · exact done_start arg6 arg9 arg12 arg13 _ _ _ _
    isplitl [H6]
    · iexists _; isplitr; swap; · iexact H6
      ipureintro
      unfold kernelRun.sl.v30
      refine out7 c i harg1 harg2 harg3 harg4 harg5 harg6 harg7 harg8 harg9 harg10 harg11 harg12 harg13 _ _ _ _ _ _ _ _ ?_ ?_
      · exact holds_start harg1 harg2 harg3 harg4 harg5 _ _ hin
      · exact done_start arg6 arg9 arg12 arg13 _ _ _ _
    isplitl [H7]
    · iexists _; isplitr; swap; · iexact H7
      ipureintro
      unfold kernelRun.sl.v32
      refine out8 c i harg1 harg2 harg3 harg4 harg5 harg6 harg7 harg8 harg9 harg10 harg11 harg12 harg13 _ _ _ _ _ _ _ _ ?_ ?_
      · exact holds_start harg1 harg2 harg3 harg4 harg5 _ _ hin
      · exact done_start arg6 arg9 arg12 arg13 _ _ _ _
    isplitl [H8]
    · iexists _; isplitr; swap; · iexact H8
      ipureintro
      refine out9 c i harg1 harg2 harg3 harg4 harg5 harg6 harg7 harg8 harg9 harg10 harg11 harg12 harg13 _ _ _ _ _ _ _ ?_ ?_
      · exact holds_start harg1 harg2 harg3 harg4 harg5 _ _ hin
      · exact done_start arg6 arg9 arg12 arg13 _ _ _ _
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Attn
end
-- ==== Proof.Attn.Spec.lean ====
module

public import proofs.«01_k».proof.Proof.Attn.Math

@[expose] public section

/-! The operands of the whole call from its five arrays. -/

noncomputable section

namespace Cert.Attn

open Idealize.ShloMosaic

/-- A matrix as a function of natural numbers, zero outside its extents. -/
def nat2 {a b : ℕ} (x : Fin a → Fin b → EReal) (r n : ℕ) : EReal := if h : r < a ∧ n < b then x ⟨r, h.1⟩ ⟨n, h.2⟩ else 0
/-- A three-axis array as a function of natural numbers, zero outside its extents. -/
def nat3 {a b c : ℕ} (x : Fin a → Fin b → Fin c → EReal) (h i j : ℕ) : EReal :=
  if hh : h < a ∧ i < b ∧ j < c then x ⟨h, hh.1⟩ ⟨i, hh.2.1⟩ ⟨j, hh.2.2⟩ else 0

theorem nat2_val {a b : ℕ} (x : Fin a → Fin b → EReal) (r : Fin a) (n : Fin b) : nat2 x r.val n.val = x r n :=
  dif_pos ⟨r.isLt, n.isLt⟩

theorem nat2_of {a b : ℕ} (x : Fin a → Fin b → EReal) {r n : ℕ} (hr : r < a) (hn : n < b) : nat2 x r n = x ⟨r, hr⟩ ⟨n, hn⟩ :=
  dif_pos ⟨hr, hn⟩

theorem nat3_of {a b c : ℕ} (x : Fin a → Fin b → Fin c → EReal) {h i j : ℕ} (hh : h < a) (hi : i < b) (hj : j < c) :
    nat3 x h i j = x ⟨h, hh⟩ ⟨i, hi⟩ ⟨j, hj⟩ := dif_pos ⟨hh, hi, hj⟩

/-- The operands of the call from its five arrays. -/
def ofArrays (q k v : Fin 4096 → Fin 1024 → EReal) (b : Fin 16 → Fin 64 → Fin 576 → EReal) (g : Fin 4096 → Fin 1024 → EReal) : Args where
  q := nat2 q
  k := nat2 k
  v := nat2 v
  b := nat3 b
  g := nat2 g

end Cert.Attn
end
-- ==== Proof.Attn.Frame.lean ====
module

public import proofs.«01_k».proof.Proof.Attn.Run
public import proofs.«01_k».proof.Proof.Attn.Spec
public import Idealize.ShloMosaic.Lib.Claim
public import Idealize.ShloMosaic.Lib.Pipeline.ValueKit

@[expose] public section

set_option maxRecDepth 16384

/-! The launch of the kernel with its outputs named: every run ends, the arguments unchanged and each result array what
the specification says of the argument arrays. -/

noncomputable section

namespace Cert.KernelIdeal.Attn

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The operands of the call on a device. -/
def argsOf (c : Dev nD) : Args :=
  ofArrays (fun r n => V m c main_arg0 (ix2 r n)) (fun r n => V m c main_arg1 (ix2 r n)) (fun r n => V m c main_arg2 (ix2 r n))
    (fun h i j => V m c main_arg3 (ix3 h i j)) (fun r n => V m c main_arg4 (ix2 r n))

/-- Each window's block at a point of the grid: the block of columns, or of heads, of the point's number. -/
theorem idx : ∀ t : Fin grid0.N,
    win0_0.index t = ![0, t.val] ∧ win0_1.index t = ![0, t.val] ∧ win0_2.index t = ![0, t.val] ∧ win0_3.index t = ![t.val, 0, 0] ∧ win0_4.index t = ![0, t.val] ∧ win0_5.index t = ![0, t.val] ∧ win0_6.index t = ![0, t.val] ∧ win0_7.index t = ![0, t.val] ∧ win0_8.index t = ![t.val, 0, 0] := by
  decide +kernel

/-- The input blocks of a point are those of the operands from head `2 * t` on. -/
theorem inputs (c : Dev nD) (t : Fin cfg0.N) :
    Inputs (argsOf m c) (2 * t.val) (iblk m c 0 t) (iblk m c 1 t) (iblk m c 2 t) (iblk m c 3 t) (iblk m c 4 t) := by
  have ht : t.val < 8 := t.isLt
  constructor
  · intro r n
    show _ = nat2 (fun r n => V m c main_arg0 (ix2 r n)) r.val (64 * (2 * t.val) + n.val)
    rw [nat2_of _ r.isLt (show 64 * (2 * t.val) + n.val < 1024 by omega)]
    blk_ext [iblk, V, idx t]
  · intro r n
    show _ = nat2 (fun r n => V m c main_arg1 (ix2 r n)) r.val (64 * (2 * t.val) + n.val)
    rw [nat2_of _ r.isLt (show 64 * (2 * t.val) + n.val < 1024 by omega)]
    blk_ext [iblk, V, idx t]
  · intro r n
    show _ = nat2 (fun r n => V m c main_arg2 (ix2 r n)) r.val (64 * (2 * t.val) + n.val)
    rw [nat2_of _ r.isLt (show 64 * (2 * t.val) + n.val < 1024 by omega)]
    blk_ext [iblk, V, idx t]
  · intro h i j
    show _ = nat3 (fun h i j => V m c main_arg3 (ix3 h i j)) (2 * t.val + h.val) i.val j.val
    rw [nat3_of _ (show 2 * t.val + h.val < 16 by omega) i.isLt j.isLt]
    blk_ext [iblk, V, idx t]
  · intro r n
    show _ = nat2 (fun r n => V m c main_arg4 (ix2 r n)) r.val (64 * (2 * t.val) + n.val)
    rw [nat2_of _ r.isLt (show 64 * (2 * t.val) + n.val < 1024 by omega)]
    blk_ext [iblk, V, idx t]

/-- Window 0's staging memref at a point. -/
abbrev ms0_0 (t : Fin cfg0.N) : Memref sig .tc .vmem S4096x128 .f32 := win0_0.stage (cfg0.slots t 0)
/-- Window 1's staging memref at a point. -/
abbrev ms0_1 (t : Fin cfg0.N) : Memref sig .tc .vmem S4096x128 .f32 := win0_1.stage (cfg0.slots t 1)
/-- Window 2's staging memref at a point. -/
abbrev ms0_2 (t : Fin cfg0.N) : Memref sig .tc .vmem S4096x128 .f32 := win0_2.stage (cfg0.slots t 2)
/-- Window 3's staging memref at a point. -/
abbrev ms0_3 (t : Fin cfg0.N) : Memref sig .tc .vmem S2x64x576 .f32 := win0_3.stage (cfg0.slots t 3)
/-- Window 4's staging memref at a point. -/
abbrev ms0_4 (t : Fin cfg0.N) : Memref sig .tc .vmem S4096x128 .f32 := win0_4.stage (cfg0.slots t 4)
/-- Window 5's staging memref at a point. -/
abbrev ms0_5 (t : Fin cfg0.N) : Memref sig .tc .vmem S4096x128 .f32 := win0_5.stage (cfg0.slots t 5)
/-- Window 6's staging memref at a point. -/
abbrev ms0_6 (t : Fin cfg0.N) : Memref sig .tc .vmem S4096x128 .f32 := win0_6.stage (cfg0.slots t 6)
/-- Window 7's staging memref at a point. -/
abbrev ms0_7 (t : Fin cfg0.N) : Memref sig .tc .vmem S4096x128 .f32 := win0_7.stage (cfg0.slots t 7)
/-- Window 8's staging memref at a point. -/
abbrev ms0_8 (t : Fin cfg0.N) : Memref sig .tc .vmem S2x64x576 .f32 := win0_8.stage (cfg0.slots t 8)
/-- Scratch buffer 0 as a memref. -/
abbrev scM0_0 : Memref sig .tc .vmem S4608x128 .f32 := Memref.whole cc0_scratch0
/-- Scratch buffer 1 as a memref. -/
abbrev scM0_1 : Memref sig .tc .vmem S4608x128 .f32 := Memref.whole cc0_scratch1
/-- Scratch buffer 2 as a memref. -/
abbrev scM0_2 : Memref sig .tc .vmem S4608x128 .f32 := Memref.whole cc0_scratch2
/-- Scratch buffer 3 as a memref. -/
abbrev scM0_3 : Memref sig .tc .vmem S4608x128 .f32 := Memref.whole cc0_scratch3

/-- The class invariant, with the scratch buffers as memrefs held at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The proof data: the inputs' blocks stay, each output's block is the specification's from head `2 * t` on. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqF (argsOf m c) (2 * t.val)
    | ⟨6, _⟩ => dkF (argsOf m c) (2 * t.val)
    | ⟨7, _⟩ => dvF (argsOf m c) (2 * t.val)
    | ⟨8, _⟩ => dbF (argsOf m c) (2 * t.val)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqF (argsOf m c) (2 * t.val) := by dsimp only [dats]
theorem after0_6 (c : Dev nD) (t : Fin cfg0.N) : (dats m 0 c).after 6 t = dkF (argsOf m c) (2 * t.val) := by dsimp only [dats]
theorem after0_7 (c : Dev nD) (t : Fin cfg0.N) : (dats m 0 c).after 7 t = dvF (argsOf m c) (2 * t.val) := by dsimp only [dats]
theorem after0_8 (c : Dev nD) (t : Fin cfg0.N) : (dats m 0 c).after 8 t = dbF (argsOf m c) (2 * t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point of the grid. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (inputs m c t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body at that point. -/
theorem defs₀_row (t : Fin cfg0.N) :
    defs₀ (F := Ideal) .tc cfg0.body (cfg0.bodyArgs t (cfg0.slots t)) = bodyAt0 t := by
  unfold defs₀; rw [Defs.onTc_tc]

/-- The body meets its obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every run ends with the arrays as the proof data says and every semaphore counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arrays as the proof data says. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore counter reads zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- Result array 0 after the run. -/
theorem arr5 (c : Dev nD) : (dats m 0 c).arrAt 5 (cfgs 0).N = fun y => (argsOf m c).dq (y 0).val (y 1).val := by
  refine (dats m 0 c).arrAt_eq_of_covers 5 _ (by decide +kernel) fun t hf y => ?_
  blk_simp
  rw [after0_5]
  idx_vars y
  unfold dqF
  blk_simp [idx t]
  ring_nf

/-- Result array 1 after the run. -/
theorem arr6 (c : Dev nD) : (dats m 0 c).arrAt 6 (cfgs 0).N = fun y => (argsOf m c).dkS 64 ((y 0).val + 512) (y 1).val := by
  refine (dats m 0 c).arrAt_eq_of_covers 6 _ (by decide +kernel) fun t hf y => ?_
  blk_simp
  rw [after0_6]
  idx_vars y
  unfold dkF
  blk_simp [idx t]
  ring_nf

/-- Result array 2 after the run. -/
theorem arr7 (c : Dev nD) : (dats m 0 c).arrAt 7 (cfgs 0).N = fun y => (argsOf m c).dvS 64 ((y 0).val + 512) (y 1).val := by
  refine (dats m 0 c).arrAt_eq_of_covers 7 _ (by decide +kernel) fun t hf y => ?_
  blk_simp
  rw [after0_7]
  idx_vars y
  unfold dvF
  blk_simp [idx t]
  ring_nf

/-- Result array 3 after the run. -/
theorem arr8 (c : Dev nD) : (dats m 0 c).arrAt 8 (cfgs 0).N = fun y => (argsOf m c).dbS 64 (y 0).val (y 1).val (y 2).val := by
  refine (dats m 0 c).arrAt_eq_of_covers 8 _ (by decide +kernel) fun t hf y => ?_
  blk_simp
  rw [after0_8]
  idx_vars y
  unfold dbF
  blk_simp [idx t]
  ring_nf

end Cert.KernelIdeal.Attn
end
-- ==== Proof.Attn.Ref.lean ====
module
public import proofs.«01_k».proof.Proof.Gen.ReferenceIdeal.Read
public import proofs.«01_k».proof.Proof.Attn.Spec
public import Idealize.ShloMosaic.Lib.Pipeline.ValueKit
public import Idealize.ShloMosaic.Lib.Tactic.WordOmega

@[expose] public section

set_option maxRecDepth 16384

/-! The reference's arrays at an entry: the scores, the probabilities and the gradients of the scores are the entries of
the block of extended reals of their chunk and head. -/

noncomputable section

namespace Cert.ReferenceIdeal.Attn

open Cert.ReferenceIdeal Cert.ReferenceIdeal.Gen Cert.Attn Cert.ReferenceIdeal.Read
open Idealize.ShloMosaic Idealize.ShloMosaic.TcCoe Idealize.ShloMosaic.Tactic

/-- A rows-by-columns array of extended reals. -/
abbrev Mat := (⟨S4096x1024, .f32⟩ : BufTy).Contents (Elt Ideal)
/-- A bias array of extended reals. -/
abbrev Bias := (⟨S16x64x576, .f32⟩ : BufTy).Contents (Elt Ideal)

/-- A matrix as a function of natural numbers. -/
def mat (x : Mat) : ℕ → ℕ → EReal := nat2 fun r n => x (ix2 r n)

/-- The operands of the call from the reference's five arguments. -/
def args (x0 x1 x2 : Mat) (x3 : Bias) (x4 : Mat) : Args :=
  ofArrays (fun r n => x0 (ix2 r n)) (fun r n => x1 (ix2 r n)) (fun r n => x2 (ix2 r n))
    (fun h i j => x3 (ix3 h i j)) (fun r n => x4 (ix2 r n))

theorem mat_at (x : Mat) (r : Fin 4096) (n : Fin 1024) : x (ix2 r n) = mat x r.val n.val :=
  (nat2_val (fun r n => x (ix2 r n)) r n).symm

/-- A matrix in chunks and heads. -/
theorem v0_at (x : Mat) (c y : Fin 64) (h : Fin 16) (d : Fin 64) :
    val_main_v0 x (ix4 c y h d) = mat x (64 * c.val + y.val) (64 * h.val + d.val) := by
  pointwise [val_main_v0]
  exact (mat_at x _ _).trans (congrArg₂ (mat x) (by simp only []; omega) (by simp only []; omega))

/-- A matrix in chunks and heads after eight chunks of zeros. -/
theorem v3_at (x : Mat) (c : Fin 72) (y : Fin 64) (h : Fin 16) (d : Fin 64) :
    val_main_v3 x (ix4 c y h d) = Cert.Attn.pad (mat x) (64 * c.val + y.val) (64 * h.val + d.val) := by
  pointwise [val_main_v3, val_main_v1, val_main_v2, val_main_cst]
  unfold Cert.Attn.pad
  split
  · exact (if_neg (by omega)).symm
  · exact ((mat_at x _ _).trans (congrArg₂ (mat x) (by simp only []; omega) (by simp only []; omega))).trans (if_pos (by omega)).symm

/-- The band of keys of each chunk. -/
theorem v14_at (x : Mat) (c : Fin 64) (j : Fin 576) (h : Fin 16) (d : Fin 64) :
    val_main_v14 x (ix4 c j h d) = Cert.Attn.pad (mat x) (64 * c.val + j.val) (64 * h.val + d.val) := by
  pointwise [val_main_v14, val_main_v5, val_main_v6, val_main_v7, val_main_v8, val_main_v9, val_main_v10, val_main_v11, val_main_v12, val_main_v13]
  simp only [v3_at]
  split_ifs <;> exact congrArg (fun r => Cert.Attn.pad (mat x) r _) (by omega)

/-- The band of values of each chunk. -/
theorem v62_at (x : Mat) (c : Fin 64) (j : Fin 576) (h : Fin 16) (d : Fin 64) :
    val_main_v62 x (ix4 c j h d) = Cert.Attn.pad (mat x) (64 * c.val + j.val) (64 * h.val + d.val) :=
  v14_at x c j h d

/-- The cotangent of each chunk and head. -/
theorem v67_at (x : Mat) (c y : Fin 64) (h : Fin 16) (d : Fin 64) :
    val_main_v67 x (ix4 c h d y) = mat x (64 * c.val + y.val) (64 * h.val + d.val) := by
  pointwise [val_main_v67]
  exact v0_at x c y h d

/-- The comparison of a small word with 512. -/
theorem sge_512 {w : BitVec 32} {n : ℕ} (hw : w.toNat = n) (hn : n < 2 ^ 31) :
    IntOp.cmpi .sge w 512#32 = if 512 ≤ n then 1#1 else 0#1 := by
  split <;> word_omega

/-- A key is in its sequence. -/
theorem ok_at (c : Fin 64) (h : Fin 16) (i : Fin 64) (j : Fin 576) :
    (val_main_v31_1 (F := Ideal) (ix4 c h i j) : BitVec 1) = if 512 ≤ 64 * c.val + j.val then 1#1 else 0#1 := by
  pointwise [val_main_v31_1, val_main_v30, val_main_v29, val_main_v28, val_main_v27, val_main_v26, val_main_v25, val_main_v24, val_main_v23, val_main_v22, val_main_v21, val_main_v20, val_main_v19, val_main_c, val_main_c_1]
  refine sge_512 ?_ (by omega)
  have hc := c.isLt
  have hj := j.isLt
  show (BitVec.ofNat 32 c.val * 64#32 + BitVec.ofNat 32 j.val).toNat = _
  simp only [BitVec.toNat_add, BitVec.toNat_mul, BitVec.toNat_ofNat]
  omega

variable (x0 x1 x2 : Mat) (x3 : Bias) (x4 : Mat) (c : Fin 64) (h : Fin 16) (i : Fin 64) (j : Fin 576)

/-- The selection between two values by a condition on a word. -/
theorem sel_at (P : Prop) [Decidable P] (a b : EReal) : Scalar.select (if P then 1#1 else 0#1) a b = if P then a else b := by
  by_cases hP : P
  · rw [if_pos hP, if_pos hP]; rfl
  · rw [if_neg hP, if_neg hP]; rfl

/-- The masked scores. -/
theorem s_at : val_main_v31_0 x0 x1 x3 (ix4 c h i j) = ((args x0 x1 x2 x3 x4).blk c.val h.val).s i.val j.val := by
  pointwise [val_main_v31_0, val_main_v18, val_main_v17, val_main_v16, val_main_v15, v0_at, v14_at, val_main_call0_v2, val_main_call0_v0, val_main_cst_2]
  rw [ok_at, sel_at]
  unfold Blk.s
  refine if_congr Iff.rfl (congrArg₂ _ rfl ?_) ofBits_bot
  exact (nat3_of (fun h i j => x3 (ix3 h i j)) h.isLt i.isLt j.isLt).symm

/-- The maximum of a row of scores. -/
theorem mx_at : val_main_v32 x0 x1 x3 (ix3 c h i) = ((args x0 x1 x2 x3 x4).blk c.val h.val).mx i.val := by
  pointwise [val_main_v32, val_main_cst_3]
  unfold Blk.mx
  exact congrArg₂ (fun a f => Finset.fold max a f Finset.univ) ofBits_bot (funext fun j => s_at x0 x1 x2 x3 x4 c h i j)

/-- The exponentials. -/
theorem e_at : val_main_v41 x0 x1 x3 (ix4 c h i j) = ((args x0 x1 x2 x3 x4).blk c.val h.val).e i.val j.val := by
  pointwise [val_main_v41, val_main_v40, val_main_v39, val_main_v38]
  rw [mx_at x0 x1 x2 x3 x4, s_at x0 x1 x2 x3 x4]
  rfl

/-- The row sums. -/
theorem S_at (k : Fin 1) : val_main_v43 x0 x1 x3 (ix4 c h i k) = ((args x0 x1 x2 x3 x4).blk c.val h.val).S i.val := by
  pointwise [val_main_v43, val_main_v42, val_main_cst_5]
  simp only [e_at x0 x1 x2 x3 x4]
  rfl

/-- The probabilities. -/
theorem p_at : val_main_v45 x0 x1 x3 (ix4 c h i j) = ((args x0 x1 x2 x3 x4).blk c.val h.val).p i.val j.val := by
  pointwise [val_main_v45, val_main_v44]
  rw [e_at x0 x1 x2 x3 x4, S_at x0 x1 x2 x3 x4]
  rfl

/-- The gradient of the probabilities. -/
theorem dp_at : val_main_v68 x2 x4 (ix4 c h i j) = ((args x0 x1 x2 x3 x4).blk c.val h.val).dp i.val j.val := by
  pointwise [val_main_v68, v67_at, v62_at]
  rfl

/-- The gradient of the row sums. -/
theorem t_at : val_main_v108 x0 x1 x2 x3 x4 (ix3 c h i) = ((args x0 x1 x2 x3 x4).blk c.val h.val).t i.val := by
  pointwise [val_main_v108, val_main_v105, val_main_v104, val_main_v103, val_main_v102, val_main_v101, val_main_v100, val_main_v48, val_main_v47, val_main_v46, val_main_cst_6, val_main_cst_18, val_main_cst_19]
  simp only [dp_at x0 x1 x2 x3 x4, S_at x0 x1 x2 x3 x4, e_at x0 x1 x2 x3 x4]
  unfold Blk.t
  rw [Fin.sum_univ_one, zero_sub]

/-- The gradient of the scores. -/
theorem ds_at : val_main_v112 x0 x1 x2 x3 x4 (ix4 c h i j) = ((args x0 x1 x2 x3 x4).blk c.val h.val).ds i.val j.val := by
  pointwise [val_main_v112, val_main_v111, val_main_v110, val_main_v109, val_main_v107, val_main_v106, val_main_call1_v0, val_main_call1_cst]
  rw [ok_at, sel_at, dp_at x0 x1 x2 x3 x4, t_at x0 x1 x2 x3 x4, e_at x0 x1 x2 x3 x4, S_at x0 x1 x2 x3 x4]
  unfold Blk.ds
  exact if_congr Iff.rfl rfl rfl

end Cert.ReferenceIdeal.Attn
-- ==== Proof.Attn.RefGrad.lean ====
module

public import proofs.«01_k».proof.Proof.Attn.Ref

@[expose] public section

set_option maxRecDepth 16384

/-! The reference's four results at an entry: the gradients of the specification. -/

noncomputable section

namespace Cert.ReferenceIdeal.Attn

open Cert.ReferenceIdeal Cert.ReferenceIdeal.Gen Cert.Attn Cert.ReferenceIdeal.Read
open Idealize.ShloMosaic Idealize.ShloMosaic.TcCoe Idealize.ShloMosaic.Tactic

/-- A sum over the chunks whose band holds a row, by the row's place in the band. -/
theorem sum_band (F : ℕ → EReal) (c : ℕ) (hF : ∀ k, ¬(k ≤ c ∧ c < k + 9) → F k = 0) :
    ∑ k ∈ Finset.range 64, F k = ∑ u ∈ Finset.range 9, if u ≤ c ∧ c - u < 64 then F (c - u) else 0 := by
  rw [← Finset.sum_filter, ← Finset.sum_filter_of_ne (p := fun k => k ≤ c ∧ c < k + 9)
    (fun k _ hk => Classical.byContradiction fun hn => hk (hF k hn))]
  refine Finset.sum_nbij' (fun k => c - k) (fun u => c - u) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk ⊢; omega
  · intro k hk; simp only [Finset.mem_filter, Finset.mem_range] at hk ⊢; omega
  · intro k hk
    simp only [Finset.mem_filter, Finset.mem_range] at hk
    exact congrArg F (by omega)

/-- Nine terms added from the last. -/
theorem sum_nine (f : ℕ → EReal) : ∑ u ∈ Finset.range 9, f u = f 8 + f 7 + f 6 + f 5 + f 4 + f 3 + f 2 + f 1 + f 0 := by
  simp only [Finset.sum_range_succ, Finset.sum_range_zero, zero_add]
  ac_rfl

variable (x0 x1 x2 : Mat) (x3 : Bias) (x4 : Mat)

/-- The gradient of the queries. -/
theorem dq_at (r : Fin 4096) (n : Fin 1024) :
    val_main_v149 x0 x1 x2 x3 x4 (ix2 r n) = (args x0 x1 x2 x3 x4).dq r.val n.val := by
  pointwise [val_main_v149, val_main_v119, val_main_v118, ds_at, v14_at]
  rfl

/-- A chunk's part of the gradient of the values, by the row's place in the band. -/
theorem v70_at (c : Fin 64) (j : Fin 576) (h : Fin 16) (d : Fin 64) :
    val_main_v70 x0 x1 x3 x4 (ix4 c j h d) = ((args x0 x1 x2 x3 x4).blk c.val h.val).dv j.val d.val := by
  pointwise [val_main_v70, val_main_v69, v67_at]
  refine Finset.sum_congr rfl fun i _ => ?_
  rw [p_at x0 x1 x2 x3 x4]
  exact mul_comm _ _

/-- A chunk's part of the gradient of the keys, by the row's place in the band. -/
theorem v117_at (c : Fin 64) (j : Fin 576) (h : Fin 16) (d : Fin 64) :
    val_main_v117 x0 x1 x2 x3 x4 (ix4 c j h d) = ((args x0 x1 x2 x3 x4).blk c.val h.val).dk j.val d.val := by
  pointwise [val_main_v117, val_main_v116, v0_at]
  refine Finset.sum_congr rfl fun i _ => ?_
  rw [ds_at x0 x1 x2 x3 x4]
  rfl

/-- A chunk's part of a row of the gradient of the values, by the row's place in the band. -/
theorem dvc_at (A : Args) {c h j d r n : ℕ} (hj : j < 576) (hd : d < 64) (hr : r = 64 * c + j) (hn : n = 64 * h + d) :
    (A.blk c h).dv j d = A.dvc c r n := by
  subst hr hn
  unfold Args.dvc
  rw [if_pos (by omega), show (64 * h + d) / 64 = h by omega, show (64 * h + d) % 64 = d by omega,
    show 64 * c + j - 64 * c = j by omega]

/-- A chunk's part of a row of the gradient of the keys, by the row's place in the band. -/
theorem dkc_at (A : Args) {c h j d r n : ℕ} (hj : j < 576) (hd : d < 64) (hr : r = 64 * c + j) (hn : n = 64 * h + d) :
    (A.blk c h).dk j d = A.dkc c r n := by
  subst hr hn
  unfold Args.dkc
  rw [if_pos (by omega), show (64 * h + d) / 64 = h by omega, show (64 * h + d) % 64 = d by omega,
    show 64 * c + j - 64 * c = j by omega]

/-- The padded gradient of the values. -/
theorem v96_at (c : Fin 72) (y : Fin 64) (h : Fin 16) (d : Fin 64) :
    val_main_v96 x0 x1 x3 x4 (ix4 c y h d) = (args x0 x1 x2 x3 x4).dvS 64 (64 * c.val + y.val) (64 * h.val + d.val) := by
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80,
    val_main_cst_9, val_main_cst_10, val_main_cst_11, val_main_cst_12, val_main_cst_13, val_main_cst_14, val_main_cst_15, val_main_cst_16, val_main_cst_17,
    val_main_v71, val_main_v72, val_main_v73, val_main_v74, val_main_v75, val_main_v76, val_main_v77, val_main_v78, val_main_v79]
  simp only [v70_at x0 x1 x2 x3 x4]
  have hy := y.isLt
  have hd := d.isLt
  generalize args x0 x1 x2 x3 x4 = A
  unfold Args.dvS
  rw [sum_band (fun k => A.dvc k (64 * c.val + y.val) (64 * h.val + d.val)) c.val
    (fun k hk => by simp only [Args.dvc]; exact if_neg (by omega)), sum_nine]
  simp only [Nat.zero_le, Nat.sub_zero, true_and]
  refine congrArg₂ _ (congrArg₂ _ (congrArg₂ _ (congrArg₂ _ (congrArg₂ _ (congrArg₂ _ (congrArg₂ _ (congrArg₂ _
    ?_ ?_) ?_) ?_) ?_) ?_) ?_) ?_) ?_
  all_goals
    split_ifs
    · exact dvc_at A (by omega) hd (by omega) rfl
    · rfl

/-- The padded gradient of the keys. -/
theorem v145_at (c : Fin 72) (y : Fin 64) (h : Fin 16) (d : Fin 64) :
    val_main_v145 x0 x1 x2 x3 x4 (ix4 c y h d) = (args x0 x1 x2 x3 x4).dkS 64 (64 * c.val + y.val) (64 * h.val + d.val) := by
  pointwise [val_main_v145, val_main_v144, val_main_v143, val_main_v142, val_main_v141, val_main_v140, val_main_v139, val_main_v138, val_main_v137, val_main_v136, val_main_v135, val_main_v134, val_main_v133, val_main_v132, val_main_v131, val_main_v130, val_main_v129,
    val_main_cst_22, val_main_cst_23, val_main_cst_24, val_main_cst_25, val_main_cst_26, val_main_cst_27, val_main_cst_28, val_main_cst_29, val_main_cst_30,
    val_main_v120, val_main_v121, val_main_v122, val_main_v123, val_main_v124, val_main_v125, val_main_v126, val_main_v127, val_main_v128]
  simp only [v117_at x0 x1 x2 x3 x4]
  have hy := y.isLt
  have hd := d.isLt
  generalize args x0 x1 x2 x3 x4 = A
  unfold Args.dkS
  rw [sum_band (fun k => A.dkc k (64 * c.val + y.val) (64 * h.val + d.val)) c.val
    (fun k hk => by simp only [Args.dkc]; exact if_neg (by omega)), sum_nine]
  simp only [Nat.zero_le, Nat.sub_zero, true_and]
  refine congrArg₂ _ (congrArg₂ _ (congrArg₂ _ (congrArg₂ _ (congrArg₂ _ (congrArg₂ _ (congrArg₂ _ (congrArg₂ _
    ?_ ?_) ?_) ?_) ?_) ?_) ?_) ?_) ?_
  all_goals
    split_ifs
    · exact dkc_at A (by omega) hd (by omega) rfl
    · rfl

/-- The gradient of the values. -/
theorem dv_at (r : Fin 4096) (n : Fin 1024) :
    val_main_v99 x0 x1 x3 x4 (ix2 r n) = (args x0 x1 x2 x3 x4).dvS 64 (r.val + 512) n.val := by
  pointwise [val_main_v99, val_main_v98]
  rw [v96_at x0 x1 x2 x3 x4]
  exact congrArg₂ (Args.dvS _ 64) (by simp only []; omega) (by simp only []; omega)

/-- The gradient of the keys. -/
theorem dk_at (r : Fin 4096) (n : Fin 1024) :
    val_main_v148 x0 x1 x2 x3 x4 (ix2 r n) = (args x0 x1 x2 x3 x4).dkS 64 (r.val + 512) n.val := by
  pointwise [val_main_v148, val_main_v147]
  rw [v145_at x0 x1 x2 x3 x4]
  exact congrArg₂ (Args.dkS _ 64) (by simp only []; omega) (by simp only []; omega)

/-- The gradient of the bias. -/
theorem db_at (h : Fin 16) (i : Fin 64) (j : Fin 576) :
    val_main_v115 x0 x1 x2 x3 x4 (ix3 h i j) = (args x0 x1 x2 x3 x4).dbS 64 h.val i.val j.val := by
  pointwise [val_main_v115, val_main_v114, val_main_v113, val_main_cst_20, val_main_cst_21]
  rw [Fin.sum_univ_one]
  unfold Args.dbS
  rw [Finset.sum_range]
  exact Finset.sum_congr rfl fun c _ => ds_at x0 x1 x2 x3 x4 c h i j

end Cert.ReferenceIdeal.Attn
-- ==== Proof.Attn.Claims.lean ====
module

public import proofs.«01_k».proof.Defs
public import proofs.«01_k».proof.Proof.Gen.Kernel
public import proofs.«01_k».proof.Proof.Attn.KernelFrame
public import proofs.«01_k».proof.Proof.Gen.ReferenceIdeal
public import proofs.«01_k».proof.Proof.Gen.ReferenceIdeal.Run
public import proofs.«01_k».proof.Proof.Attn.Frame
public import proofs.«01_k».proof.Proof.Attn.RefGrad

@[expose] public section

set_option maxRecDepth 16384

/-! The claims about the gradients of the banded attention. -/

noncomputable section

namespace Cert.AttnClaims

open Idealize.ShloMosaic Idealize.ShloMosaic.TcCoe Idealize.SL.Sem Cert.Attn
open Cert.KernelIdeal.Attn (argsOf dats)
open Cert.ReferenceIdeal.Attn (args)

/-- The kernel leaves its arguments unchanged and its counters at zero. -/
theorem frame_p : Cert.quiescent_Kernel := fun m ρ _ => Cert.Kernel.Attn.frame m ρ

/-- So does the idealized kernel. -/
theorem frame_pi : Cert.quiescent_KernelIdeal := fun m ρ _ => Cert.KernelIdeal.Attn.frame m ρ

/-- So does the reference. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The one named constant: the score of a masked key. -/
theorem preserves : Cert.preserves_Kernel_KernelIdeal :=
  IdealRules.named_const.statement Cert.KernelIdeal.κ "mask" .f32 0xF149F2CA#32 ⊥ rfl

/-- The kernel's and the reference's results are the same extended reals. -/
theorem algebraic : Cert.algebraic_KernelIdeal_ReferenceIdeal := by
  intro m g m' g' hpre hagree
  refine ⟨fun c y => (argsOf m c).dq (y 0).val (y 1).val, fun c y => (argsOf m c).dkS 64 ((y 0).val + 512) (y 1).val,
    fun c y => (argsOf m c).dvS 64 ((y 0).val + 512) (y 1).val, fun c y => (argsOf m c).dbS 64 (y 0).val (y 1).val (y 2).val, ?_, ?_⟩
  · exact (θ_run Cert.KernelIdeal.defs _ _).mono (fun r h c =>
      ⟨(h.1.out_eq c 5).trans (Cert.KernelIdeal.Attn.arr5 m c), (h.1.out_eq c 6).trans (Cert.KernelIdeal.Attn.arr6 m c),
        (h.1.out_eq c 7).trans (Cert.KernelIdeal.Attn.arr7 m c), (h.1.out_eq c 8).trans (Cert.KernelIdeal.Attn.arr8 m c), h.2 c⟩)
      (θ_run_and (Cert.KernelIdeal.Attn.run_main m g) (Cert.KernelIdeal.Attn.unchanged m g))
  · refine (θ_run Cert.ReferenceIdeal.defs _ _).mono (fun r h c => ?_) (Cert.ReferenceIdeal.Value.run (F := Ideal) m' g')
    have hA : args (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = argsOf m c := by
      obtain ⟨h0, h1, h2, h3, h4⟩ := hagree c
      rw [h0, h1, h2, h3, h4]
      rfl
    refine ⟨(h c).1.trans ((Cert.ReferenceIdeal.Read.val_main_v149_eq _).trans (funext fun y => ?_)),
      (h c).2.1.trans ((Cert.ReferenceIdeal.Read.val_main_v148_eq _).trans (funext fun y => ?_)),
      (h c).2.2.1.trans ((Cert.ReferenceIdeal.Read.val_main_v99_eq _).trans (funext fun y => ?_)),
      (h c).2.2.2.1.trans ((Cert.ReferenceIdeal.Read.val_main_v115_eq _).trans (funext fun y => ?_)), (h c).2.2.2.2⟩
    all_goals beta_reduce; rw [← hA]; idx_vars y
    · exact Cert.ReferenceIdeal.Attn.dq_at _ _ _ _ _ y0 y1
    · exact Cert.ReferenceIdeal.Attn.dk_at _ _ _ _ _ y0 y1
    · exact Cert.ReferenceIdeal.Attn.dv_at _ _ _ _ _ y0 y1
    · exact Cert.ReferenceIdeal.Attn.db_at _ _ _ _ _ y0 y1 y2

end Cert.AttnClaims

end
-- ==== Proof.Ffn.Product.lean ====
module

public import Idealize.ShloMosaic.Lib.Pipeline.ValueKit
public import Idealize.ShloMosaic.Lib.Pipeline.ReadBack

@[expose] public section

/-! The products of two matrices of extended reals, and a product taken block by block. -/

noncomputable section

namespace Cert.Ffn

open Idealize.ShloMosaic Idealize.ShloMosaic.Tactic

/-- A matrix of extended reals. -/
abbrev Mat (m n : ℕ) := (⟨2, ![m, n]⟩ : Shape).Idx → EReal

/-- The product of a transposed matrix and a matrix, at an entry. -/
def mulTN {k m n : ℕ} (a : Mat k m) (b : Mat k n) (y : (⟨2, ![m, n]⟩ : Shape).Idx) : EReal :=
  ∑ q : Fin k, a (ix2 q (y 0)) * b (ix2 q (y 1))

/-- The product of a matrix and a transposed matrix, at an entry. -/
def mulNT {m n k : ℕ} (a : Mat m k) (b : Mat n k) (y : (⟨2, ![m, n]⟩ : Shape).Idx) : EReal :=
  ∑ q : Fin k, a (ix2 (y 0) q) * b (ix2 (y 1) q)

/-- The product of two matrices, at an entry. -/
def mulNN {m k n : ℕ} (a : Mat m k) (b : Mat k n) (y : (⟨2, ![m, n]⟩ : Shape).Idx) : EReal :=
  ∑ q : Fin k, a (ix2 (y 0) q) * b (ix2 q (y 1))

/-- A matrix with another added. -/
def plus {m n : ℕ} (r z : Mat m n) : Mat m n := fun y => r y + z y

/-- A sum over `S` blocks of `w` products of two factors each, where block `s` reads position `s * w + q` of the whole. -/
theorem sum_mul_blocks {S w L : ℕ} (hL : L = S * w) {a b : Fin S → Fin w → EReal} {a' b' : Fin L → EReal}
    (ha : ∀ s q (h : s.val * w + q.val < L), a s q = a' ⟨s.val * w + q.val, h⟩)
    (hb : ∀ s q (h : s.val * w + q.val < L), b s q = b' ⟨s.val * w + q.val, h⟩) :
    (∑ s : Fin S, ∑ q : Fin w, a s q * b s q) = ∑ x : Fin L, a' x * b' x :=
  Fin.sum_mul_add_congr (fun s q h => by rw [ha s q h, hb s q h]) hL

/-- One half, as a float word. -/
def half : EReal := Ideal.ofBits .f32 0x3F000000#32

theorem half_eq : half = (((1 : ℝ) / 2 : ℝ) : EReal) := by
  simp [half, Ideal.ofBits, Ideal.ieee, -EReal.coe_mul]; norm_num

/-- Half of a sum is the sum of the halves. -/
theorem sum_mul_half {n : ℕ} (f : Fin n → EReal) : (∑ q, f q) * half = ∑ q, f q * half := by
  have h0 : 0 ≤ half := half_eq ▸ EReal.coe_nonneg.mpr (by norm_num)
  have h1 : half ≠ ⊤ := half_eq ▸ EReal.coe_ne_top _
  induction n with
  | zero => simp
  | succ n ih => rw [Fin.sum_univ_succ, Fin.sum_univ_succ, EReal.right_distrib_of_nonneg_of_ne_top h0 h1, ih]

end Cert.Ffn

end
-- ==== Proof.Ffn.Dact.lean ====
module

public import proofs.«01_k».proof.Defs
public import proofs.«01_k».proof.Proof.Gen.DactIdeal.Value
public import proofs.«01_k».proof.Proof.Gen.DactRefIdeal.Run
public import proofs.«01_k».proof.Proof.Gen.DactRefIdeal.Read
public import proofs.«01_k».proof.Proof.Ffn.Product
public import Idealize.ShloMosaic.Lib.ReduceAll

@[expose] public section

set_option maxRecDepth 16384

/-! The gradients of the gated activation `silu g * u`. -/

noncomputable section

namespace Cert.Ffn

open Idealize.ShloMosaic

/-- The gradient of the gate, from the gate, the other factor and the cotangent. -/
def gradGate (g u d : EReal) : EReal := d * u * (Ideal.logistic g * (1 + g * (1 - Ideal.logistic g)))

/-- The gradient of the other factor. -/
def gradUp (g d : EReal) : EReal := d * (g * Ideal.logistic g)

theorem one_sub_one : (1 : EReal) - 1 = 0 := by
  rw [← EReal.coe_one, ← EReal.coe_sub, sub_self, EReal.coe_zero]

/-- The gradient of the gate as a sum of two products, where the two other factors are finite. -/
theorem gradGate_eq (g u d : EReal) (hu : u ≠ ⊥ ∧ u ≠ ⊤) (hd : d ≠ ⊥ ∧ d ≠ ⊤) :
    gradGate g u d = d * u * Ideal.logistic g + g * (d * u) * (Ideal.logistic g * (1 - Ideal.logistic g)) := by
  unfold gradGate
  lift u to ℝ using ⟨hu.2, hu.1⟩
  lift d to ℝ using ⟨hd.2, hd.1⟩
  induction g with
  | bot => simp
  | top => simp [one_sub_one]
  | coe g =>
    rw [Ideal.logistic_coe]
    norm_cast
    ring

end Cert.Ffn

namespace Cert.DactIdeal.Ffn

open Cert.DactIdeal Cert.DactIdeal.Gen Cert.DactIdeal.Value Cert.Ffn
open Idealize.ShloMosaic Idealize.ShloMosaic.TcCoe Idealize.ShloMosaic.Tactic

variable (m : (ℓ : Loc nD τ sig) → Buf (Elt Ideal) ℓ)

theorem out3_at (g u d : Vec Ideal S128x5632 .bf16) (y : S128x5632.Idx) : out0_3 g u d y = gradGate (g y) (u y) (d y) := by
  unfold gradGate Ideal.logistic
  frame_out
  idx_vars y
  pointwise [k0_pay4, k0_pay3, k0_pay2, k0_pay1]
  rw [zero_sub]

theorem out4_at (g u d : Vec Ideal S128x5632 .bf16) (y : S128x5632.Idx) : out0_4 g u d y = gradUp (g y) (d y) := by
  unfold gradUp Ideal.logistic
  frame_out
  idx_vars y
  pointwise [k0_pay5, k0_pay3, k0_pay2, k0_pay1]
  rw [zero_sub]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)

theorem arr3 (c : Dev nD) : (dats m 0 c).arrAt 3 cfg0.N = fun y : S4096x5632.Idx =>
    gradGate (m ((c : Thread nD τ).loc main_arg0) y) (m ((c : Thread nD τ).loc main_arg1) y) (m ((c : Thread nD τ).loc main_arg2) y) := by
  refine (dats m 0 c).arrAt_eq_of_covers 3 _ (by decide +kernel) fun t hf y => ?_
  blk_simp
  rw [after0_3, out3_at]
  congr 1

theorem arr4 (c : Dev nD) : (dats m 0 c).arrAt 4 cfg0.N = fun y : S4096x5632.Idx =>
    gradUp (m ((c : Thread nD τ).loc main_arg0) y) (m ((c : Thread nD τ).loc main_arg2) y) := by
  refine (dats m 0 c).arrAt_eq_of_covers 4 _ (by decide +kernel) fun t hf y => ?_
  blk_simp
  rw [after0_4, out4_at]
  congr 1

end Cert.DactIdeal.Ffn

namespace Cert.DactClaims

open Idealize.ShloMosaic Idealize.ShloMosaic.TcCoe Idealize.ShloMosaic.Tactic Idealize.SL.Sem Cert.Ffn
open Cert.DactRefIdeal Cert.DactRefIdeal.Read

/-- The reference's gradient of the gate at an entry, where the two other factors are finite there. -/
theorem ref9_at (g u d : Vec Ideal S4096x5632 .bf16) (y : S4096x5632.Idx) (hu : u y ≠ (⊥ : EReal) ∧ u y ≠ (⊤ : EReal))
    (hd : d y ≠ (⊥ : EReal) ∧ d y ≠ (⊤ : EReal)) : val_main_v9 (F := Ideal) g u d y = gradGate (g y) (u y) (d y) := by
  rw [gradGate_eq _ _ _ hu hd]
  unfold Ideal.logistic
  idx_vars y
  pointwise [val_main_v9, val_main_v8, val_main_call1_v2, val_main_call1_v1, val_main_call1_v0, val_main_v6, val_main_v4,
    val_main_v2, val_main_v1_1, val_main_call0_v7, val_main_call0_v6, val_main_call0_cst_1, val_main_v1_2, val_main_call0_v4,
    val_main_call0_cst_0, val_main_call0_v3, val_main_call0_v2, val_main_call0_cst, val_main_call0_v1, val_main_call0_v0, val_main_v0]

/-- The reference's gradient of the other factor at an entry. -/
theorem ref7_at (g d : Vec Ideal S4096x5632 .bf16) (y : S4096x5632.Idx) : val_main_v7 (F := Ideal) g d y = gradUp (g y) (d y) := by
  unfold gradUp Ideal.logistic
  idx_vars y
  pointwise [val_main_v7, val_main_v5, val_main_v4, val_main_v1_0, val_main_v1_2, val_main_call0_v4, val_main_call0_cst_0,
    val_main_call0_v3, val_main_call0_v2, val_main_call0_cst, val_main_call0_v1, val_main_call0_v0, val_main_v0]
  exact mul_comm _ _

/-- The precondition's shape facts. -/
theorem pre_facts : Cert.Pre_finite_dact.Facts where
  bcast_S_S4096x5632 := by decide
  reducesTo_S4096x5632_S_d0_1 := by decide
  h_S_ := by decide

theorem ofBits_top : Ideal.ofBits .bf16 0x7F80#16 = ⊤ := by simp [Ideal.ofBits, Ideal.ieee]
theorem ofBits_bot : Ideal.ofBits .bf16 0xFF80#16 = ⊥ := by simp [Ideal.ofBits, Ideal.ieee]

/-- Where the precondition holds, the second factor and the cotangent are finite everywhere. -/
theorem finite_of_pre [Cert.Pre_finite_dact.Facts] (g u d : Vec Ideal S4096x5632 .bf16)
    (h : Cert.Pre_finite_dact.fn (F := Ideal) g u d = fun _ => 1#1) (y : S4096x5632.Idx) :
    (u y ≠ (⊥ : EReal) ∧ u y ≠ (⊤ : EReal)) ∧ (d y ≠ (⊥ : EReal) ∧ d y ≠ (⊤ : EReal)) := by
  have andi_one (a b : BitVec 1) : IntOp.andi a b = 1#1 ↔ a = 1#1 ∧ b = 1#1 := by revert a b; decide
  haveI : Subsingleton Cert.Pre_finite_dact.S_.Idx := ⟨fun a b => funext fun i => i.elim0⟩
  have e := Host.reduce_andi_all _ _ _ _ _ (congrFun h (fun i => i.elim0)) y
  have of_olt (x : EReal) (hx : Ideal.cmp .olt x (Ideal.ofBits .bf16 0x7F80#16) = 1#1) : x ≠ ⊤ := by
    rintro rfl
    simp [Ideal.cmp, ofBits_top] at hx
  have of_ogt (x : EReal) (hx : Ideal.cmp .ogt x (Ideal.ofBits .bf16 0xFF80#16) = 1#1) : x ≠ ⊥ := by
    rintro rfl
    simp [Ideal.cmp, ofBits_bot] at hx
  obtain ⟨h3, h4⟩ := (andi_one _ _).mp e
  obtain ⟨h2, h3⟩ := (andi_one _ _).mp h3
  obtain ⟨h1, h2⟩ := (andi_one _ _).mp h2
  exact ⟨⟨of_ogt _ h2, of_olt _ h1⟩, of_ogt _ h4, of_olt _ h3⟩

/-- The reference leaves its arguments unchanged. -/
theorem frame_ri : Cert.quiescent_DactRefIdeal := fun m ρ _ =>
  (θ_run Cert.DactRefIdeal.defs _ _).mono (fun r h => ⟨fun c => (h c).2.2, Idealize.ShloMosaic.sem_eq_zero_of_no_sems (by decide) r.2⟩)
    (Cert.DactRefIdeal.Value.run (F := Ideal) m ρ)

/-- The reference leaves its arguments unchanged where the precondition holds. -/
theorem frame_ri_pre [Cert.Pre_finite_dact.Facts] : Cert.quiescent_DactRefIdeal_pre_finite_dact := fun m ρ _ => frame_ri m ρ trivial

/-- The kernel's and the reference's results are the same extended reals. -/
theorem algebraic [Cert.Pre_finite_dact.Facts] : Cert.algebraic_DactIdeal_DactRefIdeal_pre_finite_dact := by
  intro m g m' g' hpre hagree
  refine ⟨_, _, (θ_run Cert.DactIdeal.defs _ _).mono
    (fun r h c => ⟨(h c).1.trans (Cert.DactIdeal.Ffn.arr3 m c), (h c).2.1.trans (Cert.DactIdeal.Ffn.arr4 m c), (h c).2.2⟩)
    (Cert.DactIdeal.Value.run_blocks m g), ?_⟩
  refine (θ_run Cert.DactRefIdeal.defs _ _).mono (fun r h c => ?_) (Cert.DactRefIdeal.Value.run (F := Ideal) m' g')
  obtain ⟨h0, h1, h2⟩ := hagree c
  refine ⟨(h c).1.trans ((val_main_v9_eq _ _ _).trans (funext fun y => ?_)),
    (h c).2.1.trans ((val_main_v7_eq _ _).trans (funext fun y => ?_)), (h c).2.2⟩
  · obtain ⟨hu, hd⟩ := finite_of_pre _ _ _ (hpre c) y
    rw [h0, h1, h2]
    exact ref9_at _ _ _ y hu hd
  · rw [h0, h2]
    exact ref7_at _ _ y

end Cert.DactClaims

end
-- ==== Proof.Ffn.Dnorm.lean ====
module

public import proofs.«01_k».proof.Defs
public import proofs.«01_k».proof.Proof.Gen.DnormIdeal.Value
public import proofs.«01_k».proof.Proof.Gen.DnormRefIdeal.Run
public import proofs.«01_k».proof.Proof.Gen.DnormRefIdeal.Read
public import proofs.«01_k».proof.Proof.Ffn.Product

@[expose] public section

set_option maxRecDepth 16384

/-! The gradients of the normalisation: of its input, row by row, and of its weights, summed over the rows. -/

noncomputable section

namespace Cert.Ffn

open Idealize.ShloMosaic

/-- A row's length as a scalar. -/
def width : EReal := Ideal.ofBits .f32 0x45000000#32

/-- A row's mean square, with the small constant added. -/
def meanSq (h : Fin 2048 → EReal) : EReal := Ideal.div (∑ k, h k * h k) width + Ideal.ofBits .f32 0x358637BD#32

/-- The part of the input's gradient through the row's mean square, as a factor of the input: one half of it. -/
def gradMean (h w d : Fin 2048 → EReal) : EReal :=
  ∑ _x : Fin 1, Ideal.div ((∑ k, h k * (d k * w k)) * (Ideal.ofBits .f32 0xBF000000#32 * Ideal.div (Ideal.rsqrt (meanSq h)) (meanSq h))) width

/-- The gradient of a row's input at a column. -/
def gradRow (h w d : Fin 2048 → EReal) (j : Fin 2048) : EReal :=
  d j * w j * Ideal.rsqrt (meanSq h) + h j * gradMean h w d + gradMean h w d * h j

/-- What a row adds to the gradient of the weight at a column. -/
def gradWeight (h d : Fin 2048 → EReal) (j : Fin 2048) : EReal := h j * Ideal.rsqrt (meanSq h) * d j

/-- A matrix's row. -/
def row {m : ℕ} (a : Mat m 2048) (i : Fin m) : Fin 2048 → EReal := fun k => a (ix2 i k)

end Cert.Ffn

namespace Cert.DnormIdeal.Ffn

open Cert.DnormIdeal Cert.DnormIdeal.Gen Cert.DnormIdeal.Value Cert.Ffn
open Idealize.ShloMosaic Idealize.ShloMosaic.TcCoe Idealize.ShloMosaic.Tactic

variable (m : (ℓ : Loc nD τ sig) → Buf (Elt Ideal) ℓ)

theorem pay2_at (a s : Vec Ideal S1x2048 .f32) (y : S1x2048.Idx) : k0_pay2 a s y = s y + a y := by
  idx_vars y
  pointwise [k0_pay2]

theorem pay1_at (y : S1x2048.Idx) : k0_pay1 (F := Ideal) y = 0 := by
  idx_vars y
  pointwise [k0_pay1]

theorem pay6_at (h d : Vec Ideal S256x2048 .f32) (y : S1x2048.Idx) :
    k0_pay6 h d y = ∑ x : Fin 256, gradWeight (row h x) (row d x) (y 1) := by
  unfold gradWeight meanSq row width
  idx_vars y
  pointwise [k0_pay6, k0_pay5, k0_pay4, k0_pay3]

theorem pay7_at (h d e : Vec Ideal S256x2048 .f32) (w : Vec Ideal S1x2048 .f32) (y : S256x2048.Idx) :
    k0_pay7 h w d e y = gradRow (row h (y 0)) (row w 0) (row d (y 0)) (y 1) + e y := by
  unfold gradRow gradMean meanSq row width
  idx_vars y
  pointwise [k0_pay7, k0_pay5, k0_pay4, k0_pay3]

/-- What a step adds to the weights' gradient. -/
def term (c : Dev nD) (t : Fin cfg0.N) (y : S1x2048.Idx) : EReal :=
  ∑ x : Fin 256, gradWeight (row (iblk m c 0 t) x) (row (iblk m c 2 t) x) (y 1)

/-- The weights' gradient after the last step. -/
theorem acc_at (c : Dev nD) (t : Fin cfg0.N) (ht : t.val % 16 = 15) (y : S1x2048.Idx) :
    (outsAt0 m c t.val t.isLt).2 y
      = ∑ s : Fin 16, term m c ⟨16 * (t.val / 16) + s.val, Pipeline.run_point_lt_of_flush t ht s⟩ y := by
  refine (Pipeline.eq_sum_fin_of_reset_step_apply_of_flush (fun n h => (outsAt0 m c n h).2) 16 (fun _ => (0 : EReal)) (term m c) ?_ ?_ t ht y).trans (zero_add _)
  · intro t h y
    beta_reduce
    rw [outsAt0_A m c t h]
    frame_out
    rw [pay2_at, pay1_at, pay6_at]
    rfl
  · intro t h y
    beta_reduce
    rw [outsAt0_B m c t h]
    frame_out
    rw [pay2_at, pay6_at]
    rfl

/-- The block of the input's gradient at a step. -/
theorem out_at (c : Dev nD) (t : Fin cfg0.N) (y : S256x2048.Idx) :
    (outsAt0 m c t.val t.isLt).1 y
      = k0_pay7 (iblk m c 0 t) (iblk m c 1 t) (iblk m c 2 t) (iblk m c 3 t) y := by
  by_cases h : t.val % 16 = 0
  · rw [outsAt0_A m c t h]
    frame_out
  · rw [outsAt0_B m c t h]
    frame_out

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)

/-- The gradient of the whole input: each row's own, and the one added to it. -/
def gradIn (h : Mat 4096 2048) (w : Mat 1 2048) (d e : Mat 4096 2048) : Mat 4096 2048 := fun y =>
  gradRow (row h (y 0)) (row w 0) (row d (y 0)) (y 1) + e y

/-- The weights' gradient. -/
def gradWeights (h d : Mat 4096 2048) : Mat 1 2048 := fun y => ∑ x : Fin 4096, gradWeight (row h x) (row d x) (y 1)

theorem arr4 (c : Dev nD) : (dats m 0 c).arrAt 4 cfg0.N =
    gradIn (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4, out_at, pay7_at]
  have hrow {a : Mat 256 2048} {b : Mat 4096 2048} (h : ∀ k, a (ix2 (y 0) k) = b (ix2 ((win0_4.blk t).view.emb y 0) k)) :
      row a (y 0) = row b ((win0_4.blk t).view.emb y 0) := funext h
  have hcol : (y 1 : Fin 2048) = (win0_4.blk t).view.emb y 1 := Fin.ext (by blk_simp [index_4])
  refine congr (congrArg HAdd.hAdd (congr (congr (congr (congrArg gradRow (hrow fun k => ?_)) (funext fun k => ?_)) (hrow fun k => ?_)) hcol)) ?_
  · blk_ext! [iblk, V, index_0, index_4]
  · unfold row
    blk_ext! [iblk, V, index_1, index_4]
  · blk_ext! [iblk, V, index_2, index_4]
  · blk_ext! [iblk, V, index_3, index_4]

theorem arr5 (c : Dev nD) : (dats m 0 c).arrAt 5 cfg0.N =
    gradWeights (m ((c : Thread nD τ).loc main_arg0)) (m ((c : Thread nD τ).loc main_arg2)) := by
  refine (dats m 0 c).arrAt_eq_of_covers 5 _ (by decide +kernel) fun t hf y => ?_
  blk_simp
  rw [after0_5, acc_at m c t ((flush0_5 t).mp hf)]
  have hcol : (y 1 : Fin 2048) = (win0_5.blk t).view.emb y 1 := Fin.ext (by blk_simp [index_5])
  have h15 : t.val / 16 = 0 := Nat.div_eq_of_lt t.isLt
  unfold term gradWeights
  refine Fin.sum_mul_add_congr fun s q h => congr (congr (congrArg gradWeight (funext fun k => ?_)) (funext fun k => ?_)) hcol
  · unfold row
    blk_ext! [iblk, V, index_0, h15]
  · unfold row
    blk_ext! [iblk, V, index_2, h15]

end Cert.DnormIdeal.Ffn

namespace Cert.DnormClaims

open Idealize.ShloMosaic Idealize.ShloMosaic.TcCoe Idealize.ShloMosaic.Tactic Idealize.SL.Sem Cert.Ffn
open Cert.DnormRefIdeal Cert.DnormRefIdeal.Read Cert.DnormIdeal.Ffn

/-- The reference's gradient of the weights. -/
theorem ref17_at (h d : Vec Ideal S4096x2048 .f32) : val_main_v17 (F := Ideal) h d = gradWeights h d := by
  funext y
  unfold gradWeights gradWeight meanSq row width
  idx_vars y
  pointwise [val_main_v17, val_main_v16, val_main_cst_3, val_main_v15, val_main_v12, val_main_v11, val_main_v7, val_main_v6,
    val_main_v5, val_main_cst_1, val_main_v4, val_main_v3, val_main_cst_0, val_main_v2, val_main_v1, val_main_cst, val_main_v0]

/-- The reference's gradient of the input. -/
theorem ref34_at (h d e : Vec Ideal S4096x2048 .f32) (w : Vec Ideal S1x2048 .f32) :
    val_main_v34 (F := Ideal) h w d e = gradIn h w d e := by
  funext y
  unfold gradIn gradRow gradMean meanSq row width
  rw [add_comm]
  idx_vars y
  pointwise [val_main_v34, val_main_v33, val_main_v32, val_main_v31, val_main_v30, val_main_v29, val_main_v28, val_main_cst_6,
    val_main_v27, val_main_v26, val_main_cst_5, val_main_v25, val_main_v24, val_main_v23, val_main_v22, val_main_v21, val_main_cst_4,
    val_main_v20, val_main_v19, val_main_v18, val_main_v10, val_main_v9, val_main_cst_2, val_main_v8, val_main_v7, val_main_v6,
    val_main_v5, val_main_cst_1, val_main_v4, val_main_v3, val_main_cst_0, val_main_v2, val_main_v1, val_main_cst, val_main_v0]

/-- The reference leaves its arguments unchanged. -/
theorem frame_ri : Cert.quiescent_DnormRefIdeal := fun m ρ _ =>
  (θ_run Cert.DnormRefIdeal.defs _ _).mono (fun r h => ⟨fun c => (h c).2.2, Idealize.ShloMosaic.sem_eq_zero_of_no_sems (by decide) r.2⟩)
    (Cert.DnormRefIdeal.Value.run (F := Ideal) m ρ)

/-- The kernel's and the reference's results are the same extended reals. -/
theorem algebraic : Cert.algebraic_DnormIdeal_DnormRefIdeal := by
  intro m g m' g' _ hagree
  refine ⟨_, _, (θ_run Cert.DnormIdeal.defs _ _).mono
    (fun r h c => ⟨(h c).1.trans (arr4 m c), (h c).2.1.trans (arr5 m c), (h c).2.2⟩)
    (Cert.DnormIdeal.Value.run_blocks m g), ?_⟩
  refine (θ_run Cert.DnormRefIdeal.defs _ _).mono (fun r h c => ?_) (Cert.DnormRefIdeal.Value.run (F := Ideal) m' g')
  obtain ⟨h0, h1, h2, h3⟩ := hagree c
  refine ⟨(h c).1.trans ((val_main_v34_eq _ _ _ _).trans ?_),
    (h c).2.1.trans ((val_main_v17_eq _ _).trans ?_), (h c).2.2⟩
  · rw [ref34_at, h0, h1, h2, h3]
  · rw [ref17_at, h0, h2]

end Cert.DnormClaims

end
-- ==== Proof.Ffn.Da.lean ====
module

public import proofs.«01_k».proof.Defs
public import proofs.«01_k».proof.Proof.Gen.DaIdeal.Value
public import proofs.«01_k».proof.Proof.Gen.DaRefIdeal.Run
public import proofs.«01_k».proof.Proof.Gen.DaRefIdeal.Read
public import proofs.«01_k».proof.Proof.Ffn.Product

@[expose] public section

set_option maxRecDepth 16384

noncomputable section

namespace Cert.DaIdeal.Ffn

open Cert.DaIdeal Cert.DaIdeal.Gen Cert.DaIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1024x512 .f32) (a : Vec Ideal S1024x2048 .f32) (b : Vec Ideal S512x2048 .bf16) (y : S1024x512.Idx) :
    k0_pay2 s a b y = s y + mulNT a b y := by
  unfold mulNT
  idx_vars y
  pointwise [k0_pay2]

theorem pay1_at (y : S1024x512.Idx) : k0_pay1 (F := Ideal) y = 0 := by
  idx_vars y
  pointwise [k0_pay1]

/-- The output's block is half the product of the two inputs' blocks. -/
theorem out_at (c : Dev nD) (t : Fin cfg0.N) (y : S1024x512.Idx) : outsAt0 m c t y = mulNT (iblk m c 0 t) (iblk m c 1 t) y * half := by
  unfold outsAt0
  frame_out
  refine (?_ : _ = k0_pay2 (k0_pay1 (F := Ideal)) (iblk m c 0 t) (iblk m c 1 t) y * half).trans ?_
  · idx_vars y
    pointwise [k0_pay3]
    rfl
  · rw [pay2_at, pay1_at, zero_add]

theorem index_0 : ∀ t : Fin cfg0.N, win0_0.index t = ![t.val / 11, 0] := (by decide +kernel : ∀ t : Fin grid0.N, _)
theorem index_1 : ∀ t : Fin cfg0.N, win0_1.index t = ![t.val % 11, 0] := (by decide +kernel : ∀ t : Fin grid0.N, _)
theorem index_2 : ∀ t : Fin cfg0.N, win0_2.index t = ![t.val / 11, t.val % 11] := (by decide +kernel : ∀ t : Fin grid0.N, _)

theorem arr (c : Dev nD) : (dats m 0 c).arrAt 2 cfg0.N = fun y =>
    mulNT (m ((c : Thread nD τ).loc main_arg0)) (m ((c : Thread nD τ).loc main_arg1)) y * half := by
  refine (dats m 0 c).arrAt_eq_of_covers 2 _ (by decide +kernel) fun t hf y => ?_
  blk_simp
  rw [after0_2, out_at]
  unfold mulNT
  refine congrArg (· * half) (Finset.sum_congr rfl fun q _ => congr (congrArg HMul.hMul ?_) ?_)
  · blk_ext! [iblk, V, index_0, index_2]
  · blk_ext! [iblk, V, index_1, index_2]

end Cert.DaIdeal.Ffn

namespace Cert.DaClaims

open Idealize.ShloMosaic Idealize.ShloMosaic.TcCoe Idealize.ShloMosaic.Tactic Idealize.SL.Sem Cert.Ffn
open Cert.DaRefIdeal Cert.DaRefIdeal.Read

/-- The reference's result at an entry. -/
theorem ref_at (a : Vec Ideal S4096x2048 .f32) (b : Vec Ideal S5632x2048 .bf16) : val_main_v9 (F := Ideal) a b = fun y => mulNT a b y * half := by
  funext y
  unfold mulNT
  rw [sum_mul_half]
  idx_vars y
  pointwise [val_main_v9, val_main_v8, val_main_v7, val_main_v6, val_main_cst_1, val_main_v2]
  exact Finset.sum_congr rfl fun _ _ => (mul_assoc half _ _).trans (mul_comm half _)

/-- The reference leaves its arguments unchanged. -/
theorem frame_ri : Cert.quiescent_DaRefIdeal := fun m ρ _ =>
  (θ_run Cert.DaRefIdeal.defs _ _).mono (fun r h => ⟨fun c => (h c).2, Idealize.ShloMosaic.sem_eq_zero_of_no_sems (by decide) r.2⟩)
    (Cert.DaRefIdeal.Value.run (F := Ideal) m ρ)

/-- The kernel's and the reference's results are the same extended reals. -/
theorem algebraic : Cert.algebraic_DaIdeal_DaRefIdeal := by
  intro m g m' g' _ hagree
  refine ⟨fun c y => mulNT (m ((c.tc : Thread Cert.DaIdeal.nD Cert.DaIdeal.τ).loc Cert.DaIdeal.main_arg0))
    (m ((c.tc : Thread Cert.DaIdeal.nD Cert.DaIdeal.τ).loc Cert.DaIdeal.main_arg1)) y * half, ?_, ?_⟩
  · exact (θ_run Cert.DaIdeal.defs _ _).mono (fun r h c => ⟨(h c).1.trans (Cert.DaIdeal.Ffn.arr m c), (h c).2⟩)
      (Cert.DaIdeal.Value.run_blocks m g)
  · refine (θ_run Cert.DaRefIdeal.defs _ _).mono (fun r h c => ⟨(h c).1.trans ((val_main_v9_eq _ _).trans ?_), (h c).2⟩)
      (Cert.DaRefIdeal.Value.run (F := Ideal) m' g')
    rw [ref_at, (hagree c).1, (hagree c).2]
    rfl

end Cert.DaClaims

end
-- ==== Proof.Ffn.Dwdown.lean ====
module

public import proofs.«01_k».proof.Defs
public import proofs.«01_k».proof.Proof.Gen.DwdownIdeal.Value
public import proofs.«01_k».proof.Proof.Gen.DwdownRefIdeal.Run
public import proofs.«01_k».proof.Proof.Gen.DwdownRefIdeal.Read
public import proofs.«01_k».proof.Proof.Ffn.Product

@[expose] public section

set_option maxRecDepth 16384

noncomputable section

namespace Cert.DwdownIdeal.Ffn

open Cert.DwdownIdeal Cert.DwdownIdeal.Gen Cert.DwdownIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1408x2048 .f32) (a : Vec Ideal S256x1408 .bf16) (b : Vec Ideal S256x2048 .f32) (y : S1408x2048.Idx) :
    k0_pay2 s a b y = s y + mulTN a b y := by
  unfold mulTN
  idx_vars y
  pointwise [k0_pay2]

theorem pay1_at (y : S1408x2048.Idx) : k0_pay1 (F := Ideal) y = 0 := by
  idx_vars y
  pointwise [k0_pay1]

/-- What one step adds to the accumulator. -/
def term (c : Dev nD) (t : Fin cfg0.N) (y : S1408x2048.Idx) : EReal := mulTN (iblk m c 0 t) (iblk m c 1 t) y

/-- The accumulator after a run's last step. -/
theorem acc_at (c : Dev nD) (t : Fin cfg0.N) (ht : t.val % 16 = 15) (y : S1408x2048.Idx) :
    (outsAt0 m c t.val t.isLt).2 y
      = ∑ s : Fin 16, term m c ⟨16 * (t.val / 16) + s.val, Pipeline.run_point_lt_of_flush t ht s⟩ y := by
  refine (Pipeline.eq_sum_fin_of_reset_step_apply_of_flush (fun n h => (outsAt0 m c n h).2) 16 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 16 = 15
    · rw [outsAt0_C m c t h h7]
      frame_out
      rw [pay2_at, read_unread_whole]
      rfl
    · rw [outsAt0_B m c t h h7]
      frame_out
      rw [pay2_at, read_unread_whole]
      rfl

/-- The output's block after a run's last step is half the accumulator. -/
theorem out_at (c : Dev nD) (t : Fin cfg0.N) (ht : t.val % 16 = 15) (y : S1408x2048.Idx) :
    (outsAt0 m c t.val t.isLt).1 y = (outsAt0 m c t.val t.isLt).2 y * half := by
  rw [outsAt0_C m c t (by omega) ht]
  frame_out
  idx_vars y
  pointwise [k0_pay3]
  rfl

theorem index_0 : ∀ t : Fin cfg0.N, win0_0.index t = ![t.val % 16, t.val / 16] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![t.val / 16, 0] := (by decide +kernel : ∀ t : Fin grid0.N, _)

theorem arr (c : Dev nD) : (dats m 0 c).arrAt 2 cfg0.N = fun y =>
    mulTN (m ((c : Thread nD τ).loc main_arg0)) (m ((c : Thread nD τ).loc main_arg1)) y * half := by
  refine (dats m 0 c).arrAt_eq_of_covers 2 _ (by decide +kernel) fun t hf y => ?_
  blk_simp
  rw [after0_2, out_at m c t ((flush0_2 t).mp hf), acc_at m c t ((flush0_2 t).mp hf)]
  unfold term
  refine congrArg (· * half) (sum_mul_blocks rfl (fun s q h => ?_) (fun s q h => ?_))
  · blk_ext! [iblk, V, index_0, index_2]
  · blk_ext! [iblk, V, index_1, index_2]

end Cert.DwdownIdeal.Ffn

namespace Cert.DwdownClaims

open Idealize.ShloMosaic Idealize.ShloMosaic.TcCoe Idealize.ShloMosaic.Tactic Idealize.SL.Sem Cert.Ffn
open Cert.DwdownRefIdeal Cert.DwdownRefIdeal.Read

/-- The reference's result at an entry. -/
theorem ref_at (a : Vec Ideal S4096x5632 .bf16) (b : Vec Ideal S4096x2048 .f32) : val_main_v10 (F := Ideal) a b = fun y => mulTN a b y * half := by
  funext y
  unfold mulTN
  rw [sum_mul_half]
  idx_vars y
  pointwise [val_main_v10, val_main_v9, val_main_v8, val_main_v7, val_main_v6, val_main_cst_1, val_main_v1]
  exact Finset.sum_congr rfl fun _ _ => (mul_comm _ _).trans ((congrArg (_ * ·) (mul_comm half _)).trans (mul_assoc _ _ _).symm)

/-- The reference leaves its arguments unchanged. -/
theorem frame_ri : Cert.quiescent_DwdownRefIdeal := fun m ρ _ =>
  (θ_run Cert.DwdownRefIdeal.defs _ _).mono (fun r h => ⟨fun c => (h c).2, Idealize.ShloMosaic.sem_eq_zero_of_no_sems (by decide) r.2⟩)
    (Cert.DwdownRefIdeal.Value.run (F := Ideal) m ρ)

/-- The kernel's and the reference's results are the same extended reals. -/
theorem algebraic : Cert.algebraic_DwdownIdeal_DwdownRefIdeal := by
  intro m g m' g' _ hagree
  refine ⟨fun c y => mulTN (m ((c.tc : Thread Cert.DwdownIdeal.nD Cert.DwdownIdeal.τ).loc Cert.DwdownIdeal.main_arg0))
    (m ((c.tc : Thread Cert.DwdownIdeal.nD Cert.DwdownIdeal.τ).loc Cert.DwdownIdeal.main_arg1)) y * half, ?_, ?_⟩
  · exact (θ_run Cert.DwdownIdeal.defs _ _).mono (fun r h c => ⟨(h c).1.trans (Cert.DwdownIdeal.Ffn.arr m c), (h c).2⟩)
      (Cert.DwdownIdeal.Value.run_blocks m g)
  · refine (θ_run Cert.DwdownRefIdeal.defs _ _).mono (fun r h c => ⟨(h c).1.trans ((val_main_v10_eq _ _).trans ?_), (h c).2⟩)
      (Cert.DwdownRefIdeal.Value.run (F := Ideal) m' g')
    rw [ref_at, (hagree c).1, (hagree c).2]
    rfl

end Cert.DwdownClaims

end
-- ==== Proof.Ffn.Dngate.lean ====
module

public import proofs.«01_k».proof.Defs
public import proofs.«01_k».proof.Proof.Gen.DngateIdeal.Value
public import proofs.«01_k».proof.Proof.Gen.DngateRefIdeal.Run
public import proofs.«01_k».proof.Proof.Gen.DngateRefIdeal.Read
public import proofs.«01_k».proof.Proof.Ffn.Product

@[expose] public section

set_option maxRecDepth 16384

noncomputable section

namespace Cert.DngateIdeal.Ffn

open Cert.DngateIdeal Cert.DngateIdeal.Gen Cert.DngateIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1024x2048 .f32) (a : Vec Ideal S1024x512 .bf16) (b : Vec Ideal S2048x512 .bf16) (y : S1024x2048.Idx) :
    k0_pay2 s a b y = s y + mulNT a b y := by
  unfold mulNT
  idx_vars y
  pointwise [k0_pay2]

theorem pay1_at (y : S1024x2048.Idx) : k0_pay1 (F := Ideal) y = 0 := by
  idx_vars y
  pointwise [k0_pay1]

/-- What one step adds to the accumulator. -/
def term (c : Dev nD) (t : Fin cfg0.N) (y : S1024x2048.Idx) : EReal := mulNT (iblk m c 0 t) (iblk m c 1 t) y

/-- The accumulator after a run's last step. -/
theorem acc_at (c : Dev nD) (t : Fin cfg0.N) (ht : t.val % 11 = 10) (y : S1024x2048.Idx) :
    (outsAt0 m c t.val t.isLt).2 y
      = ∑ s : Fin 11, term m c ⟨11 * (t.val / 11) + s.val, Pipeline.run_point_lt_of_flush t ht s⟩ y := by
  refine (Pipeline.eq_sum_fin_of_reset_step_apply_of_flush (fun n h => (outsAt0 m c n h).2) 11 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 11 = 10
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 11 = 10) (y : S1024x2048.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val / 11, t.val % 11] := (by decide +kernel : ∀ t : Fin grid0.N, _)
theorem index_1 : ∀ t : Fin cfg0.N, win0_1.index t = ![0, t.val % 11] := (by decide +kernel : ∀ t : Fin grid0.N, _)
theorem index_2 : ∀ t : Fin cfg0.N, win0_2.index t = ![t.val / 11, 0] := (by decide +kernel : ∀ t : Fin grid0.N, _)

theorem arr (c : Dev nD) : (dats m 0 c).arrAt 2 cfg0.N =
    mulNT (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.DngateIdeal.Ffn

namespace Cert.DngateClaims

open Idealize.ShloMosaic Idealize.ShloMosaic.TcCoe Idealize.ShloMosaic.Tactic Idealize.SL.Sem Cert.Ffn
open Cert.DngateRefIdeal Cert.DngateRefIdeal.Read

/-- The reference's result at an entry. -/
theorem ref_at (a : Vec Ideal S4096x5632 .bf16) (b : Vec Ideal S2048x5632 .bf16) : val_main_v4 (F := Ideal) a b = mulNT a b := by
  funext y
  unfold mulNT
  idx_vars y
  pointwise [val_main_v4, val_main_v3, val_main_v1]

/-- The reference leaves its arguments unchanged. -/
theorem frame_ri : Cert.quiescent_DngateRefIdeal := fun m ρ _ =>
  (θ_run Cert.DngateRefIdeal.defs _ _).mono (fun r h => ⟨fun c => (h c).2, Idealize.ShloMosaic.sem_eq_zero_of_no_sems (by decide) r.2⟩)
    (Cert.DngateRefIdeal.Value.run (F := Ideal) m ρ)

/-- The kernel's and the reference's results are the same extended reals. -/
theorem algebraic : Cert.algebraic_DngateIdeal_DngateRefIdeal := by
  intro m g m' g' _ hagree
  refine ⟨fun c => mulNT (m ((c.tc : Thread Cert.DngateIdeal.nD Cert.DngateIdeal.τ).loc Cert.DngateIdeal.main_arg0))
    (m ((c.tc : Thread Cert.DngateIdeal.nD Cert.DngateIdeal.τ).loc Cert.DngateIdeal.main_arg1)), ?_, ?_⟩
  · exact (θ_run Cert.DngateIdeal.defs _ _).mono (fun r h c => ⟨(h c).1.trans (Cert.DngateIdeal.Ffn.arr m c), (h c).2⟩)
      (Cert.DngateIdeal.Value.run_blocks m g)
  · refine (θ_run Cert.DngateRefIdeal.defs _ _).mono (fun r h c => ⟨(h c).1.trans ((val_main_v4_eq _ _).trans ?_), (h c).2⟩)
      (Cert.DngateRefIdeal.Value.run (F := Ideal) m' g')
    rw [ref_at, (hagree c).1, (hagree c).2]

end Cert.DngateClaims

end
-- ==== Proof.Ffn.Dnup.lean ====
module

public import proofs.«01_k».proof.Defs
public import proofs.«01_k».proof.Proof.Gen.DnupIdeal.Value
public import proofs.«01_k».proof.Proof.Gen.DnupRefIdeal.Run
public import proofs.«01_k».proof.Proof.Gen.DnupRefIdeal.Read
public import proofs.«01_k».proof.Proof.Ffn.Product

@[expose] public section

set_option maxRecDepth 16384

noncomputable section

namespace Cert.DnupIdeal.Ffn

open Cert.DnupIdeal Cert.DnupIdeal.Gen Cert.DnupIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1024x1024 .f32) (a : Vec Ideal S1024x1408 .bf16) (b : Vec Ideal S1024x1408 .bf16) (y : S1024x1024.Idx) :
    k0_pay2 s a b y = s y + mulNT a b y := by
  unfold mulNT
  idx_vars y
  pointwise [k0_pay2]

theorem pay1_at (y : S1024x1024.Idx) : k0_pay1 (F := Ideal) y = 0 := by
  idx_vars y
  pointwise [k0_pay1]

/-- What one step adds to the accumulator. -/
def term (c : Dev nD) (t : Fin cfg0.N) (y : S1024x1024.Idx) : EReal := mulNT (iblk m c 0 t) (iblk m c 1 t) y

/-- The accumulator after a run's last step. -/
theorem acc_at (c : Dev nD) (t : Fin cfg0.N) (ht : t.val % 4 = 3) (y : S1024x1024.Idx) :
    (outsAt0 m c t.val t.isLt).2 y
      = ∑ s : Fin 4, term m c ⟨4 * (t.val / 4) + s.val, Pipeline.run_point_lt_of_flush t ht s⟩ y := by
  refine (Pipeline.eq_sum_fin_of_reset_step_apply_of_flush (fun n h => (outsAt0 m c n h).2) 4 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 4 = 3
    · rw [outsAt0_C m c t h h7]
      frame_out
      rw [pay2_at, read_unread_whole]
      rfl
    · rw [outsAt0_B m c t h h7]
      frame_out
      rw [pay2_at, read_unread_whole]
      rfl

/-- The output's block after a run's last step is the accumulator with the block of the third argument added. -/
theorem out_at (c : Dev nD) (t : Fin cfg0.N) (ht : t.val % 4 = 3) (y : S1024x1024.Idx) :
    (outsAt0 m c t.val t.isLt).1 y = (outsAt0 m c t.val t.isLt).2 y + (iblk m c 2 t : Vec Ideal S1024x1024 .f32) y := by
  rw [outsAt0_C m c t (by omega) ht]
  frame_out
  idx_vars y
  pointwise [k0_pay3]

theorem index_0 : ∀ t : Fin cfg0.N, win0_0.index t = ![t.val / 8, t.val % 4] := (by decide +kernel : ∀ t : Fin grid0.N, _)
theorem index_1 : ∀ t : Fin cfg0.N, win0_1.index t = ![t.val / 4 % 2, t.val % 4] := (by decide +kernel : ∀ t : Fin grid0.N, _)
theorem index_2 : ∀ t : Fin cfg0.N, win0_2.index t = ![t.val / 8, t.val / 4 % 2] := (by decide +kernel : ∀ t : Fin grid0.N, _)
theorem index_3 : ∀ t : Fin cfg0.N, win0_3.index t = ![t.val / 8, t.val / 4 % 2] := (by decide +kernel : ∀ t : Fin grid0.N, _)

theorem arr (c : Dev nD) : (dats m 0 c).arrAt 3 cfg0.N = fun y =>
    mulNT (m ((c : Thread nD τ).loc main_arg0)) (m ((c : Thread nD τ).loc main_arg1)) y + (m ((c : Thread nD τ).loc main_arg2) : Vec Ideal S4096x2048 .f32) y := by
  refine (dats m 0 c).arrAt_eq_of_covers 3 _ (by decide +kernel) fun t hf y => ?_
  blk_simp
  rw [after0_3, out_at m c t ((flush0_3 t).mp hf), acc_at m c t ((flush0_3 t).mp hf)]
  unfold term
  refine congr (congrArg HAdd.hAdd (sum_mul_blocks rfl (fun s q h => ?_) (fun s q h => ?_))) ?_
  · blk_ext! [iblk, V, index_0, index_3]
  · blk_ext! [iblk, V, index_1, index_3]
  · blk_ext! [iblk, V, index_2, index_3]

end Cert.DnupIdeal.Ffn

namespace Cert.DnupClaims

open Idealize.ShloMosaic Idealize.ShloMosaic.TcCoe Idealize.ShloMosaic.Tactic Idealize.SL.Sem Cert.Ffn
open Cert.DnupRefIdeal Cert.DnupRefIdeal.Read

/-- The reference's result at an entry. -/
theorem ref_at (a : Vec Ideal S4096x5632 .bf16) (b : Vec Ideal S2048x5632 .bf16) (r : Vec Ideal S4096x2048 .f32) :
    val_main_v5 (F := Ideal) a b r = fun y => mulNT a b y + r y := by
  funext y
  unfold mulNT
  idx_vars y
  pointwise [val_main_v5, val_main_v4, val_main_v3, val_main_v1]
  exact add_comm _ _

/-- The reference leaves its arguments unchanged. -/
theorem frame_ri : Cert.quiescent_DnupRefIdeal := fun m ρ _ =>
  (θ_run Cert.DnupRefIdeal.defs _ _).mono (fun r h => ⟨fun c => (h c).2, Idealize.ShloMosaic.sem_eq_zero_of_no_sems (by decide) r.2⟩)
    (Cert.DnupRefIdeal.Value.run (F := Ideal) m ρ)

/-- The kernel's and the reference's results are the same extended reals. -/
theorem algebraic : Cert.algebraic_DnupIdeal_DnupRefIdeal := by
  intro m g m' g' _ hagree
  refine ⟨fun c y => mulNT (m ((c.tc : Thread Cert.DnupIdeal.nD Cert.DnupIdeal.τ).loc Cert.DnupIdeal.main_arg0))
    (m ((c.tc : Thread Cert.DnupIdeal.nD Cert.DnupIdeal.τ).loc Cert.DnupIdeal.main_arg1)) y
      + (m ((c.tc : Thread Cert.DnupIdeal.nD Cert.DnupIdeal.τ).loc Cert.DnupIdeal.main_arg2) : Vec Ideal Cert.DnupIdeal.S4096x2048 .f32) y, ?_, ?_⟩
  · exact (θ_run Cert.DnupIdeal.defs _ _).mono (fun r h c => ⟨(h c).1.trans (Cert.DnupIdeal.Ffn.arr m c), (h c).2⟩)
      (Cert.DnupIdeal.Value.run_blocks m g)
  · refine (θ_run Cert.DnupRefIdeal.defs _ _).mono (fun r h c => ⟨(h c).1.trans ((val_main_v5_eq _ _ _).trans ?_), (h c).2⟩)
      (Cert.DnupRefIdeal.Value.run (F := Ideal) m' g')
    obtain ⟨h0, h1, h2⟩ := hagree c
    rw [ref_at, h0, h1, h2]
    rfl

end Cert.DnupClaims

end
-- ==== Proof.Ffn.Dwgate.lean ====
module

public import proofs.«01_k».proof.Defs
public import proofs.«01_k».proof.Proof.Gen.DwgateIdeal.Value
public import proofs.«01_k».proof.Proof.Gen.DwgateRefIdeal.Run
public import proofs.«01_k».proof.Proof.Gen.DwgateRefIdeal.Read
public import proofs.«01_k».proof.Proof.Ffn.Product

@[expose] public section

set_option maxRecDepth 16384

noncomputable section

namespace Cert.DwgateIdeal.Ffn

open Cert.DwgateIdeal Cert.DwgateIdeal.Gen Cert.DwgateIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x1408 .f32) (a : Vec Ideal S512x2048 .bf16) (b : Vec Ideal S512x1408 .bf16) (y : S2048x1408.Idx) :
    k0_pay2 s a b y = s y + mulTN a b y := by
  unfold mulTN
  idx_vars y
  pointwise [k0_pay2]

theorem pay1_at (y : S2048x1408.Idx) : k0_pay1 (F := Ideal) y = 0 := by
  idx_vars y
  pointwise [k0_pay1]

/-- What one step adds to the accumulator. -/
def term (c : Dev nD) (t : Fin cfg0.N) (y : S2048x1408.Idx) : EReal := mulTN (iblk m c 0 t) (iblk m c 1 t) y

/-- The accumulator after a run's last step. -/
theorem acc_at (c : Dev nD) (t : Fin cfg0.N) (ht : t.val % 8 = 7) (y : S2048x1408.Idx) :
    (outsAt0 m c t.val t.isLt).2 y
      = ∑ s : Fin 8, term m c ⟨8 * (t.val / 8) + s.val, Pipeline.run_point_lt_of_flush t ht s⟩ y := by
  refine (Pipeline.eq_sum_fin_of_reset_step_apply_of_flush (fun n h => (outsAt0 m c n h).2) 8 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 8 = 7
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 8 = 7) (y : S2048x1408.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val % 8, 0] := (by decide +kernel : ∀ t : Fin grid0.N, _)
theorem index_1 : ∀ t : Fin cfg0.N, win0_1.index t = ![t.val % 8, t.val / 8] := (by decide +kernel : ∀ t : Fin grid0.N, _)
theorem index_2 : ∀ t : Fin cfg0.N, win0_2.index t = ![0, t.val / 8] := (by decide +kernel : ∀ t : Fin grid0.N, _)

theorem arr (c : Dev nD) : (dats m 0 c).arrAt 2 cfg0.N =
    mulTN (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.DwgateIdeal.Ffn

namespace Cert.DwgateClaims

open Idealize.ShloMosaic Idealize.ShloMosaic.TcCoe Idealize.ShloMosaic.Tactic Idealize.SL.Sem Cert.Ffn
open Cert.DwgateRefIdeal Cert.DwgateRefIdeal.Read

/-- The reference's result at an entry. -/
theorem ref_at (a : Vec Ideal S4096x2048 .bf16) (b : Vec Ideal S4096x5632 .bf16) : val_main_v7 (F := Ideal) a b = mulTN a b := by
  funext y
  unfold mulTN
  idx_vars y
  pointwise [val_main_v7, val_main_v6, val_main_v5, val_main_v4, val_main_v1]
  exact Finset.sum_congr rfl fun _ _ => mul_comm _ _

/-- The reference leaves its arguments unchanged. -/
theorem frame_ri : Cert.quiescent_DwgateRefIdeal := fun m ρ _ =>
  (θ_run Cert.DwgateRefIdeal.defs _ _).mono (fun r h => ⟨fun c => (h c).2, Idealize.ShloMosaic.sem_eq_zero_of_no_sems (by decide) r.2⟩)
    (Cert.DwgateRefIdeal.Value.run (F := Ideal) m ρ)

/-- The kernel's and the reference's results are the same extended reals. -/
theorem algebraic : Cert.algebraic_DwgateIdeal_DwgateRefIdeal := by
  intro m g m' g' _ hagree
  refine ⟨fun c => mulTN (m ((c.tc : Thread Cert.DwgateIdeal.nD Cert.DwgateIdeal.τ).loc Cert.DwgateIdeal.main_arg0))
    (m ((c.tc : Thread Cert.DwgateIdeal.nD Cert.DwgateIdeal.τ).loc Cert.DwgateIdeal.main_arg1)), ?_, ?_⟩
  · exact (θ_run Cert.DwgateIdeal.defs _ _).mono (fun r h c => ⟨(h c).1.trans (Cert.DwgateIdeal.Ffn.arr m c), (h c).2⟩)
      (Cert.DwgateIdeal.Value.run_blocks m g)
  · refine (θ_run Cert.DwgateRefIdeal.defs _ _).mono (fun r h c => ⟨(h c).1.trans ((val_main_v7_eq _ _).trans ?_), (h c).2⟩)
      (Cert.DwgateRefIdeal.Value.run (F := Ideal) m' g')
    rw [ref_at, (hagree c).1, (hagree c).2]

end Cert.DwgateClaims

end
-- ==== Proof.Ffn.Norm.lean ====
module

public import proofs.«01_k».proof.Defs
public import proofs.«01_k».proof.Proof.Gen.NormIdeal.Value
public import proofs.«01_k».proof.Proof.Gen.NormRefIdeal.Run
public import proofs.«01_k».proof.Proof.Gen.NormRefIdeal.Read
public import proofs.«01_k».proof.Proof.Ffn.Dnorm

@[expose] public section

set_option maxRecDepth 16384

/-! The normalisation of rows. -/

noncomputable section

namespace Cert.Ffn

open Idealize.ShloMosaic

/-- A normalised row, at a column. -/
def normRow (h w : Fin 2048 → EReal) (j : Fin 2048) : EReal := h j * Ideal.rsqrt (meanSq h) * w j

/-- The normalised rows of a matrix. -/
def normRows {m : ℕ} (h : Mat m 2048) (w : Mat 1 2048) : Mat m 2048 := fun y => normRow (row h (y 0)) (row w 0) (y 1)

end Cert.Ffn

namespace Cert.NormIdeal.Ffn

open Cert.NormIdeal Cert.NormIdeal.Gen Cert.NormIdeal.Value Cert.Ffn
open Idealize.ShloMosaic Idealize.ShloMosaic.TcCoe Idealize.ShloMosaic.Tactic

variable (m : (ℓ : Loc nD τ sig) → Buf (Elt Ideal) ℓ)

theorem out_at (h : Vec Ideal S256x2048 .f32) (w : Vec Ideal S1x2048 .f32) (y : S256x2048.Idx) : out0_2 h w y = normRows h w y := by
  unfold normRows normRow meanSq row width
  frame_out
  idx_vars y
  pointwise [k0_pay1]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem arr (c : Dev nD) : (dats m 0 c).arrAt 2 cfg0.N =
    normRows (m ((c : Thread nD τ).loc main_arg0)) (m ((c : Thread nD τ).loc main_arg1)) := by
  refine (dats m 0 c).arrAt_eq_of_covers 2 _ (by decide +kernel) fun t hf y => ?_
  blk_simp
  rw [after0_2, out_at]
  have hcol : (y 1 : Fin 2048) = (win0_2.blk t).view.emb y 1 := Fin.ext (by blk_simp [index_2])
  refine congr (congr (congrArg normRow (funext fun k => ?_)) (funext fun k => ?_)) hcol
  · unfold row
    blk_ext! [iblk, V, index_0, index_2]
  · unfold row
    blk_ext! [iblk, V, index_1, index_2]

end Cert.NormIdeal.Ffn

namespace Cert.NormClaims

open Idealize.ShloMosaic Idealize.ShloMosaic.TcCoe Idealize.ShloMosaic.Tactic Idealize.SL.Sem Cert.Ffn
open Cert.NormRefIdeal Cert.NormRefIdeal.Read

/-- The reference's result. -/
theorem ref_at (h : Vec Ideal S4096x2048 .f32) (w : Vec Ideal S1x2048 .f32) : val_main_v12 (F := Ideal) h w = normRows h w := by
  funext y
  unfold normRows normRow meanSq row width
  idx_vars y
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

/-- The reference leaves its arguments unchanged. -/
theorem frame_ri : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

/-- The kernel's and the reference's results are the same extended reals. -/
theorem algebraic : Cert.algebraic_NormIdeal_NormRefIdeal := by
  intro m g m' g' _ hagree
  refine ⟨_, (θ_run Cert.NormIdeal.defs _ _).mono (fun r h c => ⟨(h c).1.trans (Cert.NormIdeal.Ffn.arr m c), (h c).2⟩)
    (Cert.NormIdeal.Value.run_blocks m g), ?_⟩
  refine (θ_run Cert.NormRefIdeal.defs _ _).mono (fun r h c => ⟨(h c).1.trans ((val_main_v12_eq _ _).trans ?_), (h c).2⟩)
    (Cert.NormRefIdeal.Value.run (F := Ideal) m' g')
  rw [ref_at, (hagree c).1, (hagree c).2]

end Cert.NormClaims

end
-- ==== Proof.Ffn.Gate.lean ====
module

public import proofs.«01_k».proof.Defs
public import proofs.«01_k».proof.Proof.Gen.GateIdeal.Value
public import proofs.«01_k».proof.Proof.Gen.GateRefIdeal.Run
public import proofs.«01_k».proof.Proof.Gen.GateRefIdeal.Read
public import proofs.«01_k».proof.Proof.Ffn.Product

@[expose] public section

set_option maxRecDepth 16384

noncomputable section

namespace Cert.GateIdeal.Ffn

open Cert.GateIdeal Cert.GateIdeal.Gen Cert.GateIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x512 .f32) (a : Vec Ideal S2048x2048 .bf16) (b : Vec Ideal S2048x512 .bf16) (y : S2048x512.Idx) :
    k0_pay2 s a b y = s y + mulNN a b y := by
  unfold mulNN
  idx_vars y
  pointwise [k0_pay2]

theorem pay1_at (y : S2048x512.Idx) : k0_pay1 (F := Ideal) y = 0 := by
  idx_vars y
  pointwise [k0_pay1]

/-- The output's block is the product of the two inputs' blocks. -/
theorem out_at (c : Dev nD) (t : Fin cfg0.N) (y : S2048x512.Idx) : outsAt0 m c t y = mulNN (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 11, 0] := (by decide +kernel : ∀ t : Fin grid0.N, _)
theorem index_1 : ∀ t : Fin cfg0.N, win0_1.index t = ![0, t.val % 11] := (by decide +kernel : ∀ t : Fin grid0.N, _)
theorem index_2 : ∀ t : Fin cfg0.N, win0_2.index t = ![t.val / 11, t.val % 11] := (by decide +kernel : ∀ t : Fin grid0.N, _)

theorem arr (c : Dev nD) : (dats m 0 c).arrAt 2 cfg0.N =
    mulNN (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNN
  refine Finset.sum_congr (M := EReal) rfl fun q _ => congr (congrArg HMul.hMul ?_) ?_
  · blk_ext! [iblk, V, index_0, index_2]
  · blk_ext! [iblk, V, index_1, index_2]

end Cert.GateIdeal.Ffn

namespace Cert.GateClaims

open Idealize.ShloMosaic Idealize.ShloMosaic.TcCoe Idealize.ShloMosaic.Tactic Idealize.SL.Sem Cert.Ffn
open Cert.GateRefIdeal Cert.GateRefIdeal.Read

/-- The reference's result at an entry. -/
theorem ref_at (a : Vec Ideal S4096x2048 .bf16) (b : Vec Ideal S2048x5632 .bf16) : val_main_v3 (F := Ideal) a b = mulNN a b := by
  funext y
  unfold mulNN
  idx_vars y
  pointwise [val_main_v3, val_main_v2, val_main_v1, val_main_v0]

/-- The reference leaves its arguments unchanged. -/
theorem frame_ri : Cert.quiescent_GateRefIdeal := fun m ρ _ =>
  (θ_run Cert.GateRefIdeal.defs _ _).mono (fun r h => ⟨fun c => (h c).2, Idealize.ShloMosaic.sem_eq_zero_of_no_sems (by decide) r.2⟩)
    (Cert.GateRefIdeal.Value.run (F := Ideal) m ρ)

/-- The kernel's and the reference's results are the same extended reals. -/
theorem algebraic : Cert.algebraic_GateIdeal_GateRefIdeal := by
  intro m g m' g' _ hagree
  refine ⟨fun c => mulNN (m ((c.tc : Thread Cert.GateIdeal.nD Cert.GateIdeal.τ).loc Cert.GateIdeal.main_arg0))
    (m ((c.tc : Thread Cert.GateIdeal.nD Cert.GateIdeal.τ).loc Cert.GateIdeal.main_arg1)), ?_, ?_⟩
  · exact (θ_run Cert.GateIdeal.defs _ _).mono (fun r h c => ⟨(h c).1.trans (Cert.GateIdeal.Ffn.arr m c), (h c).2⟩)
      (Cert.GateIdeal.Value.run_blocks m g)
  · refine (θ_run Cert.GateRefIdeal.defs _ _).mono (fun r h c => ⟨(h c).1.trans ((val_main_v3_eq _ _).trans ?_), (h c).2⟩)
      (Cert.GateRefIdeal.Value.run (F := Ideal) m' g')
    rw [ref_at, (hagree c).1, (hagree c).2]

end Cert.GateClaims

end
-- ==== Proof.Ffn.Act.lean ====
module

public import proofs.«01_k».proof.Defs
public import proofs.«01_k».proof.Proof.Gen.ActIdeal.Value
public import proofs.«01_k».proof.Proof.Gen.ActRefIdeal.Run
public import proofs.«01_k».proof.Proof.Gen.ActRefIdeal.Read
public import proofs.«01_k».proof.Proof.Ffn.Product

@[expose] public section

set_option maxRecDepth 16384

/-! The gated activation `silu g * u`. -/

noncomputable section

namespace Cert.Ffn

open Idealize.ShloMosaic

/-- The gated activation, at an entry. -/
def gated (g u : EReal) : EReal := g * Ideal.logistic g * u

end Cert.Ffn

namespace Cert.ActIdeal.Ffn

open Cert.ActIdeal Cert.ActIdeal.Gen Cert.ActIdeal.Value Cert.Ffn
open Idealize.ShloMosaic Idealize.ShloMosaic.TcCoe Idealize.ShloMosaic.Tactic

variable (m : (ℓ : Loc nD τ sig) → Buf (Elt Ideal) ℓ)

theorem out_at (g u : Vec Ideal S128x5632 .bf16) (y : S128x5632.Idx) : out0_2 g u y = gated (g y) (u y) := by
  unfold gated Ideal.logistic
  frame_out
  idx_vars y
  pointwise [k0_pay1]
  rw [zero_sub]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)

theorem arr (c : Dev nD) : (dats m 0 c).arrAt 2 cfg0.N = fun y : S4096x5632.Idx =>
    gated (m ((c : Thread nD τ).loc main_arg0) y) (m ((c : Thread nD τ).loc main_arg1) y) := by
  refine (dats m 0 c).arrAt_eq_of_covers 2 _ (by decide +kernel) fun t hf y => ?_
  blk_simp
  rw [after0_2, out_at]
  congr 1

end Cert.ActIdeal.Ffn

namespace Cert.ActClaims

open Idealize.ShloMosaic Idealize.ShloMosaic.TcCoe Idealize.ShloMosaic.Tactic Idealize.SL.Sem Cert.Ffn
open Cert.ActRefIdeal Cert.ActRefIdeal.Read

/-- The reference's result. -/
theorem ref_at (g u : Vec Ideal S4096x5632 .bf16) : val_main_v4 (F := Ideal) g u = fun y => gated (g y) (u y) := by
  funext y
  unfold gated Ideal.logistic
  idx_vars y
  pointwise [val_main_v4, val_main_v3, val_main_v2, val_main_v1, val_main_call0_v5, val_main_call0_v4, val_main_call0_cst_0,
    val_main_call0_v3, val_main_call0_v2, val_main_call0_cst, val_main_call0_v1, val_main_call0_v0, val_main_v0]

/-- The reference leaves its arguments unchanged. -/
theorem frame_ri : Cert.quiescent_ActRefIdeal := fun m ρ _ =>
  (θ_run Cert.ActRefIdeal.defs _ _).mono (fun r h => ⟨fun c => (h c).2, Idealize.ShloMosaic.sem_eq_zero_of_no_sems (by decide) r.2⟩)
    (Cert.ActRefIdeal.Value.run (F := Ideal) m ρ)

/-- The kernel's and the reference's results are the same extended reals. -/
theorem algebraic : Cert.algebraic_ActIdeal_ActRefIdeal := by
  intro m g m' g' _ hagree
  refine ⟨_, (θ_run Cert.ActIdeal.defs _ _).mono (fun r h c => ⟨(h c).1.trans (Cert.ActIdeal.Ffn.arr m c), (h c).2⟩)
    (Cert.ActIdeal.Value.run_blocks m g), ?_⟩
  refine (θ_run Cert.ActRefIdeal.defs _ _).mono (fun r h c => ⟨(h c).1.trans ((val_main_v4_eq _ _).trans ?_), (h c).2⟩)
    (Cert.ActRefIdeal.Value.run (F := Ideal) m' g')
  rw [ref_at, (hagree c).1, (hagree c).2]

end Cert.ActClaims

end
-- ==== Proof.Ffn.Down.lean ====
module

public import proofs.«01_k».proof.Defs
public import proofs.«01_k».proof.Proof.Gen.DownIdeal.Value
public import proofs.«01_k».proof.Proof.Gen.DownRefIdeal.Run
public import proofs.«01_k».proof.Proof.Gen.DownRefIdeal.Read
public import proofs.«01_k».proof.Proof.Ffn.Product

@[expose] public section

set_option maxRecDepth 16384

noncomputable section

namespace Cert.Ffn

open Idealize.ShloMosaic

/-- A matrix with half of another added. -/
def addHalf {m n : ℕ} (r z : Mat m n) : Mat m n := fun y => r y + z y * half

end Cert.Ffn

namespace Cert.DownIdeal.Ffn

open Cert.DownIdeal Cert.DownIdeal.Gen Cert.DownIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1024x1024 .f32) (a : Vec Ideal S1024x1408 .bf16) (b : Vec Ideal S1408x1024 .bf16) (y : S1024x1024.Idx) :
    k0_pay2 s a b y = s y + mulNN a b y := by
  unfold mulNN
  idx_vars y
  pointwise [k0_pay2]

theorem pay1_at (y : S1024x1024.Idx) : k0_pay1 (F := Ideal) y = 0 := by
  idx_vars y
  pointwise [k0_pay1]

/-- What one step adds to the accumulator. -/
def term (c : Dev nD) (t : Fin cfg0.N) (y : S1024x1024.Idx) : EReal := mulNN (iblk m c 0 t) (iblk m c 1 t) y

/-- The accumulator after a run's last step. -/
theorem acc_at (c : Dev nD) (t : Fin cfg0.N) (ht : t.val % 4 = 3) (y : S1024x1024.Idx) :
    (outsAt0 m c t.val t.isLt).2 y
      = ∑ s : Fin 4, term m c ⟨4 * (t.val / 4) + s.val, Pipeline.run_point_lt_of_flush t ht s⟩ y := by
  refine (Pipeline.eq_sum_fin_of_reset_step_apply_of_flush (fun n h => (outsAt0 m c n h).2) 4 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 4 = 3
    · rw [outsAt0_C m c t h h7]
      frame_out
      rw [pay2_at, read_unread_whole]
      rfl
    · rw [outsAt0_B m c t h h7]
      frame_out
      rw [pay2_at, read_unread_whole]
      rfl

/-- The output's block after a run's last step is the block of the third argument with half the accumulator added. -/
theorem out_at (c : Dev nD) (t : Fin cfg0.N) (ht : t.val % 4 = 3) (y : S1024x1024.Idx) :
    (outsAt0 m c t.val t.isLt).1 y = addHalf (iblk m c 2 t) (outsAt0 m c t.val t.isLt).2 y := by
  rw [outsAt0_C m c t (by omega) ht]
  frame_out
  unfold addHalf
  idx_vars y
  pointwise [k0_pay3]
  exact add_comm _ _

theorem index_0 : ∀ t : Fin cfg0.N, win0_0.index t = ![t.val / 8, t.val % 4] := (by decide +kernel : ∀ t : Fin grid0.N, _)
theorem index_1 : ∀ t : Fin cfg0.N, win0_1.index t = ![t.val % 4, t.val / 4 % 2] := (by decide +kernel : ∀ t : Fin grid0.N, _)
theorem index_2 : ∀ t : Fin cfg0.N, win0_2.index t = ![t.val / 8, t.val / 4 % 2] := (by decide +kernel : ∀ t : Fin grid0.N, _)
theorem index_3 : ∀ t : Fin cfg0.N, win0_3.index t = ![t.val / 8, t.val / 4 % 2] := (by decide +kernel : ∀ t : Fin grid0.N, _)

theorem arr (c : Dev nD) : (dats m 0 c).arrAt 3 cfg0.N = addHalf (m ((c : Thread nD τ).loc main_arg2))
    (mulNN (m ((c : Thread nD τ).loc main_arg0)) (m ((c : Thread nD τ).loc main_arg1))) := by
  refine (dats m 0 c).arrAt_eq_of_covers 3 _ (by decide +kernel) fun t hf y => ?_
  blk_simp
  rw [after0_3, out_at m c t ((flush0_3 t).mp hf)]
  unfold addHalf
  rw [acc_at m c t ((flush0_3 t).mp hf)]
  unfold term
  refine congr (congrArg HAdd.hAdd ?_) (congrArg (· * half) (sum_mul_blocks rfl (fun s q h => ?_) (fun s q h => ?_)))
  · blk_ext! [iblk, V, index_2, index_3]
  · blk_ext! [iblk, V, index_0, index_3]
  · blk_ext! [iblk, V, index_1, index_3]

end Cert.DownIdeal.Ffn

namespace Cert.DownClaims

open Idealize.ShloMosaic Idealize.ShloMosaic.TcCoe Idealize.ShloMosaic.Tactic Idealize.SL.Sem Cert.Ffn
open Cert.DownRefIdeal Cert.DownRefIdeal.Read

/-- The reference's result at an entry. -/
theorem ref_at (a : Vec Ideal S4096x5632 .bf16) (b : Vec Ideal S5632x2048 .bf16) (r : Vec Ideal S4096x2048 .f32) :
    val_main_v5 (F := Ideal) a b r = addHalf r (mulNN a b) := by
  funext y
  unfold addHalf mulNN
  idx_vars y
  pointwise [val_main_v5, val_main_v4, val_main_v3, val_main_cst, val_main_v2, val_main_v1, val_main_v0]
  exact congrArg _ (mul_comm half _)

/-- The reference leaves its arguments unchanged. -/
theorem frame_ri : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

/-- The kernel's and the reference's results are the same extended reals. -/
theorem algebraic : Cert.algebraic_DownIdeal_DownRefIdeal := by
  intro m g m' g' _ hagree
  refine ⟨fun c => addHalf (m ((c.tc : Thread Cert.DownIdeal.nD Cert.DownIdeal.τ).loc Cert.DownIdeal.main_arg2))
    (mulNN (m ((c.tc : Thread Cert.DownIdeal.nD Cert.DownIdeal.τ).loc Cert.DownIdeal.main_arg0))
      (m ((c.tc : Thread Cert.DownIdeal.nD Cert.DownIdeal.τ).loc Cert.DownIdeal.main_arg1))), ?_, ?_⟩
  · exact (θ_run Cert.DownIdeal.defs _ _).mono (fun r h c => ⟨(h c).1.trans (Cert.DownIdeal.Ffn.arr m c), (h c).2⟩)
      (Cert.DownIdeal.Value.run_blocks m g)
  · refine (θ_run Cert.DownRefIdeal.defs _ _).mono (fun r h c => ⟨(h c).1.trans ((val_main_v5_eq _ _ _).trans ?_), (h c).2⟩)
      (Cert.DownRefIdeal.Value.run (F := Ideal) m' g')
    obtain ⟨h0, h1, h2⟩ := hagree c
    rw [ref_at, h0, h1, h2]

end Cert.DownClaims

end
-- ==== Proof.Ffn.MixDn.lean ====
module

public import proofs.«01_k».proof.Defs
public import proofs.«01_k».proof.Proof.Gen.MixDnIdeal.Value
public import proofs.«01_k».proof.Proof.Gen.MixDnRefIdeal.Run
public import proofs.«01_k».proof.Proof.Gen.MixDnRefIdeal.Read
public import proofs.«01_k».proof.Proof.Ffn.Product

@[expose] public section

set_option maxRecDepth 16384

noncomputable section

namespace Cert.MixDnIdeal.Ffn

open Cert.MixDnIdeal Cert.MixDnIdeal.Gen Cert.MixDnIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1024x2048 .f32) (a : Vec Ideal S1024x640 .bf16) (b : Vec Ideal S2048x640 .bf16) (y : S1024x2048.Idx) :
    k0_pay2 s a b y = s y + mulNT a b y := by
  unfold mulNT
  idx_vars y
  pointwise [k0_pay2]

theorem pay1_at (y : S1024x2048.Idx) : k0_pay1 (F := Ideal) y = 0 := by
  idx_vars y
  pointwise [k0_pay1]

/-- What one step adds to the accumulator. -/
def term (c : Dev nD) (t : Fin cfg0.N) (y : S1024x2048.Idx) : EReal := mulNT (iblk m c 0 t) (iblk m c 1 t) y

/-- The accumulator after a run's last step. -/
theorem acc_at (c : Dev nD) (t : Fin cfg0.N) (ht : t.val % 10 = 9) (y : S1024x2048.Idx) :
    (outsAt0 m c t.val t.isLt).2 y
      = ∑ s : Fin 10, term m c ⟨10 * (t.val / 10) + s.val, Pipeline.run_point_lt_of_flush t ht s⟩ y := by
  refine (Pipeline.eq_sum_fin_of_reset_step_apply_of_flush (fun n h => (outsAt0 m c n h).2) 10 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 10 = 9
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 10 = 9) (y : S1024x2048.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val / 10, t.val % 10] := (by decide +kernel : ∀ t : Fin grid0.N, _)
theorem index_1 : ∀ t : Fin cfg0.N, win0_1.index t = ![0, t.val % 10] := (by decide +kernel : ∀ t : Fin grid0.N, _)
theorem index_2 : ∀ t : Fin cfg0.N, win0_2.index t = ![t.val / 10, 0] := (by decide +kernel : ∀ t : Fin grid0.N, _)

theorem arr (c : Dev nD) : (dats m 0 c).arrAt 2 cfg0.N =
    mulNT (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.MixDnIdeal.Ffn

namespace Cert.MixDnClaims

open Idealize.ShloMosaic Idealize.ShloMosaic.TcCoe Idealize.ShloMosaic.Tactic Idealize.SL.Sem Cert.Ffn
open Cert.MixDnRefIdeal Cert.MixDnRefIdeal.Read

/-- The reference's result at an entry. -/
theorem ref_at (a : Vec Ideal S4096x6400 .bf16) (b : Vec Ideal S2048x6400 .bf16) : val_main_v4 (F := Ideal) a b = mulNT a b := by
  funext y
  unfold mulNT
  idx_vars y
  pointwise [val_main_v4, val_main_v3, val_main_v1]

/-- The reference leaves its arguments unchanged. -/
theorem frame_ri : Cert.quiescent_MixDnRefIdeal := fun m ρ _ =>
  (θ_run Cert.MixDnRefIdeal.defs _ _).mono (fun r h => ⟨fun c => (h c).2, Idealize.ShloMosaic.sem_eq_zero_of_no_sems (by decide) r.2⟩)
    (Cert.MixDnRefIdeal.Value.run (F := Ideal) m ρ)

/-- The kernel's and the reference's results are the same extended reals. -/
theorem algebraic : Cert.algebraic_MixDnIdeal_MixDnRefIdeal := by
  intro m g m' g' _ hagree
  refine ⟨fun c => mulNT (m ((c.tc : Thread Cert.MixDnIdeal.nD Cert.MixDnIdeal.τ).loc Cert.MixDnIdeal.main_arg0))
    (m ((c.tc : Thread Cert.MixDnIdeal.nD Cert.MixDnIdeal.τ).loc Cert.MixDnIdeal.main_arg1)), ?_, ?_⟩
  · exact (θ_run Cert.MixDnIdeal.defs _ _).mono (fun r h c => ⟨(h c).1.trans (Cert.MixDnIdeal.Ffn.arr m c), (h c).2⟩)
      (Cert.MixDnIdeal.Value.run_blocks m g)
  · refine (θ_run Cert.MixDnRefIdeal.defs _ _).mono (fun r h c => ⟨(h c).1.trans ((val_main_v4_eq _ _).trans ?_), (h c).2⟩)
      (Cert.MixDnRefIdeal.Value.run (F := Ideal) m' g')
    rw [ref_at, (hagree c).1, (hagree c).2]

end Cert.MixDnClaims

end
-- ==== Proof.Ffn.MixDwin.lean ====
module

public import proofs.«01_k».proof.Defs
public import proofs.«01_k».proof.Proof.Gen.MixDwinIdeal.Value
public import proofs.«01_k».proof.Proof.Gen.MixDwinRefIdeal.Run
public import proofs.«01_k».proof.Proof.Gen.MixDwinRefIdeal.Read
public import proofs.«01_k».proof.Proof.Ffn.Product

@[expose] public section

set_option maxRecDepth 16384

noncomputable section

namespace Cert.MixDwinIdeal.Ffn

open Cert.MixDwinIdeal Cert.MixDwinIdeal.Gen Cert.MixDwinIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x1280 .f32) (a : Vec Ideal S512x2048 .bf16) (b : Vec Ideal S512x1280 .bf16) (y : S2048x1280.Idx) :
    k0_pay2 s a b y = s y + mulTN a b y := by
  unfold mulTN
  idx_vars y
  pointwise [k0_pay2]

theorem pay1_at (y : S2048x1280.Idx) : k0_pay1 (F := Ideal) y = 0 := by
  idx_vars y
  pointwise [k0_pay1]

/-- What one step adds to the accumulator. -/
def term (c : Dev nD) (t : Fin cfg0.N) (y : S2048x1280.Idx) : EReal := mulTN (iblk m c 0 t) (iblk m c 1 t) y

/-- The accumulator after a run's last step. -/
theorem acc_at (c : Dev nD) (t : Fin cfg0.N) (ht : t.val % 8 = 7) (y : S2048x1280.Idx) :
    (outsAt0 m c t.val t.isLt).2 y
      = ∑ s : Fin 8, term m c ⟨8 * (t.val / 8) + s.val, Pipeline.run_point_lt_of_flush t ht s⟩ y := by
  refine (Pipeline.eq_sum_fin_of_reset_step_apply_of_flush (fun n h => (outsAt0 m c n h).2) 8 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 8 = 7
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 8 = 7) (y : S2048x1280.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val % 8, 0] := (by decide +kernel : ∀ t : Fin grid0.N, _)
theorem index_1 : ∀ t : Fin cfg0.N, win0_1.index t = ![t.val % 8, t.val / 8] := (by decide +kernel : ∀ t : Fin grid0.N, _)
theorem index_2 : ∀ t : Fin cfg0.N, win0_2.index t = ![0, t.val / 8] := (by decide +kernel : ∀ t : Fin grid0.N, _)

theorem arr (c : Dev nD) : (dats m 0 c).arrAt 2 cfg0.N =
    mulTN (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.MixDwinIdeal.Ffn

namespace Cert.MixDwinClaims

open Idealize.ShloMosaic Idealize.ShloMosaic.TcCoe Idealize.ShloMosaic.Tactic Idealize.SL.Sem Cert.Ffn
open Cert.MixDwinRefIdeal Cert.MixDwinRefIdeal.Read

/-- The reference's result at an entry. -/
theorem ref_at (a : Vec Ideal S4096x2048 .bf16) (b : Vec Ideal S4096x6400 .bf16) : val_main_v7 (F := Ideal) a b = mulTN a b := by
  funext y
  unfold mulTN
  idx_vars y
  pointwise [val_main_v7, val_main_v6, val_main_v5, val_main_v4, val_main_v1]
  exact Finset.sum_congr rfl fun _ _ => mul_comm _ _

/-- The reference leaves its arguments unchanged. -/
theorem frame_ri : Cert.quiescent_MixDwinRefIdeal := fun m ρ _ =>
  (θ_run Cert.MixDwinRefIdeal.defs _ _).mono (fun r h => ⟨fun c => (h c).2, Idealize.ShloMosaic.sem_eq_zero_of_no_sems (by decide) r.2⟩)
    (Cert.MixDwinRefIdeal.Value.run (F := Ideal) m ρ)

/-- The kernel's and the reference's results are the same extended reals. -/
theorem algebraic : Cert.algebraic_MixDwinIdeal_MixDwinRefIdeal := by
  intro m g m' g' _ hagree
  refine ⟨fun c => mulTN (m ((c.tc : Thread Cert.MixDwinIdeal.nD Cert.MixDwinIdeal.τ).loc Cert.MixDwinIdeal.main_arg0))
    (m ((c.tc : Thread Cert.MixDwinIdeal.nD Cert.MixDwinIdeal.τ).loc Cert.MixDwinIdeal.main_arg1)), ?_, ?_⟩
  · exact (θ_run Cert.MixDwinIdeal.defs _ _).mono (fun r h c => ⟨(h c).1.trans (Cert.MixDwinIdeal.Ffn.arr m c), (h c).2⟩)
      (Cert.MixDwinIdeal.Value.run_blocks m g)
  · refine (θ_run Cert.MixDwinRefIdeal.defs _ _).mono (fun r h c => ⟨(h c).1.trans ((val_main_v7_eq _ _).trans ?_), (h c).2⟩)
      (Cert.MixDwinRefIdeal.Value.run (F := Ideal) m' g')
    rw [ref_at, (hagree c).1, (hagree c).2]

end Cert.MixDwinClaims

end
-- ==== Proof.Ffn.MixDcat.lean ====
module

public import proofs.«01_k».proof.Defs
public import proofs.«01_k».proof.Proof.Gen.MixDcatIdeal.Value
public import proofs.«01_k».proof.Proof.Gen.MixDcatRefIdeal.Run
public import proofs.«01_k».proof.Proof.Gen.MixDcatRefIdeal.Read
public import proofs.«01_k».proof.Proof.Ffn.Product

@[expose] public section

set_option maxRecDepth 16384

noncomputable section

namespace Cert.MixDcatIdeal.Ffn

open Cert.MixDcatIdeal Cert.MixDcatIdeal.Gen Cert.MixDcatIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1024x512 .f32) (a : Vec Ideal S1024x2048 .f32) (b : Vec Ideal S512x2048 .bf16) (y : S1024x512.Idx) :
    k0_pay2 s a b y = s y + mulNT a b y := by
  unfold mulNT
  idx_vars y
  pointwise [k0_pay2]

theorem pay1_at (y : S1024x512.Idx) : k0_pay1 (F := Ideal) y = 0 := by
  idx_vars y
  pointwise [k0_pay1]

/-- The output's block is the product of the two inputs' blocks. -/
theorem out_at (c : Dev nD) (t : Fin cfg0.N) (y : S1024x512.Idx) : outsAt0 m c t y = mulNT (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![t.val % 4, 0] := (by decide +kernel : ∀ t : Fin grid0.N, _)
theorem index_2 : ∀ t : Fin cfg0.N, win0_2.index t = ![t.val / 4, t.val % 4] := (by decide +kernel : ∀ t : Fin grid0.N, _)

theorem arr (c : Dev nD) : (dats m 0 c).arrAt 2 cfg0.N =
    mulNT (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNT
  refine Finset.sum_congr (M := EReal) rfl fun q _ => congr (congrArg HMul.hMul ?_) ?_
  · blk_ext! [iblk, V, index_0, index_2]
  · blk_ext! [iblk, V, index_1, index_2]

end Cert.MixDcatIdeal.Ffn

namespace Cert.MixDcatClaims

open Idealize.ShloMosaic Idealize.ShloMosaic.TcCoe Idealize.ShloMosaic.Tactic Idealize.SL.Sem Cert.Ffn
open Cert.MixDcatRefIdeal Cert.MixDcatRefIdeal.Read

/-- The reference's result at an entry. -/
theorem ref_at (a : Vec Ideal S4096x2048 .f32) (b : Vec Ideal S2048x2048 .bf16) : val_main_v3 (F := Ideal) a b = mulNT a b := by
  funext y
  unfold mulNT
  idx_vars y
  pointwise [val_main_v3, val_main_v1]

/-- The reference leaves its arguments unchanged. -/
theorem frame_ri : Cert.quiescent_MixDcatRefIdeal := fun m ρ _ =>
  (θ_run Cert.MixDcatRefIdeal.defs _ _).mono (fun r h => ⟨fun c => (h c).2, Idealize.ShloMosaic.sem_eq_zero_of_no_sems (by decide) r.2⟩)
    (Cert.MixDcatRefIdeal.Value.run (F := Ideal) m ρ)

/-- The kernel's and the reference's results are the same extended reals. -/
theorem algebraic : Cert.algebraic_MixDcatIdeal_MixDcatRefIdeal := by
  intro m g m' g' _ hagree
  refine ⟨fun c => mulNT (m ((c.tc : Thread Cert.MixDcatIdeal.nD Cert.MixDcatIdeal.τ).loc Cert.MixDcatIdeal.main_arg0))
    (m ((c.tc : Thread Cert.MixDcatIdeal.nD Cert.MixDcatIdeal.τ).loc Cert.MixDcatIdeal.main_arg1)), ?_, ?_⟩
  · exact (θ_run Cert.MixDcatIdeal.defs _ _).mono (fun r h c => ⟨(h c).1.trans (Cert.MixDcatIdeal.Ffn.arr m c), (h c).2⟩)
      (Cert.MixDcatIdeal.Value.run_blocks m g)
  · refine (θ_run Cert.MixDcatRefIdeal.defs _ _).mono (fun r h c => ⟨(h c).1.trans ((val_main_v3_eq _ _).trans ?_), (h c).2⟩)
      (Cert.MixDcatRefIdeal.Value.run (F := Ideal) m' g')
    rw [ref_at, (hagree c).1, (hagree c).2]

end Cert.MixDcatClaims

end
-- ==== Proof.Ffn.MixDwout.lean ====
module

public import proofs.«01_k».proof.Defs
public import proofs.«01_k».proof.Proof.Gen.MixDwoutIdeal.Value
public import proofs.«01_k».proof.Proof.Gen.MixDwoutRefIdeal.Run
public import proofs.«01_k».proof.Proof.Gen.MixDwoutRefIdeal.Read
public import proofs.«01_k».proof.Proof.Ffn.Product

@[expose] public section

set_option maxRecDepth 16384

noncomputable section

namespace Cert.MixDwoutIdeal.Ffn

open Cert.MixDwoutIdeal Cert.MixDwoutIdeal.Gen Cert.MixDwoutIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x1024 .f32) (a : Vec Ideal S512x2048 .bf16) (b : Vec Ideal S512x1024 .f32) (y : S2048x1024.Idx) :
    k0_pay2 s a b y = s y + mulTN a b y := by
  unfold mulTN
  idx_vars y
  pointwise [k0_pay2]

theorem pay1_at (y : S2048x1024.Idx) : k0_pay1 (F := Ideal) y = 0 := by
  idx_vars y
  pointwise [k0_pay1]

/-- What one step adds to the accumulator. -/
def term (c : Dev nD) (t : Fin cfg0.N) (y : S2048x1024.Idx) : EReal := mulTN (iblk m c 0 t) (iblk m c 1 t) y

/-- The accumulator after a run's last step. -/
theorem acc_at (c : Dev nD) (t : Fin cfg0.N) (ht : t.val % 8 = 7) (y : S2048x1024.Idx) :
    (outsAt0 m c t.val t.isLt).2 y
      = ∑ s : Fin 8, term m c ⟨8 * (t.val / 8) + s.val, Pipeline.run_point_lt_of_flush t ht s⟩ y := by
  refine (Pipeline.eq_sum_fin_of_reset_step_apply_of_flush (fun n h => (outsAt0 m c n h).2) 8 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 8 = 7
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 8 = 7) (y : S2048x1024.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val % 8, 0] := (by decide +kernel : ∀ t : Fin grid0.N, _)
theorem index_1 : ∀ t : Fin cfg0.N, win0_1.index t = ![t.val % 8, t.val / 8] := (by decide +kernel : ∀ t : Fin grid0.N, _)
theorem index_2 : ∀ t : Fin cfg0.N, win0_2.index t = ![0, t.val / 8] := (by decide +kernel : ∀ t : Fin grid0.N, _)

theorem arr (c : Dev nD) : (dats m 0 c).arrAt 2 cfg0.N =
    mulTN (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.MixDwoutIdeal.Ffn

namespace Cert.MixDwoutClaims

open Idealize.ShloMosaic Idealize.ShloMosaic.TcCoe Idealize.ShloMosaic.Tactic Idealize.SL.Sem Cert.Ffn
open Cert.MixDwoutRefIdeal Cert.MixDwoutRefIdeal.Read

/-- The reference's result at an entry. -/
theorem ref_at (a : Vec Ideal S4096x2048 .bf16) (b : Vec Ideal S4096x2048 .f32) : val_main_v6 (F := Ideal) a b = mulTN a b := by
  funext y
  unfold mulTN
  idx_vars y
  pointwise [val_main_v6, val_main_v5, val_main_v4, val_main_v1]
  exact Finset.sum_congr rfl fun _ _ => mul_comm _ _

/-- The reference leaves its arguments unchanged. -/
theorem frame_ri : Cert.quiescent_MixDwoutRefIdeal := fun m ρ _ =>
  (θ_run Cert.MixDwoutRefIdeal.defs _ _).mono (fun r h => ⟨fun c => (h c).2, Idealize.ShloMosaic.sem_eq_zero_of_no_sems (by decide) r.2⟩)
    (Cert.MixDwoutRefIdeal.Value.run (F := Ideal) m ρ)

/-- The kernel's and the reference's results are the same extended reals. -/
theorem algebraic : Cert.algebraic_MixDwoutIdeal_MixDwoutRefIdeal := by
  intro m g m' g' _ hagree
  refine ⟨fun c => mulTN (m ((c.tc : Thread Cert.MixDwoutIdeal.nD Cert.MixDwoutIdeal.τ).loc Cert.MixDwoutIdeal.main_arg0))
    (m ((c.tc : Thread Cert.MixDwoutIdeal.nD Cert.MixDwoutIdeal.τ).loc Cert.MixDwoutIdeal.main_arg1)), ?_, ?_⟩
  · exact (θ_run Cert.MixDwoutIdeal.defs _ _).mono (fun r h c => ⟨(h c).1.trans (Cert.MixDwoutIdeal.Ffn.arr m c), (h c).2⟩)
      (Cert.MixDwoutIdeal.Value.run_blocks m g)
  · refine (θ_run Cert.MixDwoutRefIdeal.defs _ _).mono (fun r h c => ⟨(h c).1.trans ((val_main_v6_eq _ _).trans ?_), (h c).2⟩)
      (Cert.MixDwoutRefIdeal.Value.run (F := Ideal) m' g')
    rw [ref_at, (hagree c).1, (hagree c).2]

end Cert.MixDwoutClaims

end
-- ==== Proof.Ffn.PleDn.lean ====
module

public import proofs.«01_k».proof.Defs
public import proofs.«01_k».proof.Proof.Gen.PleDnIdeal.Value
public import proofs.«01_k».proof.Proof.Gen.PleDnRefIdeal.Run
public import proofs.«01_k».proof.Proof.Gen.PleDnRefIdeal.Read
public import proofs.«01_k».proof.Proof.Ffn.Product

@[expose] public section

set_option maxRecDepth 16384

noncomputable section

namespace Cert.PleDnIdeal.Ffn

open Cert.PleDnIdeal Cert.PleDnIdeal.Gen Cert.PleDnIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x512 .f32) (a : Vec Ideal S2048x2048 .bf16) (b : Vec Ideal S512x2048 .bf16) (y : S2048x512.Idx) :
    k0_pay2 s a b y = s y + mulNT a b y := by
  unfold mulNT
  idx_vars y
  pointwise [k0_pay2]

theorem pay1_at (y : S2048x512.Idx) : k0_pay1 (F := Ideal) y = 0 := by
  idx_vars y
  pointwise [k0_pay1]

/-- The output's block is the product of the two inputs' blocks. -/
theorem out_at (c : Dev nD) (t : Fin cfg0.N) (y : S2048x512.Idx) : outsAt0 m c t y = mulNT (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![t.val % 4, 0] := (by decide +kernel : ∀ t : Fin grid0.N, _)
theorem index_2 : ∀ t : Fin cfg0.N, win0_2.index t = ![t.val / 4, t.val % 4] := (by decide +kernel : ∀ t : Fin grid0.N, _)

theorem arr (c : Dev nD) : (dats m 0 c).arrAt 2 cfg0.N =
    mulNT (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNT
  refine Finset.sum_congr (M := EReal) rfl fun q _ => congr (congrArg HMul.hMul ?_) ?_
  · blk_ext! [iblk, V, index_0, index_2]
  · blk_ext! [iblk, V, index_1, index_2]

end Cert.PleDnIdeal.Ffn

namespace Cert.PleDnClaims

open Idealize.ShloMosaic Idealize.ShloMosaic.TcCoe Idealize.ShloMosaic.Tactic Idealize.SL.Sem Cert.Ffn
open Cert.PleDnRefIdeal Cert.PleDnRefIdeal.Read

/-- The reference's result at an entry. -/
theorem ref_at (a : Vec Ideal S4096x2048 .bf16) (b : Vec Ideal S2048x2048 .bf16) : val_main_v4 (F := Ideal) a b = mulNT a b := by
  funext y
  unfold mulNT
  idx_vars y
  pointwise [val_main_v4, val_main_v3, val_main_v1]

/-- The reference leaves its arguments unchanged. -/
theorem frame_ri : Cert.quiescent_PleDnRefIdeal := fun m ρ _ =>
  (θ_run Cert.PleDnRefIdeal.defs _ _).mono (fun r h => ⟨fun c => (h c).2, Idealize.ShloMosaic.sem_eq_zero_of_no_sems (by decide) r.2⟩)
    (Cert.PleDnRefIdeal.Value.run (F := Ideal) m ρ)

/-- The kernel's and the reference's results are the same extended reals. -/
theorem algebraic : Cert.algebraic_PleDnIdeal_PleDnRefIdeal := by
  intro m g m' g' _ hagree
  refine ⟨fun c => mulNT (m ((c.tc : Thread Cert.PleDnIdeal.nD Cert.PleDnIdeal.τ).loc Cert.PleDnIdeal.main_arg0))
    (m ((c.tc : Thread Cert.PleDnIdeal.nD Cert.PleDnIdeal.τ).loc Cert.PleDnIdeal.main_arg1)), ?_, ?_⟩
  · exact (θ_run Cert.PleDnIdeal.defs _ _).mono (fun r h c => ⟨(h c).1.trans (Cert.PleDnIdeal.Ffn.arr m c), (h c).2⟩)
      (Cert.PleDnIdeal.Value.run_blocks m g)
  · refine (θ_run Cert.PleDnRefIdeal.defs _ _).mono (fun r h c => ⟨(h c).1.trans ((val_main_v4_eq _ _).trans ?_), (h c).2⟩)
      (Cert.PleDnRefIdeal.Value.run (F := Ideal) m' g')
    rw [ref_at, (hagree c).1, (hagree c).2]

end Cert.PleDnClaims

end
-- ==== Proof.Ffn.PleDwgate.lean ====
module

public import proofs.«01_k».proof.Defs
public import proofs.«01_k».proof.Proof.Gen.PleDwgateIdeal.Value
public import proofs.«01_k».proof.Proof.Gen.PleDwgateRefIdeal.Run
public import proofs.«01_k».proof.Proof.Gen.PleDwgateRefIdeal.Read
public import proofs.«01_k».proof.Proof.Ffn.Product

@[expose] public section

set_option maxRecDepth 16384

noncomputable section

namespace Cert.PleDwgateIdeal.Ffn

open Cert.PleDwgateIdeal Cert.PleDwgateIdeal.Gen Cert.PleDwgateIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1024x2048 .f32) (a : Vec Ideal S1024x1024 .bf16) (b : Vec Ideal S1024x2048 .bf16) (y : S1024x2048.Idx) :
    k0_pay2 s a b y = s y + mulTN a b y := by
  unfold mulTN
  idx_vars y
  pointwise [k0_pay2]

theorem pay1_at (y : S1024x2048.Idx) : k0_pay1 (F := Ideal) y = 0 := by
  idx_vars y
  pointwise [k0_pay1]

/-- What one step adds to the accumulator. -/
def term (c : Dev nD) (t : Fin cfg0.N) (y : S1024x2048.Idx) : EReal := mulTN (iblk m c 0 t) (iblk m c 1 t) y

/-- The accumulator after a run's last step. -/
theorem acc_at (c : Dev nD) (t : Fin cfg0.N) (ht : t.val % 4 = 3) (y : S1024x2048.Idx) :
    (outsAt0 m c t.val t.isLt).2 y
      = ∑ s : Fin 4, term m c ⟨4 * (t.val / 4) + s.val, Pipeline.run_point_lt_of_flush t ht s⟩ y := by
  refine (Pipeline.eq_sum_fin_of_reset_step_apply_of_flush (fun n h => (outsAt0 m c n h).2) 4 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 4 = 3
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 4 = 3) (y : S1024x2048.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val % 4, t.val / 4] := (by decide +kernel : ∀ t : Fin grid0.N, _)
theorem index_1 : ∀ t : Fin cfg0.N, win0_1.index t = ![t.val % 4, 0] := (by decide +kernel : ∀ t : Fin grid0.N, _)
theorem index_2 : ∀ t : Fin cfg0.N, win0_2.index t = ![t.val / 4, 0] := (by decide +kernel : ∀ t : Fin grid0.N, _)

theorem arr (c : Dev nD) : (dats m 0 c).arrAt 2 cfg0.N =
    mulTN (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.PleDwgateIdeal.Ffn

namespace Cert.PleDwgateClaims

open Idealize.ShloMosaic Idealize.ShloMosaic.TcCoe Idealize.ShloMosaic.Tactic Idealize.SL.Sem Cert.Ffn
open Cert.PleDwgateRefIdeal Cert.PleDwgateRefIdeal.Read

/-- The reference's result at an entry. -/
theorem ref_at (a : Vec Ideal S4096x2048 .bf16) (b : Vec Ideal S4096x2048 .bf16) : val_main_v7 (F := Ideal) a b = mulTN a b := by
  funext y
  unfold mulTN
  idx_vars y
  pointwise [val_main_v7, val_main_v6, val_main_v5, val_main_v4, val_main_v1]
  exact Finset.sum_congr rfl fun _ _ => mul_comm _ _

/-- The reference leaves its arguments unchanged. -/
theorem frame_ri : Cert.quiescent_PleDwgateRefIdeal := fun m ρ _ =>
  (θ_run Cert.PleDwgateRefIdeal.defs _ _).mono (fun r h => ⟨fun c => (h c).2, Idealize.ShloMosaic.sem_eq_zero_of_no_sems (by decide) r.2⟩)
    (Cert.PleDwgateRefIdeal.Value.run (F := Ideal) m ρ)

/-- The kernel's and the reference's results are the same extended reals. -/
theorem algebraic : Cert.algebraic_PleDwgateIdeal_PleDwgateRefIdeal := by
  intro m g m' g' _ hagree
  refine ⟨fun c => mulTN (m ((c.tc : Thread Cert.PleDwgateIdeal.nD Cert.PleDwgateIdeal.τ).loc Cert.PleDwgateIdeal.main_arg0))
    (m ((c.tc : Thread Cert.PleDwgateIdeal.nD Cert.PleDwgateIdeal.τ).loc Cert.PleDwgateIdeal.main_arg1)), ?_, ?_⟩
  · exact (θ_run Cert.PleDwgateIdeal.defs _ _).mono (fun r h c => ⟨(h c).1.trans (Cert.PleDwgateIdeal.Ffn.arr m c), (h c).2⟩)
      (Cert.PleDwgateIdeal.Value.run_blocks m g)
  · refine (θ_run Cert.PleDwgateRefIdeal.defs _ _).mono (fun r h c => ⟨(h c).1.trans ((val_main_v7_eq _ _).trans ?_), (h c).2⟩)
      (Cert.PleDwgateRefIdeal.Value.run (F := Ideal) m' g')
    rw [ref_at, (hagree c).1, (hagree c).2]

end Cert.PleDwgateClaims

end
-- ==== Proof.Ffn.PleDwproj.lean ====
module

public import proofs.«01_k».proof.Defs
public import proofs.«01_k».proof.Proof.Gen.PleDwprojIdeal.Value
public import proofs.«01_k».proof.Proof.Gen.PleDwprojRefIdeal.Run
public import proofs.«01_k».proof.Proof.Gen.PleDwprojRefIdeal.Read
public import proofs.«01_k».proof.Proof.Ffn.Product

@[expose] public section

set_option maxRecDepth 16384

noncomputable section

namespace Cert.PleDwprojIdeal.Ffn

open Cert.PleDwprojIdeal Cert.PleDwprojIdeal.Gen Cert.PleDwprojIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S256x2048 .f32) (a : Vec Ideal S512x256 .f32) (b : Vec Ideal S512x2048 .bf16) (y : S256x2048.Idx) :
    k0_pay2 s a b y = s y + mulTN a b y := by
  unfold mulTN
  idx_vars y
  pointwise [k0_pay2]

theorem pay1_at (y : S256x2048.Idx) : k0_pay1 (F := Ideal) y = 0 := by
  idx_vars y
  pointwise [k0_pay1]

/-- What one step adds to the accumulator. -/
def term (c : Dev nD) (t : Fin cfg0.N) (y : S256x2048.Idx) : EReal := mulTN (iblk m c 0 t) (iblk m c 1 t) y

/-- The accumulator after a run's last step. -/
theorem acc_at (c : Dev nD) (t : Fin cfg0.N) (ht : t.val % 8 = 7) (y : S256x2048.Idx) :
    (outsAt0 m c t.val t.isLt).2 y
      = ∑ s : Fin 8, term m c ⟨8 * (t.val / 8) + s.val, Pipeline.run_point_lt_of_flush t ht s⟩ y := by
  refine (Pipeline.eq_sum_fin_of_reset_step_apply_of_flush (fun n h => (outsAt0 m c n h).2) 8 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 8 = 7
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 8 = 7) (y : S256x2048.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val % 8, 0] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![0, 0] := (by decide +kernel : ∀ t : Fin grid0.N, _)

theorem arr (c : Dev nD) : (dats m 0 c).arrAt 2 cfg0.N =
    mulTN (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.PleDwprojIdeal.Ffn

namespace Cert.PleDwprojClaims

open Idealize.ShloMosaic Idealize.ShloMosaic.TcCoe Idealize.ShloMosaic.Tactic Idealize.SL.Sem Cert.Ffn
open Cert.PleDwprojRefIdeal Cert.PleDwprojRefIdeal.Read

/-- The reference's result at an entry. -/
theorem ref_at (a : Vec Ideal S4096x256 .f32) (b : Vec Ideal S4096x2048 .bf16) : val_main_v6 (F := Ideal) a b = mulTN a b := by
  funext y
  unfold mulTN
  idx_vars y
  pointwise [val_main_v6, val_main_v5, val_main_v4, val_main_v3]
  exact Finset.sum_congr rfl fun _ _ => mul_comm _ _

/-- The reference leaves its arguments unchanged. -/
theorem frame_ri : Cert.quiescent_PleDwprojRefIdeal := fun m ρ _ =>
  (θ_run Cert.PleDwprojRefIdeal.defs _ _).mono (fun r h => ⟨fun c => (h c).2, Idealize.ShloMosaic.sem_eq_zero_of_no_sems (by decide) r.2⟩)
    (Cert.PleDwprojRefIdeal.Value.run (F := Ideal) m ρ)

/-- The kernel's and the reference's results are the same extended reals. -/
theorem algebraic : Cert.algebraic_PleDwprojIdeal_PleDwprojRefIdeal := by
  intro m g m' g' _ hagree
  refine ⟨fun c => mulTN (m ((c.tc : Thread Cert.PleDwprojIdeal.nD Cert.PleDwprojIdeal.τ).loc Cert.PleDwprojIdeal.main_arg0))
    (m ((c.tc : Thread Cert.PleDwprojIdeal.nD Cert.PleDwprojIdeal.τ).loc Cert.PleDwprojIdeal.main_arg1)), ?_, ?_⟩
  · exact (θ_run Cert.PleDwprojIdeal.defs _ _).mono (fun r h c => ⟨(h c).1.trans (Cert.PleDwprojIdeal.Ffn.arr m c), (h c).2⟩)
      (Cert.PleDwprojIdeal.Value.run_blocks m g)
  · refine (θ_run Cert.PleDwprojRefIdeal.defs _ _).mono (fun r h c => ⟨(h c).1.trans ((val_main_v6_eq _ _).trans ?_), (h c).2⟩)
      (Cert.PleDwprojRefIdeal.Value.run (F := Ideal) m' g')
    rw [ref_at, (hagree c).1, (hagree c).2]

end Cert.PleDwprojClaims

end
-- ==== Proof.Ffn.PleDout.lean ====
module

public import proofs.«01_k».proof.Defs
public import proofs.«01_k».proof.Proof.Gen.PleDoutIdeal.Value
public import proofs.«01_k».proof.Proof.Gen.PleDoutRefIdeal.Run
public import proofs.«01_k».proof.Proof.Gen.PleDoutRefIdeal.Read
public import proofs.«01_k».proof.Proof.Ffn.Dact

@[expose] public section

set_option maxRecDepth 16384

/-! The gradients of the gate `sigmoid p * q` of the embedding of each layer. -/

noncomputable section

namespace Cert.Ffn

open Idealize.ShloMosaic

/-- The gradient of the sigmoid's argument, from it, the other factor and the cotangent. -/
def gradSigmoid (p q d : EReal) : EReal := d * q * (Ideal.logistic p * (1 - Ideal.logistic p))

/-- The sigmoid's derivative, from the exponential. -/
theorem logistic_mul_one_sub (x : EReal) : Ideal.logistic x * (1 - Ideal.logistic x)
    = Ideal.div 1 ((1 + Ideal.exp (-x)) * (1 + Ideal.exp (-x))) * Ideal.exp (-x) := by
  induction x with
  | bot =>
    have h : (1 : EReal) + ⊤ = ⊤ := EReal.coe_add_top 1
    simp [Ideal.div, h]
  | top => simp [one_sub_one]
  | coe x =>
    have h : (1 + Real.exp (-x)) ≠ 0 := by positivity
    rw [Ideal.logistic_coe, ← EReal.coe_neg, Ideal.exp_coe, ← EReal.coe_one, ← EReal.coe_add, ← EReal.coe_mul, Ideal.div_coe (mul_ne_zero h h)]
    norm_cast
    field_simp
    ring

end Cert.Ffn

namespace Cert.PleDoutIdeal.Ffn

open Cert.PleDoutIdeal Cert.PleDoutIdeal.Gen Cert.PleDoutIdeal.Value Cert.Ffn
open Idealize.ShloMosaic Idealize.ShloMosaic.TcCoe Idealize.ShloMosaic.Tactic

variable (m : (ℓ : Loc nD τ sig) → Buf (Elt Ideal) ℓ)

theorem out4_at (h p q d : Vec Ideal S256x2048 .f32) (y : S256x2048.Idx) : out0_4 h p q d y = gradSigmoid (p y) (q y) (d y) := by
  unfold gradSigmoid
  rw [logistic_mul_one_sub]
  frame_out
  idx_vars y
  pointwise [k0_pay3, k0_pay2, k0_pay1]
  simp only [zero_sub, EReal.neg_mul, neg_neg, mul_one, mul_assoc]

theorem out5_at (h p q d : Vec Ideal S256x2048 .f32) (y : S256x2048.Idx) : out0_5 h p q d y = Ideal.logistic (p y) * d y := by
  unfold Ideal.logistic
  frame_out
  idx_vars y
  pointwise [k0_pay4, k0_pay2, k0_pay1]
  rw [zero_sub]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)

theorem arr4 (c : Dev nD) : (dats m 0 c).arrAt 4 cfg0.N = fun y : S4096x2048.Idx =>
    gradSigmoid (m ((c : Thread nD τ).loc main_arg1) y) (m ((c : Thread nD τ).loc main_arg2) y) (m ((c : Thread nD τ).loc main_arg3) y) := by
  refine (dats m 0 c).arrAt_eq_of_covers 4 _ (by decide +kernel) fun t hf y => ?_
  blk_simp
  rw [after0_4, out4_at]
  congr 1

theorem arr5 (c : Dev nD) : (dats m 0 c).arrAt 5 cfg0.N = fun y : S4096x2048.Idx =>
    Ideal.logistic (m ((c : Thread nD τ).loc main_arg1) y) * (m ((c : Thread nD τ).loc main_arg3) y : EReal) := by
  refine (dats m 0 c).arrAt_eq_of_covers 5 _ (by decide +kernel) fun t hf y => ?_
  blk_simp
  rw [after0_5, out5_at]
  congr 1

end Cert.PleDoutIdeal.Ffn

namespace Cert.PleDoutClaims

open Idealize.ShloMosaic Idealize.ShloMosaic.TcCoe Idealize.ShloMosaic.Tactic Idealize.SL.Sem Cert.Ffn
open Cert.PleDoutRefIdeal Cert.PleDoutRefIdeal.Read

/-- The reference's gradient of the sigmoid's argument. -/
theorem ref14_at (p q d : Vec Ideal S4096x2048 .f32) : val_main_v14 (F := Ideal) p q d = fun y => gradSigmoid (p y) (q y) (d y) := by
  funext y
  unfold gradSigmoid Ideal.logistic
  idx_vars y
  pointwise [val_main_v14, val_main_v13, val_main_v12, val_main_v8, val_main_v7, val_main_v6, val_main_cst_1, val_main_v5, val_main_v4,
    val_main_cst_0, val_main_v3, val_main_v2, val_main_cst, val_main_v1, val_main_v0]

/-- The reference's gradient of the other factor. -/
theorem ref15_at (p d : Vec Ideal S4096x2048 .f32) : val_main_v15 (F := Ideal) p d = fun y => Ideal.logistic (p y) * (d y : EReal) := by
  funext y
  unfold Ideal.logistic
  idx_vars y
  pointwise [val_main_v15, val_main_v11, val_main_v5, val_main_v4, val_main_cst_0, val_main_v3, val_main_v2, val_main_cst, val_main_v1,
    val_main_v0]

/-- The reference leaves its arguments unchanged. -/
theorem frame_ri : Cert.quiescent_PleDoutRefIdeal := fun m ρ _ =>
  (θ_run Cert.PleDoutRefIdeal.defs _ _).mono (fun r h => ⟨fun c => (h c).2.2, Idealize.ShloMosaic.sem_eq_zero_of_no_sems (by decide) r.2⟩)
    (Cert.PleDoutRefIdeal.Value.run (F := Ideal) m ρ)

/-- The kernel's and the reference's results are the same extended reals. -/
theorem algebraic : Cert.algebraic_PleDoutIdeal_PleDoutRefIdeal := by
  intro m g m' g' _ hagree
  refine ⟨_, _, (θ_run Cert.PleDoutIdeal.defs _ _).mono
    (fun r h c => ⟨(h c).1.trans (Cert.PleDoutIdeal.Ffn.arr4 m c), (h c).2.1.trans (Cert.PleDoutIdeal.Ffn.arr5 m c), (h c).2.2⟩)
    (Cert.PleDoutIdeal.Value.run_blocks m g), ?_⟩
  refine (θ_run Cert.PleDoutRefIdeal.defs _ _).mono (fun r h c => ?_) (Cert.PleDoutRefIdeal.Value.run (F := Ideal) m' g')
  obtain ⟨h0, h1, h2, h3⟩ := hagree c
  refine ⟨(h c).1.trans ((val_main_v14_eq _ _ _).trans ?_),
    (h c).2.1.trans ((val_main_v15_eq _ _).trans ?_), (h c).2.2⟩
  · rw [ref14_at, h1, h2, h3]
  · rw [ref15_at, h1, h3]

end Cert.PleDoutClaims

end
-- ==== Proof.Ffn.AbOut.lean ====
module

public import proofs.«01_k».proof.Defs
public import proofs.«01_k».proof.Proof.Gen.AbOutIdeal.Value
public import proofs.«01_k».proof.Proof.Gen.AbOutRefIdeal.Run
public import proofs.«01_k».proof.Proof.Gen.AbOutRefIdeal.Read
public import proofs.«01_k».proof.Proof.Ffn.Product

@[expose] public section

set_option maxRecDepth 16384

noncomputable section

namespace Cert.AbOutIdeal.Ffn

open Cert.AbOutIdeal Cert.AbOutIdeal.Gen Cert.AbOutIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x256 .f32) (a : Vec Ideal S2048x2048 .bf16) (b : Vec Ideal S2048x256 .bf16) (y : S2048x256.Idx) :
    k0_pay2 s a b y = s y + mulNN a b y := by
  unfold mulNN
  idx_vars y
  pointwise [k0_pay2]

theorem pay1_at (y : S2048x256.Idx) : k0_pay1 (F := Ideal) y = 0 := by
  idx_vars y
  pointwise [k0_pay1]

/-- The output's block is the third input's, with the product of the other two added. -/
theorem out_at (c : Dev nD) (t : Fin cfg0.N) (y : S2048x256.Idx) : outsAt0 m c t y = plus (iblk m c 2 t) (mulNN (iblk m c 0 t) (iblk m c 1 t)) y := by
  unfold outsAt0
  frame_out
  refine (?_ : _ = plus (iblk m c 2 t) (k0_pay2 (k0_pay1 (F := Ideal)) (iblk m c 0 t) (iblk m c 1 t)) y).trans ?_
  · unfold plus
    idx_vars y
    pointwise [k0_pay3]
    exact add_comm _ _
  · unfold plus
    rw [pay2_at, pay1_at, zero_add]

theorem index_0 : ∀ t : Fin cfg0.N, win0_0.index t = ![t.val / 8, 0] := (by decide +kernel : ∀ t : Fin grid0.N, _)
theorem index_1 : ∀ t : Fin cfg0.N, win0_1.index t = ![0, t.val % 8] := (by decide +kernel : ∀ t : Fin grid0.N, _)
theorem index_2 : ∀ t : Fin cfg0.N, win0_2.index t = ![t.val / 8, t.val % 8] := (by decide +kernel : ∀ t : Fin grid0.N, _)
theorem index_3 : ∀ t : Fin cfg0.N, win0_3.index t = ![t.val / 8, t.val % 8] := (by decide +kernel : ∀ t : Fin grid0.N, _)

theorem arr (c : Dev nD) : (dats m 0 c).arrAt 3 cfg0.N =
    plus (m ((c : Thread nD τ).loc main_arg2)) (mulNN (m ((c : Thread nD τ).loc main_arg0)) (m ((c : Thread nD τ).loc main_arg1))) := by
  refine (dats m 0 c).arrAt_eq_of_covers 3 _ (by decide +kernel) fun t hf y => ?_
  blk_simp
  rw [after0_3, out_at]
  unfold plus mulNN
  refine congr (congrArg HAdd.hAdd ?_) ?_
  · blk_ext! [iblk, V, index_2, index_3]
  refine Finset.sum_congr (M := EReal) rfl fun q _ => congr (congrArg HMul.hMul ?_) ?_
  · blk_ext! [iblk, V, index_0, index_3]
  · blk_ext! [iblk, V, index_1, index_3]

end Cert.AbOutIdeal.Ffn

namespace Cert.AbOutClaims

open Idealize.ShloMosaic Idealize.ShloMosaic.TcCoe Idealize.ShloMosaic.Tactic Idealize.SL.Sem Cert.Ffn
open Cert.AbOutRefIdeal Cert.AbOutRefIdeal.Read

/-- The reference's result at an entry. -/
theorem ref_at (a : Vec Ideal S4096x2048 .bf16) (b : Vec Ideal S2048x2048 .bf16) (r : Vec Ideal S4096x2048 .f32) : val_main_v3 (F := Ideal) a b r = plus r (mulNN a b) := by
  funext y
  unfold plus mulNN
  idx_vars y
  pointwise [val_main_v3, val_main_v2, val_main_v1, val_main_v0]

/-- The reference leaves its arguments unchanged. -/
theorem frame_ri : Cert.quiescent_AbOutRefIdeal := fun m ρ _ =>
  (θ_run Cert.AbOutRefIdeal.defs _ _).mono (fun r h => ⟨fun c => (h c).2, Idealize.ShloMosaic.sem_eq_zero_of_no_sems (by decide) r.2⟩)
    (Cert.AbOutRefIdeal.Value.run (F := Ideal) m ρ)

/-- The kernel's and the reference's results are the same extended reals. -/
theorem algebraic : Cert.algebraic_AbOutIdeal_AbOutRefIdeal := by
  intro m g m' g' _ hagree
  refine ⟨_, (θ_run Cert.AbOutIdeal.defs _ _).mono (fun r h c => ⟨(h c).1.trans (Cert.AbOutIdeal.Ffn.arr m c), (h c).2⟩)
    (Cert.AbOutIdeal.Value.run_blocks m g), ?_⟩
  refine (θ_run Cert.AbOutRefIdeal.defs _ _).mono (fun r h c => ⟨(h c).1.trans ((val_main_v3_eq _ _ _).trans ?_), (h c).2⟩)
    (Cert.AbOutRefIdeal.Value.run (F := Ideal) m' g')
  obtain ⟨h0, h1, h2⟩ := hagree c
  rw [ref_at, h0, h1, h2]

end Cert.AbOutClaims

end
-- ==== Proof.Ffn.PleGate.lean ====
module

public import proofs.«01_k».proof.Defs
public import proofs.«01_k».proof.Proof.Gen.PleGateIdeal.Value
public import proofs.«01_k».proof.Proof.Gen.PleGateRefIdeal.Run
public import proofs.«01_k».proof.Proof.Gen.PleGateRefIdeal.Read
public import proofs.«01_k».proof.Proof.Ffn.Product

@[expose] public section

set_option maxRecDepth 16384

noncomputable section

namespace Cert.PleGateIdeal.Ffn

open Cert.PleGateIdeal Cert.PleGateIdeal.Gen Cert.PleGateIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x512 .f32) (a : Vec Ideal S2048x2048 .bf16) (b : Vec Ideal S2048x512 .bf16) (y : S2048x512.Idx) :
    k0_pay2 s a b y = s y + mulNN a b y := by
  unfold mulNN
  idx_vars y
  pointwise [k0_pay2]

theorem pay1_at (y : S2048x512.Idx) : k0_pay1 (F := Ideal) y = 0 := by
  idx_vars y
  pointwise [k0_pay1]

/-- The output's block is the product of the two inputs' blocks. -/
theorem out_at (c : Dev nD) (t : Fin cfg0.N) (y : S2048x512.Idx) : outsAt0 m c t y = mulNN (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, t.val % 4] := (by decide +kernel : ∀ t : Fin grid0.N, _)

theorem arr (c : Dev nD) : (dats m 0 c).arrAt 2 cfg0.N =
    mulNN (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNN
  refine Finset.sum_congr (M := EReal) rfl fun q _ => congr (congrArg HMul.hMul ?_) ?_
  · blk_ext! [iblk, V, index_0, index_2]
  · blk_ext! [iblk, V, index_1, index_2]

end Cert.PleGateIdeal.Ffn

namespace Cert.PleGateClaims

open Idealize.ShloMosaic Idealize.ShloMosaic.TcCoe Idealize.ShloMosaic.Tactic Idealize.SL.Sem Cert.Ffn
open Cert.PleGateRefIdeal Cert.PleGateRefIdeal.Read

/-- The reference's result at an entry. -/
theorem ref_at (a : Vec Ideal S4096x2048 .bf16) (b : Vec Ideal S2048x2048 .bf16) : val_main_v2 (F := Ideal) a b = mulNN a b := by
  funext y
  unfold mulNN
  idx_vars y
  pointwise [val_main_v2, val_main_v1, val_main_v0]

/-- The reference leaves its arguments unchanged. -/
theorem frame_ri : Cert.quiescent_PleGateRefIdeal := fun m ρ _ =>
  (θ_run Cert.PleGateRefIdeal.defs _ _).mono (fun r h => ⟨fun c => (h c).2, Idealize.ShloMosaic.sem_eq_zero_of_no_sems (by decide) r.2⟩)
    (Cert.PleGateRefIdeal.Value.run (F := Ideal) m ρ)

/-- The kernel's and the reference's results are the same extended reals. -/
theorem algebraic : Cert.algebraic_PleGateIdeal_PleGateRefIdeal := by
  intro m g m' g' _ hagree
  refine ⟨fun c => mulNN (m ((c.tc : Thread Cert.PleGateIdeal.nD Cert.PleGateIdeal.τ).loc Cert.PleGateIdeal.main_arg0))
    (m ((c.tc : Thread Cert.PleGateIdeal.nD Cert.PleGateIdeal.τ).loc Cert.PleGateIdeal.main_arg1)), ?_, ?_⟩
  · exact (θ_run Cert.PleGateIdeal.defs _ _).mono (fun r h c => ⟨(h c).1.trans (Cert.PleGateIdeal.Ffn.arr m c), (h c).2⟩)
      (Cert.PleGateIdeal.Value.run_blocks m g)
  · refine (θ_run Cert.PleGateRefIdeal.defs _ _).mono (fun r h c => ⟨(h c).1.trans ((val_main_v2_eq _ _).trans ?_), (h c).2⟩)
      (Cert.PleGateRefIdeal.Value.run (F := Ideal) m' g')
    rw [ref_at, (hagree c).1, (hagree c).2]

end Cert.PleGateClaims

end
-- ==== Proof.Ffn.PleProj.lean ====
module

public import proofs.«01_k».proof.Defs
public import proofs.«01_k».proof.Proof.Gen.PleProjIdeal.Value
public import proofs.«01_k».proof.Proof.Gen.PleProjRefIdeal.Run
public import proofs.«01_k».proof.Proof.Gen.PleProjRefIdeal.Read
public import proofs.«01_k».proof.Proof.Ffn.Product

@[expose] public section

set_option maxRecDepth 16384

noncomputable section

namespace Cert.PleProjIdeal.Ffn

open Cert.PleProjIdeal Cert.PleProjIdeal.Gen Cert.PleProjIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x512 .f32) (a : Vec Ideal S2048x256 .f32) (b : Vec Ideal S256x512 .bf16) (y : S2048x512.Idx) :
    k0_pay2 s a b y = s y + mulNN a b y := by
  unfold mulNN
  idx_vars y
  pointwise [k0_pay2]

theorem pay1_at (y : S2048x512.Idx) : k0_pay1 (F := Ideal) y = 0 := by
  idx_vars y
  pointwise [k0_pay1]

/-- The output's block is the product of the two inputs' blocks. -/
theorem out_at (c : Dev nD) (t : Fin cfg0.N) (y : S2048x512.Idx) : outsAt0 m c t y = mulNN (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, t.val % 4] := (by decide +kernel : ∀ t : Fin grid0.N, _)

theorem arr (c : Dev nD) : (dats m 0 c).arrAt 2 cfg0.N =
    mulNN (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNN
  refine Finset.sum_congr (M := EReal) rfl fun q _ => congr (congrArg HMul.hMul ?_) ?_
  · blk_ext! [iblk, V, index_0, index_2]
  · blk_ext! [iblk, V, index_1, index_2]

end Cert.PleProjIdeal.Ffn

namespace Cert.PleProjClaims

open Idealize.ShloMosaic Idealize.ShloMosaic.TcCoe Idealize.ShloMosaic.Tactic Idealize.SL.Sem Cert.Ffn
open Cert.PleProjRefIdeal Cert.PleProjRefIdeal.Read

/-- The reference's result at an entry. -/
theorem ref_at (a : Vec Ideal S4096x256 .f32) (b : Vec Ideal S256x2048 .bf16) : val_main_v1 (F := Ideal) a b = mulNN a b := by
  funext y
  unfold mulNN
  idx_vars y
  pointwise [val_main_v1, val_main_v0]

/-- The reference leaves its arguments unchanged. -/
theorem frame_ri : Cert.quiescent_PleProjRefIdeal := fun m ρ _ =>
  (θ_run Cert.PleProjRefIdeal.defs _ _).mono (fun r h => ⟨fun c => (h c).2, Idealize.ShloMosaic.sem_eq_zero_of_no_sems (by decide) r.2⟩)
    (Cert.PleProjRefIdeal.Value.run (F := Ideal) m ρ)

/-- The kernel's and the reference's results are the same extended reals. -/
theorem algebraic : Cert.algebraic_PleProjIdeal_PleProjRefIdeal := by
  intro m g m' g' _ hagree
  refine ⟨fun c => mulNN (m ((c.tc : Thread Cert.PleProjIdeal.nD Cert.PleProjIdeal.τ).loc Cert.PleProjIdeal.main_arg0))
    (m ((c.tc : Thread Cert.PleProjIdeal.nD Cert.PleProjIdeal.τ).loc Cert.PleProjIdeal.main_arg1)), ?_, ?_⟩
  · exact (θ_run Cert.PleProjIdeal.defs _ _).mono (fun r h c => ⟨(h c).1.trans (Cert.PleProjIdeal.Ffn.arr m c), (h c).2⟩)
      (Cert.PleProjIdeal.Value.run_blocks m g)
  · refine (θ_run Cert.PleProjRefIdeal.defs _ _).mono (fun r h c => ⟨(h c).1.trans ((val_main_v1_eq _ _).trans ?_), (h c).2⟩)
      (Cert.PleProjRefIdeal.Value.run (F := Ideal) m' g')
    rw [ref_at, (hagree c).1, (hagree c).2]

end Cert.PleProjClaims

end
-- ==== Proof.Ffn.PleOut.lean ====
module

public import proofs.«01_k».proof.Defs
public import proofs.«01_k».proof.Proof.Gen.PleOutIdeal.Value
public import proofs.«01_k».proof.Proof.Gen.PleOutRefIdeal.Run
public import proofs.«01_k».proof.Proof.Gen.PleOutRefIdeal.Read
public import proofs.«01_k».proof.Proof.Ffn.Product

@[expose] public section

set_option maxRecDepth 16384

/-! The gated embedding of each layer `h + sigmoid p * q`. -/

noncomputable section

namespace Cert.Ffn

open Idealize.ShloMosaic

/-- An entry with a gated one added. -/
def addGate (h p q : EReal) : EReal := h + Ideal.logistic p * q

end Cert.Ffn

namespace Cert.PleOutIdeal.Ffn

open Cert.PleOutIdeal Cert.PleOutIdeal.Gen Cert.PleOutIdeal.Value Cert.Ffn
open Idealize.ShloMosaic Idealize.ShloMosaic.TcCoe Idealize.ShloMosaic.Tactic

variable (m : (ℓ : Loc nD τ sig) → Buf (Elt Ideal) ℓ)

theorem out_at (h p q : Vec Ideal S256x2048 .f32) (y : S256x2048.Idx) : out0_3 h p q y = addGate (h y) (p y) (q y) := by
  unfold addGate Ideal.logistic
  frame_out
  idx_vars y
  pointwise [k0_pay1]
  rw [zero_sub]

theorem arr (c : Dev nD) : (dats m 0 c).arrAt 3 cfg0.N = fun y : S4096x2048.Idx =>
    addGate (m ((c : Thread nD τ).loc main_arg0) y) (m ((c : Thread nD τ).loc main_arg1) y) (m ((c : Thread nD τ).loc main_arg2) y) := by
  refine (dats m 0 c).arrAt_eq_of_covers 3 _ (by decide +kernel) fun t hf y => ?_
  blk_simp
  rw [after0_3, out_at]
  congr 1

end Cert.PleOutIdeal.Ffn

namespace Cert.PleOutClaims

open Idealize.ShloMosaic Idealize.ShloMosaic.TcCoe Idealize.ShloMosaic.Tactic Idealize.SL.Sem Cert.Ffn
open Cert.PleOutRefIdeal Cert.PleOutRefIdeal.Read

/-- The reference's result. -/
theorem ref_at (h p q : Vec Ideal S4096x2048 .f32) : val_main_v7 (F := Ideal) h p q = fun y => addGate (h y) (p y) (q y) := by
  funext y
  unfold addGate Ideal.logistic
  idx_vars y
  pointwise [val_main_v7, val_main_v6, val_main_v5, val_main_v4, val_main_cst_0, val_main_v3, val_main_v2, val_main_cst, val_main_v1, val_main_v0]

/-- The reference leaves its arguments unchanged. -/
theorem frame_ri : Cert.quiescent_PleOutRefIdeal := fun m ρ _ =>
  (θ_run Cert.PleOutRefIdeal.defs _ _).mono (fun r h => ⟨fun c => (h c).2, Idealize.ShloMosaic.sem_eq_zero_of_no_sems (by decide) r.2⟩)
    (Cert.PleOutRefIdeal.Value.run (F := Ideal) m ρ)

/-- The kernel's and the reference's results are the same extended reals. -/
theorem algebraic : Cert.algebraic_PleOutIdeal_PleOutRefIdeal := by
  intro m g m' g' _ hagree
  refine ⟨_, (θ_run Cert.PleOutIdeal.defs _ _).mono (fun r h c => ⟨(h c).1.trans (Cert.PleOutIdeal.Ffn.arr m c), (h c).2⟩)
    (Cert.PleOutIdeal.Value.run_blocks m g), ?_⟩
  refine (θ_run Cert.PleOutRefIdeal.defs _ _).mono (fun r h c => ⟨(h c).1.trans ((val_main_v7_eq _ _ _).trans ?_), (h c).2⟩)
    (Cert.PleOutRefIdeal.Value.run (F := Ideal) m' g')
  obtain ⟨h0, h1, h2⟩ := hagree c
  rw [ref_at, h0, h1, h2]

end Cert.PleOutClaims

end
-- ==== Proof.Ffn.SsmIn.lean ====
module

public import proofs.«01_k».proof.Defs
public import proofs.«01_k».proof.Proof.Gen.SsmInIdeal.Value
public import proofs.«01_k».proof.Proof.Gen.SsmInRefIdeal.Run
public import proofs.«01_k».proof.Proof.Gen.SsmInRefIdeal.Read
public import proofs.«01_k».proof.Proof.Ffn.Product

@[expose] public section

set_option maxRecDepth 16384

noncomputable section

namespace Cert.SsmInIdeal.Ffn

open Cert.SsmInIdeal Cert.SsmInIdeal.Gen Cert.SsmInIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x256 .f32) (a : Vec Ideal S2048x2048 .bf16) (b : Vec Ideal S2048x256 .bf16) (y : S2048x256.Idx) :
    k0_pay2 s a b y = s y + mulNN a b y := by
  unfold mulNN
  idx_vars y
  pointwise [k0_pay2]

theorem pay1_at (y : S2048x256.Idx) : k0_pay1 (F := Ideal) y = 0 := by
  idx_vars y
  pointwise [k0_pay1]

/-- The output's block is the product of the two inputs' blocks. -/
theorem out_at (c : Dev nD) (t : Fin cfg0.N) (y : S2048x256.Idx) : outsAt0 m c t y = mulNN (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, t.val % 4] := (by decide +kernel : ∀ t : Fin grid0.N, _)

theorem arr (c : Dev nD) : (dats m 0 c).arrAt 2 cfg0.N =
    mulNN (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNN
  refine Finset.sum_congr (M := EReal) rfl fun q _ => congr (congrArg HMul.hMul ?_) ?_
  · blk_ext! [iblk, V, index_0, index_2]
  · blk_ext! [iblk, V, index_1, index_2]

end Cert.SsmInIdeal.Ffn

namespace Cert.SsmInClaims

open Idealize.ShloMosaic Idealize.ShloMosaic.TcCoe Idealize.ShloMosaic.Tactic Idealize.SL.Sem Cert.Ffn
open Cert.SsmInRefIdeal Cert.SsmInRefIdeal.Read

/-- The reference's result at an entry. -/
theorem ref_at (a : Vec Ideal S4096x2048 .bf16) (b : Vec Ideal S2048x1024 .bf16) : val_main_v2 (F := Ideal) a b = mulNN a b := by
  funext y
  unfold mulNN
  idx_vars y
  pointwise [val_main_v2, val_main_v1, val_main_v0]

/-- The reference leaves its arguments unchanged. -/
theorem frame_ri : Cert.quiescent_SsmInRefIdeal := fun m ρ _ =>
  (θ_run Cert.SsmInRefIdeal.defs _ _).mono (fun r h => ⟨fun c => (h c).2, Idealize.ShloMosaic.sem_eq_zero_of_no_sems (by decide) r.2⟩)
    (Cert.SsmInRefIdeal.Value.run (F := Ideal) m ρ)

/-- The kernel's and the reference's results are the same extended reals. -/
theorem algebraic : Cert.algebraic_SsmInIdeal_SsmInRefIdeal := by
  intro m g m' g' _ hagree
  refine ⟨fun c => mulNN (m ((c.tc : Thread Cert.SsmInIdeal.nD Cert.SsmInIdeal.τ).loc Cert.SsmInIdeal.main_arg0))
    (m ((c.tc : Thread Cert.SsmInIdeal.nD Cert.SsmInIdeal.τ).loc Cert.SsmInIdeal.main_arg1)), ?_, ?_⟩
  · exact (θ_run Cert.SsmInIdeal.defs _ _).mono (fun r h c => ⟨(h c).1.trans (Cert.SsmInIdeal.Ffn.arr m c), (h c).2⟩)
      (Cert.SsmInIdeal.Value.run_blocks m g)
  · refine (θ_run Cert.SsmInRefIdeal.defs _ _).mono (fun r h c => ⟨(h c).1.trans ((val_main_v2_eq _ _).trans ?_), (h c).2⟩)
      (Cert.SsmInRefIdeal.Value.run (F := Ideal) m' g')
    rw [ref_at, (hagree c).1, (hagree c).2]

end Cert.SsmInClaims

end
-- ==== Proof.Ffn.SsmOut.lean ====
module

public import proofs.«01_k».proof.Defs
public import proofs.«01_k».proof.Proof.Gen.SsmOutIdeal.Value
public import proofs.«01_k».proof.Proof.Gen.SsmOutRefIdeal.Run
public import proofs.«01_k».proof.Proof.Gen.SsmOutRefIdeal.Read
public import proofs.«01_k».proof.Proof.Ffn.Product

@[expose] public section

set_option maxRecDepth 16384

noncomputable section

namespace Cert.SsmOutIdeal.Ffn

open Cert.SsmOutIdeal Cert.SsmOutIdeal.Gen Cert.SsmOutIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x512 .f32) (a : Vec Ideal S2048x1024 .bf16) (b : Vec Ideal S1024x512 .bf16) (y : S2048x512.Idx) :
    k0_pay2 s a b y = s y + mulNN a b y := by
  unfold mulNN
  idx_vars y
  pointwise [k0_pay2]

theorem pay1_at (y : S2048x512.Idx) : k0_pay1 (F := Ideal) y = 0 := by
  idx_vars y
  pointwise [k0_pay1]

/-- The output's block is the product of the two inputs' blocks. -/
theorem out_at (c : Dev nD) (t : Fin cfg0.N) (y : S2048x512.Idx) : outsAt0 m c t y = mulNN (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, t.val % 4] := (by decide +kernel : ∀ t : Fin grid0.N, _)

theorem arr (c : Dev nD) : (dats m 0 c).arrAt 2 cfg0.N =
    mulNN (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNN
  refine Finset.sum_congr (M := EReal) rfl fun q _ => congr (congrArg HMul.hMul ?_) ?_
  · blk_ext! [iblk, V, index_0, index_2]
  · blk_ext! [iblk, V, index_1, index_2]

end Cert.SsmOutIdeal.Ffn

namespace Cert.SsmOutClaims

open Idealize.ShloMosaic Idealize.ShloMosaic.TcCoe Idealize.ShloMosaic.Tactic Idealize.SL.Sem Cert.Ffn
open Cert.SsmOutRefIdeal Cert.SsmOutRefIdeal.Read

/-- The reference's result at an entry. -/
theorem ref_at (a : Vec Ideal S4096x1024 .bf16) (b : Vec Ideal S1024x2048 .bf16) : val_main_v2 (F := Ideal) a b = mulNN a b := by
  funext y
  unfold mulNN
  idx_vars y
  pointwise [val_main_v2, val_main_v1, val_main_v0]

/-- The reference leaves its arguments unchanged. -/
theorem frame_ri : Cert.quiescent_SsmOutRefIdeal := fun m ρ _ =>
  (θ_run Cert.SsmOutRefIdeal.defs _ _).mono (fun r h => ⟨fun c => (h c).2, Idealize.ShloMosaic.sem_eq_zero_of_no_sems (by decide) r.2⟩)
    (Cert.SsmOutRefIdeal.Value.run (F := Ideal) m ρ)

/-- The kernel's and the reference's results are the same extended reals. -/
theorem algebraic : Cert.algebraic_SsmOutIdeal_SsmOutRefIdeal := by
  intro m g m' g' _ hagree
  refine ⟨fun c => mulNN (m ((c.tc : Thread Cert.SsmOutIdeal.nD Cert.SsmOutIdeal.τ).loc Cert.SsmOutIdeal.main_arg0))
    (m ((c.tc : Thread Cert.SsmOutIdeal.nD Cert.SsmOutIdeal.τ).loc Cert.SsmOutIdeal.main_arg1)), ?_, ?_⟩
  · exact (θ_run Cert.SsmOutIdeal.defs _ _).mono (fun r h c => ⟨(h c).1.trans (Cert.SsmOutIdeal.Ffn.arr m c), (h c).2⟩)
      (Cert.SsmOutIdeal.Value.run_blocks m g)
  · refine (θ_run Cert.SsmOutRefIdeal.defs _ _).mono (fun r h c => ⟨(h c).1.trans ((val_main_v2_eq _ _).trans ?_), (h c).2⟩)
      (Cert.SsmOutRefIdeal.Value.run (F := Ideal) m' g')
    rw [ref_at, (hagree c).1, (hagree c).2]

end Cert.SsmOutClaims

end
-- ==== Proof.Ffn.SsmGlu.lean ====
module

public import proofs.«01_k».proof.Defs
public import proofs.«01_k».proof.Proof.Gen.SsmGluIdeal.Value
public import proofs.«01_k».proof.Proof.Gen.SsmGluRefIdeal.Run
public import proofs.«01_k».proof.Proof.Gen.SsmGluRefIdeal.Read
public import proofs.«01_k».proof.Proof.Ffn.PleOut

@[expose] public section

set_option maxRecDepth 16384

/-! The gated output of the state-space mixer `h + z * sigmoid w`. -/

noncomputable section

namespace Cert.SsmGluIdeal.Ffn

open Cert.SsmGluIdeal Cert.SsmGluIdeal.Gen Cert.SsmGluIdeal.Value Cert.Ffn
open Idealize.ShloMosaic Idealize.ShloMosaic.TcCoe Idealize.ShloMosaic.Tactic

variable (m : (ℓ : Loc nD τ sig) → Buf (Elt Ideal) ℓ)

theorem out_at (h p q : Vec Ideal S256x2048 .f32) (y : S256x2048.Idx) : out0_3 h p q y = addGate (h y) (q y) (p y) := by
  unfold addGate Ideal.logistic
  frame_out
  idx_vars y
  pointwise [k0_pay1]
  rw [zero_sub, mul_comm]

theorem arr (c : Dev nD) : (dats m 0 c).arrAt 3 cfg0.N = fun y : S4096x2048.Idx =>
    addGate (m ((c : Thread nD τ).loc main_arg0) y) (m ((c : Thread nD τ).loc main_arg2) y) (m ((c : Thread nD τ).loc main_arg1) y) := by
  refine (dats m 0 c).arrAt_eq_of_covers 3 _ (by decide +kernel) fun t hf y => ?_
  blk_simp
  rw [after0_3, out_at]
  congr 1

end Cert.SsmGluIdeal.Ffn

namespace Cert.SsmGluClaims

open Idealize.ShloMosaic Idealize.ShloMosaic.TcCoe Idealize.ShloMosaic.Tactic Idealize.SL.Sem Cert.Ffn
open Cert.SsmGluRefIdeal Cert.SsmGluRefIdeal.Read

/-- The reference's result. -/
theorem ref_at (h p q : Vec Ideal S4096x2048 .f32) : val_main_v7 (F := Ideal) h p q = fun y => addGate (h y) (q y) (p y) := by
  funext y
  unfold addGate Ideal.logistic
  idx_vars y
  pointwise [val_main_v7, val_main_v6, val_main_v5, val_main_v4, val_main_cst_0, val_main_v3, val_main_v2, val_main_cst, val_main_v1, val_main_v0]
  rw [mul_comm]

/-- The reference leaves its arguments unchanged. -/
theorem frame_ri : Cert.quiescent_SsmGluRefIdeal := fun m ρ _ =>
  (θ_run Cert.SsmGluRefIdeal.defs _ _).mono (fun r h => ⟨fun c => (h c).2, Idealize.ShloMosaic.sem_eq_zero_of_no_sems (by decide) r.2⟩)
    (Cert.SsmGluRefIdeal.Value.run (F := Ideal) m ρ)

/-- The kernel's and the reference's results are the same extended reals. -/
theorem algebraic : Cert.algebraic_SsmGluIdeal_SsmGluRefIdeal := by
  intro m g m' g' _ hagree
  refine ⟨_, (θ_run Cert.SsmGluIdeal.defs _ _).mono (fun r h c => ⟨(h c).1.trans (Cert.SsmGluIdeal.Ffn.arr m c), (h c).2⟩)
    (Cert.SsmGluIdeal.Value.run_blocks m g), ?_⟩
  refine (θ_run Cert.SsmGluRefIdeal.defs _ _).mono (fun r h c => ⟨(h c).1.trans ((val_main_v7_eq _ _ _).trans ?_), (h c).2⟩)
    (Cert.SsmGluRefIdeal.Value.run (F := Ideal) m' g')
  obtain ⟨h0, h1, h2⟩ := hagree c
  rw [ref_at, h0, h1, h2]

end Cert.SsmGluClaims

end
-- ==== Proof.Ffn.SsmDglu.lean ====
module

public import proofs.«01_k».proof.Defs
public import proofs.«01_k».proof.Proof.Gen.SsmDgluIdeal.Value
public import proofs.«01_k».proof.Proof.Gen.SsmDgluRefIdeal.Run
public import proofs.«01_k».proof.Proof.Gen.SsmDgluRefIdeal.Read
public import proofs.«01_k».proof.Proof.Ffn.PleDout

@[expose] public section

set_option maxRecDepth 16384

/-! The gradients of the gate `z * sigmoid w` of the state-space mixer's output. -/

noncomputable section

namespace Cert.SsmDgluIdeal.Ffn

open Cert.SsmDgluIdeal Cert.SsmDgluIdeal.Gen Cert.SsmDgluIdeal.Value Cert.Ffn
open Idealize.ShloMosaic Idealize.ShloMosaic.TcCoe Idealize.ShloMosaic.Tactic

variable (m : (ℓ : Loc nD τ sig) → Buf (Elt Ideal) ℓ)

theorem out4_at (h p q d : Vec Ideal S256x2048 .f32) (y : S256x2048.Idx) : out0_4 h p q d y = Ideal.logistic (q y) * d y := by
  rw [mul_comm]
  unfold Ideal.logistic
  frame_out
  idx_vars y
  pointwise [k0_pay3, k0_pay2, k0_pay1]
  rw [zero_sub]

theorem out5_at (h p q d : Vec Ideal S256x2048 .f32) (y : S256x2048.Idx) : out0_5 h p q d y = gradSigmoid (q y) (p y) (d y) := by
  unfold gradSigmoid
  rw [logistic_mul_one_sub, mul_comm (d y : EReal) (p y)]
  frame_out
  idx_vars y
  pointwise [k0_pay4, k0_pay2, k0_pay1]
  simp only [zero_sub, EReal.neg_mul, neg_neg, mul_one, mul_assoc]

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)

theorem arr4 (c : Dev nD) : (dats m 0 c).arrAt 4 cfg0.N = fun y : S4096x2048.Idx =>
    Ideal.logistic (m ((c : Thread nD τ).loc main_arg2) y) * (m ((c : Thread nD τ).loc main_arg3) y : EReal) := by
  refine (dats m 0 c).arrAt_eq_of_covers 4 _ (by decide +kernel) fun t hf y => ?_
  blk_simp
  rw [after0_4, out4_at]
  congr 1

theorem arr5 (c : Dev nD) : (dats m 0 c).arrAt 5 cfg0.N = fun y : S4096x2048.Idx =>
    gradSigmoid (m ((c : Thread nD τ).loc main_arg2) y) (m ((c : Thread nD τ).loc main_arg1) y) (m ((c : Thread nD τ).loc main_arg3) y) := by
  refine (dats m 0 c).arrAt_eq_of_covers 5 _ (by decide +kernel) fun t hf y => ?_
  blk_simp
  rw [after0_5, out5_at]
  congr 1

end Cert.SsmDgluIdeal.Ffn

namespace Cert.SsmDgluClaims

open Idealize.ShloMosaic Idealize.ShloMosaic.TcCoe Idealize.ShloMosaic.Tactic Idealize.SL.Sem Cert.Ffn
open Cert.SsmDgluRefIdeal Cert.SsmDgluRefIdeal.Read

/-- The reference's gradient of the other factor. -/
theorem ref14_at (q d : Vec Ideal S4096x2048 .f32) : val_main_v14 (F := Ideal) q d = fun y => Ideal.logistic (q y) * (d y : EReal) := by
  funext y
  rw [mul_comm]
  unfold Ideal.logistic
  idx_vars y
  pointwise [val_main_v14, val_main_v12, val_main_v5, val_main_v4, val_main_cst_0, val_main_v3, val_main_v2, val_main_cst, val_main_v1,
    val_main_v0]

/-- The reference's gradient of the sigmoid's argument. -/
theorem ref15_at (p q d : Vec Ideal S4096x2048 .f32) : val_main_v15 (F := Ideal) p q d = fun y => gradSigmoid (q y) (p y) (d y) := by
  funext y
  unfold gradSigmoid Ideal.logistic
  rw [mul_comm (d y : EReal) (p y)]
  idx_vars y
  pointwise [val_main_v15, val_main_v13, val_main_v11, val_main_v8, val_main_v7, val_main_v6, val_main_cst_1, val_main_v5, val_main_v4,
    val_main_cst_0, val_main_v3, val_main_v2, val_main_cst, val_main_v1, val_main_v0]

/-- The reference leaves its arguments unchanged. -/
theorem frame_ri : Cert.quiescent_SsmDgluRefIdeal := fun m ρ _ =>
  (θ_run Cert.SsmDgluRefIdeal.defs _ _).mono (fun r h => ⟨fun c => (h c).2.2, Idealize.ShloMosaic.sem_eq_zero_of_no_sems (by decide) r.2⟩)
    (Cert.SsmDgluRefIdeal.Value.run (F := Ideal) m ρ)

/-- The kernel's and the reference's results are the same extended reals. -/
theorem algebraic : Cert.algebraic_SsmDgluIdeal_SsmDgluRefIdeal := by
  intro m g m' g' _ hagree
  refine ⟨_, _, (θ_run Cert.SsmDgluIdeal.defs _ _).mono
    (fun r h c => ⟨(h c).1.trans (Cert.SsmDgluIdeal.Ffn.arr4 m c), (h c).2.1.trans (Cert.SsmDgluIdeal.Ffn.arr5 m c), (h c).2.2⟩)
    (Cert.SsmDgluIdeal.Value.run_blocks m g), ?_⟩
  refine (θ_run Cert.SsmDgluRefIdeal.defs _ _).mono (fun r h c => ?_) (Cert.SsmDgluRefIdeal.Value.run (F := Ideal) m' g')
  obtain ⟨h0, h1, h2, h3⟩ := hagree c
  refine ⟨(h c).1.trans ((val_main_v14_eq _ _).trans ?_),
    (h c).2.1.trans ((val_main_v15_eq _ _ _).trans ?_), (h c).2.2⟩
  · rw [ref14_at, h2, h3]
  · rw [ref15_at, h1, h2, h3]

end Cert.SsmDgluClaims

end
-- ==== Proof.Ffn.SsmDyg.lean ====
module

public import proofs.«01_k».proof.Defs
public import proofs.«01_k».proof.Proof.Gen.SsmDygIdeal.Value
public import proofs.«01_k».proof.Proof.Gen.SsmDygRefIdeal.Run
public import proofs.«01_k».proof.Proof.Gen.SsmDygRefIdeal.Read
public import proofs.«01_k».proof.Proof.Ffn.Product

@[expose] public section

set_option maxRecDepth 16384

noncomputable section

namespace Cert.SsmDygIdeal.Ffn

open Cert.SsmDygIdeal Cert.SsmDygIdeal.Gen Cert.SsmDygIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x256 .f32) (a : Vec Ideal S2048x2048 .bf16) (b : Vec Ideal S256x2048 .bf16) (y : S2048x256.Idx) :
    k0_pay2 s a b y = s y + mulNT a b y := by
  unfold mulNT
  idx_vars y
  pointwise [k0_pay2]

theorem pay1_at (y : S2048x256.Idx) : k0_pay1 (F := Ideal) y = 0 := by
  idx_vars y
  pointwise [k0_pay1]

/-- The output's block is the product of the two inputs' blocks. -/
theorem out_at (c : Dev nD) (t : Fin cfg0.N) (y : S2048x256.Idx) : outsAt0 m c t y = mulNT (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![t.val % 4, 0] := (by decide +kernel : ∀ t : Fin grid0.N, _)
theorem index_2 : ∀ t : Fin cfg0.N, win0_2.index t = ![t.val / 4, t.val % 4] := (by decide +kernel : ∀ t : Fin grid0.N, _)

theorem arr (c : Dev nD) : (dats m 0 c).arrAt 2 cfg0.N =
    mulNT (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNT
  refine Finset.sum_congr (M := EReal) rfl fun q _ => congr (congrArg HMul.hMul ?_) ?_
  · blk_ext! [iblk, V, index_0, index_2]
  · blk_ext! [iblk, V, index_1, index_2]

end Cert.SsmDygIdeal.Ffn

namespace Cert.SsmDygClaims

open Idealize.ShloMosaic Idealize.ShloMosaic.TcCoe Idealize.ShloMosaic.Tactic Idealize.SL.Sem Cert.Ffn
open Cert.SsmDygRefIdeal Cert.SsmDygRefIdeal.Read

/-- The reference's result at an entry. -/
theorem ref_at (a : Vec Ideal S4096x2048 .bf16) (b : Vec Ideal S1024x2048 .bf16) : val_main_v4 (F := Ideal) a b = mulNT a b := by
  funext y
  unfold mulNT
  idx_vars y
  pointwise [val_main_v4, val_main_v3, val_main_v1]

/-- The reference leaves its arguments unchanged. -/
theorem frame_ri : Cert.quiescent_SsmDygRefIdeal := fun m ρ _ =>
  (θ_run Cert.SsmDygRefIdeal.defs _ _).mono (fun r h => ⟨fun c => (h c).2, Idealize.ShloMosaic.sem_eq_zero_of_no_sems (by decide) r.2⟩)
    (Cert.SsmDygRefIdeal.Value.run (F := Ideal) m ρ)

/-- The kernel's and the reference's results are the same extended reals. -/
theorem algebraic : Cert.algebraic_SsmDygIdeal_SsmDygRefIdeal := by
  intro m g m' g' _ hagree
  refine ⟨fun c => mulNT (m ((c.tc : Thread Cert.SsmDygIdeal.nD Cert.SsmDygIdeal.τ).loc Cert.SsmDygIdeal.main_arg0))
    (m ((c.tc : Thread Cert.SsmDygIdeal.nD Cert.SsmDygIdeal.τ).loc Cert.SsmDygIdeal.main_arg1)), ?_, ?_⟩
  · exact (θ_run Cert.SsmDygIdeal.defs _ _).mono (fun r h c => ⟨(h c).1.trans (Cert.SsmDygIdeal.Ffn.arr m c), (h c).2⟩)
      (Cert.SsmDygIdeal.Value.run_blocks m g)
  · refine (θ_run Cert.SsmDygRefIdeal.defs _ _).mono (fun r h c => ⟨(h c).1.trans ((val_main_v4_eq _ _).trans ?_), (h c).2⟩)
      (Cert.SsmDygRefIdeal.Value.run (F := Ideal) m' g')
    rw [ref_at, (hagree c).1, (hagree c).2]

end Cert.SsmDygClaims

end
-- ==== Proof.Ffn.SsmDygAdd.lean ====
module

public import proofs.«01_k».proof.Defs
public import proofs.«01_k».proof.Proof.Gen.SsmDygAddIdeal.Value
public import proofs.«01_k».proof.Proof.Gen.SsmDygAddRefIdeal.Run
public import proofs.«01_k».proof.Proof.Gen.SsmDygAddRefIdeal.Read
public import proofs.«01_k».proof.Proof.Ffn.Product

@[expose] public section

set_option maxRecDepth 16384

noncomputable section

namespace Cert.SsmDygAddIdeal.Ffn

open Cert.SsmDygAddIdeal Cert.SsmDygAddIdeal.Gen Cert.SsmDygAddIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x256 .f32) (a : Vec Ideal S2048x2048 .bf16) (b : Vec Ideal S256x2048 .bf16) (y : S2048x256.Idx) :
    k0_pay2 s a b y = s y + mulNT a b y := by
  unfold mulNT
  idx_vars y
  pointwise [k0_pay2]

theorem pay1_at (y : S2048x256.Idx) : k0_pay1 (F := Ideal) y = 0 := by
  idx_vars y
  pointwise [k0_pay1]

/-- The output's block is the third input's, with the product of the other two added. -/
theorem out_at (c : Dev nD) (t : Fin cfg0.N) (y : S2048x256.Idx) : outsAt0 m c t y = plus (iblk m c 2 t) (mulNT (iblk m c 0 t) (iblk m c 1 t)) y := by
  unfold outsAt0
  frame_out
  refine (?_ : _ = plus (iblk m c 2 t) (k0_pay2 (k0_pay1 (F := Ideal)) (iblk m c 0 t) (iblk m c 1 t)) y).trans ?_
  · unfold plus
    idx_vars y
    pointwise [k0_pay3]
    exact add_comm _ _
  · unfold plus
    rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![t.val % 4, 0] := (by decide +kernel : ∀ t : Fin grid0.N, _)
theorem index_2 : ∀ t : Fin cfg0.N, win0_2.index t = ![t.val / 4, t.val % 4] := (by decide +kernel : ∀ t : Fin grid0.N, _)
theorem index_3 : ∀ t : Fin cfg0.N, win0_3.index t = ![t.val / 4, t.val % 4] := (by decide +kernel : ∀ t : Fin grid0.N, _)

theorem arr (c : Dev nD) : (dats m 0 c).arrAt 3 cfg0.N =
    plus (m ((c : Thread nD τ).loc main_arg2)) (mulNT (m ((c : Thread nD τ).loc main_arg0)) (m ((c : Thread nD τ).loc main_arg1))) := by
  refine (dats m 0 c).arrAt_eq_of_covers 3 _ (by decide +kernel) fun t hf y => ?_
  blk_simp
  rw [after0_3, out_at]
  unfold plus mulNT
  refine congr (congrArg HAdd.hAdd ?_) ?_
  · blk_ext! [iblk, V, index_2, index_3]
  refine Finset.sum_congr (M := EReal) rfl fun q _ => congr (congrArg HMul.hMul ?_) ?_
  · blk_ext! [iblk, V, index_0, index_3]
  · blk_ext! [iblk, V, index_1, index_3]

end Cert.SsmDygAddIdeal.Ffn

namespace Cert.SsmDygAddClaims

open Idealize.ShloMosaic Idealize.ShloMosaic.TcCoe Idealize.ShloMosaic.Tactic Idealize.SL.Sem Cert.Ffn
open Cert.SsmDygAddRefIdeal Cert.SsmDygAddRefIdeal.Read

/-- The reference's result at an entry. -/
theorem ref_at (a : Vec Ideal S4096x2048 .bf16) (b : Vec Ideal S1024x2048 .bf16) (r : Vec Ideal S4096x1024 .f32) : val_main_v5 (F := Ideal) a b r = plus r (mulNT a b) := by
  funext y
  unfold plus mulNT
  idx_vars y
  pointwise [val_main_v5, val_main_v4, val_main_v3, val_main_v1]

/-- The reference leaves its arguments unchanged. -/
theorem frame_ri : Cert.quiescent_SsmDygAddRefIdeal := fun m ρ _ =>
  (θ_run Cert.SsmDygAddRefIdeal.defs _ _).mono (fun r h => ⟨fun c => (h c).2, Idealize.ShloMosaic.sem_eq_zero_of_no_sems (by decide) r.2⟩)
    (Cert.SsmDygAddRefIdeal.Value.run (F := Ideal) m ρ)

/-- The kernel's and the reference's results are the same extended reals. -/
theorem algebraic : Cert.algebraic_SsmDygAddIdeal_SsmDygAddRefIdeal := by
  intro m g m' g' _ hagree
  refine ⟨_, (θ_run Cert.SsmDygAddIdeal.defs _ _).mono (fun r h c => ⟨(h c).1.trans (Cert.SsmDygAddIdeal.Ffn.arr m c), (h c).2⟩)
    (Cert.SsmDygAddIdeal.Value.run_blocks m g), ?_⟩
  refine (θ_run Cert.SsmDygAddRefIdeal.defs _ _).mono (fun r h c => ⟨(h c).1.trans ((val_main_v5_eq _ _ _).trans ?_), (h c).2⟩)
    (Cert.SsmDygAddRefIdeal.Value.run (F := Ideal) m' g')
  obtain ⟨h0, h1, h2⟩ := hagree c
  rw [ref_at, h0, h1, h2]

end Cert.SsmDygAddClaims

end
-- ==== Proof.Ssm.Groups.lean ====
module

public import proofs.«01_k».proof.Proof.Ffn.Product

@[expose] public section

/-! Matrices made of equal blocks, and the sum over one block of a row. -/

noncomputable section

namespace Cert.Ssm

open Idealize.ShloMosaic Idealize.ShloMosaic.Tactic Cert.Ffn

/-- A sum whose terms vanish outside block `g`, of `G` blocks of `w`, is the sum over the block. -/
theorem sum_block {G w L : ℕ} (hL : L = G * w) (g : Fin G) (f : Fin L → EReal) (u : Fin w → EReal)
    (h1 : ∀ (k : Fin w) (h : g.val * w + k.val < L), f ⟨g.val * w + k.val, h⟩ = u k)
    (h0 : ∀ (s : Fin G) (k : Fin w) (h : s.val * w + k.val < L), s ≠ g → f ⟨s.val * w + k.val, h⟩ = 0) :
    ∑ q, f q = ∑ k, u k := by
  have hlt : ∀ (s : Fin G) (k : Fin w), s.val * w + k.val < L := fun s k => by
    have hs : s.val + 1 ≤ G := s.isLt
    have hm : (s.val + 1) * w ≤ G * w := Nat.mul_le_mul_right w hs
    rw [Nat.add_mul, one_mul] at hm
    have hk := k.isLt
    omega
  have e : (∑ s : Fin G, ∑ k : Fin w, f ⟨s.val * w + k.val, hlt s k⟩ * 1) = ∑ x : Fin L, f x * 1 :=
    Cert.Ffn.sum_mul_blocks (a := fun s k => f ⟨s.val * w + k.val, hlt s k⟩) (b := fun _ _ => 1) (a' := f) (b' := fun _ => 1) hL
      (fun _ _ _ => rfl) (fun _ _ _ => rfl)
  simp only [mul_one] at e
  rw [← e, Finset.sum_eq_single g]
  · exact Finset.sum_congr rfl fun k _ => h1 k _
  · intro s _ hs
    exact Finset.sum_eq_zero fun k _ => h0 s k _ hs
  · intro h
    exact absurd (Finset.mem_univ g) h

/-- An entry of the unit matrix. -/
def eye (a b : ℕ) : EReal := if a = b then 1 else 0

/-- The host's unit matrix: two counters compared, and the truth value as a float. -/
theorem eye_word {a b : ℕ} (ha : a < 64) (hb : b < 64) :
    (FloatOps.uitofp (F := Ideal) FTy.f32 (IntOp.cmpi CmpIPredicate.eq (IntOp.addi (BitVec.ofNat 32 a) 0#32) (BitVec.ofNat 32 b)) : EReal) = eye a b := by
  have e : (BitVec.ofNat 32 a = BitVec.ofNat 32 b) ↔ a = b := by
    constructor
    · intro h
      have h' := congrArg BitVec.toNat h
      simp only [BitVec.toNat_ofNat] at h'
      omega
    · intro h; rw [h]
  unfold eye
  by_cases h : a = b
  · simp [FloatOps.uitofp, IntOp.cmpi, IntOp.addi, h]
  · simp [FloatOps.uitofp, IntOp.cmpi, IntOp.addi, h, e]

/-- A sum of products whose second factors are those of block `g`, and zero outside it. -/
theorem sum_eye {G w L : ℕ} (hL : L = G * w) (g : Fin G) (f z : Fin L → EReal) (u : Fin w → EReal)
    (hu : ∀ (k : Fin w) (h : g.val * w + k.val < L), f ⟨g.val * w + k.val, h⟩ * z ⟨g.val * w + k.val, h⟩ = u k) :
    ∑ q : Fin L, f q * (z q * eye g.val (q.val / w)) = ∑ k, u k := by
  refine sum_block hL g _ u (fun k h => ?_) (fun s k h hs => ?_)
  · have e : (g.val * w + k.val) / w = g.val := by
      rw [Nat.mul_comm, Nat.mul_add_div (Nat.pos_of_ne_zero fun h => absurd k.isLt (by omega)), Nat.div_eq_of_lt k.isLt, Nat.add_zero]
    simp only [e, eye, if_true, mul_one]
    exact hu k h
  · have e : (s.val * w + k.val) / w = s.val := by
      rw [Nat.mul_comm, Nat.mul_add_div (Nat.pos_of_ne_zero fun h => absurd k.isLt (by omega)), Nat.div_eq_of_lt k.isLt, Nat.add_zero]
    have hne : ¬ g.val = s.val := fun h => hs (Fin.ext h.symm)
    simp only [e, eye, if_neg hne, mul_zero]

theorem eye_comm (a b : ℕ) : eye a b = eye b a := by
  unfold eye
  by_cases h : a = b
  · simp [h]
  · rw [if_neg h, if_neg fun h' => h h'.symm]

/-- An entry of the matrix made of the groups' read-out blocks. -/
def entryC (c : (⟨3, ![64, 16, 64]⟩ : Shape).Idx → EReal) (n : Fin 4096) (q : Fin 1024) : EReal :=
  c (ix3 ⟨n.val / 64, by omega⟩ ⟨q.val % 16, by omega⟩ ⟨n.val % 64, by omega⟩) * eye (n.val / 64) (q.val / 16)

/-- The groups' read-out blocks, on the diagonal of one matrix. -/
def denseC (c : (⟨3, ![64, 16, 64]⟩ : Shape).Idx → EReal) : Mat 4096 1024 := fun y => entryC c (y 0) (y 1)

/-- An entry of the matrix made of the groups' input blocks. -/
def entryB (b : Mat 4096 16) (q : Fin 1024) (n : Fin 4096) : EReal :=
  b (ix2 ⟨q.val / 16 * 64 + n.val % 64, by omega⟩ ⟨q.val % 16, by omega⟩) * eye (q.val / 16) (n.val / 64)

/-- The groups' input blocks, on the diagonal of one matrix. -/
def denseB (b : Mat 4096 16) : Mat 1024 4096 := fun y => entryB b (y 0) (y 1)

theorem mulNT_denseC (a : Mat 4096 1024) (c : (⟨3, ![64, 16, 64]⟩ : Shape).Idx → EReal) (t n : Fin 4096) :
    mulNT (n := 4096) a (denseC c) (ix2 t n) = ∑ k : Fin 16, a (ix2 t ⟨n.val / 64 * 16 + k.val, by omega⟩) *
      c (ix3 ⟨n.val / 64, by omega⟩ k ⟨n.val % 64, by omega⟩) :=
  sum_eye (G := 64) (w := 16) rfl ⟨n.val / 64, by omega⟩ (fun q => a (ix2 t q))
    (fun q => c (ix3 ⟨n.val / 64, by omega⟩ ⟨q.val % 16, by omega⟩ ⟨n.val % 64, by omega⟩)) _
    fun k h => congrArg (fun z : Fin 16 => a (ix2 t ⟨n.val / 64 * 16 + k.val, h⟩) * c (ix3 ⟨n.val / 64, by omega⟩ z ⟨n.val % 64, by omega⟩))
      (Fin.ext (by show (n.val / 64 * 16 + k.val) % 16 = k.val; omega))

theorem mulNN_denseC (a : Mat 4096 4096) (c : (⟨3, ![64, 16, 64]⟩ : Shape).Idx → EReal) (t : Fin 4096) (q : Fin 1024) :
    mulNN (n := 1024) a (denseC c) (ix2 t q) = ∑ k : Fin 64, a (ix2 t ⟨q.val / 16 * 64 + k.val, by omega⟩) *
      c (ix3 ⟨q.val / 16, by omega⟩ ⟨q.val % 16, by omega⟩ k) := by
  have hq := q.isLt
  refine (Finset.sum_congr (g := fun n : Fin 4096 => a (ix2 t n) *
    (c (ix3 ⟨n.val / 64, by omega⟩ ⟨q.val % 16, by omega⟩ ⟨n.val % 64, by omega⟩) * eye (q.val / 16) (n.val / 64))) rfl
    fun n _ => congrArg (fun z => a (ix2 t n) * (c (ix3 ⟨n.val / 64, by omega⟩ ⟨q.val % 16, by omega⟩ ⟨n.val % 64, by omega⟩) * z)) (eye_comm _ _)).trans ?_
  refine sum_eye (G := 64) (w := 64) rfl ⟨q.val / 16, by omega⟩ (fun n => a (ix2 t n))
    (fun n => c (ix3 ⟨n.val / 64, by omega⟩ ⟨q.val % 16, by omega⟩ ⟨n.val % 64, by omega⟩)) _ fun k h => ?_
  have ez : (⟨(q.val / 16 * 64 + k.val) / 64, by omega⟩ : Fin 64) = ⟨q.val / 16, by omega⟩ := Fin.ext (by show (q.val / 16 * 64 + k.val) / 64 = q.val / 16; omega)
  have ew : (⟨(q.val / 16 * 64 + k.val) % 64, by omega⟩ : Fin 64) = k := Fin.ext (by show (q.val / 16 * 64 + k.val) % 64 = k.val; omega)
  exact congrArg₂ (fun z w : Fin 64 => a (ix2 t ⟨q.val / 16 * 64 + k.val, h⟩) * c (ix3 z ⟨q.val % 16, by omega⟩ w)) ez ew

theorem mulNT_denseB (a : Mat 4096 4096) (b : Mat 4096 16) (t : Fin 4096) (q : Fin 1024) :
    mulNT (n := 1024) a (denseB b) (ix2 t q) = ∑ k : Fin 64, a (ix2 t ⟨q.val / 16 * 64 + k.val, by omega⟩) *
      b (ix2 ⟨q.val / 16 * 64 + k.val, by omega⟩ ⟨q.val % 16, by omega⟩) :=
  sum_eye (G := 64) (w := 64) rfl ⟨q.val / 16, by omega⟩ (fun n => a (ix2 t n))
    (fun n => b (ix2 ⟨q.val / 16 * 64 + n.val % 64, by omega⟩ ⟨q.val % 16, by omega⟩)) _
    fun k h => congrArg (fun z : Fin 4096 => a (ix2 t ⟨q.val / 16 * 64 + k.val, h⟩) * b (ix2 z ⟨q.val % 16, by omega⟩))
      (Fin.ext (by show q.val / 16 * 64 + (q.val / 16 * 64 + k.val) % 64 = q.val / 16 * 64 + k.val; omega))

theorem mulNN_denseB (a : Mat 4096 1024) (b : Mat 4096 16) (t n : Fin 4096) :
    mulNN (n := 4096) a (denseB b) (ix2 t n) = ∑ k : Fin 16, a (ix2 t ⟨n.val / 64 * 16 + k.val, by omega⟩) * b (ix2 n k) := by
  have hn := n.isLt
  refine (Finset.sum_congr (g := fun q : Fin 1024 => a (ix2 t q) *
    (b (ix2 ⟨q.val / 16 * 64 + n.val % 64, by omega⟩ ⟨q.val % 16, by omega⟩) * eye (n.val / 64) (q.val / 16))) rfl
    fun q _ => congrArg (fun z => a (ix2 t q) * (b (ix2 ⟨q.val / 16 * 64 + n.val % 64, by omega⟩ ⟨q.val % 16, by omega⟩) * z)) (eye_comm _ _)).trans ?_
  refine sum_eye (G := 64) (w := 16) rfl ⟨n.val / 64, by omega⟩ (fun q => a (ix2 t q))
    (fun q => b (ix2 ⟨q.val / 16 * 64 + n.val % 64, by omega⟩ ⟨q.val % 16, by omega⟩)) _ fun k h => ?_
  have ez : (⟨(n.val / 64 * 16 + k.val) / 16 * 64 + n.val % 64, by omega⟩ : Fin 4096) = n := Fin.ext (by show (n.val / 64 * 16 + k.val) / 16 * 64 + n.val % 64 = n.val; omega)
  have ew : (⟨(n.val / 64 * 16 + k.val) % 16, by omega⟩ : Fin 16) = k := Fin.ext (by show (n.val / 64 * 16 + k.val) % 16 = k.val; omega)
  exact congrArg₂ (fun (z : Fin 4096) (w : Fin 16) => a (ix2 t ⟨n.val / 64 * 16 + k.val, h⟩) * b (ix2 z w)) ez ew

/-- The sign of the second factor, carried to the first. -/
theorem mulNT_neg {m n k : ℕ} (a : Mat m k) (b : Mat n k) : mulNT a (fun y => -b y) = mulNT (fun y => -a y) b := by
  funext y
  exact Finset.sum_congr rfl fun q _ => by rw [mul_neg, neg_mul]

end Cert.Ssm

end
-- ==== Proof.Ssm.SsmY.lean ====
module

public import proofs.«01_k».proof.Defs
public import proofs.«01_k».proof.Proof.Gen.SsmYIdeal.Value
public import proofs.«01_k».proof.Proof.Gen.SsmYRefIdeal.Run
public import proofs.«01_k».proof.Proof.Gen.SsmYRefIdeal.Read
public import proofs.«01_k».proof.Proof.Ssm.Groups
public import Idealize.ShloMosaic.Lib.StableHlo.RunRead

@[expose] public section

set_option maxRecDepth 16384

noncomputable section

namespace Cert.SsmYIdeal.Ssm

open Cert.SsmYIdeal Cert.SsmYIdeal.Gen Cert.SsmYIdeal.Value Cert.Ffn Cert.Ssm
open Idealize.ShloMosaic Idealize.ShloMosaic.TcCoe Idealize.ShloMosaic.Tactic

variable (m : (ℓ : Loc nD τ sig) → Buf (Elt Ideal) ℓ)

/-- The matrix that the host prepares, at an entry. -/
theorem dense_at (c : Dev nD) (y : S4096x1024.Idx) : (StableHlo.after hostOps0 (fun b => m (c, b)) (Proc.devRef .tc main_v12) : Vec Ideal S4096x1024 .f32) y =
    denseC (m ((c : Thread nD τ).loc main_arg1)) y := by
  unfold denseC entryC
  after_reads_simp
  idx_vars y
  pointwise []
  rw [eye_word (by omega) (by omega)]

/-- The product of two blocks at an entry, added to the accumulator. -/
theorem pay2_at (s : Vec Ideal S2048x1024 .f32) (a : Vec Ideal S2048x256 .f32) (b : Vec Ideal S256x1024 .f32) (y : S2048x1024.Idx) :
    k0_pay2 s a b y = s y + mulNN a b y := by
  unfold mulNN
  idx_vars y
  pointwise [k0_pay2]

theorem pay1_at (y : S2048x1024.Idx) : k0_pay1 (F := Ideal) y = 0 := by
  idx_vars y
  pointwise [k0_pay1]

/-- What one step adds to the accumulator. -/
def term (c : Dev nD) (t : Fin cfg0.N) (y : S2048x1024.Idx) : EReal := mulNN (iblk m c 0 t) (iblk m c 1 t) y

/-- The accumulator after a run's last step. -/
theorem acc_at (c : Dev nD) (t : Fin cfg0.N) (ht : t.val % 16 = 15) (y : S2048x1024.Idx) :
    (outsAt0 m c t.val t.isLt).2 y
      = ∑ s : Fin 16, term m c ⟨16 * (t.val / 16) + s.val, Pipeline.run_point_lt_of_flush t ht s⟩ y := by
  refine (Pipeline.eq_sum_fin_of_reset_step_apply_of_flush (fun n h => (outsAt0 m c n h).2) 16 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 16 = 15
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 16 = 15) (y : S2048x1024.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val / 16, t.val % 16] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![t.val / 16, 0] := (by decide +kernel : ∀ t : Fin grid0.N, _)

/-- The result, over what the region finds. -/
theorem arr (c : Dev nD) : (dats m 0 c).arrAt 2 cfg0.N = mulNN (V m c main_arg0) (V m c main_v12) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, index_0, index_2]
  · blk_ext! [iblk, index_1, index_2]

/-- The result, over the arguments. -/
theorem result (c : Dev nD) : (dats m 0 c).arrAt 2 cfg0.N =
    mulNN (m ((c : Thread nD τ).loc main_arg0)) (denseC (m ((c : Thread nD τ).loc main_arg1))) := by
  have e : (V m c main_v12 : Vec Ideal S4096x1024 .f32) = denseC (m ((c : Thread nD τ).loc main_arg1)) := funext fun y => dense_at m c y
  rw [arr, V_main_arg0]
  exact congrArg (fun z => mulNN (m ((c : Thread nD τ).loc main_arg0)) z) e

end Cert.SsmYIdeal.Ssm

namespace Cert.SsmYClaims

open Idealize.ShloMosaic Idealize.ShloMosaic.TcCoe Idealize.ShloMosaic.Tactic Idealize.SL.Sem Cert.Ffn Cert.Ssm
open Cert.SsmYRefIdeal Cert.SsmYRefIdeal.Read

/-- The reference's result. -/
theorem ref_at (a : Vec Ideal S4096x4096 .f32) (b : Vec Ideal S64x16x64 .f32) : val_main_v3 (F := Ideal) a b = mulNN a (denseC b) := by
  funext y
  idx_vars y
  rw [mulNN_denseC]
  pointwise [val_main_v3, val_main_v2, val_main_v1, val_main_v0]

/-- The reference leaves its arguments unchanged. -/
theorem frame_ri : Cert.quiescent_SsmYRefIdeal := fun m ρ _ =>
  (θ_run Cert.SsmYRefIdeal.defs _ _).mono (fun r h => ⟨fun c => (h c).2, Idealize.ShloMosaic.sem_eq_zero_of_no_sems (by decide) r.2⟩)
    (Cert.SsmYRefIdeal.Value.run (F := Ideal) m ρ)

/-- The kernel's and the reference's results are the same extended reals. -/
theorem algebraic : Cert.algebraic_SsmYIdeal_SsmYRefIdeal := by
  intro m g m' g' _ hagree
  refine ⟨fun c => mulNN (m ((c.tc : Thread Cert.SsmYIdeal.nD Cert.SsmYIdeal.τ).loc Cert.SsmYIdeal.main_arg0)) (denseC (m ((c.tc : Thread Cert.SsmYIdeal.nD Cert.SsmYIdeal.τ).loc Cert.SsmYIdeal.main_arg1))), ?_, ?_⟩
  · exact (θ_run Cert.SsmYIdeal.defs _ _).mono (fun r h c => ⟨(h c).1.trans (Cert.SsmYIdeal.Ssm.result m c), (h c).2⟩)
      (Cert.SsmYIdeal.Value.run_blocks m g)
  · refine (θ_run Cert.SsmYRefIdeal.defs _ _).mono (fun r h c => ⟨(h c).1.trans ((val_main_v3_eq _ _ ).trans ?_), (h c).2⟩)
      (Cert.SsmYRefIdeal.Value.run (F := Ideal) m' g')
    rw [ref_at, (hagree c).1, (hagree c).2]

end Cert.SsmYClaims

end
-- ==== Proof.Ssm.SsmBu.lean ====
module

public import proofs.«01_k».proof.Defs
public import proofs.«01_k».proof.Proof.Gen.SsmBuIdeal.Value
public import proofs.«01_k».proof.Proof.Gen.SsmBuRefIdeal.Run
public import proofs.«01_k».proof.Proof.Gen.SsmBuRefIdeal.Read
public import proofs.«01_k».proof.Proof.Ssm.Groups
public import Idealize.ShloMosaic.Lib.StableHlo.RunRead

@[expose] public section

set_option maxRecDepth 16384

noncomputable section

namespace Cert.SsmBuIdeal.Ssm

open Cert.SsmBuIdeal Cert.SsmBuIdeal.Gen Cert.SsmBuIdeal.Value Cert.Ffn Cert.Ssm
open Idealize.ShloMosaic Idealize.ShloMosaic.TcCoe Idealize.ShloMosaic.Tactic

variable (m : (ℓ : Loc nD τ sig) → Buf (Elt Ideal) ℓ)

/-- The groups' blocks on the diagonal, as the host lines compute them. -/
theorem prep_at (x : Vec Ideal S64x16x64 .f32) (y : S1024x4096.Idx) :
    shapeCast S1024x4096 (mulf (F := Ideal) (φ := .f32) (broadcastInDim S64x16x64x64 ![0, 1, 2, 3] bcast_S64x16x1x64_S64x16x64x64_0_1_2_3
        (broadcastInDim S64x16x1x64 ![0, 1, 3] bcast_S64x16x64_S64x16x1x64_0_1_3 x))
      (broadcastInDim S64x16x64x64 ![0, 1, 2, 3] bcast_S64x1x64x1_S64x16x64x64_0_1_2_3
            (broadcastInDim S64x1x64x1 ![0, 2] bcast_S64x64_S64x1x64x1_0_2
              (uitofp FTy.f32 (cmpi CmpIPredicate.eq
                (addi (iotaInDim S64x64 32 0) (broadcastInDim S64x64 ![] bcast_S_S64x64 (constantI S_ 32 0#32))) (iotaInDim S64x64 32 1)))))) shapeCasts_S64x16x64x64_S1024x4096 y =
    x (ix3 ⟨(y 0).val / 16, by have h : (y 0).val < 1024 := (y 0).isLt; omega⟩ ⟨(y 0).val % 16, by omega⟩ ⟨(y 1).val % 64, by omega⟩) * eye ((y 0).val / 16) ((y 1).val / 64) := by
  idx_vars y
  pointwise []
  rw [eye_word (by omega) (by omega)]

theorem block_at (b : Vec Ideal S4096x16 .f32) (i : Fin 64) (j : Fin 16) (k : Fin 64) :
    transpose S64x16x64 [0, 2, 1] (shapeCast S64x64x16 b shapeCasts_S4096x16_S64x64x16) transposes_S64x64x16_S64x16x64_0_2_1 (ix3 i j k) =
      b (ix2 ⟨i.val * 64 + k.val, by omega⟩ j) := by
  pointwise []

/-- The matrix that the host prepares, at an entry. -/
theorem dense_at (c : Dev nD) (y : S1024x4096.Idx) : (StableHlo.after hostOps0 (fun b => m (c, b)) (Proc.devRef .tc main_v13) : Vec Ideal S1024x4096 .f32) y =
    denseB (m ((c : Thread nD τ).loc main_arg1)) y := by
  after_reads_simp
  exact (prep_at _ y).trans (congrArg (fun z : EReal => z * eye ((y 0).val / 16) ((y 1).val / 64)) (block_at _ _ _ _))

/-- The product of two blocks at an entry, added to the accumulator. -/
theorem pay2_at (s : Vec Ideal S2048x256 .f32) (a : Vec Ideal S2048x1024 .f32) (b : Vec Ideal S1024x256 .f32) (y : S2048x256.Idx) :
    k0_pay2 s a b y = s y + mulNN a b y := by
  unfold mulNN
  idx_vars y
  pointwise [k0_pay2]

theorem pay1_at (y : S2048x256.Idx) : k0_pay1 (F := Ideal) y = 0 := by
  idx_vars y
  pointwise [k0_pay1]

/-- The output's block is the product of the two inputs' blocks. -/
theorem out_at (c : Dev nD) (t : Fin cfg0.N) (y : S2048x256.Idx) : outsAt0 m c t y = mulNN (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 16, 0] := (by decide +kernel : ∀ t : Fin grid0.N, _)
theorem index_1 : ∀ t : Fin cfg0.N, win0_1.index t = ![0, t.val % 16] := (by decide +kernel : ∀ t : Fin grid0.N, _)
theorem index_2 : ∀ t : Fin cfg0.N, win0_2.index t = ![t.val / 16, t.val % 16] := (by decide +kernel : ∀ t : Fin grid0.N, _)

/-- The result, over what the region finds. -/
theorem arr (c : Dev nD) : (dats m 0 c).arrAt 2 cfg0.N = mulNN (V m c main_arg0) (V m c main_v13) := by
  refine (dats m 0 c).arrAt_eq_of_covers 2 _ (by decide +kernel) fun t hf y => ?_
  blk_simp
  rw [after0_2, out_at]
  unfold mulNN
  refine Finset.sum_congr (M := EReal) rfl fun q _ => congr (congrArg HMul.hMul ?_) ?_
  · blk_ext! [iblk, index_0, index_2]
  · blk_ext! [iblk, index_1, index_2]

/-- The result, over the arguments. -/
theorem result (c : Dev nD) : (dats m 0 c).arrAt 2 cfg0.N =
    mulNN (m ((c : Thread nD τ).loc main_arg0)) (denseB (m ((c : Thread nD τ).loc main_arg1))) := by
  have e : (V m c main_v13 : Vec Ideal S1024x4096 .f32) = denseB (m ((c : Thread nD τ).loc main_arg1)) := funext fun y => dense_at m c y
  rw [arr, V_main_arg0]
  exact congrArg (fun z => mulNN (m ((c : Thread nD τ).loc main_arg0)) z) e

end Cert.SsmBuIdeal.Ssm

namespace Cert.SsmBuClaims

open Idealize.ShloMosaic Idealize.ShloMosaic.TcCoe Idealize.ShloMosaic.Tactic Idealize.SL.Sem Cert.Ffn Cert.Ssm
open Cert.SsmBuRefIdeal Cert.SsmBuRefIdeal.Read

/-- The reference's result. -/
theorem ref_at (a : Vec Ideal S4096x1024 .f32) (b : Vec Ideal S4096x16 .f32) : val_main_v4 (F := Ideal) a b = mulNN a (denseB b) := by
  funext y
  idx_vars y
  rw [mulNN_denseB]
  pointwise [val_main_v4, val_main_v3, val_main_v2, val_main_v1, val_main_v0]

/-- The reference leaves its arguments unchanged. -/
theorem frame_ri : Cert.quiescent_SsmBuRefIdeal := fun m ρ _ =>
  (θ_run Cert.SsmBuRefIdeal.defs _ _).mono (fun r h => ⟨fun c => (h c).2, Idealize.ShloMosaic.sem_eq_zero_of_no_sems (by decide) r.2⟩)
    (Cert.SsmBuRefIdeal.Value.run (F := Ideal) m ρ)

/-- The kernel's and the reference's results are the same extended reals. -/
theorem algebraic : Cert.algebraic_SsmBuIdeal_SsmBuRefIdeal := by
  intro m g m' g' _ hagree
  refine ⟨fun c => mulNN (m ((c.tc : Thread Cert.SsmBuIdeal.nD Cert.SsmBuIdeal.τ).loc Cert.SsmBuIdeal.main_arg0)) (denseB (m ((c.tc : Thread Cert.SsmBuIdeal.nD Cert.SsmBuIdeal.τ).loc Cert.SsmBuIdeal.main_arg1))), ?_, ?_⟩
  · exact (θ_run Cert.SsmBuIdeal.defs _ _).mono (fun r h c => ⟨(h c).1.trans (Cert.SsmBuIdeal.Ssm.result m c), (h c).2⟩)
      (Cert.SsmBuIdeal.Value.run_blocks m g)
  · refine (θ_run Cert.SsmBuRefIdeal.defs _ _).mono (fun r h c => ⟨(h c).1.trans ((val_main_v4_eq _ _ ).trans ?_), (h c).2⟩)
      (Cert.SsmBuRefIdeal.Value.run (F := Ideal) m' g')
    rw [ref_at, (hagree c).1, (hagree c).2]

end Cert.SsmBuClaims

end
-- ==== Proof.Ssm.SsmDu.lean ====
module

public import proofs.«01_k».proof.Defs
public import proofs.«01_k».proof.Proof.Gen.SsmDuIdeal.Value
public import proofs.«01_k».proof.Proof.Gen.SsmDuRefIdeal.Run
public import proofs.«01_k».proof.Proof.Gen.SsmDuRefIdeal.Read
public import proofs.«01_k».proof.Proof.Ssm.Groups
public import Idealize.ShloMosaic.Lib.StableHlo.RunRead

@[expose] public section

set_option maxRecDepth 16384

noncomputable section

namespace Cert.SsmDuIdeal.Ssm

open Cert.SsmDuIdeal Cert.SsmDuIdeal.Gen Cert.SsmDuIdeal.Value Cert.Ffn Cert.Ssm
open Idealize.ShloMosaic Idealize.ShloMosaic.TcCoe Idealize.ShloMosaic.Tactic

variable (m : (ℓ : Loc nD τ sig) → Buf (Elt Ideal) ℓ)

/-- The groups' blocks on the diagonal, as the host lines compute them. -/
theorem prep_at (x : Vec Ideal S64x16x64 .f32) (y : S1024x4096.Idx) :
    shapeCast S1024x4096 (mulf (F := Ideal) (φ := .f32) (broadcastInDim S64x16x64x64 ![0, 1, 2, 3] bcast_S64x16x1x64_S64x16x64x64_0_1_2_3
        (broadcastInDim S64x16x1x64 ![0, 1, 3] bcast_S64x16x64_S64x16x1x64_0_1_3 x))
      (broadcastInDim S64x16x64x64 ![0, 1, 2, 3] bcast_S64x1x64x1_S64x16x64x64_0_1_2_3
            (broadcastInDim S64x1x64x1 ![0, 2] bcast_S64x64_S64x1x64x1_0_2
              (uitofp FTy.f32 (cmpi CmpIPredicate.eq
                (addi (iotaInDim S64x64 32 0) (broadcastInDim S64x64 ![] bcast_S_S64x64 (constantI S_ 32 0#32))) (iotaInDim S64x64 32 1)))))) shapeCasts_S64x16x64x64_S1024x4096 y =
    x (ix3 ⟨(y 0).val / 16, by have h : (y 0).val < 1024 := (y 0).isLt; omega⟩ ⟨(y 0).val % 16, by omega⟩ ⟨(y 1).val % 64, by omega⟩) * eye ((y 0).val / 16) ((y 1).val / 64) := by
  idx_vars y
  pointwise []
  rw [eye_word (by omega) (by omega)]

theorem block_at (b : Vec Ideal S4096x16 .f32) (i : Fin 64) (j : Fin 16) (k : Fin 64) :
    transpose S64x16x64 [0, 2, 1] (shapeCast S64x64x16 b shapeCasts_S4096x16_S64x64x16) transposes_S64x64x16_S64x16x64_0_2_1 (ix3 i j k) =
      b (ix2 ⟨i.val * 64 + k.val, by omega⟩ j) := by
  pointwise []

/-- The matrix that the host prepares, at an entry. -/
theorem dense_at (c : Dev nD) (y : S1024x4096.Idx) : (StableHlo.after hostOps0 (fun b => m (c, b)) (Proc.devRef .tc main_v13) : Vec Ideal S1024x4096 .f32) y =
    denseB (m ((c : Thread nD τ).loc main_arg1)) y := by
  after_reads_simp
  exact (prep_at _ y).trans (congrArg (fun z : EReal => z * eye ((y 0).val / 16) ((y 1).val / 64)) (block_at _ _ _ _))

/-- The product of two blocks at an entry, added to the accumulator. -/
theorem pay2_at (s : Vec Ideal S1024x1024 .f32) (a : Vec Ideal S1024x512 .f32) (b : Vec Ideal S1024x512 .f32) (y : S1024x1024.Idx) :
    k0_pay2 s a b y = s y + mulNT a b y := by
  unfold mulNT
  idx_vars y
  pointwise [k0_pay2]

theorem pay1_at (y : S1024x1024.Idx) : k0_pay1 (F := Ideal) y = 0 := by
  idx_vars y
  pointwise [k0_pay1]

/-- What one step adds to the accumulator. -/
def term (c : Dev nD) (t : Fin cfg0.N) (y : S1024x1024.Idx) : EReal := mulNT (iblk m c 0 t) (iblk m c 1 t) y

/-- The accumulator after a run's last step. -/
theorem acc_at (c : Dev nD) (t : Fin cfg0.N) (ht : t.val % 8 = 7) (y : S1024x1024.Idx) :
    (outsAt0 m c t.val t.isLt).2 y
      = ∑ s : Fin 8, term m c ⟨8 * (t.val / 8) + s.val, Pipeline.run_point_lt_of_flush t ht s⟩ y := by
  refine (Pipeline.eq_sum_fin_of_reset_step_apply_of_flush (fun n h => (outsAt0 m c n h).2) 8 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 8 = 7
    · rw [outsAt0_C m c t h h7]
      frame_out
      rw [pay2_at, read_unread_whole]
      rfl
    · rw [outsAt0_B m c t h h7]
      frame_out
      rw [pay2_at, read_unread_whole]
      rfl

/-- The output's block after a run's last step is the third input's, with the accumulator added. -/
theorem out_at (c : Dev nD) (t : Fin cfg0.N) (ht : t.val % 8 = 7) (y : S1024x1024.Idx) :
    (outsAt0 m c t.val t.isLt).1 y = plus (iblk m c 2 t) ((outsAt0 m c t.val t.isLt).2) y := by
  rw [outsAt0_C m c t (by omega) ht]
  frame_out
  unfold plus
  idx_vars y
  pointwise [k0_pay3]
  exact add_comm _ _

theorem index_0 : ∀ t : Fin cfg0.N, win0_0.index t = ![t.val / 8, t.val % 8] := (by decide +kernel : ∀ t : Fin grid0.N, _)
theorem index_1 : ∀ t : Fin cfg0.N, win0_1.index t = ![0, t.val % 8] := (by decide +kernel : ∀ t : Fin grid0.N, _)
theorem index_2 : ∀ t : Fin cfg0.N, win0_2.index t = ![t.val / 8, 0] := (by decide +kernel : ∀ t : Fin grid0.N, _)
theorem index_3 : ∀ t : Fin cfg0.N, win0_3.index t = ![t.val / 8, 0] := (by decide +kernel : ∀ t : Fin grid0.N, _)

/-- The result, over what the region finds. -/
theorem arr (c : Dev nD) : (dats m 0 c).arrAt 3 cfg0.N = plus (V m c main_arg2) (mulNT (V m c main_arg0) (V m c main_v13)) := by
  refine (dats m 0 c).arrAt_eq_of_covers 3 _ (by decide +kernel) fun t hf y => ?_
  blk_simp
  rw [after0_3, out_at m c t ((flush0_3 t).mp hf)]
  unfold plus
  rw [acc_at m c t ((flush0_3 t).mp hf)]
  refine congr (congrArg HAdd.hAdd ?_) ?_
  · blk_ext! [iblk, index_2, index_3]
  unfold term
  refine sum_mul_blocks rfl (fun s q h => ?_) (fun s q h => ?_)
  · blk_ext! [iblk, index_0, index_3]
  · blk_ext! [iblk, index_1, index_3]

/-- The result, over the arguments. -/
theorem result (c : Dev nD) : (dats m 0 c).arrAt 3 cfg0.N =
    plus (m ((c : Thread nD τ).loc main_arg2)) (mulNT (m ((c : Thread nD τ).loc main_arg0)) (denseB (m ((c : Thread nD τ).loc main_arg1)))) := by
  have e : (V m c main_v13 : Vec Ideal S1024x4096 .f32) = denseB (m ((c : Thread nD τ).loc main_arg1)) := funext fun y => dense_at m c y
  rw [arr, V_main_arg0, V_main_arg2]
  exact congrArg (fun z => plus _ (mulNT (m ((c : Thread nD τ).loc main_arg0)) z)) e

end Cert.SsmDuIdeal.Ssm

namespace Cert.SsmDuClaims

open Idealize.ShloMosaic Idealize.ShloMosaic.TcCoe Idealize.ShloMosaic.Tactic Idealize.SL.Sem Cert.Ffn Cert.Ssm
open Cert.SsmDuRefIdeal Cert.SsmDuRefIdeal.Read

/-- The reference's result. -/
theorem ref_at (a : Vec Ideal S4096x4096 .f32) (b : Vec Ideal S4096x16 .f32) (r : Vec Ideal S4096x1024 .f32) : val_main_v11 (F := Ideal) a b r = plus r (mulNT a (denseB b)) := by
  funext y
  unfold plus
  idx_vars y
  rw [mulNT_denseB]
  pointwise [val_main_v11, val_main_v10, val_main_v9, val_main_v8, val_main_v7, val_main_v6, val_main_v5, val_main_v4, val_main_v3, val_main_v2, val_main_v1, val_main_v0]

/-- The reference leaves its arguments unchanged. -/
theorem frame_ri : Cert.quiescent_SsmDuRefIdeal := fun m ρ _ =>
  (θ_run Cert.SsmDuRefIdeal.defs _ _).mono (fun r h => ⟨fun c => (h c).2, Idealize.ShloMosaic.sem_eq_zero_of_no_sems (by decide) r.2⟩)
    (Cert.SsmDuRefIdeal.Value.run (F := Ideal) m ρ)

/-- The kernel's and the reference's results are the same extended reals. -/
theorem algebraic : Cert.algebraic_SsmDuIdeal_SsmDuRefIdeal := by
  intro m g m' g' _ hagree
  refine ⟨fun c => plus (m ((c.tc : Thread Cert.SsmDuIdeal.nD Cert.SsmDuIdeal.τ).loc Cert.SsmDuIdeal.main_arg2)) (mulNT (m ((c.tc : Thread Cert.SsmDuIdeal.nD Cert.SsmDuIdeal.τ).loc Cert.SsmDuIdeal.main_arg0)) (denseB (m ((c.tc : Thread Cert.SsmDuIdeal.nD Cert.SsmDuIdeal.τ).loc Cert.SsmDuIdeal.main_arg1)))), ?_, ?_⟩
  · exact (θ_run Cert.SsmDuIdeal.defs _ _).mono (fun r h c => ⟨(h c).1.trans (Cert.SsmDuIdeal.Ssm.result m c), (h c).2⟩)
      (Cert.SsmDuIdeal.Value.run_blocks m g)
  · refine (θ_run Cert.SsmDuRefIdeal.defs _ _).mono (fun r h c => ⟨(h c).1.trans ((val_main_v11_eq _ _ _ ).trans ?_), (h c).2⟩)
      (Cert.SsmDuRefIdeal.Value.run (F := Ideal) m' g')
    rw [ref_at, (hagree c).1, (hagree c).2.1, (hagree c).2.2]

end Cert.SsmDuClaims

end
-- ==== Proof.Ssm.SsmDhIm.lean ====
module

public import proofs.«01_k».proof.Defs
public import proofs.«01_k».proof.Proof.Gen.SsmDhImIdeal.Value
public import proofs.«01_k».proof.Proof.Gen.SsmDhImRefIdeal.Run
public import proofs.«01_k».proof.Proof.Gen.SsmDhImRefIdeal.Read
public import proofs.«01_k».proof.Proof.Ssm.Groups
public import Idealize.ShloMosaic.Lib.StableHlo.RunRead

@[expose] public section

set_option maxRecDepth 16384

noncomputable section

namespace Cert.SsmDhImIdeal.Ssm

open Cert.SsmDhImIdeal Cert.SsmDhImIdeal.Gen Cert.SsmDhImIdeal.Value Cert.Ffn Cert.Ssm
open Idealize.ShloMosaic Idealize.ShloMosaic.TcCoe Idealize.ShloMosaic.Tactic

variable (m : (ℓ : Loc nD τ sig) → Buf (Elt Ideal) ℓ)

/-- The groups' blocks on the diagonal, as the host lines compute them. -/
theorem prep_at (x : Vec Ideal S64x64x16 .f32) (y : S4096x1024.Idx) :
    shapeCast S4096x1024 (mulf (F := Ideal) (φ := .f32) (broadcastInDim S64x64x64x16 ![0, 1, 2, 3] bcast_S64x64x1x16_S64x64x64x16_0_1_2_3
        (broadcastInDim S64x64x1x16 ![0, 1, 3] bcast_S64x64x16_S64x64x1x16_0_1_3 x))
      (broadcastInDim S64x64x64x16 ![0, 1, 2, 3] bcast_S64x1x64x1_S64x64x64x16_0_1_2_3
            (broadcastInDim S64x1x64x1 ![0, 2] bcast_S64x64_S64x1x64x1_0_2
              (uitofp FTy.f32 (cmpi CmpIPredicate.eq
                (addi (iotaInDim S64x64 32 0) (broadcastInDim S64x64 ![] bcast_S_S64x64 (constantI S_ 32 0#32))) (iotaInDim S64x64 32 1)))))) shapeCasts_S64x64x64x16_S4096x1024 y =
    x (ix3 ⟨(y 0).val / 64, by have h : (y 0).val < 4096 := (y 0).isLt; omega⟩ ⟨(y 0).val % 64, by omega⟩ ⟨(y 1).val % 16, by omega⟩) * eye ((y 0).val / 64) ((y 1).val / 16) := by
  idx_vars y
  pointwise []
  rw [eye_word (by omega) (by omega)]

theorem block_at (c : Vec Ideal S64x16x64 .f32) (i : Fin 64) (j : Fin 64) (k : Fin 16) :
    transpose S64x64x16 [0, 2, 1] c transposes_S64x16x64_S64x64x16_0_2_1 (ix3 i j k) = c (ix3 i k j) := by
  pointwise []

/-- The matrix that the host prepares, at an entry. -/
theorem dense_at (c : Dev nD) (y : S4096x1024.Idx) : (StableHlo.after hostOps0 (fun b => m (c, b)) (Proc.devRef .tc main_v13) : Vec Ideal S4096x1024 .f32) y =
    -denseC (m ((c : Thread nD τ).loc main_arg1)) y := by
  have h : (StableHlo.after hostOps0 (fun b => m (c, b)) (Proc.devRef .tc main_v12) : Vec Ideal S4096x1024 .f32) y = denseC (m ((c : Thread nD τ).loc main_arg1)) y := by
    after_reads_simp
    exact (prep_at _ y).trans (congrArg (fun z : EReal => z * eye ((y 0).val / 64) ((y 1).val / 16)) (block_at _ _ _ _))
  have e : (StableHlo.after hostOps0 (fun b => m (c, b)) (Proc.devRef .tc main_v13) : Vec Ideal S4096x1024 .f32) =
      Host.negf (F := Ideal) (φ := .f32) (StableHlo.after hostOps0 (fun b => m (c, b)) (Proc.devRef .tc main_v12) : Vec Ideal S4096x1024 .f32) := by
    after_reads_simp
  rw [e]
  exact congrArg (fun z : EReal => -z) h

/-- The product of two blocks at an entry, added to the accumulator. -/
theorem pay2_at (s : Vec Ideal S2048x256 .f32) (a : Vec Ideal S2048x1024 .f32) (b : Vec Ideal S256x1024 .f32) (y : S2048x256.Idx) :
    k0_pay2 s a b y = s y + mulNT a b y := by
  unfold mulNT
  idx_vars y
  pointwise [k0_pay2]

theorem pay1_at (y : S2048x256.Idx) : k0_pay1 (F := Ideal) y = 0 := by
  idx_vars y
  pointwise [k0_pay1]

/-- The output's block is the product of the two inputs' blocks. -/
theorem out_at (c : Dev nD) (t : Fin cfg0.N) (y : S2048x256.Idx) : outsAt0 m c t y = mulNT (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 16, 0] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![t.val / 16, t.val % 16] := (by decide +kernel : ∀ t : Fin grid0.N, _)

/-- The result, over what the region finds. -/
theorem arr (c : Dev nD) : (dats m 0 c).arrAt 2 cfg0.N = mulNT (V m c main_arg0) (V m c main_v13) := by
  refine (dats m 0 c).arrAt_eq_of_covers 2 _ (by decide +kernel) fun t hf y => ?_
  blk_simp
  rw [after0_2, out_at]
  unfold mulNT
  refine Finset.sum_congr (M := EReal) rfl fun q _ => congr (congrArg HMul.hMul ?_) ?_
  · blk_ext! [iblk, index_0, index_2]
  · blk_ext! [iblk, index_1, index_2]

/-- The result, over the arguments. -/
theorem result (c : Dev nD) : (dats m 0 c).arrAt 2 cfg0.N =
    mulNT (m ((c : Thread nD τ).loc main_arg0)) (fun y => -denseC (m ((c : Thread nD τ).loc main_arg1)) y) := by
  have e : (V m c main_v13 : Vec Ideal S4096x1024 .f32) = fun y => -denseC (m ((c : Thread nD τ).loc main_arg1)) y := funext fun y => dense_at m c y
  rw [arr, V_main_arg0]
  exact congrArg (fun z => mulNT (m ((c : Thread nD τ).loc main_arg0)) z) e

end Cert.SsmDhImIdeal.Ssm

namespace Cert.SsmDhImClaims

open Idealize.ShloMosaic Idealize.ShloMosaic.TcCoe Idealize.ShloMosaic.Tactic Idealize.SL.Sem Cert.Ffn Cert.Ssm
open Cert.SsmDhImRefIdeal Cert.SsmDhImRefIdeal.Read

/-- The reference's result. -/
theorem ref_at (a : Vec Ideal S4096x1024 .f32) (b : Vec Ideal S64x16x64 .f32) : val_main_v11 (F := Ideal) a b = mulNT a (fun y => -denseC b y) := by
  rw [mulNT_neg]
  funext y
  idx_vars y
  rw [mulNT_denseC]
  pointwise [val_main_v11, val_main_v10, val_main_v9, val_main_v8, val_main_v7, val_main_v6, val_main_v5, val_main_v4, val_main_v3, val_main_v2, val_main_v1, val_main_v0]

/-- The reference leaves its arguments unchanged. -/
theorem frame_ri : Cert.quiescent_SsmDhImRefIdeal := fun m ρ _ =>
  (θ_run Cert.SsmDhImRefIdeal.defs _ _).mono (fun r h => ⟨fun c => (h c).2, Idealize.ShloMosaic.sem_eq_zero_of_no_sems (by decide) r.2⟩)
    (Cert.SsmDhImRefIdeal.Value.run (F := Ideal) m ρ)

/-- The kernel's and the reference's results are the same extended reals. -/
theorem algebraic : Cert.algebraic_SsmDhImIdeal_SsmDhImRefIdeal := by
  intro m g m' g' _ hagree
  refine ⟨fun c => mulNT (m ((c.tc : Thread Cert.SsmDhImIdeal.nD Cert.SsmDhImIdeal.τ).loc Cert.SsmDhImIdeal.main_arg0)) (fun y => -denseC (m ((c.tc : Thread Cert.SsmDhImIdeal.nD Cert.SsmDhImIdeal.τ).loc Cert.SsmDhImIdeal.main_arg1)) y), ?_, ?_⟩
  · exact (θ_run Cert.SsmDhImIdeal.defs _ _).mono (fun r h c => ⟨(h c).1.trans (Cert.SsmDhImIdeal.Ssm.result m c), (h c).2⟩)
      (Cert.SsmDhImIdeal.Value.run_blocks m g)
  · refine (θ_run Cert.SsmDhImRefIdeal.defs _ _).mono (fun r h c => ⟨(h c).1.trans ((val_main_v11_eq _ _ ).trans ?_), (h c).2⟩)
      (Cert.SsmDhImRefIdeal.Value.run (F := Ideal) m' g')
    rw [ref_at, (hagree c).1, (hagree c).2]

end Cert.SsmDhImClaims

end
-- ==== Proof.Ssm.SsmDhRe.lean ====
module

public import proofs.«01_k».proof.Defs
public import proofs.«01_k».proof.Proof.Gen.SsmDhReIdeal.Value
public import proofs.«01_k».proof.Proof.Gen.SsmDhReRefIdeal.Run
public import proofs.«01_k».proof.Proof.Gen.SsmDhReRefIdeal.Read
public import proofs.«01_k».proof.Proof.Ssm.Groups
public import Idealize.ShloMosaic.Lib.StableHlo.RunRead

@[expose] public section

set_option maxRecDepth 16384

noncomputable section

namespace Cert.SsmDhReIdeal.Ssm

open Cert.SsmDhReIdeal Cert.SsmDhReIdeal.Gen Cert.SsmDhReIdeal.Value Cert.Ffn Cert.Ssm
open Idealize.ShloMosaic Idealize.ShloMosaic.TcCoe Idealize.ShloMosaic.Tactic

variable (m : (ℓ : Loc nD τ sig) → Buf (Elt Ideal) ℓ)

/-- The matrix that the host prepares, at an entry. -/
theorem dense_at (c : Dev nD) (y : S4096x1024.Idx) : (StableHlo.after hostOps0 (fun b => m (c, b)) (Proc.devRef .tc main_v12) : Vec Ideal S4096x1024 .f32) y =
    denseC (m ((c : Thread nD τ).loc main_arg1)) y := by
  unfold denseC entryC
  after_reads_simp
  idx_vars y
  pointwise []
  rw [eye_word (by omega) (by omega)]

/-- The product of two blocks at an entry, added to the accumulator. -/
theorem pay2_at (s : Vec Ideal S2048x256 .f32) (a : Vec Ideal S2048x1024 .f32) (b : Vec Ideal S256x1024 .f32) (y : S2048x256.Idx) :
    k0_pay2 s a b y = s y + mulNT a b y := by
  unfold mulNT
  idx_vars y
  pointwise [k0_pay2]

theorem pay1_at (y : S2048x256.Idx) : k0_pay1 (F := Ideal) y = 0 := by
  idx_vars y
  pointwise [k0_pay1]

/-- The output's block is the product of the two inputs' blocks. -/
theorem out_at (c : Dev nD) (t : Fin cfg0.N) (y : S2048x256.Idx) : outsAt0 m c t y = mulNT (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 16, 0] := (by decide +kernel : ∀ t : Fin grid0.N, _)
theorem index_1 : ∀ t : Fin cfg0.N, win0_1.index t = ![t.val % 16, 0] := (by decide +kernel : ∀ t : Fin grid0.N, _)
theorem index_2 : ∀ t : Fin cfg0.N, win0_2.index t = ![t.val / 16, t.val % 16] := (by decide +kernel : ∀ t : Fin grid0.N, _)

/-- The result, over what the region finds. -/
theorem arr (c : Dev nD) : (dats m 0 c).arrAt 2 cfg0.N = mulNT (V m c main_arg0) (V m c main_v12) := by
  refine (dats m 0 c).arrAt_eq_of_covers 2 _ (by decide +kernel) fun t hf y => ?_
  blk_simp
  rw [after0_2, out_at]
  unfold mulNT
  refine Finset.sum_congr (M := EReal) rfl fun q _ => congr (congrArg HMul.hMul ?_) ?_
  · blk_ext! [iblk, index_0, index_2]
  · blk_ext! [iblk, index_1, index_2]

/-- The result, over the arguments. -/
theorem result (c : Dev nD) : (dats m 0 c).arrAt 2 cfg0.N =
    mulNT (m ((c : Thread nD τ).loc main_arg0)) (denseC (m ((c : Thread nD τ).loc main_arg1))) := by
  have e : (V m c main_v12 : Vec Ideal S4096x1024 .f32) = denseC (m ((c : Thread nD τ).loc main_arg1)) := funext fun y => dense_at m c y
  rw [arr, V_main_arg0]
  exact congrArg (fun z => mulNT (m ((c : Thread nD τ).loc main_arg0)) z) e

end Cert.SsmDhReIdeal.Ssm

namespace Cert.SsmDhReClaims

open Idealize.ShloMosaic Idealize.ShloMosaic.TcCoe Idealize.ShloMosaic.Tactic Idealize.SL.Sem Cert.Ffn Cert.Ssm
open Cert.SsmDhReRefIdeal Cert.SsmDhReRefIdeal.Read

/-- The reference's result. -/
theorem ref_at (a : Vec Ideal S4096x1024 .f32) (b : Vec Ideal S64x16x64 .f32) : val_main_v9 (F := Ideal) a b = mulNT a (denseC b) := by
  funext y
  idx_vars y
  rw [mulNT_denseC]
  pointwise [val_main_v9, val_main_v8, val_main_v7, val_main_v6, val_main_v5, val_main_v4, val_main_v3, val_main_v2, val_main_v1, val_main_v0]

/-- The reference leaves its arguments unchanged. -/
theorem frame_ri : Cert.quiescent_SsmDhReRefIdeal := fun m ρ _ =>
  (θ_run Cert.SsmDhReRefIdeal.defs _ _).mono (fun r h => ⟨fun c => (h c).2, Idealize.ShloMosaic.sem_eq_zero_of_no_sems (by decide) r.2⟩)
    (Cert.SsmDhReRefIdeal.Value.run (F := Ideal) m ρ)

/-- The kernel's and the reference's results are the same extended reals. -/
theorem algebraic : Cert.algebraic_SsmDhReIdeal_SsmDhReRefIdeal := by
  intro m g m' g' _ hagree
  refine ⟨fun c => mulNT (m ((c.tc : Thread Cert.SsmDhReIdeal.nD Cert.SsmDhReIdeal.τ).loc Cert.SsmDhReIdeal.main_arg0)) (denseC (m ((c.tc : Thread Cert.SsmDhReIdeal.nD Cert.SsmDhReIdeal.τ).loc Cert.SsmDhReIdeal.main_arg1))), ?_, ?_⟩
  · exact (θ_run Cert.SsmDhReIdeal.defs _ _).mono (fun r h c => ⟨(h c).1.trans (Cert.SsmDhReIdeal.Ssm.result m c), (h c).2⟩)
      (Cert.SsmDhReIdeal.Value.run_blocks m g)
  · refine (θ_run Cert.SsmDhReRefIdeal.defs _ _).mono (fun r h c => ⟨(h c).1.trans ((val_main_v9_eq _ _ ).trans ?_), (h c).2⟩)
      (Cert.SsmDhReRefIdeal.Value.run (F := Ideal) m' g')
    rw [ref_at, (hagree c).1, (hagree c).2]

end Cert.SsmDhReClaims

end
-- ==== Proof.Ffn.SsmDwout.lean ====
module

public import proofs.«01_k».proof.Defs
public import proofs.«01_k».proof.Proof.Gen.SsmDwoutIdeal.Value
public import proofs.«01_k».proof.Proof.Gen.SsmDwoutRefIdeal.Run
public import proofs.«01_k».proof.Proof.Gen.SsmDwoutRefIdeal.Read
public import proofs.«01_k».proof.Proof.Ffn.Product

@[expose] public section

set_option maxRecDepth 16384

noncomputable section

namespace Cert.SsmDwoutIdeal.Ffn

open Cert.SsmDwoutIdeal Cert.SsmDwoutIdeal.Gen Cert.SsmDwoutIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S1024x2048 .f32) (a : Vec Ideal S512x1024 .bf16) (b : Vec Ideal S512x2048 .bf16) (y : S1024x2048.Idx) :
    k0_pay2 s a b y = s y + mulTN a b y := by
  unfold mulTN
  idx_vars y
  pointwise [k0_pay2]

theorem pay1_at (y : S1024x2048.Idx) : k0_pay1 (F := Ideal) y = 0 := by
  idx_vars y
  pointwise [k0_pay1]

/-- What one step adds to the accumulator. -/
def term (c : Dev nD) (t : Fin cfg0.N) (y : S1024x2048.Idx) : EReal := mulTN (iblk m c 0 t) (iblk m c 1 t) y

/-- The accumulator after a run's last step. -/
theorem acc_at (c : Dev nD) (t : Fin cfg0.N) (ht : t.val % 8 = 7) (y : S1024x2048.Idx) :
    (outsAt0 m c t.val t.isLt).2 y
      = ∑ s : Fin 8, term m c ⟨8 * (t.val / 8) + s.val, Pipeline.run_point_lt_of_flush t ht s⟩ y := by
  refine (Pipeline.eq_sum_fin_of_reset_step_apply_of_flush (fun n h => (outsAt0 m c n h).2) 8 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 8 = 7
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 8 = 7) (y : S1024x2048.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val % 8, 0] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![0, 0] := (by decide +kernel : ∀ t : Fin grid0.N, _)

theorem arr (c : Dev nD) : (dats m 0 c).arrAt 2 cfg0.N =
    mulTN (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.SsmDwoutIdeal.Ffn

namespace Cert.SsmDwoutClaims

open Idealize.ShloMosaic Idealize.ShloMosaic.TcCoe Idealize.ShloMosaic.Tactic Idealize.SL.Sem Cert.Ffn
open Cert.SsmDwoutRefIdeal Cert.SsmDwoutRefIdeal.Read

/-- The reference's result at an entry. -/
theorem ref_at (a : Vec Ideal S4096x1024 .bf16) (b : Vec Ideal S4096x2048 .bf16) : val_main_v7 (F := Ideal) a b = mulTN a b := by
  funext y
  unfold mulTN
  idx_vars y
  pointwise [val_main_v7, val_main_v6, val_main_v5, val_main_v4, val_main_v3]
  exact Finset.sum_congr rfl fun _ _ => mul_comm _ _

/-- The reference leaves its arguments unchanged. -/
theorem frame_ri : Cert.quiescent_SsmDwoutRefIdeal := fun m ρ _ =>
  (θ_run Cert.SsmDwoutRefIdeal.defs _ _).mono (fun r h => ⟨fun c => (h c).2, Idealize.ShloMosaic.sem_eq_zero_of_no_sems (by decide) r.2⟩)
    (Cert.SsmDwoutRefIdeal.Value.run (F := Ideal) m ρ)

/-- The kernel's and the reference's results are the same extended reals. -/
theorem algebraic : Cert.algebraic_SsmDwoutIdeal_SsmDwoutRefIdeal := by
  intro m g m' g' _ hagree
  refine ⟨fun c => mulTN (m ((c.tc : Thread Cert.SsmDwoutIdeal.nD Cert.SsmDwoutIdeal.τ).loc Cert.SsmDwoutIdeal.main_arg0))
    (m ((c.tc : Thread Cert.SsmDwoutIdeal.nD Cert.SsmDwoutIdeal.τ).loc Cert.SsmDwoutIdeal.main_arg1)), ?_, ?_⟩
  · exact (θ_run Cert.SsmDwoutIdeal.defs _ _).mono (fun r h c => ⟨(h c).1.trans (Cert.SsmDwoutIdeal.Ffn.arr m c), (h c).2⟩)
      (Cert.SsmDwoutIdeal.Value.run_blocks m g)
  · refine (θ_run Cert.SsmDwoutRefIdeal.defs _ _).mono (fun r h c => ⟨(h c).1.trans ((val_main_v7_eq _ _).trans ?_), (h c).2⟩)
      (Cert.SsmDwoutRefIdeal.Value.run (F := Ideal) m' g')
    rw [ref_at, (hagree c).1, (hagree c).2]

end Cert.SsmDwoutClaims

end
-- ==== Proof.Ffn.SsmDwin.lean ====
module

public import proofs.«01_k».proof.Defs
public import proofs.«01_k».proof.Proof.Gen.SsmDwinIdeal.Value
public import proofs.«01_k».proof.Proof.Gen.SsmDwinRefIdeal.Run
public import proofs.«01_k».proof.Proof.Gen.SsmDwinRefIdeal.Read
public import proofs.«01_k».proof.Proof.Ffn.Product

@[expose] public section

set_option maxRecDepth 16384

noncomputable section

namespace Cert.SsmDwinIdeal.Ffn

open Cert.SsmDwinIdeal Cert.SsmDwinIdeal.Gen Cert.SsmDwinIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x1024 .f32) (a : Vec Ideal S512x2048 .bf16) (b : Vec Ideal S512x1024 .f32) (y : S2048x1024.Idx) :
    k0_pay2 s a b y = s y + mulTN a b y := by
  unfold mulTN
  idx_vars y
  pointwise [k0_pay2]

theorem pay1_at (y : S2048x1024.Idx) : k0_pay1 (F := Ideal) y = 0 := by
  idx_vars y
  pointwise [k0_pay1]

/-- What one step adds to the accumulator. -/
def term (c : Dev nD) (t : Fin cfg0.N) (y : S2048x1024.Idx) : EReal := mulTN (iblk m c 0 t) (iblk m c 1 t) y

/-- The accumulator after a run's last step. -/
theorem acc_at (c : Dev nD) (t : Fin cfg0.N) (ht : t.val % 8 = 7) (y : S2048x1024.Idx) :
    (outsAt0 m c t.val t.isLt).2 y
      = ∑ s : Fin 8, term m c ⟨8 * (t.val / 8) + s.val, Pipeline.run_point_lt_of_flush t ht s⟩ y := by
  refine (Pipeline.eq_sum_fin_of_reset_step_apply_of_flush (fun n h => (outsAt0 m c n h).2) 8 (fun _ => (0 : EReal)) (term m c) ?_ ?_ t ht y).trans (zero_add _)
  · intro t h y
    beta_reduce
    rw [outsAt0_A m c t h (by omega)]
    frame_out
    rw [pay2_at, pay1_at]
    rfl
  · intro t h y
    beta_reduce
    by_cases h7 : t.val % 8 = 7
    · rw [outsAt0_C m c t h h7]
      frame_out
      rw [pay2_at, read_unread_whole]
      rfl
    · rw [outsAt0_B m c t h h7]
      frame_out
      rw [pay2_at, read_unread_whole]
      rfl

/-- The output's block after a run's last step is the accumulator. -/
theorem out_at (c : Dev nD) (t : Fin cfg0.N) (ht : t.val % 8 = 7) (y : S2048x1024.Idx) :
    (outsAt0 m c t.val t.isLt).1 y = (outsAt0 m c t.val t.isLt).2 y := by
  rw [outsAt0_C m c t (by omega) ht]
  frame_out
  idx_vars y
  pointwise [k0_pay3]

theorem index_0 : ∀ t : Fin cfg0.N, win0_0.index t = ![t.val % 8, 0] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![0, 0] := (by decide +kernel : ∀ t : Fin grid0.N, _)

theorem arr (c : Dev nD) : (dats m 0 c).arrAt 2 cfg0.N =
    mulTN (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf), acc_at m c t ((flush0_2 t).mp hf)]
  unfold term
  refine sum_mul_blocks rfl (fun s q h => ?_) (fun s q h => ?_)
  · blk_ext! [iblk, V, index_0, index_2]
  · blk_ext! [iblk, V, index_1, index_2]

end Cert.SsmDwinIdeal.Ffn

namespace Cert.SsmDwinClaims

open Idealize.ShloMosaic Idealize.ShloMosaic.TcCoe Idealize.ShloMosaic.Tactic Idealize.SL.Sem Cert.Ffn
open Cert.SsmDwinRefIdeal Cert.SsmDwinRefIdeal.Read

/-- The reference's result at an entry. -/
theorem ref_at (a : Vec Ideal S4096x2048 .bf16) (b : Vec Ideal S4096x1024 .f32) : val_main_v6 (F := Ideal) a b = mulTN a b := by
  funext y
  unfold mulTN
  idx_vars y
  pointwise [val_main_v6, val_main_v5, val_main_v4, val_main_v3]
  exact Finset.sum_congr rfl fun _ _ => mul_comm _ _

/-- The reference leaves its arguments unchanged. -/
theorem frame_ri : Cert.quiescent_SsmDwinRefIdeal := fun m ρ _ =>
  (θ_run Cert.SsmDwinRefIdeal.defs _ _).mono (fun r h => ⟨fun c => (h c).2, Idealize.ShloMosaic.sem_eq_zero_of_no_sems (by decide) r.2⟩)
    (Cert.SsmDwinRefIdeal.Value.run (F := Ideal) m ρ)

/-- The kernel's and the reference's results are the same extended reals. -/
theorem algebraic : Cert.algebraic_SsmDwinIdeal_SsmDwinRefIdeal := by
  intro m g m' g' _ hagree
  refine ⟨fun c => mulTN (m ((c.tc : Thread Cert.SsmDwinIdeal.nD Cert.SsmDwinIdeal.τ).loc Cert.SsmDwinIdeal.main_arg0))
    (m ((c.tc : Thread Cert.SsmDwinIdeal.nD Cert.SsmDwinIdeal.τ).loc Cert.SsmDwinIdeal.main_arg1)), ?_, ?_⟩
  · exact (θ_run Cert.SsmDwinIdeal.defs _ _).mono (fun r h c => ⟨(h c).1.trans (Cert.SsmDwinIdeal.Ffn.arr m c), (h c).2⟩)
      (Cert.SsmDwinIdeal.Value.run_blocks m g)
  · refine (θ_run Cert.SsmDwinRefIdeal.defs _ _).mono (fun r h c => ⟨(h c).1.trans ((val_main_v6_eq _ _).trans ?_), (h c).2⟩)
      (Cert.SsmDwinRefIdeal.Value.run (F := Ideal) m' g')
    rw [ref_at, (hagree c).1, (hagree c).2]

end Cert.SsmDwinClaims

end
-- ==== Proof.Ffn.SsmDn.lean ====
module

public import proofs.«01_k».proof.Defs
public import proofs.«01_k».proof.Proof.Gen.SsmDnIdeal.Value
public import proofs.«01_k».proof.Proof.Gen.SsmDnRefIdeal.Run
public import proofs.«01_k».proof.Proof.Gen.SsmDnRefIdeal.Read
public import proofs.«01_k».proof.Proof.Ffn.Product

@[expose] public section

set_option maxRecDepth 16384

noncomputable section

namespace Cert.SsmDnIdeal.Ffn

open Cert.SsmDnIdeal Cert.SsmDnIdeal.Gen Cert.SsmDnIdeal.Value Cert.Ffn
open Idealize.ShloMosaic Idealize.ShloMosaic.TcCoe Idealize.ShloMosaic.Tactic

variable (m : (ℓ : Loc nD τ sig) → Buf (Elt Ideal) ℓ)

/-- The product of two blocks at an entry, added to the accumulator. -/
theorem pay2_at (s : Vec Ideal S2048x512 .f32) (a : Vec Ideal S2048x1024 .f32) (b : Vec Ideal S512x1024 .bf16) (y : S2048x512.Idx) :
    k0_pay2 s a b y = s y + mulNT a b y := by
  unfold mulNT
  idx_vars y
  pointwise [k0_pay2]

theorem pay1_at (y : S2048x512.Idx) : k0_pay1 (F := Ideal) y = 0 := by
  idx_vars y
  pointwise [k0_pay1]

/-- The output's block is the product of the two inputs' blocks. -/
theorem out_at (c : Dev nD) (t : Fin cfg0.N) (y : S2048x512.Idx) : outsAt0 m c t y = mulNT (iblk m c 0 t) (iblk m c 1 t) y := by
  unfold outsAt0
  frame_out
  refine (?_ : _ = k0_pay2 (k0_pay1 (F := Ideal)) (iblk m c 0 t) (iblk m c 1 t) y).trans ?_
  · idx_vars y
    pointwise [k0_pay3]
  · rw [pay2_at, pay1_at, zero_add]

theorem index_0 : ∀ t : Fin cfg0.N, win0_0.index t = ![t.val / 4, 0] := (by decide +kernel : ∀ t : Fin grid0.N, _)
theorem index_1 : ∀ t : Fin cfg0.N, win0_1.index t = ![t.val % 4, 0] := (by decide +kernel : ∀ t : Fin grid0.N, _)
theorem index_2 : ∀ t : Fin cfg0.N, win0_2.index t = ![t.val / 4, t.val % 4] := (by decide +kernel : ∀ t : Fin grid0.N, _)

theorem arr (c : Dev nD) : (dats m 0 c).arrAt 2 cfg0.N =
    mulNT (m ((c : Thread nD τ).loc main_arg0)) (m ((c : Thread nD τ).loc main_arg1)) := by
  refine (dats m 0 c).arrAt_eq_of_covers 2 _ (by decide +kernel) fun t hf y => ?_
  blk_simp
  rw [after0_2, out_at]
  unfold mulNT
  refine Finset.sum_congr (M := EReal) rfl fun q _ => congr (congrArg HMul.hMul ?_) ?_
  · blk_ext! [iblk, V, index_0, index_2]
  · blk_ext! [iblk, V, index_1, index_2]

end Cert.SsmDnIdeal.Ffn

namespace Cert.SsmDnClaims

open Idealize.ShloMosaic Idealize.ShloMosaic.TcCoe Idealize.ShloMosaic.Tactic Idealize.SL.Sem Cert.Ffn
open Cert.SsmDnRefIdeal Cert.SsmDnRefIdeal.Read

/-- The reference's result at an entry. -/
theorem ref_at (a : Vec Ideal S4096x1024 .f32) (b : Vec Ideal S2048x1024 .bf16) : val_main_v3 (F := Ideal) a b = mulNT a b := by
  funext y
  unfold mulNT
  idx_vars y
  pointwise [val_main_v3, val_main_v1]

/-- The reference leaves its arguments unchanged. -/
theorem frame_ri : Cert.quiescent_SsmDnRefIdeal := fun m ρ _ =>
  (θ_run Cert.SsmDnRefIdeal.defs _ _).mono (fun r h => ⟨fun c => (h c).2, Idealize.ShloMosaic.sem_eq_zero_of_no_sems (by decide) r.2⟩)
    (Cert.SsmDnRefIdeal.Value.run (F := Ideal) m ρ)

/-- The kernel's and the reference's results are the same extended reals. -/
theorem algebraic : Cert.algebraic_SsmDnIdeal_SsmDnRefIdeal := by
  intro m g m' g' _ hagree
  refine ⟨fun c => mulNT (m ((c.tc : Thread Cert.SsmDnIdeal.nD Cert.SsmDnIdeal.τ).loc Cert.SsmDnIdeal.main_arg0))
    (m ((c.tc : Thread Cert.SsmDnIdeal.nD Cert.SsmDnIdeal.τ).loc Cert.SsmDnIdeal.main_arg1)), ?_, ?_⟩
  · exact (θ_run Cert.SsmDnIdeal.defs _ _).mono (fun r h c => ⟨(h c).1.trans (Cert.SsmDnIdeal.Ffn.arr m c), (h c).2⟩)
      (Cert.SsmDnIdeal.Value.run_blocks m g)
  · refine (θ_run Cert.SsmDnRefIdeal.defs _ _).mono (fun r h c => ⟨(h c).1.trans ((val_main_v3_eq _ _).trans ?_), (h c).2⟩)
      (Cert.SsmDnRefIdeal.Value.run (F := Ideal) m' g')
    rw [ref_at, (hagree c).1, (hagree c).2]

end Cert.SsmDnClaims

end
-- ==== Proof.lean ====
module

public import proofs.«01_k».proof.Defs
public import proofs.«01_k».proof.Proof.Attn.Claims
public import proofs.«01_k».proof.Proof.Gen.Dact.Frame
public import proofs.«01_k».proof.Proof.Gen.DactIdeal.Frame
public import proofs.«01_k».proof.Proof.Ffn.Dact
public import proofs.«01_k».proof.Proof.Gen.Dnorm.Frame
public import proofs.«01_k».proof.Proof.Gen.DnormIdeal.Frame
public import proofs.«01_k».proof.Proof.Ffn.Dnorm
public import proofs.«01_k».proof.Proof.Gen.Da.Frame
public import proofs.«01_k».proof.Proof.Gen.DaIdeal.Frame
public import proofs.«01_k».proof.Proof.Ffn.Da
public import proofs.«01_k».proof.Proof.Gen.Dwdown.Frame
public import proofs.«01_k».proof.Proof.Gen.DwdownIdeal.Frame
public import proofs.«01_k».proof.Proof.Ffn.Dwdown
public import proofs.«01_k».proof.Proof.Gen.Dngate.Frame
public import proofs.«01_k».proof.Proof.Gen.DngateIdeal.Frame
public import proofs.«01_k».proof.Proof.Ffn.Dngate
public import proofs.«01_k».proof.Proof.Gen.Dnup.Frame
public import proofs.«01_k».proof.Proof.Gen.DnupIdeal.Frame
public import proofs.«01_k».proof.Proof.Ffn.Dnup
public import proofs.«01_k».proof.Proof.Gen.Dwgate.Frame
public import proofs.«01_k».proof.Proof.Gen.DwgateIdeal.Frame
public import proofs.«01_k».proof.Proof.Ffn.Dwgate
public import proofs.«01_k».proof.Proof.Gen.Norm.Frame
public import proofs.«01_k».proof.Proof.Gen.NormIdeal.Frame
public import proofs.«01_k».proof.Proof.Ffn.Norm
public import proofs.«01_k».proof.Proof.Gen.Gate.Frame
public import proofs.«01_k».proof.Proof.Gen.GateIdeal.Frame
public import proofs.«01_k».proof.Proof.Ffn.Gate
public import proofs.«01_k».proof.Proof.Gen.Act.Frame
public import proofs.«01_k».proof.Proof.Gen.ActIdeal.Frame
public import proofs.«01_k».proof.Proof.Ffn.Act
public import proofs.«01_k».proof.Proof.Gen.Down.Frame
public import proofs.«01_k».proof.Proof.Gen.DownIdeal.Frame
public import proofs.«01_k».proof.Proof.Ffn.Down
public import proofs.«01_k».proof.Proof.Gen.MixDn.Frame
public import proofs.«01_k».proof.Proof.Gen.MixDnIdeal.Frame
public import proofs.«01_k».proof.Proof.Ffn.MixDn
public import proofs.«01_k».proof.Proof.Gen.MixDwin.Frame
public import proofs.«01_k».proof.Proof.Gen.MixDwinIdeal.Frame
public import proofs.«01_k».proof.Proof.Ffn.MixDwin
public import proofs.«01_k».proof.Proof.Gen.MixDcat.Frame
public import proofs.«01_k».proof.Proof.Gen.MixDcatIdeal.Frame
public import proofs.«01_k».proof.Proof.Ffn.MixDcat
public import proofs.«01_k».proof.Proof.Gen.MixDwout.Frame
public import proofs.«01_k».proof.Proof.Gen.MixDwoutIdeal.Frame
public import proofs.«01_k».proof.Proof.Ffn.MixDwout
public import proofs.«01_k».proof.Proof.Gen.PleDn.Frame
public import proofs.«01_k».proof.Proof.Gen.PleDnIdeal.Frame
public import proofs.«01_k».proof.Proof.Ffn.PleDn
public import proofs.«01_k».proof.Proof.Gen.PleDwgate.Frame
public import proofs.«01_k».proof.Proof.Gen.PleDwgateIdeal.Frame
public import proofs.«01_k».proof.Proof.Ffn.PleDwgate
public import proofs.«01_k».proof.Proof.Gen.PleDwproj.Frame
public import proofs.«01_k».proof.Proof.Gen.PleDwprojIdeal.Frame
public import proofs.«01_k».proof.Proof.Ffn.PleDwproj
public import proofs.«01_k».proof.Proof.Gen.PleDout.Frame
public import proofs.«01_k».proof.Proof.Gen.PleDoutIdeal.Frame
public import proofs.«01_k».proof.Proof.Ffn.PleDout
public import proofs.«01_k».proof.Proof.Gen.AbOut.Frame
public import proofs.«01_k».proof.Proof.Gen.AbOutIdeal.Frame
public import proofs.«01_k».proof.Proof.Ffn.AbOut
public import proofs.«01_k».proof.Proof.Gen.PleGate.Frame
public import proofs.«01_k».proof.Proof.Gen.PleGateIdeal.Frame
public import proofs.«01_k».proof.Proof.Ffn.PleGate
public import proofs.«01_k».proof.Proof.Gen.PleProj.Frame
public import proofs.«01_k».proof.Proof.Gen.PleProjIdeal.Frame
public import proofs.«01_k».proof.Proof.Ffn.PleProj
public import proofs.«01_k».proof.Proof.Gen.PleOut.Frame
public import proofs.«01_k».proof.Proof.Gen.PleOutIdeal.Frame
public import proofs.«01_k».proof.Proof.Ffn.PleOut
public import proofs.«01_k».proof.Proof.Gen.SsmIn.Frame
public import proofs.«01_k».proof.Proof.Gen.SsmInIdeal.Frame
public import proofs.«01_k».proof.Proof.Ffn.SsmIn
public import proofs.«01_k».proof.Proof.Gen.SsmOut.Frame
public import proofs.«01_k».proof.Proof.Gen.SsmOutIdeal.Frame
public import proofs.«01_k».proof.Proof.Ffn.SsmOut
public import proofs.«01_k».proof.Proof.Gen.SsmGlu.Frame
public import proofs.«01_k».proof.Proof.Gen.SsmGluIdeal.Frame
public import proofs.«01_k».proof.Proof.Ffn.SsmGlu
public import proofs.«01_k».proof.Proof.Gen.SsmDglu.Frame
public import proofs.«01_k».proof.Proof.Gen.SsmDgluIdeal.Frame
public import proofs.«01_k».proof.Proof.Ffn.SsmDglu
public import proofs.«01_k».proof.Proof.Gen.SsmDyg.Frame
public import proofs.«01_k».proof.Proof.Gen.SsmDygIdeal.Frame
public import proofs.«01_k».proof.Proof.Ffn.SsmDyg
public import proofs.«01_k».proof.Proof.Gen.SsmDygAdd.Frame
public import proofs.«01_k».proof.Proof.Gen.SsmDygAddIdeal.Frame
public import proofs.«01_k».proof.Proof.Ffn.SsmDygAdd
public import proofs.«01_k».proof.Proof.Gen.SsmY.Frame
public import proofs.«01_k».proof.Proof.Gen.SsmYIdeal.Frame
public import proofs.«01_k».proof.Proof.Ssm.SsmY
public import proofs.«01_k».proof.Proof.Gen.SsmBu.Frame
public import proofs.«01_k».proof.Proof.Gen.SsmBuIdeal.Frame
public import proofs.«01_k».proof.Proof.Ssm.SsmBu
public import proofs.«01_k».proof.Proof.Gen.SsmDu.Frame
public import proofs.«01_k».proof.Proof.Gen.SsmDuIdeal.Frame
public import proofs.«01_k».proof.Proof.Ssm.SsmDu
public import proofs.«01_k».proof.Proof.Gen.SsmDhIm.Frame
public import proofs.«01_k».proof.Proof.Gen.SsmDhImIdeal.Frame
public import proofs.«01_k».proof.Proof.Ssm.SsmDhIm
public import proofs.«01_k».proof.Proof.Gen.SsmDhRe.Frame
public import proofs.«01_k».proof.Proof.Gen.SsmDhReIdeal.Frame
public import proofs.«01_k».proof.Proof.Ssm.SsmDhRe
public import proofs.«01_k».proof.Proof.Gen.SsmDwout.Frame
public import proofs.«01_k».proof.Proof.Gen.SsmDwoutIdeal.Frame
public import proofs.«01_k».proof.Proof.Ffn.SsmDwout
public import proofs.«01_k».proof.Proof.Gen.SsmDwin.Frame
public import proofs.«01_k».proof.Proof.Gen.SsmDwinIdeal.Frame
public import proofs.«01_k».proof.Proof.Ffn.SsmDwin
public import proofs.«01_k».proof.Proof.Gen.SsmDn.Frame
public import proofs.«01_k».proof.Proof.Gen.SsmDnIdeal.Frame
public import proofs.«01_k».proof.Proof.Ffn.SsmDn

@[expose] public section

noncomputable section

namespace Cert.Proof

open Idealize.ShloMosaic Idealize.SL.Sem Cert.Kernel

/-- Everything the certificate claims. -/
theorem claim : Cert.Claim :=
  haveI := Cert.DactClaims.pre_facts
  ⟨Cert.Kernel.Gen.facts, Cert.KernelIdeal.Gen.facts, Cert.ReferenceIdeal.Gen.facts,
  Cert.Dact.Gen.facts, Cert.DactIdeal.Gen.facts, Cert.DactRefIdeal.Gen.facts,
  Cert.Dnorm.Gen.facts, Cert.DnormIdeal.Gen.facts, Cert.DnormRefIdeal.Gen.facts,
  Cert.Da.Gen.facts, Cert.DaIdeal.Gen.facts, Cert.DaRefIdeal.Gen.facts,
  Cert.Dwdown.Gen.facts, Cert.DwdownIdeal.Gen.facts, Cert.DwdownRefIdeal.Gen.facts,
  Cert.Dngate.Gen.facts, Cert.DngateIdeal.Gen.facts, Cert.DngateRefIdeal.Gen.facts,
  Cert.Dnup.Gen.facts, Cert.DnupIdeal.Gen.facts, Cert.DnupRefIdeal.Gen.facts,
  Cert.Dwgate.Gen.facts, Cert.DwgateIdeal.Gen.facts, Cert.DwgateRefIdeal.Gen.facts,
  Cert.Norm.Gen.facts, Cert.NormIdeal.Gen.facts, Cert.NormRefIdeal.Gen.facts,
  Cert.Gate.Gen.facts, Cert.GateIdeal.Gen.facts, Cert.GateRefIdeal.Gen.facts,
  Cert.Act.Gen.facts, Cert.ActIdeal.Gen.facts, Cert.ActRefIdeal.Gen.facts,
  Cert.Down.Gen.facts, Cert.DownIdeal.Gen.facts, Cert.DownRefIdeal.Gen.facts,
  Cert.MixDn.Gen.facts, Cert.MixDnIdeal.Gen.facts, Cert.MixDnRefIdeal.Gen.facts,
  Cert.MixDwin.Gen.facts, Cert.MixDwinIdeal.Gen.facts, Cert.MixDwinRefIdeal.Gen.facts,
  Cert.MixDcat.Gen.facts, Cert.MixDcatIdeal.Gen.facts, Cert.MixDcatRefIdeal.Gen.facts,
  Cert.MixDwout.Gen.facts, Cert.MixDwoutIdeal.Gen.facts, Cert.MixDwoutRefIdeal.Gen.facts,
  Cert.PleDn.Gen.facts, Cert.PleDnIdeal.Gen.facts, Cert.PleDnRefIdeal.Gen.facts,
  Cert.PleDwgate.Gen.facts, Cert.PleDwgateIdeal.Gen.facts, Cert.PleDwgateRefIdeal.Gen.facts,
  Cert.PleDwproj.Gen.facts, Cert.PleDwprojIdeal.Gen.facts, Cert.PleDwprojRefIdeal.Gen.facts,
  Cert.PleDout.Gen.facts, Cert.PleDoutIdeal.Gen.facts, Cert.PleDoutRefIdeal.Gen.facts,
  Cert.AbOut.Gen.facts, Cert.AbOutIdeal.Gen.facts, Cert.AbOutRefIdeal.Gen.facts,
  Cert.PleGate.Gen.facts, Cert.PleGateIdeal.Gen.facts, Cert.PleGateRefIdeal.Gen.facts,
  Cert.PleProj.Gen.facts, Cert.PleProjIdeal.Gen.facts, Cert.PleProjRefIdeal.Gen.facts,
  Cert.PleOut.Gen.facts, Cert.PleOutIdeal.Gen.facts, Cert.PleOutRefIdeal.Gen.facts,
  Cert.SsmIn.Gen.facts, Cert.SsmInIdeal.Gen.facts, Cert.SsmInRefIdeal.Gen.facts,
  Cert.SsmOut.Gen.facts, Cert.SsmOutIdeal.Gen.facts, Cert.SsmOutRefIdeal.Gen.facts,
  Cert.SsmGlu.Gen.facts, Cert.SsmGluIdeal.Gen.facts, Cert.SsmGluRefIdeal.Gen.facts,
  Cert.SsmDglu.Gen.facts, Cert.SsmDgluIdeal.Gen.facts, Cert.SsmDgluRefIdeal.Gen.facts,
  Cert.SsmDyg.Gen.facts, Cert.SsmDygIdeal.Gen.facts, Cert.SsmDygRefIdeal.Gen.facts,
  Cert.SsmDygAdd.Gen.facts, Cert.SsmDygAddIdeal.Gen.facts, Cert.SsmDygAddRefIdeal.Gen.facts,
  Cert.SsmDwout.Gen.facts, Cert.SsmDwoutIdeal.Gen.facts, Cert.SsmDwoutRefIdeal.Gen.facts,
  Cert.SsmDwin.Gen.facts, Cert.SsmDwinIdeal.Gen.facts, Cert.SsmDwinRefIdeal.Gen.facts,
  Cert.SsmDn.Gen.facts, Cert.SsmDnIdeal.Gen.facts, Cert.SsmDnRefIdeal.Gen.facts,
  Cert.SsmDhRe.Gen.facts, Cert.SsmDhReIdeal.Gen.facts, Cert.SsmDhReRefIdeal.Gen.facts,
  Cert.SsmDhIm.Gen.facts, Cert.SsmDhImIdeal.Gen.facts, Cert.SsmDhImRefIdeal.Gen.facts,
  Cert.SsmDu.Gen.facts, Cert.SsmDuIdeal.Gen.facts, Cert.SsmDuRefIdeal.Gen.facts,
  Cert.SsmBu.Gen.facts, Cert.SsmBuIdeal.Gen.facts, Cert.SsmBuRefIdeal.Gen.facts,
  Cert.SsmY.Gen.facts, Cert.SsmYIdeal.Gen.facts, Cert.SsmYRefIdeal.Gen.facts,
  Cert.DactClaims.pre_facts,
  Cert.AttnClaims.frame_p, Cert.AttnClaims.frame_pi, Cert.AttnClaims.frame_ri,
  fun m ρ _ => Cert.Dact.Gen.frame m ρ, fun m ρ _ => Cert.DactIdeal.Gen.frame m ρ, fun m ρ _ => Cert.DactIdeal.Gen.frame m ρ,
  Cert.DactClaims.frame_ri, Cert.DactClaims.frame_ri_pre,
  fun m ρ _ => Cert.Dnorm.Gen.frame m ρ, fun m ρ _ => Cert.DnormIdeal.Gen.frame m ρ, Cert.DnormClaims.frame_ri,
  fun m ρ _ => Cert.Da.Gen.frame m ρ, fun m ρ _ => Cert.DaIdeal.Gen.frame m ρ, Cert.DaClaims.frame_ri,
  fun m ρ _ => Cert.Dwdown.Gen.frame m ρ, fun m ρ _ => Cert.DwdownIdeal.Gen.frame m ρ, Cert.DwdownClaims.frame_ri,
  fun m ρ _ => Cert.Dngate.Gen.frame m ρ, fun m ρ _ => Cert.DngateIdeal.Gen.frame m ρ, Cert.DngateClaims.frame_ri,
  fun m ρ _ => Cert.Dnup.Gen.frame m ρ, fun m ρ _ => Cert.DnupIdeal.Gen.frame m ρ, Cert.DnupClaims.frame_ri,
  fun m ρ _ => Cert.Dwgate.Gen.frame m ρ, fun m ρ _ => Cert.DwgateIdeal.Gen.frame m ρ, Cert.DwgateClaims.frame_ri,
  fun m ρ _ => Cert.Norm.Gen.frame m ρ, fun m ρ _ => Cert.NormIdeal.Gen.frame m ρ, Cert.NormClaims.frame_ri,
  fun m ρ _ => Cert.Gate.Gen.frame m ρ, fun m ρ _ => Cert.GateIdeal.Gen.frame m ρ, Cert.GateClaims.frame_ri,
  fun m ρ _ => Cert.Act.Gen.frame m ρ, fun m ρ _ => Cert.ActIdeal.Gen.frame m ρ, Cert.ActClaims.frame_ri,
  fun m ρ _ => Cert.Down.Gen.frame m ρ, fun m ρ _ => Cert.DownIdeal.Gen.frame m ρ, Cert.DownClaims.frame_ri,
  fun m ρ _ => Cert.MixDn.Gen.frame m ρ, fun m ρ _ => Cert.MixDnIdeal.Gen.frame m ρ, Cert.MixDnClaims.frame_ri,
  fun m ρ _ => Cert.MixDwin.Gen.frame m ρ, fun m ρ _ => Cert.MixDwinIdeal.Gen.frame m ρ, Cert.MixDwinClaims.frame_ri,
  fun m ρ _ => Cert.MixDcat.Gen.frame m ρ, fun m ρ _ => Cert.MixDcatIdeal.Gen.frame m ρ, Cert.MixDcatClaims.frame_ri,
  fun m ρ _ => Cert.MixDwout.Gen.frame m ρ, fun m ρ _ => Cert.MixDwoutIdeal.Gen.frame m ρ, Cert.MixDwoutClaims.frame_ri,
  fun m ρ _ => Cert.PleDn.Gen.frame m ρ, fun m ρ _ => Cert.PleDnIdeal.Gen.frame m ρ, Cert.PleDnClaims.frame_ri,
  fun m ρ _ => Cert.PleDwgate.Gen.frame m ρ, fun m ρ _ => Cert.PleDwgateIdeal.Gen.frame m ρ, Cert.PleDwgateClaims.frame_ri,
  fun m ρ _ => Cert.PleDwproj.Gen.frame m ρ, fun m ρ _ => Cert.PleDwprojIdeal.Gen.frame m ρ, Cert.PleDwprojClaims.frame_ri,
  fun m ρ _ => Cert.PleDout.Gen.frame m ρ, fun m ρ _ => Cert.PleDoutIdeal.Gen.frame m ρ, Cert.PleDoutClaims.frame_ri,
  fun m ρ _ => Cert.AbOut.Gen.frame m ρ, fun m ρ _ => Cert.AbOutIdeal.Gen.frame m ρ, Cert.AbOutClaims.frame_ri,
  fun m ρ _ => Cert.PleGate.Gen.frame m ρ, fun m ρ _ => Cert.PleGateIdeal.Gen.frame m ρ, Cert.PleGateClaims.frame_ri,
  fun m ρ _ => Cert.PleProj.Gen.frame m ρ, fun m ρ _ => Cert.PleProjIdeal.Gen.frame m ρ, Cert.PleProjClaims.frame_ri,
  fun m ρ _ => Cert.PleOut.Gen.frame m ρ, fun m ρ _ => Cert.PleOutIdeal.Gen.frame m ρ, Cert.PleOutClaims.frame_ri,
  fun m ρ _ => Cert.SsmIn.Gen.frame m ρ, fun m ρ _ => Cert.SsmInIdeal.Gen.frame m ρ, Cert.SsmInClaims.frame_ri,
  fun m ρ _ => Cert.SsmOut.Gen.frame m ρ, fun m ρ _ => Cert.SsmOutIdeal.Gen.frame m ρ, Cert.SsmOutClaims.frame_ri,
  fun m ρ _ => Cert.SsmGlu.Gen.frame m ρ, fun m ρ _ => Cert.SsmGluIdeal.Gen.frame m ρ, Cert.SsmGluClaims.frame_ri,
  fun m ρ _ => Cert.SsmDglu.Gen.frame m ρ, fun m ρ _ => Cert.SsmDgluIdeal.Gen.frame m ρ, Cert.SsmDgluClaims.frame_ri,
  fun m ρ _ => Cert.SsmDyg.Gen.frame m ρ, fun m ρ _ => Cert.SsmDygIdeal.Gen.frame m ρ, Cert.SsmDygClaims.frame_ri,
  fun m ρ _ => Cert.SsmDygAdd.Gen.frame m ρ, fun m ρ _ => Cert.SsmDygAddIdeal.Gen.frame m ρ, Cert.SsmDygAddClaims.frame_ri,
  fun m ρ _ => Cert.SsmDwout.Gen.frame m ρ, fun m ρ _ => Cert.SsmDwoutIdeal.Gen.frame m ρ, Cert.SsmDwoutClaims.frame_ri,
  fun m ρ _ => Cert.SsmDwin.Gen.frame m ρ, fun m ρ _ => Cert.SsmDwinIdeal.Gen.frame m ρ, Cert.SsmDwinClaims.frame_ri,
  fun m ρ _ => Cert.SsmDn.Gen.frame m ρ, fun m ρ _ => Cert.SsmDnIdeal.Gen.frame m ρ, Cert.SsmDnClaims.frame_ri,
  fun m ρ _ => Cert.SsmDhRe.Gen.frame m ρ, fun m ρ _ => Cert.SsmDhReIdeal.Gen.frame m ρ, Cert.SsmDhReClaims.frame_ri,
  fun m ρ _ => Cert.SsmDhIm.Gen.frame m ρ, fun m ρ _ => Cert.SsmDhImIdeal.Gen.frame m ρ, Cert.SsmDhImClaims.frame_ri,
  fun m ρ _ => Cert.SsmDu.Gen.frame m ρ, fun m ρ _ => Cert.SsmDuIdeal.Gen.frame m ρ, Cert.SsmDuClaims.frame_ri,
  fun m ρ _ => Cert.SsmBu.Gen.frame m ρ, fun m ρ _ => Cert.SsmBuIdeal.Gen.frame m ρ, Cert.SsmBuClaims.frame_ri,
  fun m ρ _ => Cert.SsmY.Gen.frame m ρ, fun m ρ _ => Cert.SsmYIdeal.Gen.frame m ρ, Cert.SsmYClaims.frame_ri,
  Cert.AttnClaims.preserves, Cert.AttnClaims.algebraic,
  trivial, Cert.DactClaims.algebraic,
  trivial, Cert.DnormClaims.algebraic,
  trivial, Cert.DaClaims.algebraic,
  trivial, Cert.DwdownClaims.algebraic,
  trivial, Cert.DngateClaims.algebraic,
  trivial, Cert.DnupClaims.algebraic,
  trivial, Cert.DwgateClaims.algebraic,
  trivial, Cert.NormClaims.algebraic,
  trivial, Cert.GateClaims.algebraic,
  trivial, Cert.ActClaims.algebraic,
  trivial, Cert.DownClaims.algebraic,
  trivial, Cert.MixDnClaims.algebraic,
  trivial, Cert.MixDwinClaims.algebraic,
  trivial, Cert.MixDcatClaims.algebraic,
  trivial, Cert.MixDwoutClaims.algebraic,
  trivial, Cert.PleDnClaims.algebraic,
  trivial, Cert.PleDwgateClaims.algebraic,
  trivial, Cert.PleDwprojClaims.algebraic,
  trivial, Cert.PleDoutClaims.algebraic,
  trivial, Cert.AbOutClaims.algebraic,
  trivial, Cert.PleGateClaims.algebraic,
  trivial, Cert.PleProjClaims.algebraic,
  trivial, Cert.PleOutClaims.algebraic,
  trivial, Cert.SsmInClaims.algebraic,
  trivial, Cert.SsmOutClaims.algebraic,
  trivial, Cert.SsmGluClaims.algebraic,
  trivial, Cert.SsmDgluClaims.algebraic,
  trivial, Cert.SsmDygClaims.algebraic,
  trivial, Cert.SsmDygAddClaims.algebraic,
  trivial, Cert.SsmDwoutClaims.algebraic,
  trivial, Cert.SsmDwinClaims.algebraic,
  trivial, Cert.SsmDnClaims.algebraic,
  trivial, Cert.SsmDhReClaims.algebraic,
  trivial, Cert.SsmDhImClaims.algebraic,
  trivial, Cert.SsmDuClaims.algebraic,
  trivial, Cert.SsmBuClaims.algebraic,
  trivial, Cert.SsmYClaims.algebraic⟩

end Cert.Proof

end
